-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelRqk (m : (ℓ : Loc Cert.KernelRqk.nD Cert.KernelRqk.τ Cert.KernelRqk.sig) → Buf (Elt Bits) ℓ) : Prop :=
  True

def Pre_KernelRqkIdeal (m : (ℓ : Loc Cert.KernelRqkIdeal.nD Cert.KernelRqkIdeal.τ Cert.KernelRqkIdeal.sig) → Buf (Elt Ideal) ℓ) : Prop :=
  True

def Pre_ReferenceRqkIdeal (m : (ℓ : Loc Cert.ReferenceRqkIdeal.nD Cert.ReferenceRqkIdeal.τ Cert.ReferenceRqkIdeal.sig) → Buf (Elt Ideal) ℓ) : Prop :=
  True

def Pre_KernelRv (m : (ℓ : Loc Cert.KernelRv.nD Cert.KernelRv.τ Cert.KernelRv.sig) → Buf (Elt Bits) ℓ) : Prop :=
  True

def Pre_KernelRvIdeal (m : (ℓ : Loc Cert.KernelRvIdeal.nD Cert.KernelRvIdeal.τ Cert.KernelRvIdeal.sig) → Buf (Elt Ideal) ℓ) : Prop :=
  True

def Pre_ReferenceRvIdeal (m : (ℓ : Loc Cert.ReferenceRvIdeal.nD Cert.ReferenceRvIdeal.τ Cert.ReferenceRvIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelYp (m : (ℓ : Loc Cert.KernelYp.nD Cert.KernelYp.τ Cert.KernelYp.sig) → Buf (Elt Bits) ℓ) : Prop :=
  True

def Pre_KernelYpIdeal (m : (ℓ : Loc Cert.KernelYpIdeal.nD Cert.KernelYpIdeal.τ Cert.KernelYpIdeal.sig) → Buf (Elt Ideal) ℓ) : Prop :=
  True

def Pre_ReferenceYpIdeal (m : (ℓ : Loc Cert.ReferenceYpIdeal.nD Cert.ReferenceYpIdeal.τ Cert.ReferenceYpIdeal.sig) → Buf (Elt Ideal) ℓ) : Prop :=
  True

def Pre_KernelYs (m : (ℓ : Loc Cert.KernelYs.nD Cert.KernelYs.τ Cert.KernelYs.sig) → Buf (Elt Bits) ℓ) : Prop :=
  True

def Pre_KernelYsIdeal (m : (ℓ : Loc Cert.KernelYsIdeal.nD Cert.KernelYsIdeal.τ Cert.KernelYsIdeal.sig) → Buf (Elt Ideal) ℓ) : Prop :=
  True

def Pre_ReferenceYsIdeal (m : (ℓ : Loc Cert.ReferenceYsIdeal.nD Cert.ReferenceYsIdeal.τ Cert.ReferenceYsIdeal.sig) → Buf (Elt Ideal) ℓ) : Prop :=
  True

def Pre_KernelKvs (m : (ℓ : Loc Cert.KernelKvs.nD Cert.KernelKvs.τ Cert.KernelKvs.sig) → Buf (Elt Bits) ℓ) : Prop :=
  True

def Pre_KernelKvsIdeal (m : (ℓ : Loc Cert.KernelKvsIdeal.nD Cert.KernelKvsIdeal.τ Cert.KernelKvsIdeal.sig) → Buf (Elt Ideal) ℓ) : Prop :=
  True

def Pre_ReferenceKvsIdeal (m : (ℓ : Loc Cert.ReferenceKvsIdeal.nD Cert.ReferenceKvsIdeal.τ Cert.ReferenceKvsIdeal.sig) → Buf (Elt Ideal) ℓ) : Prop :=
  True

def Pre_KernelRs (m : (ℓ : Loc Cert.KernelRs.nD Cert.KernelRs.τ Cert.KernelRs.sig) → Buf (Elt Bits) ℓ) : Prop :=
  True

def Pre_KernelRsIdeal (m : (ℓ : Loc Cert.KernelRsIdeal.nD Cert.KernelRsIdeal.τ Cert.KernelRsIdeal.sig) → Buf (Elt Ideal) ℓ) : Prop :=
  True

def Pre_ReferenceRsIdeal (m : (ℓ : Loc Cert.ReferenceRsIdeal.nD Cert.ReferenceRsIdeal.τ Cert.ReferenceRsIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNg (m : (ℓ : Loc Cert.KernelNg.nD Cert.KernelNg.τ Cert.KernelNg.sig) → Buf (Elt Bits) ℓ) : Prop :=
  True

def Pre_KernelNgIdeal (m : (ℓ : Loc Cert.KernelNgIdeal.nD Cert.KernelNgIdeal.τ Cert.KernelNgIdeal.sig) → Buf (Elt Ideal) ℓ) : Prop :=
  True

def Pre_ReferenceNgIdeal (m : (ℓ : Loc Cert.ReferenceNgIdeal.nD Cert.ReferenceNgIdeal.τ Cert.ReferenceNgIdeal.sig) → Buf (Elt Ideal) ℓ) : Prop :=
  True

def Pre_KernelCmp (m : (ℓ : Loc Cert.KernelCmp.nD Cert.KernelCmp.τ Cert.KernelCmp.sig) → Buf (Elt Bits) ℓ) : Prop :=
  True

def Pre_KernelCmpIdeal (m : (ℓ : Loc Cert.KernelCmpIdeal.nD Cert.KernelCmpIdeal.τ Cert.KernelCmpIdeal.sig) → Buf (Elt Ideal) ℓ) : Prop :=
  True

def Pre_ReferenceCmpIdeal (m : (ℓ : Loc Cert.ReferenceCmpIdeal.nD Cert.ReferenceCmpIdeal.τ Cert.ReferenceCmpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelRqk [hKernelRqk : Cert.KernelRqk.Facts] : Prop :=
  ∀ (m : (ℓ : Loc Cert.KernelRqk.nD Cert.KernelRqk.τ Cert.KernelRqk.sig) → Buf (Elt Bits) ℓ) (g : Dev Cert.KernelRqk.nD → PrngReg), Pre_KernelRqk m →
    θ_run (Cert.KernelRqk.defs (F := Bits)) (onTc (τ := Cert.KernelRqk.τ) (Cert.KernelRqk.main (F := Bits))) ⟨m, fun _ => 0, g⟩ (fun r => (∀ c : Dev Cert.KernelRqk.nD,
      r.2.mem ((c.tc : Thread Cert.KernelRqk.nD Cert.KernelRqk.τ).loc Cert.KernelRqk.main_arg0) = m ((c.tc : Thread Cert.KernelRqk.nD Cert.KernelRqk.τ).loc Cert.KernelRqk.main_arg0)
      ∧ r.2.mem ((c.tc : Thread Cert.KernelRqk.nD Cert.KernelRqk.τ).loc Cert.KernelRqk.main_arg1) = m ((c.tc : Thread Cert.KernelRqk.nD Cert.KernelRqk.τ).loc Cert.KernelRqk.main_arg1))
      ∧ r.2.sem = fun _ => 0)

def quiescent_KernelRqkIdeal [hKernelRqkIdeal : Cert.KernelRqkIdeal.Facts] : Prop :=
  ∀ (m : (ℓ : Loc Cert.KernelRqkIdeal.nD Cert.KernelRqkIdeal.τ Cert.KernelRqkIdeal.sig) → Buf (Elt Ideal) ℓ) (g : Dev Cert.KernelRqkIdeal.nD → PrngReg), Pre_KernelRqkIdeal m →
    θ_run (Cert.KernelRqkIdeal.defs (F := Ideal)) (onTc (τ := Cert.KernelRqkIdeal.τ) (Cert.KernelRqkIdeal.main (F := Ideal))) ⟨m, fun _ => 0, g⟩ (fun r => (∀ c : Dev Cert.KernelRqkIdeal.nD,
      r.2.mem ((c.tc : Thread Cert.KernelRqkIdeal.nD Cert.KernelRqkIdeal.τ).loc Cert.KernelRqkIdeal.main_arg0) = m ((c.tc : Thread Cert.KernelRqkIdeal.nD Cert.KernelRqkIdeal.τ).loc Cert.KernelRqkIdeal.main_arg0)
      ∧ r.2.mem ((c.tc : Thread Cert.KernelRqkIdeal.nD Cert.KernelRqkIdeal.τ).loc Cert.KernelRqkIdeal.main_arg1) = m ((c.tc : Thread Cert.KernelRqkIdeal.nD Cert.KernelRqkIdeal.τ).loc Cert.KernelRqkIdeal.main_arg1))
      ∧ r.2.sem = fun _ => 0)

def quiescent_ReferenceRqkIdeal [hReferenceRqkIdeal : Cert.ReferenceRqkIdeal.Facts] : Prop :=
  ∀ (m : (ℓ : Loc Cert.ReferenceRqkIdeal.nD Cert.ReferenceRqkIdeal.τ Cert.ReferenceRqkIdeal.sig) → Buf (Elt Ideal) ℓ) (g : Dev Cert.ReferenceRqkIdeal.nD → PrngReg), Pre_ReferenceRqkIdeal m →
    θ_run (Cert.ReferenceRqkIdeal.defs (F := Ideal)) (onTc (τ := Cert.ReferenceRqkIdeal.τ) (Cert.ReferenceRqkIdeal.main (F := Ideal))) ⟨m, fun _ => 0, g⟩ (fun r => (∀ c : Dev Cert.ReferenceRqkIdeal.nD,
      r.2.mem ((c.tc : Thread Cert.ReferenceRqkIdeal.nD Cert.ReferenceRqkIdeal.τ).loc Cert.ReferenceRqkIdeal.main_arg0) = m ((c.tc : Thread Cert.ReferenceRqkIdeal.nD Cert.ReferenceRqkIdeal.τ).loc Cert.ReferenceRqkIdeal.main_arg0)
      ∧ r.2.mem ((c.tc : Thread Cert.ReferenceRqkIdeal.nD Cert.ReferenceRqkIdeal.τ).loc Cert.ReferenceRqkIdeal.main_arg1) = m ((c.tc : Thread Cert.ReferenceRqkIdeal.nD Cert.ReferenceRqkIdeal.τ).loc Cert.ReferenceRqkIdeal.main_arg1))
      ∧ r.2.sem = fun _ => 0)

def quiescent_KernelRv [hKernelRv : Cert.KernelRv.Facts] : Prop :=
  ∀ (m : (ℓ : Loc Cert.KernelRv.nD Cert.KernelRv.τ Cert.KernelRv.sig) → Buf (Elt Bits) ℓ) (g : Dev Cert.KernelRv.nD → PrngReg), Pre_KernelRv m →
    θ_run (Cert.KernelRv.defs (F := Bits)) (onTc (τ := Cert.KernelRv.τ) (Cert.KernelRv.main (F := Bits))) ⟨m, fun _ => 0, g⟩ (fun r => (∀ c : Dev Cert.KernelRv.nD,
      r.2.mem ((c.tc : Thread Cert.KernelRv.nD Cert.KernelRv.τ).loc Cert.KernelRv.main_arg0) = m ((c.tc : Thread Cert.KernelRv.nD Cert.KernelRv.τ).loc Cert.KernelRv.main_arg0)
      ∧ r.2.mem ((c.tc : Thread Cert.KernelRv.nD Cert.KernelRv.τ).loc Cert.KernelRv.main_arg1) = m ((c.tc : Thread Cert.KernelRv.nD Cert.KernelRv.τ).loc Cert.KernelRv.main_arg1))
      ∧ r.2.sem = fun _ => 0)

def quiescent_KernelRvIdeal [hKernelRvIdeal : Cert.KernelRvIdeal.Facts] : Prop :=
  ∀ (m : (ℓ : Loc Cert.KernelRvIdeal.nD Cert.KernelRvIdeal.τ Cert.KernelRvIdeal.sig) → Buf (Elt Ideal) ℓ) (g : Dev Cert.KernelRvIdeal.nD → PrngReg), Pre_KernelRvIdeal m →
    θ_run (Cert.KernelRvIdeal.defs (F := Ideal)) (onTc (τ := Cert.KernelRvIdeal.τ) (Cert.KernelRvIdeal.main (F := Ideal))) ⟨m, fun _ => 0, g⟩ (fun r => (∀ c : Dev Cert.KernelRvIdeal.nD,
      r.2.mem ((c.tc : Thread Cert.KernelRvIdeal.nD Cert.KernelRvIdeal.τ).loc Cert.KernelRvIdeal.main_arg0) = m ((c.tc : Thread Cert.KernelRvIdeal.nD Cert.KernelRvIdeal.τ).loc Cert.KernelRvIdeal.main_arg0)
      ∧ r.2.mem ((c.tc : Thread Cert.KernelRvIdeal.nD Cert.KernelRvIdeal.τ).loc Cert.KernelRvIdeal.main_arg1) = m ((c.tc : Thread Cert.KernelRvIdeal.nD Cert.KernelRvIdeal.τ).loc Cert.KernelRvIdeal.main_arg1))
      ∧ r.2.sem = fun _ => 0)

def quiescent_ReferenceRvIdeal [hReferenceRvIdeal : Cert.ReferenceRvIdeal.Facts] : Prop :=
  ∀ (m : (ℓ : Loc Cert.ReferenceRvIdeal.nD Cert.ReferenceRvIdeal.τ Cert.ReferenceRvIdeal.sig) → Buf (Elt Ideal) ℓ) (g : Dev Cert.ReferenceRvIdeal.nD → PrngReg), Pre_ReferenceRvIdeal m →
    θ_run (Cert.ReferenceRvIdeal.defs (F := Ideal)) (onTc (τ := Cert.ReferenceRvIdeal.τ) (Cert.ReferenceRvIdeal.main (F := Ideal))) ⟨m, fun _ => 0, g⟩ (fun r => (∀ c : Dev Cert.ReferenceRvIdeal.nD,
      r.2.mem ((c.tc : Thread Cert.ReferenceRvIdeal.nD Cert.ReferenceRvIdeal.τ).loc Cert.ReferenceRvIdeal.main_arg0) = m ((c.tc : Thread Cert.ReferenceRvIdeal.nD Cert.ReferenceRvIdeal.τ).loc Cert.ReferenceRvIdeal.main_arg0)
      ∧ r.2.mem ((c.tc : Thread Cert.ReferenceRvIdeal.nD Cert.ReferenceRvIdeal.τ).loc Cert.ReferenceRvIdeal.main_arg1) = m ((c.tc : Thread Cert.ReferenceRvIdeal.nD Cert.ReferenceRvIdeal.τ).loc Cert.ReferenceRvIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelYp [hKernelYp : Cert.KernelYp.Facts] : Prop :=
  ∀ (m : (ℓ : Loc Cert.KernelYp.nD Cert.KernelYp.τ Cert.KernelYp.sig) → Buf (Elt Bits) ℓ) (g : Dev Cert.KernelYp.nD → PrngReg), Pre_KernelYp m →
    θ_run (Cert.KernelYp.defs (F := Bits)) (onTc (τ := Cert.KernelYp.τ) (Cert.KernelYp.main (F := Bits))) ⟨m, fun _ => 0, g⟩ (fun r => (∀ c : Dev Cert.KernelYp.nD,
      r.2.mem ((c.tc : Thread Cert.KernelYp.nD Cert.KernelYp.τ).loc Cert.KernelYp.main_arg0) = m ((c.tc : Thread Cert.KernelYp.nD Cert.KernelYp.τ).loc Cert.KernelYp.main_arg0)
      ∧ r.2.mem ((c.tc : Thread Cert.KernelYp.nD Cert.KernelYp.τ).loc Cert.KernelYp.main_arg1) = m ((c.tc : Thread Cert.KernelYp.nD Cert.KernelYp.τ).loc Cert.KernelYp.main_arg1))
      ∧ r.2.sem = fun _ => 0)

def quiescent_KernelYpIdeal [hKernelYpIdeal : Cert.KernelYpIdeal.Facts] : Prop :=
  ∀ (m : (ℓ : Loc Cert.KernelYpIdeal.nD Cert.KernelYpIdeal.τ Cert.KernelYpIdeal.sig) → Buf (Elt Ideal) ℓ) (g : Dev Cert.KernelYpIdeal.nD → PrngReg), Pre_KernelYpIdeal m →
    θ_run (Cert.KernelYpIdeal.defs (F := Ideal)) (onTc (τ := Cert.KernelYpIdeal.τ) (Cert.KernelYpIdeal.main (F := Ideal))) ⟨m, fun _ => 0, g⟩ (fun r => (∀ c : Dev Cert.KernelYpIdeal.nD,
      r.2.mem ((c.tc : Thread Cert.KernelYpIdeal.nD Cert.KernelYpIdeal.τ).loc Cert.KernelYpIdeal.main_arg0) = m ((c.tc : Thread Cert.KernelYpIdeal.nD Cert.KernelYpIdeal.τ).loc Cert.KernelYpIdeal.main_arg0)
      ∧ r.2.mem ((c.tc : Thread Cert.KernelYpIdeal.nD Cert.KernelYpIdeal.τ).loc Cert.KernelYpIdeal.main_arg1) = m ((c.tc : Thread Cert.KernelYpIdeal.nD Cert.KernelYpIdeal.τ).loc Cert.KernelYpIdeal.main_arg1))
      ∧ r.2.sem = fun _ => 0)

def quiescent_ReferenceYpIdeal [hReferenceYpIdeal : Cert.ReferenceYpIdeal.Facts] : Prop :=
  ∀ (m : (ℓ : Loc Cert.ReferenceYpIdeal.nD Cert.ReferenceYpIdeal.τ Cert.ReferenceYpIdeal.sig) → Buf (Elt Ideal) ℓ) (g : Dev Cert.ReferenceYpIdeal.nD → PrngReg), Pre_ReferenceYpIdeal m →
    θ_run (Cert.ReferenceYpIdeal.defs (F := Ideal)) (onTc (τ := Cert.ReferenceYpIdeal.τ) (Cert.ReferenceYpIdeal.main (F := Ideal))) ⟨m, fun _ => 0, g⟩ (fun r => (∀ c : Dev Cert.ReferenceYpIdeal.nD,
      r.2.mem ((c.tc : Thread Cert.ReferenceYpIdeal.nD Cert.ReferenceYpIdeal.τ).loc Cert.ReferenceYpIdeal.main_arg0) = m ((c.tc : Thread Cert.ReferenceYpIdeal.nD Cert.ReferenceYpIdeal.τ).loc Cert.ReferenceYpIdeal.main_arg0)
      ∧ r.2.mem ((c.tc : Thread Cert.ReferenceYpIdeal.nD Cert.ReferenceYpIdeal.τ).loc Cert.ReferenceYpIdeal.main_arg1) = m ((c.tc : Thread Cert.ReferenceYpIdeal.nD Cert.ReferenceYpIdeal.τ).loc Cert.ReferenceYpIdeal.main_arg1))
      ∧ r.2.sem = fun _ => 0)

def quiescent_KernelYs [hKernelYs : Cert.KernelYs.Facts] : Prop :=
  ∀ (m : (ℓ : Loc Cert.KernelYs.nD Cert.KernelYs.τ Cert.KernelYs.sig) → Buf (Elt Bits) ℓ) (g : Dev Cert.KernelYs.nD → PrngReg), Pre_KernelYs m →
    θ_run (Cert.KernelYs.defs (F := Bits)) (onTc (τ := Cert.KernelYs.τ) (Cert.KernelYs.main (F := Bits))) ⟨m, fun _ => 0, g⟩ (fun r => (∀ c : Dev Cert.KernelYs.nD,
      r.2.mem ((c.tc : Thread Cert.KernelYs.nD Cert.KernelYs.τ).loc Cert.KernelYs.main_arg0) = m ((c.tc : Thread Cert.KernelYs.nD Cert.KernelYs.τ).loc Cert.KernelYs.main_arg0)
      ∧ r.2.mem ((c.tc : Thread Cert.KernelYs.nD Cert.KernelYs.τ).loc Cert.KernelYs.main_arg1) = m ((c.tc : Thread Cert.KernelYs.nD Cert.KernelYs.τ).loc Cert.KernelYs.main_arg1))
      ∧ r.2.sem = fun _ => 0)

def quiescent_KernelYsIdeal [hKernelYsIdeal : Cert.KernelYsIdeal.Facts] : Prop :=
  ∀ (m : (ℓ : Loc Cert.KernelYsIdeal.nD Cert.KernelYsIdeal.τ Cert.KernelYsIdeal.sig) → Buf (Elt Ideal) ℓ) (g : Dev Cert.KernelYsIdeal.nD → PrngReg), Pre_KernelYsIdeal m →
    θ_run (Cert.KernelYsIdeal.defs (F := Ideal)) (onTc (τ := Cert.KernelYsIdeal.τ) (Cert.KernelYsIdeal.main (F := Ideal))) ⟨m, fun _ => 0, g⟩ (fun r => (∀ c : Dev Cert.KernelYsIdeal.nD,
      r.2.mem ((c.tc : Thread Cert.KernelYsIdeal.nD Cert.KernelYsIdeal.τ).loc Cert.KernelYsIdeal.main_arg0) = m ((c.tc : Thread Cert.KernelYsIdeal.nD Cert.KernelYsIdeal.τ).loc Cert.KernelYsIdeal.main_arg0)
      ∧ r.2.mem ((c.tc : Thread Cert.KernelYsIdeal.nD Cert.KernelYsIdeal.τ).loc Cert.KernelYsIdeal.main_arg1) = m ((c.tc : Thread Cert.KernelYsIdeal.nD Cert.KernelYsIdeal.τ).loc Cert.KernelYsIdeal.main_arg1))
      ∧ r.2.sem = fun _ => 0)

def quiescent_ReferenceYsIdeal [hReferenceYsIdeal : Cert.ReferenceYsIdeal.Facts] : Prop :=
  ∀ (m : (ℓ : Loc Cert.ReferenceYsIdeal.nD Cert.ReferenceYsIdeal.τ Cert.ReferenceYsIdeal.sig) → Buf (Elt Ideal) ℓ) (g : Dev Cert.ReferenceYsIdeal.nD → PrngReg), Pre_ReferenceYsIdeal m →
    θ_run (Cert.ReferenceYsIdeal.defs (F := Ideal)) (onTc (τ := Cert.ReferenceYsIdeal.τ) (Cert.ReferenceYsIdeal.main (F := Ideal))) ⟨m, fun _ => 0, g⟩ (fun r => (∀ c : Dev Cert.ReferenceYsIdeal.nD,
      r.2.mem ((c.tc : Thread Cert.ReferenceYsIdeal.nD Cert.ReferenceYsIdeal.τ).loc Cert.ReferenceYsIdeal.main_arg0) = m ((c.tc : Thread Cert.ReferenceYsIdeal.nD Cert.ReferenceYsIdeal.τ).loc Cert.ReferenceYsIdeal.main_arg0)
      ∧ r.2.mem ((c.tc : Thread Cert.ReferenceYsIdeal.nD Cert.ReferenceYsIdeal.τ).loc Cert.ReferenceYsIdeal.main_arg1) = m ((c.tc : Thread Cert.ReferenceYsIdeal.nD Cert.ReferenceYsIdeal.τ).loc Cert.ReferenceYsIdeal.main_arg1))
      ∧ r.2.sem = fun _ => 0)

def quiescent_KernelKvs [hKernelKvs : Cert.KernelKvs.Facts] : Prop :=
  ∀ (m : (ℓ : Loc Cert.KernelKvs.nD Cert.KernelKvs.τ Cert.KernelKvs.sig) → Buf (Elt Bits) ℓ) (g : Dev Cert.KernelKvs.nD → PrngReg), Pre_KernelKvs m →
    θ_run (Cert.KernelKvs.defs (F := Bits)) (onTc (τ := Cert.KernelKvs.τ) (Cert.KernelKvs.main (F := Bits))) ⟨m, fun _ => 0, g⟩ (fun r => (∀ c : Dev Cert.KernelKvs.nD,
      r.2.mem ((c.tc : Thread Cert.KernelKvs.nD Cert.KernelKvs.τ).loc Cert.KernelKvs.main_arg0) = m ((c.tc : Thread Cert.KernelKvs.nD Cert.KernelKvs.τ).loc Cert.KernelKvs.main_arg0)
      ∧ r.2.mem ((c.tc : Thread Cert.KernelKvs.nD Cert.KernelKvs.τ).loc Cert.KernelKvs.main_arg1) = m ((c.tc : Thread Cert.KernelKvs.nD Cert.KernelKvs.τ).loc Cert.KernelKvs.main_arg1)
      ∧ r.2.mem ((c.tc : Thread Cert.KernelKvs.nD Cert.KernelKvs.τ).loc Cert.KernelKvs.main_arg2) = m ((c.tc : Thread Cert.KernelKvs.nD Cert.KernelKvs.τ).loc Cert.KernelKvs.main_arg2))
      ∧ r.2.sem = fun _ => 0)

def quiescent_KernelKvsIdeal [hKernelKvsIdeal : Cert.KernelKvsIdeal.Facts] : Prop :=
  ∀ (m : (ℓ : Loc Cert.KernelKvsIdeal.nD Cert.KernelKvsIdeal.τ Cert.KernelKvsIdeal.sig) → Buf (Elt Ideal) ℓ) (g : Dev Cert.KernelKvsIdeal.nD → PrngReg), Pre_KernelKvsIdeal m →
    θ_run (Cert.KernelKvsIdeal.defs (F := Ideal)) (onTc (τ := Cert.KernelKvsIdeal.τ) (Cert.KernelKvsIdeal.main (F := Ideal))) ⟨m, fun _ => 0, g⟩ (fun r => (∀ c : Dev Cert.KernelKvsIdeal.nD,
      r.2.mem ((c.tc : Thread Cert.KernelKvsIdeal.nD Cert.KernelKvsIdeal.τ).loc Cert.KernelKvsIdeal.main_arg0) = m ((c.tc : Thread Cert.KernelKvsIdeal.nD Cert.KernelKvsIdeal.τ).loc Cert.KernelKvsIdeal.main_arg0)
      ∧ r.2.mem ((c.tc : Thread Cert.KernelKvsIdeal.nD Cert.KernelKvsIdeal.τ).loc Cert.KernelKvsIdeal.main_arg1) = m ((c.tc : Thread Cert.KernelKvsIdeal.nD Cert.KernelKvsIdeal.τ).loc Cert.KernelKvsIdeal.main_arg1)
      ∧ r.2.mem ((c.tc : Thread Cert.KernelKvsIdeal.nD Cert.KernelKvsIdeal.τ).loc Cert.KernelKvsIdeal.main_arg2) = m ((c.tc : Thread Cert.KernelKvsIdeal.nD Cert.KernelKvsIdeal.τ).loc Cert.KernelKvsIdeal.main_arg2))
      ∧ r.2.sem = fun _ => 0)

def quiescent_ReferenceKvsIdeal [hReferenceKvsIdeal : Cert.ReferenceKvsIdeal.Facts] : Prop :=
  ∀ (m : (ℓ : Loc Cert.ReferenceKvsIdeal.nD Cert.ReferenceKvsIdeal.τ Cert.ReferenceKvsIdeal.sig) → Buf (Elt Ideal) ℓ) (g : Dev Cert.ReferenceKvsIdeal.nD → PrngReg), Pre_ReferenceKvsIdeal m →
    θ_run (Cert.ReferenceKvsIdeal.defs (F := Ideal)) (onTc (τ := Cert.ReferenceKvsIdeal.τ) (Cert.ReferenceKvsIdeal.main (F := Ideal))) ⟨m, fun _ => 0, g⟩ (fun r => (∀ c : Dev Cert.ReferenceKvsIdeal.nD,
      r.2.mem ((c.tc : Thread Cert.ReferenceKvsIdeal.nD Cert.ReferenceKvsIdeal.τ).loc Cert.ReferenceKvsIdeal.main_arg0) = m ((c.tc : Thread Cert.ReferenceKvsIdeal.nD Cert.ReferenceKvsIdeal.τ).loc Cert.ReferenceKvsIdeal.main_arg0)
      ∧ r.2.mem ((c.tc : Thread Cert.ReferenceKvsIdeal.nD Cert.ReferenceKvsIdeal.τ).loc Cert.ReferenceKvsIdeal.main_arg1) = m ((c.tc : Thread Cert.ReferenceKvsIdeal.nD Cert.ReferenceKvsIdeal.τ).loc Cert.ReferenceKvsIdeal.main_arg1)
      ∧ r.2.mem ((c.tc : Thread Cert.ReferenceKvsIdeal.nD Cert.ReferenceKvsIdeal.τ).loc Cert.ReferenceKvsIdeal.main_arg2) = m ((c.tc : Thread Cert.ReferenceKvsIdeal.nD Cert.ReferenceKvsIdeal.τ).loc Cert.ReferenceKvsIdeal.main_arg2))
      ∧ r.2.sem = fun _ => 0)

def quiescent_KernelRs [hKernelRs : Cert.KernelRs.Facts] : Prop :=
  ∀ (m : (ℓ : Loc Cert.KernelRs.nD Cert.KernelRs.τ Cert.KernelRs.sig) → Buf (Elt Bits) ℓ) (g : Dev Cert.KernelRs.nD → PrngReg), Pre_KernelRs m →
    θ_run (Cert.KernelRs.defs (F := Bits)) (onTc (τ := Cert.KernelRs.τ) (Cert.KernelRs.main (F := Bits))) ⟨m, fun _ => 0, g⟩ (fun r => (∀ c : Dev Cert.KernelRs.nD,
      r.2.mem ((c.tc : Thread Cert.KernelRs.nD Cert.KernelRs.τ).loc Cert.KernelRs.main_arg0) = m ((c.tc : Thread Cert.KernelRs.nD Cert.KernelRs.τ).loc Cert.KernelRs.main_arg0)
      ∧ r.2.mem ((c.tc : Thread Cert.KernelRs.nD Cert.KernelRs.τ).loc Cert.KernelRs.main_arg1) = m ((c.tc : Thread Cert.KernelRs.nD Cert.KernelRs.τ).loc Cert.KernelRs.main_arg1)
      ∧ r.2.mem ((c.tc : Thread Cert.KernelRs.nD Cert.KernelRs.τ).loc Cert.KernelRs.main_arg2) = m ((c.tc : Thread Cert.KernelRs.nD Cert.KernelRs.τ).loc Cert.KernelRs.main_arg2)
      ∧ r.2.mem ((c.tc : Thread Cert.KernelRs.nD Cert.KernelRs.τ).loc Cert.KernelRs.main_arg3) = m ((c.tc : Thread Cert.KernelRs.nD Cert.KernelRs.τ).loc Cert.KernelRs.main_arg3)
      ∧ r.2.mem ((c.tc : Thread Cert.KernelRs.nD Cert.KernelRs.τ).loc Cert.KernelRs.main_arg4) = m ((c.tc : Thread Cert.KernelRs.nD Cert.KernelRs.τ).loc Cert.KernelRs.main_arg4)
      ∧ r.2.mem ((c.tc : Thread Cert.KernelRs.nD Cert.KernelRs.τ).loc Cert.KernelRs.main_arg5) = m ((c.tc : Thread Cert.KernelRs.nD Cert.KernelRs.τ).loc Cert.KernelRs.main_arg5))
      ∧ r.2.sem = fun _ => 0)

def quiescent_KernelRsIdeal [hKernelRsIdeal : Cert.KernelRsIdeal.Facts] : Prop :=
  ∀ (m : (ℓ : Loc Cert.KernelRsIdeal.nD Cert.KernelRsIdeal.τ Cert.KernelRsIdeal.sig) → Buf (Elt Ideal) ℓ) (g : Dev Cert.KernelRsIdeal.nD → PrngReg), Pre_KernelRsIdeal m →
    θ_run (Cert.KernelRsIdeal.defs (F := Ideal)) (onTc (τ := Cert.KernelRsIdeal.τ) (Cert.KernelRsIdeal.main (F := Ideal))) ⟨m, fun _ => 0, g⟩ (fun r => (∀ c : Dev Cert.KernelRsIdeal.nD,
      r.2.mem ((c.tc : Thread Cert.KernelRsIdeal.nD Cert.KernelRsIdeal.τ).loc Cert.KernelRsIdeal.main_arg0) = m ((c.tc : Thread Cert.KernelRsIdeal.nD Cert.KernelRsIdeal.τ).loc Cert.KernelRsIdeal.main_arg0)
      ∧ r.2.mem ((c.tc : Thread Cert.KernelRsIdeal.nD Cert.KernelRsIdeal.τ).loc Cert.KernelRsIdeal.main_arg1) = m ((c.tc : Thread Cert.KernelRsIdeal.nD Cert.KernelRsIdeal.τ).loc Cert.KernelRsIdeal.main_arg1)
      ∧ r.2.mem ((c.tc : Thread Cert.KernelRsIdeal.nD Cert.KernelRsIdeal.τ).loc Cert.KernelRsIdeal.main_arg2) = m ((c.tc : Thread Cert.KernelRsIdeal.nD Cert.KernelRsIdeal.τ).loc Cert.KernelRsIdeal.main_arg2)
      ∧ r.2.mem ((c.tc : Thread Cert.KernelRsIdeal.nD Cert.KernelRsIdeal.τ).loc Cert.KernelRsIdeal.main_arg3) = m ((c.tc : Thread Cert.KernelRsIdeal.nD Cert.KernelRsIdeal.τ).loc Cert.KernelRsIdeal.main_arg3)
      ∧ r.2.mem ((c.tc : Thread Cert.KernelRsIdeal.nD Cert.KernelRsIdeal.τ).loc Cert.KernelRsIdeal.main_arg4) = m ((c.tc : Thread Cert.KernelRsIdeal.nD Cert.KernelRsIdeal.τ).loc Cert.KernelRsIdeal.main_arg4)
      ∧ r.2.mem ((c.tc : Thread Cert.KernelRsIdeal.nD Cert.KernelRsIdeal.τ).loc Cert.KernelRsIdeal.main_arg5) = m ((c.tc : Thread Cert.KernelRsIdeal.nD Cert.KernelRsIdeal.τ).loc Cert.KernelRsIdeal.main_arg5))
      ∧ r.2.sem = fun _ => 0)

def quiescent_ReferenceRsIdeal [hReferenceRsIdeal : Cert.ReferenceRsIdeal.Facts] : Prop :=
  ∀ (m : (ℓ : Loc Cert.ReferenceRsIdeal.nD Cert.ReferenceRsIdeal.τ Cert.ReferenceRsIdeal.sig) → Buf (Elt Ideal) ℓ) (g : Dev Cert.ReferenceRsIdeal.nD → PrngReg), Pre_ReferenceRsIdeal m →
    θ_run (Cert.ReferenceRsIdeal.defs (F := Ideal)) (onTc (τ := Cert.ReferenceRsIdeal.τ) (Cert.ReferenceRsIdeal.main (F := Ideal))) ⟨m, fun _ => 0, g⟩ (fun r => (∀ c : Dev Cert.ReferenceRsIdeal.nD,
      r.2.mem ((c.tc : Thread Cert.ReferenceRsIdeal.nD Cert.ReferenceRsIdeal.τ).loc Cert.ReferenceRsIdeal.main_arg0) = m ((c.tc : Thread Cert.ReferenceRsIdeal.nD Cert.ReferenceRsIdeal.τ).loc Cert.ReferenceRsIdeal.main_arg0)
      ∧ r.2.mem ((c.tc : Thread Cert.ReferenceRsIdeal.nD Cert.ReferenceRsIdeal.τ).loc Cert.ReferenceRsIdeal.main_arg1) = m ((c.tc : Thread Cert.ReferenceRsIdeal.nD Cert.ReferenceRsIdeal.τ).loc Cert.ReferenceRsIdeal.main_arg1)
      ∧ r.2.mem ((c.tc : Thread Cert.ReferenceRsIdeal.nD Cert.ReferenceRsIdeal.τ).loc Cert.ReferenceRsIdeal.main_arg2) = m ((c.tc : Thread Cert.ReferenceRsIdeal.nD Cert.ReferenceRsIdeal.τ).loc Cert.ReferenceRsIdeal.main_arg2)
      ∧ r.2.mem ((c.tc : Thread Cert.ReferenceRsIdeal.nD Cert.ReferenceRsIdeal.τ).loc Cert.ReferenceRsIdeal.main_arg3) = m ((c.tc : Thread Cert.ReferenceRsIdeal.nD Cert.ReferenceRsIdeal.τ).loc Cert.ReferenceRsIdeal.main_arg3)
      ∧ r.2.mem ((c.tc : Thread Cert.ReferenceRsIdeal.nD Cert.ReferenceRsIdeal.τ).loc Cert.ReferenceRsIdeal.main_arg4) = m ((c.tc : Thread Cert.ReferenceRsIdeal.nD Cert.ReferenceRsIdeal.τ).loc Cert.ReferenceRsIdeal.main_arg4)
      ∧ r.2.mem ((c.tc : Thread Cert.ReferenceRsIdeal.nD Cert.ReferenceRsIdeal.τ).loc Cert.ReferenceRsIdeal.main_arg5) = m ((c.tc : Thread Cert.ReferenceRsIdeal.nD Cert.ReferenceRsIdeal.τ).loc Cert.ReferenceRsIdeal.main_arg5))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelNg [hKernelNg : Cert.KernelNg.Facts] : Prop :=
  ∀ (m : (ℓ : Loc Cert.KernelNg.nD Cert.KernelNg.τ Cert.KernelNg.sig) → Buf (Elt Bits) ℓ) (g : Dev Cert.KernelNg.nD → PrngReg), Pre_KernelNg m →
    θ_run (Cert.KernelNg.defs (F := Bits)) (onTc (τ := Cert.KernelNg.τ) (Cert.KernelNg.main (F := Bits))) ⟨m, fun _ => 0, g⟩ (fun r => (∀ c : Dev Cert.KernelNg.nD,
      r.2.mem ((c.tc : Thread Cert.KernelNg.nD Cert.KernelNg.τ).loc Cert.KernelNg.main_arg0) = m ((c.tc : Thread Cert.KernelNg.nD Cert.KernelNg.τ).loc Cert.KernelNg.main_arg0)
      ∧ r.2.mem ((c.tc : Thread Cert.KernelNg.nD Cert.KernelNg.τ).loc Cert.KernelNg.main_arg1) = m ((c.tc : Thread Cert.KernelNg.nD Cert.KernelNg.τ).loc Cert.KernelNg.main_arg1))
      ∧ r.2.sem = fun _ => 0)

def quiescent_KernelNgIdeal [hKernelNgIdeal : Cert.KernelNgIdeal.Facts] : Prop :=
  ∀ (m : (ℓ : Loc Cert.KernelNgIdeal.nD Cert.KernelNgIdeal.τ Cert.KernelNgIdeal.sig) → Buf (Elt Ideal) ℓ) (g : Dev Cert.KernelNgIdeal.nD → PrngReg), Pre_KernelNgIdeal m →
    θ_run (Cert.KernelNgIdeal.defs (F := Ideal)) (onTc (τ := Cert.KernelNgIdeal.τ) (Cert.KernelNgIdeal.main (F := Ideal))) ⟨m, fun _ => 0, g⟩ (fun r => (∀ c : Dev Cert.KernelNgIdeal.nD,
      r.2.mem ((c.tc : Thread Cert.KernelNgIdeal.nD Cert.KernelNgIdeal.τ).loc Cert.KernelNgIdeal.main_arg0) = m ((c.tc : Thread Cert.KernelNgIdeal.nD Cert.KernelNgIdeal.τ).loc Cert.KernelNgIdeal.main_arg0)
      ∧ r.2.mem ((c.tc : Thread Cert.KernelNgIdeal.nD Cert.KernelNgIdeal.τ).loc Cert.KernelNgIdeal.main_arg1) = m ((c.tc : Thread Cert.KernelNgIdeal.nD Cert.KernelNgIdeal.τ).loc Cert.KernelNgIdeal.main_arg1))
      ∧ r.2.sem = fun _ => 0)

def quiescent_ReferenceNgIdeal [hReferenceNgIdeal : Cert.ReferenceNgIdeal.Facts] : Prop :=
  ∀ (m : (ℓ : Loc Cert.ReferenceNgIdeal.nD Cert.ReferenceNgIdeal.τ Cert.ReferenceNgIdeal.sig) → Buf (Elt Ideal) ℓ) (g : Dev Cert.ReferenceNgIdeal.nD → PrngReg), Pre_ReferenceNgIdeal m →
    θ_run (Cert.ReferenceNgIdeal.defs (F := Ideal)) (onTc (τ := Cert.ReferenceNgIdeal.τ) (Cert.ReferenceNgIdeal.main (F := Ideal))) ⟨m, fun _ => 0, g⟩ (fun r => (∀ c : Dev Cert.ReferenceNgIdeal.nD,
      r.2.mem ((c.tc : Thread Cert.ReferenceNgIdeal.nD Cert.ReferenceNgIdeal.τ).loc Cert.ReferenceNgIdeal.main_arg0) = m ((c.tc : Thread Cert.ReferenceNgIdeal.nD Cert.ReferenceNgIdeal.τ).loc Cert.ReferenceNgIdeal.main_arg0)
      ∧ r.2.mem ((c.tc : Thread Cert.ReferenceNgIdeal.nD Cert.ReferenceNgIdeal.τ).loc Cert.ReferenceNgIdeal.main_arg1) = m ((c.tc : Thread Cert.ReferenceNgIdeal.nD Cert.ReferenceNgIdeal.τ).loc Cert.ReferenceNgIdeal.main_arg1))
      ∧ r.2.sem = fun _ => 0)

def quiescent_KernelCmp [hKernelCmp : Cert.KernelCmp.Facts] : Prop :=
  ∀ (m : (ℓ : Loc Cert.KernelCmp.nD Cert.KernelCmp.τ Cert.KernelCmp.sig) → Buf (Elt Bits) ℓ) (g : Dev Cert.KernelCmp.nD → PrngReg), Pre_KernelCmp m →
    θ_run (Cert.KernelCmp.defs (F := Bits)) (onTc (τ := Cert.KernelCmp.τ) (Cert.KernelCmp.main (F := Bits))) ⟨m, fun _ => 0, g⟩ (fun r => (∀ c : Dev Cert.KernelCmp.nD,
      r.2.mem ((c.tc : Thread Cert.KernelCmp.nD Cert.KernelCmp.τ).loc Cert.KernelCmp.main_arg0) = m ((c.tc : Thread Cert.KernelCmp.nD Cert.KernelCmp.τ).loc Cert.KernelCmp.main_arg0)
      ∧ r.2.mem ((c.tc : Thread Cert.KernelCmp.nD Cert.KernelCmp.τ).loc Cert.KernelCmp.main_arg1) = m ((c.tc : Thread Cert.KernelCmp.nD Cert.KernelCmp.τ).loc Cert.KernelCmp.main_arg1)
      ∧ r.2.mem ((c.tc : Thread Cert.KernelCmp.nD Cert.KernelCmp.τ).loc Cert.KernelCmp.main_arg2) = m ((c.tc : Thread Cert.KernelCmp.nD Cert.KernelCmp.τ).loc Cert.KernelCmp.main_arg2))
      ∧ r.2.sem = fun _ => 0)

def quiescent_KernelCmpIdeal [hKernelCmpIdeal : Cert.KernelCmpIdeal.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg), Pre_KernelCmpIdeal m →
    θ_run (Cert.KernelCmpIdeal.defs (F := Ideal)) (onTc (τ := Cert.KernelCmpIdeal.τ) (Cert.KernelCmpIdeal.main (F := Ideal))) ⟨m, fun _ => 0, g⟩ (fun r => (∀ c : Dev Cert.KernelCmpIdeal.nD,
      r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
      ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
      ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2))
      ∧ r.2.sem = fun _ => 0)

def quiescent_ReferenceCmpIdeal [hReferenceCmpIdeal : Cert.ReferenceCmpIdeal.Facts] : Prop :=
  ∀ (m : (ℓ : Loc Cert.ReferenceCmpIdeal.nD Cert.ReferenceCmpIdeal.τ Cert.ReferenceCmpIdeal.sig) → Buf (Elt Ideal) ℓ) (g : Dev Cert.ReferenceCmpIdeal.nD → PrngReg), Pre_ReferenceCmpIdeal m →
    θ_run (Cert.ReferenceCmpIdeal.defs (F := Ideal)) (onTc (τ := Cert.ReferenceCmpIdeal.τ) (Cert.ReferenceCmpIdeal.main (F := Ideal))) ⟨m, fun _ => 0, g⟩ (fun r => (∀ c : Dev Cert.ReferenceCmpIdeal.nD,
      r.2.mem ((c.tc : Thread Cert.ReferenceCmpIdeal.nD Cert.ReferenceCmpIdeal.τ).loc Cert.ReferenceCmpIdeal.main_arg0) = m ((c.tc : Thread Cert.ReferenceCmpIdeal.nD Cert.ReferenceCmpIdeal.τ).loc Cert.ReferenceCmpIdeal.main_arg0)
      ∧ r.2.mem ((c.tc : Thread Cert.ReferenceCmpIdeal.nD Cert.ReferenceCmpIdeal.τ).loc Cert.ReferenceCmpIdeal.main_arg1) = m ((c.tc : Thread Cert.ReferenceCmpIdeal.nD Cert.ReferenceCmpIdeal.τ).loc Cert.ReferenceCmpIdeal.main_arg1)
      ∧ r.2.mem ((c.tc : Thread Cert.ReferenceCmpIdeal.nD Cert.ReferenceCmpIdeal.τ).loc Cert.ReferenceCmpIdeal.main_arg2) = m ((c.tc : Thread Cert.ReferenceCmpIdeal.nD Cert.ReferenceCmpIdeal.τ).loc Cert.ReferenceCmpIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v61_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v2)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v2) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v30) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelRqk_KernelRqkIdeal : Prop :=
  True

def algebraic_KernelRqkIdeal_ReferenceRqkIdeal [hKernelRqkIdeal : Cert.KernelRqkIdeal.Facts] [hReferenceRqkIdeal : Cert.ReferenceRqkIdeal.Facts] : Prop :=
  ∀ (m : (ℓ : Loc Cert.KernelRqkIdeal.nD Cert.KernelRqkIdeal.τ Cert.KernelRqkIdeal.sig) → Buf (Elt Ideal) ℓ) (g : Dev Cert.KernelRqkIdeal.nD → PrngReg)
    (m' : (ℓ : Loc Cert.ReferenceRqkIdeal.nD Cert.ReferenceRqkIdeal.τ Cert.ReferenceRqkIdeal.sig) → Buf (Elt Ideal) ℓ) (g' : Dev Cert.ReferenceRqkIdeal.nD → PrngReg), Pre_KernelRqkIdeal m →
    (∀ c : Dev Cert.KernelRqkIdeal.nD,
      m' ((c.tc : Thread Cert.ReferenceRqkIdeal.nD Cert.ReferenceRqkIdeal.τ).loc Cert.ReferenceRqkIdeal.main_arg0) = m ((c.tc : Thread Cert.KernelRqkIdeal.nD Cert.KernelRqkIdeal.τ).loc Cert.KernelRqkIdeal.main_arg0)
      ∧ m' ((c.tc : Thread Cert.ReferenceRqkIdeal.nD Cert.ReferenceRqkIdeal.τ).loc Cert.ReferenceRqkIdeal.main_arg1) = m ((c.tc : Thread Cert.KernelRqkIdeal.nD Cert.KernelRqkIdeal.τ).loc Cert.KernelRqkIdeal.main_arg1)) →
    ∃ (v0 : (c : Dev Cert.KernelRqkIdeal.nD) → Buf (Elt Ideal) ((c.tc : Thread Cert.KernelRqkIdeal.nD Cert.KernelRqkIdeal.τ).loc Cert.KernelRqkIdeal.main_v17)),
      θ_run (Cert.KernelRqkIdeal.defs (F := Ideal)) (onTc (τ := Cert.KernelRqkIdeal.τ) (Cert.KernelRqkIdeal.main (F := Ideal))) ⟨m, fun _ => 0, g⟩ (fun r => ∀ c : Dev Cert.KernelRqkIdeal.nD,
          r.2.mem ((c.tc : Thread Cert.KernelRqkIdeal.nD Cert.KernelRqkIdeal.τ).loc Cert.KernelRqkIdeal.main_v17) = v0 c
          ∧ r.2.mem ((c.tc : Thread Cert.KernelRqkIdeal.nD Cert.KernelRqkIdeal.τ).loc Cert.KernelRqkIdeal.main_arg0) = m ((c.tc : Thread Cert.KernelRqkIdeal.nD Cert.KernelRqkIdeal.τ).loc Cert.KernelRqkIdeal.main_arg0)
          ∧ r.2.mem ((c.tc : Thread Cert.KernelRqkIdeal.nD Cert.KernelRqkIdeal.τ).loc Cert.KernelRqkIdeal.main_arg1) = m ((c.tc : Thread Cert.KernelRqkIdeal.nD Cert.KernelRqkIdeal.τ).loc Cert.KernelRqkIdeal.main_arg1))
      ∧ θ_run (Cert.ReferenceRqkIdeal.defs (F := Ideal)) (onTc (τ := Cert.ReferenceRqkIdeal.τ) (Cert.ReferenceRqkIdeal.main (F := Ideal))) ⟨m', fun _ => 0, g'⟩ (fun r => ∀ c : Dev Cert.ReferenceRqkIdeal.nD,
          r.2.mem ((c.tc : Thread Cert.ReferenceRqkIdeal.nD Cert.ReferenceRqkIdeal.τ).loc Cert.ReferenceRqkIdeal.main_v82) = v0 c
          ∧ r.2.mem ((c.tc : Thread Cert.ReferenceRqkIdeal.nD Cert.ReferenceRqkIdeal.τ).loc Cert.ReferenceRqkIdeal.main_arg0) = m' ((c.tc : Thread Cert.ReferenceRqkIdeal.nD Cert.ReferenceRqkIdeal.τ).loc Cert.ReferenceRqkIdeal.main_arg0)
          ∧ r.2.mem ((c.tc : Thread Cert.ReferenceRqkIdeal.nD Cert.ReferenceRqkIdeal.τ).loc Cert.ReferenceRqkIdeal.main_arg1) = m' ((c.tc : Thread Cert.ReferenceRqkIdeal.nD Cert.ReferenceRqkIdeal.τ).loc Cert.ReferenceRqkIdeal.main_arg1))

def preserves_KernelRv_KernelRvIdeal : Prop :=
  True

def algebraic_KernelRvIdeal_ReferenceRvIdeal [hKernelRvIdeal : Cert.KernelRvIdeal.Facts] [hReferenceRvIdeal : Cert.ReferenceRvIdeal.Facts] : Prop :=
  ∀ (m : (ℓ : Loc Cert.KernelRvIdeal.nD Cert.KernelRvIdeal.τ Cert.KernelRvIdeal.sig) → Buf (Elt Ideal) ℓ) (g : Dev Cert.KernelRvIdeal.nD → PrngReg)
    (m' : (ℓ : Loc Cert.ReferenceRvIdeal.nD Cert.ReferenceRvIdeal.τ Cert.ReferenceRvIdeal.sig) → Buf (Elt Ideal) ℓ) (g' : Dev Cert.ReferenceRvIdeal.nD → PrngReg), Pre_KernelRvIdeal m →
    (∀ c : Dev Cert.KernelRvIdeal.nD,
      m' ((c.tc : Thread Cert.ReferenceRvIdeal.nD Cert.ReferenceRvIdeal.τ).loc Cert.ReferenceRvIdeal.main_arg0) = m ((c.tc : Thread Cert.KernelRvIdeal.nD Cert.KernelRvIdeal.τ).loc Cert.KernelRvIdeal.main_arg0)
      ∧ m' ((c.tc : Thread Cert.ReferenceRvIdeal.nD Cert.ReferenceRvIdeal.τ).loc Cert.ReferenceRvIdeal.main_arg1) = m ((c.tc : Thread Cert.KernelRvIdeal.nD Cert.KernelRvIdeal.τ).loc Cert.KernelRvIdeal.main_arg1)) →
    ∃ (v0 : (c : Dev Cert.KernelRvIdeal.nD) → Buf (Elt Ideal) ((c.tc : Thread Cert.KernelRvIdeal.nD Cert.KernelRvIdeal.τ).loc Cert.KernelRvIdeal.main_v2)),
      θ_run (Cert.KernelRvIdeal.defs (F := Ideal)) (onTc (τ := Cert.KernelRvIdeal.τ) (Cert.KernelRvIdeal.main (F := Ideal))) ⟨m, fun _ => 0, g⟩ (fun r => ∀ c : Dev Cert.KernelRvIdeal.nD,
          r.2.mem ((c.tc : Thread Cert.KernelRvIdeal.nD Cert.KernelRvIdeal.τ).loc Cert.KernelRvIdeal.main_v2) = v0 c
          ∧ r.2.mem ((c.tc : Thread Cert.KernelRvIdeal.nD Cert.KernelRvIdeal.τ).loc Cert.KernelRvIdeal.main_arg0) = m ((c.tc : Thread Cert.KernelRvIdeal.nD Cert.KernelRvIdeal.τ).loc Cert.KernelRvIdeal.main_arg0)
          ∧ r.2.mem ((c.tc : Thread Cert.KernelRvIdeal.nD Cert.KernelRvIdeal.τ).loc Cert.KernelRvIdeal.main_arg1) = m ((c.tc : Thread Cert.KernelRvIdeal.nD Cert.KernelRvIdeal.τ).loc Cert.KernelRvIdeal.main_arg1))
      ∧ θ_run (Cert.ReferenceRvIdeal.defs (F := Ideal)) (onTc (τ := Cert.ReferenceRvIdeal.τ) (Cert.ReferenceRvIdeal.main (F := Ideal))) ⟨m', fun _ => 0, g'⟩ (fun r => ∀ c : Dev Cert.ReferenceRvIdeal.nD,
          r.2.mem ((c.tc : Thread Cert.ReferenceRvIdeal.nD Cert.ReferenceRvIdeal.τ).loc Cert.ReferenceRvIdeal.main_v16) = v0 c
          ∧ r.2.mem ((c.tc : Thread Cert.ReferenceRvIdeal.nD Cert.ReferenceRvIdeal.τ).loc Cert.ReferenceRvIdeal.main_arg0) = m' ((c.tc : Thread Cert.ReferenceRvIdeal.nD Cert.ReferenceRvIdeal.τ).loc Cert.ReferenceRvIdeal.main_arg0)
          ∧ r.2.mem ((c.tc : Thread Cert.ReferenceRvIdeal.nD Cert.ReferenceRvIdeal.τ).loc Cert.ReferenceRvIdeal.main_arg1) = m' ((c.tc : Thread Cert.ReferenceRvIdeal.nD Cert.ReferenceRvIdeal.τ).loc Cert.ReferenceRvIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v2) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v18) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v2_0)) (v1 : (c : Dev Cert.KernelKvIdeal.nD) → Buf (Elt Ideal) ((c.tc : Thread Cert.KernelKvIdeal.nD Cert.KernelKvIdeal.τ).loc Cert.KernelKvIdeal.main_v2_1)) (v2 : (c : Dev Cert.KernelKvIdeal.nD) → Buf (Elt Ideal) ((c.tc : Thread Cert.KernelKvIdeal.nD Cert.KernelKvIdeal.τ).loc Cert.KernelKvIdeal.main_v2_2)) (v3 : (c : Dev Cert.KernelKvIdeal.nD) → Buf (Elt Ideal) ((c.tc : Thread Cert.KernelKvIdeal.nD Cert.KernelKvIdeal.τ).loc Cert.KernelKvIdeal.main_v9)) (v4 : (c : Dev Cert.KernelKvIdeal.nD) → Buf (Elt Ideal) ((c.tc : Thread Cert.KernelKvIdeal.nD Cert.KernelKvIdeal.τ).loc Cert.KernelKvIdeal.main_v13)) (v5 : (c : Dev Cert.KernelKvIdeal.nD) → Buf (Elt Ideal) ((c.tc : Thread Cert.KernelKvIdeal.nD Cert.KernelKvIdeal.τ).loc Cert.KernelKvIdeal.main_v15)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v2_0) = v0 c
          ∧ r.2.mem ((c.tc : Thread Cert.KernelKvIdeal.nD Cert.KernelKvIdeal.τ).loc Cert.KernelKvIdeal.main_v2_1) = v1 c
          ∧ r.2.mem ((c.tc : Thread Cert.KernelKvIdeal.nD Cert.KernelKvIdeal.τ).loc Cert.KernelKvIdeal.main_v2_2) = v2 c
          ∧ r.2.mem ((c.tc : Thread Cert.KernelKvIdeal.nD Cert.KernelKvIdeal.τ).loc Cert.KernelKvIdeal.main_v9) = v3 c
          ∧ r.2.mem ((c.tc : Thread Cert.KernelKvIdeal.nD Cert.KernelKvIdeal.τ).loc Cert.KernelKvIdeal.main_v13) = v4 c
          ∧ r.2.mem ((c.tc : Thread Cert.KernelKvIdeal.nD Cert.KernelKvIdeal.τ).loc Cert.KernelKvIdeal.main_v15) = v5 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v22) = v0 c
          ∧ r.2.mem ((c.tc : Thread Cert.ReferenceKvIdeal.nD Cert.ReferenceKvIdeal.τ).loc Cert.ReferenceKvIdeal.main_v27) = v1 c
          ∧ r.2.mem ((c.tc : Thread Cert.ReferenceKvIdeal.nD Cert.ReferenceKvIdeal.τ).loc Cert.ReferenceKvIdeal.main_v44) = v2 c
          ∧ r.2.mem ((c.tc : Thread Cert.ReferenceKvIdeal.nD Cert.ReferenceKvIdeal.τ).loc Cert.ReferenceKvIdeal.main_v47) = v3 c
          ∧ r.2.mem ((c.tc : Thread Cert.ReferenceKvIdeal.nD Cert.ReferenceKvIdeal.τ).loc Cert.ReferenceKvIdeal.main_v50) = v4 c
          ∧ r.2.mem ((c.tc : Thread Cert.ReferenceKvIdeal.nD Cert.ReferenceKvIdeal.τ).loc Cert.ReferenceKvIdeal.main_v43) = v5 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v2) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v11) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelYp_KernelYpIdeal : Prop :=
  True

def algebraic_KernelYpIdeal_ReferenceYpIdeal [hKernelYpIdeal : Cert.KernelYpIdeal.Facts] [hReferenceYpIdeal : Cert.ReferenceYpIdeal.Facts] : Prop :=
  ∀ (m : (ℓ : Loc Cert.KernelYpIdeal.nD Cert.KernelYpIdeal.τ Cert.KernelYpIdeal.sig) → Buf (Elt Ideal) ℓ) (g : Dev Cert.KernelYpIdeal.nD → PrngReg)
    (m' : (ℓ : Loc Cert.ReferenceYpIdeal.nD Cert.ReferenceYpIdeal.τ Cert.ReferenceYpIdeal.sig) → Buf (Elt Ideal) ℓ) (g' : Dev Cert.ReferenceYpIdeal.nD → PrngReg), Pre_KernelYpIdeal m →
    (∀ c : Dev Cert.KernelYpIdeal.nD,
      m' ((c.tc : Thread Cert.ReferenceYpIdeal.nD Cert.ReferenceYpIdeal.τ).loc Cert.ReferenceYpIdeal.main_arg0) = m ((c.tc : Thread Cert.KernelYpIdeal.nD Cert.KernelYpIdeal.τ).loc Cert.KernelYpIdeal.main_arg0)
      ∧ m' ((c.tc : Thread Cert.ReferenceYpIdeal.nD Cert.ReferenceYpIdeal.τ).loc Cert.ReferenceYpIdeal.main_arg1) = m ((c.tc : Thread Cert.KernelYpIdeal.nD Cert.KernelYpIdeal.τ).loc Cert.KernelYpIdeal.main_arg1)) →
    ∃ (v0 : (c : Dev Cert.KernelYpIdeal.nD) → Buf (Elt Ideal) ((c.tc : Thread Cert.KernelYpIdeal.nD Cert.KernelYpIdeal.τ).loc Cert.KernelYpIdeal.main_v1)),
      θ_run (Cert.KernelYpIdeal.defs (F := Ideal)) (onTc (τ := Cert.KernelYpIdeal.τ) (Cert.KernelYpIdeal.main (F := Ideal))) ⟨m, fun _ => 0, g⟩ (fun r => ∀ c : Dev Cert.KernelYpIdeal.nD,
          r.2.mem ((c.tc : Thread Cert.KernelYpIdeal.nD Cert.KernelYpIdeal.τ).loc Cert.KernelYpIdeal.main_v1) = v0 c
          ∧ r.2.mem ((c.tc : Thread Cert.KernelYpIdeal.nD Cert.KernelYpIdeal.τ).loc Cert.KernelYpIdeal.main_arg0) = m ((c.tc : Thread Cert.KernelYpIdeal.nD Cert.KernelYpIdeal.τ).loc Cert.KernelYpIdeal.main_arg0)
          ∧ r.2.mem ((c.tc : Thread Cert.KernelYpIdeal.nD Cert.KernelYpIdeal.τ).loc Cert.KernelYpIdeal.main_arg1) = m ((c.tc : Thread Cert.KernelYpIdeal.nD Cert.KernelYpIdeal.τ).loc Cert.KernelYpIdeal.main_arg1))
      ∧ θ_run (Cert.ReferenceYpIdeal.defs (F := Ideal)) (onTc (τ := Cert.ReferenceYpIdeal.τ) (Cert.ReferenceYpIdeal.main (F := Ideal))) ⟨m', fun _ => 0, g'⟩ (fun r => ∀ c : Dev Cert.ReferenceYpIdeal.nD,
          r.2.mem ((c.tc : Thread Cert.ReferenceYpIdeal.nD Cert.ReferenceYpIdeal.τ).loc Cert.ReferenceYpIdeal.main_v12) = v0 c
          ∧ r.2.mem ((c.tc : Thread Cert.ReferenceYpIdeal.nD Cert.ReferenceYpIdeal.τ).loc Cert.ReferenceYpIdeal.main_arg0) = m' ((c.tc : Thread Cert.ReferenceYpIdeal.nD Cert.ReferenceYpIdeal.τ).loc Cert.ReferenceYpIdeal.main_arg0)
          ∧ r.2.mem ((c.tc : Thread Cert.ReferenceYpIdeal.nD Cert.ReferenceYpIdeal.τ).loc Cert.ReferenceYpIdeal.main_arg1) = m' ((c.tc : Thread Cert.ReferenceYpIdeal.nD Cert.ReferenceYpIdeal.τ).loc Cert.ReferenceYpIdeal.main_arg1))

def preserves_KernelYs_KernelYsIdeal : Prop :=
  True

def algebraic_KernelYsIdeal_ReferenceYsIdeal [hKernelYsIdeal : Cert.KernelYsIdeal.Facts] [hReferenceYsIdeal : Cert.ReferenceYsIdeal.Facts] : Prop :=
  ∀ (m : (ℓ : Loc Cert.KernelYsIdeal.nD Cert.KernelYsIdeal.τ Cert.KernelYsIdeal.sig) → Buf (Elt Ideal) ℓ) (g : Dev Cert.KernelYsIdeal.nD → PrngReg)
    (m' : (ℓ : Loc Cert.ReferenceYsIdeal.nD Cert.ReferenceYsIdeal.τ Cert.ReferenceYsIdeal.sig) → Buf (Elt Ideal) ℓ) (g' : Dev Cert.ReferenceYsIdeal.nD → PrngReg), Pre_KernelYsIdeal m →
    (∀ c : Dev Cert.KernelYsIdeal.nD,
      m' ((c.tc : Thread Cert.ReferenceYsIdeal.nD Cert.ReferenceYsIdeal.τ).loc Cert.ReferenceYsIdeal.main_arg0) = m ((c.tc : Thread Cert.KernelYsIdeal.nD Cert.KernelYsIdeal.τ).loc Cert.KernelYsIdeal.main_arg0)
      ∧ m' ((c.tc : Thread Cert.ReferenceYsIdeal.nD Cert.ReferenceYsIdeal.τ).loc Cert.ReferenceYsIdeal.main_arg1) = m ((c.tc : Thread Cert.KernelYsIdeal.nD Cert.KernelYsIdeal.τ).loc Cert.KernelYsIdeal.main_arg1)) →
    ∃ (v0 : (c : Dev Cert.KernelYsIdeal.nD) → Buf (Elt Ideal) ((c.tc : Thread Cert.KernelYsIdeal.nD Cert.KernelYsIdeal.τ).loc Cert.KernelYsIdeal.main_v1)),
      θ_run (Cert.KernelYsIdeal.defs (F := Ideal)) (onTc (τ := Cert.KernelYsIdeal.τ) (Cert.KernelYsIdeal.main (F := Ideal))) ⟨m, fun _ => 0, g⟩ (fun r => ∀ c : Dev Cert.KernelYsIdeal.nD,
          r.2.mem ((c.tc : Thread Cert.KernelYsIdeal.nD Cert.KernelYsIdeal.τ).loc Cert.KernelYsIdeal.main_v1) = v0 c
          ∧ r.2.mem ((c.tc : Thread Cert.KernelYsIdeal.nD Cert.KernelYsIdeal.τ).loc Cert.KernelYsIdeal.main_arg0) = m ((c.tc : Thread Cert.KernelYsIdeal.nD Cert.KernelYsIdeal.τ).loc Cert.KernelYsIdeal.main_arg0)
          ∧ r.2.mem ((c.tc : Thread Cert.KernelYsIdeal.nD Cert.KernelYsIdeal.τ).loc Cert.KernelYsIdeal.main_arg1) = m ((c.tc : Thread Cert.KernelYsIdeal.nD Cert.KernelYsIdeal.τ).loc Cert.KernelYsIdeal.main_arg1))
      ∧ θ_run (Cert.ReferenceYsIdeal.defs (F := Ideal)) (onTc (τ := Cert.ReferenceYsIdeal.τ) (Cert.ReferenceYsIdeal.main (F := Ideal))) ⟨m', fun _ => 0, g'⟩ (fun r => ∀ c : Dev Cert.ReferenceYsIdeal.nD,
          r.2.mem ((c.tc : Thread Cert.ReferenceYsIdeal.nD Cert.ReferenceYsIdeal.τ).loc Cert.ReferenceYsIdeal.main_v12) = v0 c
          ∧ r.2.mem ((c.tc : Thread Cert.ReferenceYsIdeal.nD Cert.ReferenceYsIdeal.τ).loc Cert.ReferenceYsIdeal.main_arg0) = m' ((c.tc : Thread Cert.ReferenceYsIdeal.nD Cert.ReferenceYsIdeal.τ).loc Cert.ReferenceYsIdeal.main_arg0)
          ∧ r.2.mem ((c.tc : Thread Cert.ReferenceYsIdeal.nD Cert.ReferenceYsIdeal.τ).loc Cert.ReferenceYsIdeal.main_arg1) = m' ((c.tc : Thread Cert.ReferenceYsIdeal.nD Cert.ReferenceYsIdeal.τ).loc Cert.ReferenceYsIdeal.main_arg1))

def preserves_KernelKvs_KernelKvsIdeal : Prop :=
  True

def algebraic_KernelKvsIdeal_ReferenceKvsIdeal [hKernelKvsIdeal : Cert.KernelKvsIdeal.Facts] [hReferenceKvsIdeal : Cert.ReferenceKvsIdeal.Facts] : Prop :=
  ∀ (m : (ℓ : Loc Cert.KernelKvsIdeal.nD Cert.KernelKvsIdeal.τ Cert.KernelKvsIdeal.sig) → Buf (Elt Ideal) ℓ) (g : Dev Cert.KernelKvsIdeal.nD → PrngReg)
    (m' : (ℓ : Loc Cert.ReferenceKvsIdeal.nD Cert.ReferenceKvsIdeal.τ Cert.ReferenceKvsIdeal.sig) → Buf (Elt Ideal) ℓ) (g' : Dev Cert.ReferenceKvsIdeal.nD → PrngReg), Pre_KernelKvsIdeal m →
    (∀ c : Dev Cert.KernelKvsIdeal.nD,
      m' ((c.tc : Thread Cert.ReferenceKvsIdeal.nD Cert.ReferenceKvsIdeal.τ).loc Cert.ReferenceKvsIdeal.main_arg0) = m ((c.tc : Thread Cert.KernelKvsIdeal.nD Cert.KernelKvsIdeal.τ).loc Cert.KernelKvsIdeal.main_arg0)
      ∧ m' ((c.tc : Thread Cert.ReferenceKvsIdeal.nD Cert.ReferenceKvsIdeal.τ).loc Cert.ReferenceKvsIdeal.main_arg1) = m ((c.tc : Thread Cert.KernelKvsIdeal.nD Cert.KernelKvsIdeal.τ).loc Cert.KernelKvsIdeal.main_arg1)
      ∧ m' ((c.tc : Thread Cert.ReferenceKvsIdeal.nD Cert.ReferenceKvsIdeal.τ).loc Cert.ReferenceKvsIdeal.main_arg2) = m ((c.tc : Thread Cert.KernelKvsIdeal.nD Cert.KernelKvsIdeal.τ).loc Cert.KernelKvsIdeal.main_arg2)) →
    ∃ (v0 : (c : Dev Cert.KernelKvsIdeal.nD) → Buf (Elt Ideal) ((c.tc : Thread Cert.KernelKvsIdeal.nD Cert.KernelKvsIdeal.τ).loc Cert.KernelKvsIdeal.main_v14)) (v1 : (c : Dev Cert.KernelKvsIdeal.nD) → Buf (Elt Ideal) ((c.tc : Thread Cert.KernelKvsIdeal.nD Cert.KernelKvsIdeal.τ).loc Cert.KernelKvsIdeal.main_v15)) (v2 : (c : Dev Cert.KernelKvsIdeal.nD) → Buf (Elt Ideal) ((c.tc : Thread Cert.KernelKvsIdeal.nD Cert.KernelKvsIdeal.τ).loc Cert.KernelKvsIdeal.main_v17)),
      θ_run (Cert.KernelKvsIdeal.defs (F := Ideal)) (onTc (τ := Cert.KernelKvsIdeal.τ) (Cert.KernelKvsIdeal.main (F := Ideal))) ⟨m, fun _ => 0, g⟩ (fun r => ∀ c : Dev Cert.KernelKvsIdeal.nD,
          r.2.mem ((c.tc : Thread Cert.KernelKvsIdeal.nD Cert.KernelKvsIdeal.τ).loc Cert.KernelKvsIdeal.main_v14) = v0 c
          ∧ r.2.mem ((c.tc : Thread Cert.KernelKvsIdeal.nD Cert.KernelKvsIdeal.τ).loc Cert.KernelKvsIdeal.main_v15) = v1 c
          ∧ r.2.mem ((c.tc : Thread Cert.KernelKvsIdeal.nD Cert.KernelKvsIdeal.τ).loc Cert.KernelKvsIdeal.main_v17) = v2 c
          ∧ r.2.mem ((c.tc : Thread Cert.KernelKvsIdeal.nD Cert.KernelKvsIdeal.τ).loc Cert.KernelKvsIdeal.main_arg0) = m ((c.tc : Thread Cert.KernelKvsIdeal.nD Cert.KernelKvsIdeal.τ).loc Cert.KernelKvsIdeal.main_arg0)
          ∧ r.2.mem ((c.tc : Thread Cert.KernelKvsIdeal.nD Cert.KernelKvsIdeal.τ).loc Cert.KernelKvsIdeal.main_arg1) = m ((c.tc : Thread Cert.KernelKvsIdeal.nD Cert.KernelKvsIdeal.τ).loc Cert.KernelKvsIdeal.main_arg1)
          ∧ r.2.mem ((c.tc : Thread Cert.KernelKvsIdeal.nD Cert.KernelKvsIdeal.τ).loc Cert.KernelKvsIdeal.main_arg2) = m ((c.tc : Thread Cert.KernelKvsIdeal.nD Cert.KernelKvsIdeal.τ).loc Cert.KernelKvsIdeal.main_arg2))
      ∧ θ_run (Cert.ReferenceKvsIdeal.defs (F := Ideal)) (onTc (τ := Cert.ReferenceKvsIdeal.τ) (Cert.ReferenceKvsIdeal.main (F := Ideal))) ⟨m', fun _ => 0, g'⟩ (fun r => ∀ c : Dev Cert.ReferenceKvsIdeal.nD,
          r.2.mem ((c.tc : Thread Cert.ReferenceKvsIdeal.nD Cert.ReferenceKvsIdeal.τ).loc Cert.ReferenceKvsIdeal.main_v19) = v0 c
          ∧ r.2.mem ((c.tc : Thread Cert.ReferenceKvsIdeal.nD Cert.ReferenceKvsIdeal.τ).loc Cert.ReferenceKvsIdeal.main_v24) = v1 c
          ∧ r.2.mem ((c.tc : Thread Cert.ReferenceKvsIdeal.nD Cert.ReferenceKvsIdeal.τ).loc Cert.ReferenceKvsIdeal.main_v31) = v2 c
          ∧ r.2.mem ((c.tc : Thread Cert.ReferenceKvsIdeal.nD Cert.ReferenceKvsIdeal.τ).loc Cert.ReferenceKvsIdeal.main_arg0) = m' ((c.tc : Thread Cert.ReferenceKvsIdeal.nD Cert.ReferenceKvsIdeal.τ).loc Cert.ReferenceKvsIdeal.main_arg0)
          ∧ r.2.mem ((c.tc : Thread Cert.ReferenceKvsIdeal.nD Cert.ReferenceKvsIdeal.τ).loc Cert.ReferenceKvsIdeal.main_arg1) = m' ((c.tc : Thread Cert.ReferenceKvsIdeal.nD Cert.ReferenceKvsIdeal.τ).loc Cert.ReferenceKvsIdeal.main_arg1)
          ∧ r.2.mem ((c.tc : Thread Cert.ReferenceKvsIdeal.nD Cert.ReferenceKvsIdeal.τ).loc Cert.ReferenceKvsIdeal.main_arg2) = m' ((c.tc : Thread Cert.ReferenceKvsIdeal.nD Cert.ReferenceKvsIdeal.τ).loc Cert.ReferenceKvsIdeal.main_arg2))

def preserves_KernelRs_KernelRsIdeal : Prop :=
  True

def algebraic_KernelRsIdeal_ReferenceRsIdeal [hKernelRsIdeal : Cert.KernelRsIdeal.Facts] [hReferenceRsIdeal : Cert.ReferenceRsIdeal.Facts] : Prop :=
  ∀ (m : (ℓ : Loc Cert.KernelRsIdeal.nD Cert.KernelRsIdeal.τ Cert.KernelRsIdeal.sig) → Buf (Elt Ideal) ℓ) (g : Dev Cert.KernelRsIdeal.nD → PrngReg)
    (m' : (ℓ : Loc Cert.ReferenceRsIdeal.nD Cert.ReferenceRsIdeal.τ Cert.ReferenceRsIdeal.sig) → Buf (Elt Ideal) ℓ) (g' : Dev Cert.ReferenceRsIdeal.nD → PrngReg), Pre_KernelRsIdeal m →
    (∀ c : Dev Cert.KernelRsIdeal.nD,
      m' ((c.tc : Thread Cert.ReferenceRsIdeal.nD Cert.ReferenceRsIdeal.τ).loc Cert.ReferenceRsIdeal.main_arg0) = m ((c.tc : Thread Cert.KernelRsIdeal.nD Cert.KernelRsIdeal.τ).loc Cert.KernelRsIdeal.main_arg0)
      ∧ m' ((c.tc : Thread Cert.ReferenceRsIdeal.nD Cert.ReferenceRsIdeal.τ).loc Cert.ReferenceRsIdeal.main_arg1) = m ((c.tc : Thread Cert.KernelRsIdeal.nD Cert.KernelRsIdeal.τ).loc Cert.KernelRsIdeal.main_arg1)
      ∧ m' ((c.tc : Thread Cert.ReferenceRsIdeal.nD Cert.ReferenceRsIdeal.τ).loc Cert.ReferenceRsIdeal.main_arg2) = m ((c.tc : Thread Cert.KernelRsIdeal.nD Cert.KernelRsIdeal.τ).loc Cert.KernelRsIdeal.main_arg2)
      ∧ m' ((c.tc : Thread Cert.ReferenceRsIdeal.nD Cert.ReferenceRsIdeal.τ).loc Cert.ReferenceRsIdeal.main_arg3) = m ((c.tc : Thread Cert.KernelRsIdeal.nD Cert.KernelRsIdeal.τ).loc Cert.KernelRsIdeal.main_arg3)
      ∧ m' ((c.tc : Thread Cert.ReferenceRsIdeal.nD Cert.ReferenceRsIdeal.τ).loc Cert.ReferenceRsIdeal.main_arg4) = m ((c.tc : Thread Cert.KernelRsIdeal.nD Cert.KernelRsIdeal.τ).loc Cert.KernelRsIdeal.main_arg4)
      ∧ m' ((c.tc : Thread Cert.ReferenceRsIdeal.nD Cert.ReferenceRsIdeal.τ).loc Cert.ReferenceRsIdeal.main_arg5) = m ((c.tc : Thread Cert.KernelRsIdeal.nD Cert.KernelRsIdeal.τ).loc Cert.KernelRsIdeal.main_arg5)) →
    ∃ (v0 : (c : Dev Cert.KernelRsIdeal.nD) → Buf (Elt Ideal) ((c.tc : Thread Cert.KernelRsIdeal.nD Cert.KernelRsIdeal.τ).loc Cert.KernelRsIdeal.main_v50_0)) (v1 : (c : Dev Cert.KernelRsIdeal.nD) → Buf (Elt Ideal) ((c.tc : Thread Cert.KernelRsIdeal.nD Cert.KernelRsIdeal.τ).loc Cert.KernelRsIdeal.main_v50_1)),
      θ_run (Cert.KernelRsIdeal.defs (F := Ideal)) (onTc (τ := Cert.KernelRsIdeal.τ) (Cert.KernelRsIdeal.main (F := Ideal))) ⟨m, fun _ => 0, g⟩ (fun r => ∀ c : Dev Cert.KernelRsIdeal.nD,
          r.2.mem ((c.tc : Thread Cert.KernelRsIdeal.nD Cert.KernelRsIdeal.τ).loc Cert.KernelRsIdeal.main_v50_0) = v0 c
          ∧ r.2.mem ((c.tc : Thread Cert.KernelRsIdeal.nD Cert.KernelRsIdeal.τ).loc Cert.KernelRsIdeal.main_v50_1) = v1 c
          ∧ r.2.mem ((c.tc : Thread Cert.KernelRsIdeal.nD Cert.KernelRsIdeal.τ).loc Cert.KernelRsIdeal.main_arg0) = m ((c.tc : Thread Cert.KernelRsIdeal.nD Cert.KernelRsIdeal.τ).loc Cert.KernelRsIdeal.main_arg0)
          ∧ r.2.mem ((c.tc : Thread Cert.KernelRsIdeal.nD Cert.KernelRsIdeal.τ).loc Cert.KernelRsIdeal.main_arg1) = m ((c.tc : Thread Cert.KernelRsIdeal.nD Cert.KernelRsIdeal.τ).loc Cert.KernelRsIdeal.main_arg1)
          ∧ r.2.mem ((c.tc : Thread Cert.KernelRsIdeal.nD Cert.KernelRsIdeal.τ).loc Cert.KernelRsIdeal.main_arg2) = m ((c.tc : Thread Cert.KernelRsIdeal.nD Cert.KernelRsIdeal.τ).loc Cert.KernelRsIdeal.main_arg2)
          ∧ r.2.mem ((c.tc : Thread Cert.KernelRsIdeal.nD Cert.KernelRsIdeal.τ).loc Cert.KernelRsIdeal.main_arg3) = m ((c.tc : Thread Cert.KernelRsIdeal.nD Cert.KernelRsIdeal.τ).loc Cert.KernelRsIdeal.main_arg3)
          ∧ r.2.mem ((c.tc : Thread Cert.KernelRsIdeal.nD Cert.KernelRsIdeal.τ).loc Cert.KernelRsIdeal.main_arg4) = m ((c.tc : Thread Cert.KernelRsIdeal.nD Cert.KernelRsIdeal.τ).loc Cert.KernelRsIdeal.main_arg4)
          ∧ r.2.mem ((c.tc : Thread Cert.KernelRsIdeal.nD Cert.KernelRsIdeal.τ).loc Cert.KernelRsIdeal.main_arg5) = m ((c.tc : Thread Cert.KernelRsIdeal.nD Cert.KernelRsIdeal.τ).loc Cert.KernelRsIdeal.main_arg5))
      ∧ θ_run (Cert.ReferenceRsIdeal.defs (F := Ideal)) (onTc (τ := Cert.ReferenceRsIdeal.τ) (Cert.ReferenceRsIdeal.main (F := Ideal))) ⟨m', fun _ => 0, g'⟩ (fun r => ∀ c : Dev Cert.ReferenceRsIdeal.nD,
          r.2.mem ((c.tc : Thread Cert.ReferenceRsIdeal.nD Cert.ReferenceRsIdeal.τ).loc Cert.ReferenceRsIdeal.main_v88) = v0 c
          ∧ r.2.mem ((c.tc : Thread Cert.ReferenceRsIdeal.nD Cert.ReferenceRsIdeal.τ).loc Cert.ReferenceRsIdeal.main_v57_8) = v1 c
          ∧ r.2.mem ((c.tc : Thread Cert.ReferenceRsIdeal.nD Cert.ReferenceRsIdeal.τ).loc Cert.ReferenceRsIdeal.main_arg0) = m' ((c.tc : Thread Cert.ReferenceRsIdeal.nD Cert.ReferenceRsIdeal.τ).loc Cert.ReferenceRsIdeal.main_arg0)
          ∧ r.2.mem ((c.tc : Thread Cert.ReferenceRsIdeal.nD Cert.ReferenceRsIdeal.τ).loc Cert.ReferenceRsIdeal.main_arg1) = m' ((c.tc : Thread Cert.ReferenceRsIdeal.nD Cert.ReferenceRsIdeal.τ).loc Cert.ReferenceRsIdeal.main_arg1)
          ∧ r.2.mem ((c.tc : Thread Cert.ReferenceRsIdeal.nD Cert.ReferenceRsIdeal.τ).loc Cert.ReferenceRsIdeal.main_arg2) = m' ((c.tc : Thread Cert.ReferenceRsIdeal.nD Cert.ReferenceRsIdeal.τ).loc Cert.ReferenceRsIdeal.main_arg2)
          ∧ r.2.mem ((c.tc : Thread Cert.ReferenceRsIdeal.nD Cert.ReferenceRsIdeal.τ).loc Cert.ReferenceRsIdeal.main_arg3) = m' ((c.tc : Thread Cert.ReferenceRsIdeal.nD Cert.ReferenceRsIdeal.τ).loc Cert.ReferenceRsIdeal.main_arg3)
          ∧ r.2.mem ((c.tc : Thread Cert.ReferenceRsIdeal.nD Cert.ReferenceRsIdeal.τ).loc Cert.ReferenceRsIdeal.main_arg4) = m' ((c.tc : Thread Cert.ReferenceRsIdeal.nD Cert.ReferenceRsIdeal.τ).loc Cert.ReferenceRsIdeal.main_arg4)
          ∧ r.2.mem ((c.tc : Thread Cert.ReferenceRsIdeal.nD Cert.ReferenceRsIdeal.τ).loc Cert.ReferenceRsIdeal.main_arg5) = m' ((c.tc : Thread Cert.ReferenceRsIdeal.nD Cert.ReferenceRsIdeal.τ).loc Cert.ReferenceRsIdeal.main_arg5))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v4)) (v1 : (c : Dev Cert.KernelModIdeal.nD) → Buf (Elt Ideal) ((c.tc : Thread Cert.KernelModIdeal.nD Cert.KernelModIdeal.τ).loc Cert.KernelModIdeal.main_v5)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v4) = v0 c
          ∧ r.2.mem ((c.tc : Thread Cert.KernelModIdeal.nD Cert.KernelModIdeal.τ).loc Cert.KernelModIdeal.main_v5) = v1 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v40) = v0 c
          ∧ r.2.mem ((c.tc : Thread Cert.ReferenceModIdeal.nD Cert.ReferenceModIdeal.τ).loc Cert.ReferenceModIdeal.main_v81) = v1 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v21) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelNg_KernelNgIdeal : Prop :=
  True

def algebraic_KernelNgIdeal_ReferenceNgIdeal [hKernelNgIdeal : Cert.KernelNgIdeal.Facts] [hReferenceNgIdeal : Cert.ReferenceNgIdeal.Facts] : Prop :=
  ∀ (m : (ℓ : Loc Cert.KernelNgIdeal.nD Cert.KernelNgIdeal.τ Cert.KernelNgIdeal.sig) → Buf (Elt Ideal) ℓ) (g : Dev Cert.KernelNgIdeal.nD → PrngReg)
    (m' : (ℓ : Loc Cert.ReferenceNgIdeal.nD Cert.ReferenceNgIdeal.τ Cert.ReferenceNgIdeal.sig) → Buf (Elt Ideal) ℓ) (g' : Dev Cert.ReferenceNgIdeal.nD → PrngReg), Pre_KernelNgIdeal m →
    (∀ c : Dev Cert.KernelNgIdeal.nD,
      m' ((c.tc : Thread Cert.ReferenceNgIdeal.nD Cert.ReferenceNgIdeal.τ).loc Cert.ReferenceNgIdeal.main_arg0) = m ((c.tc : Thread Cert.KernelNgIdeal.nD Cert.KernelNgIdeal.τ).loc Cert.KernelNgIdeal.main_arg0)
      ∧ m' ((c.tc : Thread Cert.ReferenceNgIdeal.nD Cert.ReferenceNgIdeal.τ).loc Cert.ReferenceNgIdeal.main_arg1) = m ((c.tc : Thread Cert.KernelNgIdeal.nD Cert.KernelNgIdeal.τ).loc Cert.KernelNgIdeal.main_arg1)) →
    ∃ (v0 : (c : Dev Cert.KernelNgIdeal.nD) → Buf (Elt Ideal) ((c.tc : Thread Cert.KernelNgIdeal.nD Cert.KernelNgIdeal.τ).loc Cert.KernelNgIdeal.main_v10)),
      θ_run (Cert.KernelNgIdeal.defs (F := Ideal)) (onTc (τ := Cert.KernelNgIdeal.τ) (Cert.KernelNgIdeal.main (F := Ideal))) ⟨m, fun _ => 0, g⟩ (fun r => ∀ c : Dev Cert.KernelNgIdeal.nD,
          r.2.mem ((c.tc : Thread Cert.KernelNgIdeal.nD Cert.KernelNgIdeal.τ).loc Cert.KernelNgIdeal.main_v10) = v0 c
          ∧ r.2.mem ((c.tc : Thread Cert.KernelNgIdeal.nD Cert.KernelNgIdeal.τ).loc Cert.KernelNgIdeal.main_arg0) = m ((c.tc : Thread Cert.KernelNgIdeal.nD Cert.KernelNgIdeal.τ).loc Cert.KernelNgIdeal.main_arg0)
          ∧ r.2.mem ((c.tc : Thread Cert.KernelNgIdeal.nD Cert.KernelNgIdeal.τ).loc Cert.KernelNgIdeal.main_arg1) = m ((c.tc : Thread Cert.KernelNgIdeal.nD Cert.KernelNgIdeal.τ).loc Cert.KernelNgIdeal.main_arg1))
      ∧ θ_run (Cert.ReferenceNgIdeal.defs (F := Ideal)) (onTc (τ := Cert.ReferenceNgIdeal.τ) (Cert.ReferenceNgIdeal.main (F := Ideal))) ⟨m', fun _ => 0, g'⟩ (fun r => ∀ c : Dev Cert.ReferenceNgIdeal.nD,
          r.2.mem ((c.tc : Thread Cert.ReferenceNgIdeal.nD Cert.ReferenceNgIdeal.τ).loc Cert.ReferenceNgIdeal.main_v22) = v0 c
          ∧ r.2.mem ((c.tc : Thread Cert.ReferenceNgIdeal.nD Cert.ReferenceNgIdeal.τ).loc Cert.ReferenceNgIdeal.main_arg0) = m' ((c.tc : Thread Cert.ReferenceNgIdeal.nD Cert.ReferenceNgIdeal.τ).loc Cert.ReferenceNgIdeal.main_arg0)
          ∧ r.2.mem ((c.tc : Thread Cert.ReferenceNgIdeal.nD Cert.ReferenceNgIdeal.τ).loc Cert.ReferenceNgIdeal.main_arg1) = m' ((c.tc : Thread Cert.ReferenceNgIdeal.nD Cert.ReferenceNgIdeal.τ).loc Cert.ReferenceNgIdeal.main_arg1))

def preserves_KernelCmp_KernelCmpIdeal : Prop :=
  True

def algebraic_KernelCmpIdeal_ReferenceCmpIdeal [hKernelCmpIdeal : Cert.KernelCmpIdeal.Facts] [hReferenceCmpIdeal : Cert.ReferenceCmpIdeal.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg)
    (m' : (ℓ : Loc Cert.ReferenceCmpIdeal.nD Cert.ReferenceCmpIdeal.τ Cert.ReferenceCmpIdeal.sig) → Buf (Elt Ideal) ℓ) (g' : Dev Cert.ReferenceCmpIdeal.nD → PrngReg), Pre_KernelCmpIdeal m →
    (∀ c : Dev Cert.KernelCmpIdeal.nD,
      m' ((c.tc : Thread Cert.ReferenceCmpIdeal.nD Cert.ReferenceCmpIdeal.τ).loc Cert.ReferenceCmpIdeal.main_arg0) = m ((c.tc : Thread Cert.KernelCmpIdeal.nD Cert.KernelCmpIdeal.τ).loc Cert.KernelCmpIdeal.main_arg0)
      ∧ m' ((c.tc : Thread Cert.ReferenceCmpIdeal.nD Cert.ReferenceCmpIdeal.τ).loc Cert.ReferenceCmpIdeal.main_arg1) = m ((c.tc : Thread Cert.KernelCmpIdeal.nD Cert.KernelCmpIdeal.τ).loc Cert.KernelCmpIdeal.main_arg1)
      ∧ m' ((c.tc : Thread Cert.ReferenceCmpIdeal.nD Cert.ReferenceCmpIdeal.τ).loc Cert.ReferenceCmpIdeal.main_arg2) = m ((c.tc : Thread Cert.KernelCmpIdeal.nD Cert.KernelCmpIdeal.τ).loc Cert.KernelCmpIdeal.main_arg2)) →
    ∃ (v0 : (c : Dev Cert.KernelCmpIdeal.nD) → Buf (Elt Ideal) ((c.tc : Thread Cert.KernelCmpIdeal.nD Cert.KernelCmpIdeal.τ).loc Cert.KernelCmpIdeal.main_v28_0)) (v1 : (c : Dev Cert.KernelCmpIdeal.nD) → Buf (Elt Ideal) ((c.tc : Thread Cert.KernelCmpIdeal.nD Cert.KernelCmpIdeal.τ).loc Cert.KernelCmpIdeal.main_v28_1)),
      θ_run (Cert.KernelCmpIdeal.defs (F := Ideal)) (onTc (τ := Cert.KernelCmpIdeal.τ) (Cert.KernelCmpIdeal.main (F := Ideal))) ⟨m, fun _ => 0, g⟩ (fun r => ∀ c : Dev Cert.KernelCmpIdeal.nD,
          r.2.mem ((c.tc : Thread Cert.KernelCmpIdeal.nD Cert.KernelCmpIdeal.τ).loc Cert.KernelCmpIdeal.main_v28_0) = v0 c
          ∧ r.2.mem ((c.tc : Thread Cert.KernelCmpIdeal.nD Cert.KernelCmpIdeal.τ).loc Cert.KernelCmpIdeal.main_v28_1) = v1 c
          ∧ r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
          ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
          ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2))
      ∧ θ_run (Cert.ReferenceCmpIdeal.defs (F := Ideal)) (onTc (τ := Cert.ReferenceCmpIdeal.τ) (Cert.ReferenceCmpIdeal.main (F := Ideal))) ⟨m', fun _ => 0, g'⟩ (fun r => ∀ c : Dev Cert.ReferenceCmpIdeal.nD,
          r.2.mem ((c.tc : Thread Cert.ReferenceCmpIdeal.nD Cert.ReferenceCmpIdeal.τ).loc Cert.ReferenceCmpIdeal.main_v26) = v0 c
          ∧ r.2.mem ((c.tc : Thread Cert.ReferenceCmpIdeal.nD Cert.ReferenceCmpIdeal.τ).loc Cert.ReferenceCmpIdeal.main_v29) = v1 c
          ∧ r.2.mem ((c.tc : Thread Cert.ReferenceCmpIdeal.nD Cert.ReferenceCmpIdeal.τ).loc Cert.ReferenceCmpIdeal.main_arg0) = m' ((c.tc : Thread Cert.ReferenceCmpIdeal.nD Cert.ReferenceCmpIdeal.τ).loc Cert.ReferenceCmpIdeal.main_arg0)
          ∧ r.2.mem ((c.tc : Thread Cert.ReferenceCmpIdeal.nD Cert.ReferenceCmpIdeal.τ).loc Cert.ReferenceCmpIdeal.main_arg1) = m' ((c.tc : Thread Cert.ReferenceCmpIdeal.nD Cert.ReferenceCmpIdeal.τ).loc Cert.ReferenceCmpIdeal.main_arg1)
          ∧ r.2.mem ((c.tc : Thread Cert.ReferenceCmpIdeal.nD Cert.ReferenceCmpIdeal.τ).loc Cert.ReferenceCmpIdeal.main_arg2) = m' ((c.tc : Thread Cert.ReferenceCmpIdeal.nD Cert.ReferenceCmpIdeal.τ).loc Cert.ReferenceCmpIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelGates : Cert.KernelGates.Facts) (hKernelGatesIdeal : Cert.KernelGatesIdeal.Facts) (hReferenceGatesIdeal : Cert.ReferenceGatesIdeal.Facts) (hKernelRqk : Cert.KernelRqk.Facts) (hKernelRqkIdeal : Cert.KernelRqkIdeal.Facts) (hReferenceRqkIdeal : Cert.ReferenceRqkIdeal.Facts) (hKernelRv : Cert.KernelRv.Facts) (hKernelRvIdeal : Cert.KernelRvIdeal.Facts) (hReferenceRvIdeal : Cert.ReferenceRvIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelYp : Cert.KernelYp.Facts) (hKernelYpIdeal : Cert.KernelYpIdeal.Facts) (hReferenceYpIdeal : Cert.ReferenceYpIdeal.Facts) (hKernelYs : Cert.KernelYs.Facts) (hKernelYsIdeal : Cert.KernelYsIdeal.Facts) (hReferenceYsIdeal : Cert.ReferenceYsIdeal.Facts) (hKernelKvs : Cert.KernelKvs.Facts) (hKernelKvsIdeal : Cert.KernelKvsIdeal.Facts) (hReferenceKvsIdeal : Cert.ReferenceKvsIdeal.Facts) (hKernelRs : Cert.KernelRs.Facts) (hKernelRsIdeal : Cert.KernelRsIdeal.Facts) (hReferenceRsIdeal : Cert.ReferenceRsIdeal.Facts) (hKernelMod : Cert.KernelMod.Facts) (hKernelModIdeal : Cert.KernelModIdeal.Facts) (hReferenceModIdeal : Cert.ReferenceModIdeal.Facts) (hKernelNorm : Cert.KernelNorm.Facts) (hKernelNormIdeal : Cert.KernelNormIdeal.Facts) (hReferenceNormIdeal : Cert.ReferenceNormIdeal.Facts) (hKernelNg : Cert.KernelNg.Facts) (hKernelNgIdeal : Cert.KernelNgIdeal.Facts) (hReferenceNgIdeal : Cert.ReferenceNgIdeal.Facts) (hKernelCmp : Cert.KernelCmp.Facts) (hKernelCmpIdeal : Cert.KernelCmpIdeal.Facts) (hReferenceCmpIdeal : Cert.ReferenceCmpIdeal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelRqk (hKernelRqk := hKernelRqk)
    ∧ quiescent_KernelRqkIdeal (hKernelRqkIdeal := hKernelRqkIdeal)
    ∧ quiescent_ReferenceRqkIdeal (hReferenceRqkIdeal := hReferenceRqkIdeal)
    ∧ quiescent_KernelRv (hKernelRv := hKernelRv)
    ∧ quiescent_KernelRvIdeal (hKernelRvIdeal := hKernelRvIdeal)
    ∧ quiescent_ReferenceRvIdeal (hReferenceRvIdeal := hReferenceRvIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelYp (hKernelYp := hKernelYp)
    ∧ quiescent_KernelYpIdeal (hKernelYpIdeal := hKernelYpIdeal)
    ∧ quiescent_ReferenceYpIdeal (hReferenceYpIdeal := hReferenceYpIdeal)
    ∧ quiescent_KernelYs (hKernelYs := hKernelYs)
    ∧ quiescent_KernelYsIdeal (hKernelYsIdeal := hKernelYsIdeal)
    ∧ quiescent_ReferenceYsIdeal (hReferenceYsIdeal := hReferenceYsIdeal)
    ∧ quiescent_KernelKvs (hKernelKvs := hKernelKvs)
    ∧ quiescent_KernelKvsIdeal (hKernelKvsIdeal := hKernelKvsIdeal)
    ∧ quiescent_ReferenceKvsIdeal (hReferenceKvsIdeal := hReferenceKvsIdeal)
    ∧ quiescent_KernelRs (hKernelRs := hKernelRs)
    ∧ quiescent_KernelRsIdeal (hKernelRsIdeal := hKernelRsIdeal)
    ∧ quiescent_ReferenceRsIdeal (hReferenceRsIdeal := hReferenceRsIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNg (hKernelNg := hKernelNg)
    ∧ quiescent_KernelNgIdeal (hKernelNgIdeal := hKernelNgIdeal)
    ∧ quiescent_ReferenceNgIdeal (hReferenceNgIdeal := hReferenceNgIdeal)
    ∧ quiescent_KernelCmp (hKernelCmp := hKernelCmp)
    ∧ quiescent_KernelCmpIdeal (hKernelCmpIdeal := hKernelCmpIdeal)
    ∧ quiescent_ReferenceCmpIdeal (hReferenceCmpIdeal := hReferenceCmpIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelRqk_KernelRqkIdeal
    ∧ algebraic_KernelRqkIdeal_ReferenceRqkIdeal (hKernelRqkIdeal := hKernelRqkIdeal) (hReferenceRqkIdeal := hReferenceRqkIdeal)
    ∧ preserves_KernelRv_KernelRvIdeal
    ∧ algebraic_KernelRvIdeal_ReferenceRvIdeal (hKernelRvIdeal := hKernelRvIdeal) (hReferenceRvIdeal := hReferenceRvIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelYp_KernelYpIdeal
    ∧ algebraic_KernelYpIdeal_ReferenceYpIdeal (hKernelYpIdeal := hKernelYpIdeal) (hReferenceYpIdeal := hReferenceYpIdeal)
    ∧ preserves_KernelYs_KernelYsIdeal
    ∧ algebraic_KernelYsIdeal_ReferenceYsIdeal (hKernelYsIdeal := hKernelYsIdeal) (hReferenceYsIdeal := hReferenceYsIdeal)
    ∧ preserves_KernelKvs_KernelKvsIdeal
    ∧ algebraic_KernelKvsIdeal_ReferenceKvsIdeal (hKernelKvsIdeal := hKernelKvsIdeal) (hReferenceKvsIdeal := hReferenceKvsIdeal)
    ∧ preserves_KernelRs_KernelRsIdeal
    ∧ algebraic_KernelRsIdeal_ReferenceRsIdeal (hKernelRsIdeal := hKernelRsIdeal) (hReferenceRsIdeal := hReferenceRsIdeal)
    ∧ preserves_KernelMod_KernelModIdeal
    ∧ algebraic_KernelModIdeal_ReferenceModIdeal (hKernelModIdeal := hKernelModIdeal) (hReferenceModIdeal := hReferenceModIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNg_KernelNgIdeal
    ∧ algebraic_KernelNgIdeal_ReferenceNgIdeal (hKernelNgIdeal := hKernelNgIdeal) (hReferenceNgIdeal := hReferenceNgIdeal)
    ∧ preserves_KernelCmp_KernelCmpIdeal
    ∧ algebraic_KernelCmpIdeal_ReferenceCmpIdeal (hKernelCmpIdeal := hKernelCmpIdeal) (hReferenceCmpIdeal := hReferenceCmpIdeal)
-- ==== Kernel.lean ====
abbrev S8192x2048 : Shape := ⟨2, ![8192, 2048]⟩
abbrev S8192x6144 : Shape := ⟨2, ![8192, 6144]⟩
abbrev S2048 : Shape := ⟨1, ![2048]⟩
abbrev S_ : Shape := ⟨0, ![]⟩
abbrev S2x4x256x512 : Shape := ⟨4, ![2, 4, 256, 512]⟩
abbrev S1x2048 : Shape := ⟨2, ![1, 2048]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S128x1024 : Shape := ⟨2, ![128, 1024]⟩
abbrev S128x2048 : Shape := ⟨2, ![128, 2048]⟩
abbrev S1x4x256x512 : Shape := ⟨4, ![1, 4, 256, 512]⟩
abbrev S4x256x512 : Shape := ⟨3, ![4, 256, 512]⟩
abbrev S128x256 : Shape := ⟨2, ![128, 256]⟩
abbrev S128x512 : Shape := ⟨2, ![128, 512]⟩
abbrev S1x1x256x512 : Shape := ⟨4, ![1, 1, 256, 512]⟩
abbrev S256x512 : Shape := ⟨2, ![256, 512]⟩
abbrev S1x128x1 : Shape := ⟨3, ![1, 128, 1]⟩
abbrev S1x1x1 : Shape := ⟨3, ![1, 1, 1]⟩
abbrev S1x1 : Shape := ⟨2, ![1, 1]⟩
abbrev S1x512 : Shape := ⟨2, ![1, 512]⟩

abbrev nBuf : Space → Nat
  | .hbm => 71
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x6144, .bf16⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2x4x256x512, .f32⟩
  | .hbm, ⟨7, _⟩ => ⟨S1x2048, .f32⟩
  | .hbm, ⟨8, _⟩ => ⟨S1x2048, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S128, .f32⟩
  | .hbm, ⟨22, _⟩ => ⟨S128x1, .f32⟩
  | .hbm, ⟨23, _⟩ => ⟨S1x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .i1⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S1x128x128, .f32⟩
  | .hbm, ⟨34, _⟩ => ⟨S4x1x1, .f32⟩
  | .hbm, ⟨35, _⟩ => ⟨S4x128x128, .f32⟩
  | .hbm, ⟨36, _⟩ => ⟨S4x128x128, .f32⟩
  | .hbm, ⟨37, _⟩ => ⟨S4x128x128, .f32⟩
  | .hbm, ⟨38, _⟩ => ⟨S4x128x128, .f32⟩
  | .hbm, ⟨39, _⟩ => ⟨S_, .f32⟩
  | .hbm, ⟨40, _⟩ => ⟨S_, .f32⟩
  | .hbm, ⟨41, _⟩ => ⟨S4x128x128, .i1⟩
  | .hbm, ⟨42, _⟩ => ⟨S4x128x128, .f32⟩
  | .hbm, ⟨43, _⟩ => ⟨S4x128x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S4x1, .f32⟩
  | .hbm, ⟨49, _⟩ => ⟨S4x128, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x128x1, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S4x1, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128x1, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4x1x1, .f32⟩
  | .hbm, ⟨69, _⟩ => ⟨S8192x2048, .bf16⟩
  | .hbm, ⟨70, _⟩ => ⟨S2x4x256x512, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S1x2048, .f32⟩
  | .local _ .vmem, ⟨9, _⟩ => ⟨S1x2048, .f32⟩
  | .local _ .vmem, ⟨10, _⟩ => ⟨S1x4x256x512, .f32⟩
  | .local _ .vmem, ⟨11, _⟩ => ⟨S1x4x256x512, .f32⟩
  | .local _ .vmem, ⟨12, _⟩ => ⟨S4x128x128, .f32⟩
  | .local _ .vmem, ⟨13, _⟩ => ⟨S4x128x1, .f32⟩
  | .local _ .vmem, ⟨14, _⟩ => ⟨S4x128x1, .f32⟩
  | .local _ .vmem, ⟨15, _⟩ => ⟨S4x1x1, .f32⟩
  | .local _ .vmem, ⟨16, _⟩ => ⟨S128x2048, .bf16⟩
  | .local _ .vmem, ⟨17, _⟩ => ⟨S128x2048, .bf16⟩
  | .local _ .vmem, ⟨18, _⟩ => ⟨S1x4x256x512, .f32⟩
  | .local _ .vmem, ⟨19, _⟩ => ⟨S1x4x256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51_0 : Ref sig .tc := ⟨.hbm, 69, rfl⟩
abbrev main_v51_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x2048 : Shape := ⟨2, ![8192, 2048]⟩
abbrev S8192x6144 : Shape := ⟨2, ![8192, 6144]⟩
abbrev S2048 : Shape := ⟨1, ![2048]⟩
abbrev S8192x1024 : Shape := ⟨2, ![8192, 1024]⟩
abbrev S2x4096x4x256 : Shape := ⟨4, ![2, 4096, 4, 256]⟩
abbrev S2x4096x4x512 : Shape := ⟨4, ![2, 4096, 4, 512]⟩
abbrev S_ : Shape := ⟨0, ![]⟩
abbrev S2x4x256x512 : Shape := ⟨4, ![2, 4, 256, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S2x32x128x4x256 : Shape := ⟨5, ![2, 32, 128, 4, 256]⟩
abbrev S32x2x128x4x256 : Shape := ⟨5, ![32, 2, 128, 4, 256]⟩
abbrev S2x32x128x4x512 : Shape := ⟨5, ![2, 32, 128, 4, 512]⟩
abbrev S32x2x128x4x512 : Shape := ⟨5, ![32, 2, 128, 4, 512]⟩
abbrev S1x2x128x4x256 : Shape := ⟨5, ![1, 2, 128, 4, 256]⟩
abbrev S2x128x4x256 : Shape := ⟨4, ![2, 128, 4, 256]⟩
abbrev S1x2x128x4x512 : Shape := ⟨5, ![1, 2, 128, 4, 512]⟩
abbrev S2x128x4x512 : Shape := ⟨4, ![2, 128, 4, 512]⟩
abbrev S2x4x128x128 : Shape := ⟨4, ![2, 4, 128, 128]⟩
abbrev S1x4x128x128 : Shape := ⟨4, ![1, 4, 128, 128]⟩
abbrev S2x4x512x128 : Shape := ⟨4, ![2, 4, 512, 128]⟩
abbrev S1x128x4x1 : Shape := ⟨4, ![1, 128, 4, 1]⟩
abbrev S1x4x1x1 : Shape := ⟨4, ![1, 4, 1, 1]⟩
abbrev S2x4096x2048 : Shape := ⟨3, ![2, 4096, 2048]⟩
abbrev S2x4096x4 : Shape := ⟨3, ![2, 4096, 4]⟩
abbrev S2x4096x4x1 : Shape := ⟨4, ![2, 4096, 4, 1]⟩
abbrev S1x1x2048 : Shape := ⟨3, ![1, 1, 2048]⟩

abbrev nBuf : Space → Nat
  | .hbm => 177
  | .vmem => 0
  | .smem => 0
  | _ => 0

abbrev hbmTy0_0 (i : Nat) : BufTy := match i % 128 with
  | 0 => ⟨S8192x2048, .bf16⟩
  | 1 => ⟨S8192x2048, .bf16⟩
  | 2 => ⟨S8192x6144, .bf16⟩
  | 3 => ⟨S2048, .f32⟩
  | 4 => ⟨S2048, .f32⟩
  | 5 => ⟨S8192x1024, .bf16⟩
  | 6 => ⟨S8192x1024, .bf16⟩
  | 7 => ⟨S8192x1024, .f32⟩
  | 8 => ⟨S2x4096x4x256, .f32⟩
  | 9 => ⟨S8192x1024, .f32⟩
  | 10 => ⟨S2x4096x4x256, .f32⟩
  | 11 => ⟨S8192x2048, .f32⟩
  | 12 => ⟨S2x4096x4x512, .f32⟩
  | 13 => ⟨S_, .f32⟩
  | 14 => ⟨S2x4x256x512, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S_, .f32⟩
  | 24 => ⟨S4, .f32⟩
  | 25 => ⟨S4, .f32⟩
  | 26 => ⟨S4, .f32⟩
  | 27 => ⟨S128, .f32⟩
  | 28 => ⟨S128x1, .f32⟩
  | 29 => ⟨S1x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S_, .f32⟩
  | 37 => ⟨S128x128, .f32⟩
  | 38 => ⟨S128x128, .f32⟩
  | 39 => ⟨S1x128x128, .f32⟩
  | 40 => ⟨S4x1x1, .f32⟩
  | 41 => ⟨S4x128x128, .f32⟩
  | 42 => ⟨S4x128x128, .f32⟩
  | 43 => ⟨S4x128x128, .f32⟩
  | 44 => ⟨S4x128x128, .f32⟩
  | 45 => ⟨S_, .f32⟩
  | 46 => ⟨S_, .f32⟩
  | 47 => ⟨S4x128x128, .i1⟩
  | 48 => ⟨S4x128x128, .f32⟩
  | 49 => ⟨S4x128x128, .f32⟩
  | 50 => ⟨S128x1, .f32⟩
  | 51 => ⟨S_, .f32⟩
  | 52 => ⟨S128x1, .f32⟩
  | 53 => ⟨S128x1, .f32⟩
  | 54 => ⟨S1x4, .f32⟩
  | 55 => ⟨S128x4, .f32⟩
  | 56 => ⟨S128x4, .f32⟩
  | 57 => ⟨S128x4, .f32⟩
  | 58 => ⟨S128x4, .f32⟩
  | 59 => ⟨S_, .f32⟩
  | 60 => ⟨S128, .f32⟩
  | 61 => ⟨S128, .f32⟩
  | 62 => ⟨S128x1, .f32⟩
  | 63 => ⟨S1x4, .f32⟩
  | 64 => ⟨S128x4, .f32⟩
  | 65 => ⟨S128x4, .f32⟩
  | 66 => ⟨S128x4, .f32⟩
  | 67 => ⟨S128x4, .f32⟩
  | 68 => ⟨S_, .f32⟩
  | 69 => ⟨S4, .f32⟩
  | 70 => ⟨S4, .f32⟩
  | 71 => ⟨S4, .f32⟩
  | 72 => ⟨S2x32x128x4x256, .f32⟩
  | 73 => ⟨S32x2x128x4x256, .f32⟩
  | 74 => ⟨S2x32x128x4x256, .f32⟩
  | 75 => ⟨S32x2x128x4x256, .f32⟩
  | 76 => ⟨S2x32x128x4x512, .f32⟩
  | 77 => ⟨S32x2x128x4x512, .f32⟩
  | 78 => ⟨S_, .f32⟩
  | 79 => ⟨S32x2x128x4x512, .f32⟩
  | 80 => ⟨S_, .i32⟩
  | 81 => ⟨S32x2x128x4x256, .f32⟩
  | 82 => ⟨S32x2x128x4x256, .f32⟩
  | 83 => ⟨S32x2x128x4x512, .f32⟩
  | 84 => ⟨S4x128x128, .f32⟩
  | 85 => ⟨S128x4, .f32⟩
  | 86 => ⟨S4, .f32⟩
  | 87 => ⟨S128x4, .f32⟩
  | 88 => ⟨S_, .i32⟩
  | 89 => ⟨S2x4x256x512, .f32⟩
  | 90 => ⟨S32x2x128x4x512, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x2x128x4x256, .f32⟩
  | 98 => ⟨S2x128x4x256, .f32⟩
  | 99 => ⟨S_, .i32⟩
  | 100 => ⟨S_, .i32⟩
  | 101 => ⟨S_, .i32⟩
  | 102 => ⟨S_, .i32⟩
  | 103 => ⟨S1x2x128x4x256, .f32⟩
  | 104 => ⟨S2x128x4x256, .f32⟩
  | 105 => ⟨S_, .i32⟩
  | 106 => ⟨S_, .i32⟩
  | 107 => ⟨S_, .i32⟩
  | 108 => ⟨S_, .i32⟩
  | 109 => ⟨S1x2x128x4x512, .f32⟩
  | 110 => ⟨S2x128x4x512, .f32⟩
  | 111 => ⟨S2x4x128x128, .f32⟩
  | 112 => ⟨S1x4x128x128, .f32⟩
  | 113 => ⟨S2x4x128x128, .f32⟩
  | 114 => ⟨S2x4x128x128, .f32⟩
  | 115 => ⟨S2x4x512x128, .f32⟩
  | 116 => ⟨S2x128x4x512, .f32⟩
  | 117 => ⟨S2x4x512x128, .f32⟩
  | 118 => ⟨S2x128x4x512, .f32⟩
  | 119 => ⟨S1x128x4x1, .f32⟩
  | 120 => ⟨S2x128x4x512, .f32⟩
  | 121 => ⟨S2x128x4x512, .f32⟩
  | 122 => ⟨S2x128x4x512, .f32⟩
  | 123 => ⟨S1x4x1x1, .f32⟩
  | 124 => ⟨S2x4x256x512, .f32⟩
  | 125 => ⟨S2x4x256x512, .f32⟩
  | 126 => ⟨S1x128x4x1, .f32⟩
  | 127 => ⟨S2x128x4x256, .f32⟩
  | _ => ⟨S8192x2048, .bf16⟩

abbrev hbmTy0_1 (i : Nat) : BufTy := match i % 128 with
  | 0 => ⟨S2x128x4x256, .f32⟩
  | 1 => ⟨S2x4x256x512, .f32⟩
  | 2 => ⟨S2x4x256x512, .f32⟩
  | 3 => ⟨S1x2x128x4x512, .f32⟩
  | 4 => ⟨S_, .i32⟩
  | 5 => ⟨S_, .i32⟩
  | 6 => ⟨S_, .i32⟩
  | 7 => ⟨S_, .i32⟩
  | 8 => ⟨S32x2x128x4x512, .f32⟩
  | 9 => ⟨S_, .i32⟩
  | 10 => ⟨S_, .i32⟩
  | 11 => ⟨S2x32x128x4x512, .f32⟩
  | 12 => ⟨S2x4096x4x512, .f32⟩
  | 13 => ⟨S8192x2048, .bf16⟩
  | 14 => ⟨S8192x2048, .f32⟩
  | 15 => ⟨S2x4096x2048, .f32⟩
  | 16 => ⟨S_, .f32⟩
  | 17 => ⟨S2x4096x4, .f32⟩
  | 18 => ⟨S2x4096x4x1, .f32⟩
  | 19 => ⟨S_, .f32⟩
  | 20 => ⟨S2x4096x4x1, .f32⟩
  | 21 => ⟨S2x4096x4x1, .f32⟩
  | 22 => ⟨S2x4096x4x512, .f32⟩
  | 23 => ⟨S2x4096x4x512, .f32⟩
  | 24 => ⟨S2x4096x4x512, .f32⟩
  | 25 => ⟨S_, .f32⟩
  | 26 => ⟨S2x4096x4, .f32⟩
  | 27 => ⟨S2x4096x4x1, .f32⟩
  | 28 => ⟨S_, .f32⟩
  | 29 => ⟨S2x4096x4x1, .f32⟩
  | 30 => ⟨S2x4096x4x1, .f32⟩
  | 31 => ⟨S2x4096x4x512, .f32⟩
  | 32 => ⟨S2x4096x4x512, .f32⟩
  | 33 => ⟨S_, .f32⟩
  | 34 => ⟨S2x4096x4x1, .f32⟩
  | 35 => ⟨S2x4096x4x1, .f32⟩
  | 36 => ⟨S2x4096x4x1, .f32⟩
  | 37 => ⟨S2x4096x4x512, .f32⟩
  | 38 => ⟨S2x4096x4x512, .f32⟩
  | 39 => ⟨S2x4096x2048, .f32⟩
  | 40 => ⟨S1x1x2048, .f32⟩
  | 41 => ⟨S2x4096x2048, .f32⟩
  | 42 => ⟨S2x4096x2048, .f32⟩
  | 43 => ⟨S1x1x2048, .f32⟩
  | 44 => ⟨S2x4096x2048, .f32⟩
  | 45 => ⟨S2x4096x2048, .f32⟩
  | 46 => ⟨S2x4096x2048, .f32⟩
  | 47 => ⟨S8192x2048, .f32⟩
  | 48 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_c : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev main_v61_4 : Ref sig .tc := ⟨.hbm, 85, rfl⟩
abbrev main_v61_5 : Ref sig .tc := ⟨.hbm, 86, rfl⟩
abbrev main_v61_6 : Ref sig .tc := ⟨.hbm, 87, rfl⟩
abbrev main_v61_7 : Ref sig .tc := ⟨.hbm, 88, rfl⟩
abbrev main_v61_8 : Ref sig .tc := ⟨.hbm, 89, rfl⟩
abbrev main_v61_9 : Ref sig .tc := ⟨.hbm, 90, rfl⟩
abbrev main_while0c_c_24 : Ref sig .tc := ⟨.hbm, 91, rfl⟩
abbrev main_while0c_v95 : Ref sig .tc := ⟨.hbm, 92, rfl⟩
abbrev main_while0b_call1_c : Ref sig .tc := ⟨.hbm, 93, rfl⟩
abbrev main_while0b_call1_c_0 : Ref sig .tc := ⟨.hbm, 94, rfl⟩
abbrev main_while0b_call1_c_1 : Ref sig .tc := ⟨.hbm, 95, rfl⟩
abbrev main_while0b_call1_c_2 : Ref sig .tc := ⟨.hbm, 96, rfl⟩
abbrev main_while0b_call1_v0 : Ref sig .tc := ⟨.hbm, 97, rfl⟩
abbrev main_while0b_v95 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_c_1 : Ref sig .tc := ⟨.hbm, 101, rfl⟩
abbrev main_while0b_call2_c_2 : Ref sig .tc := ⟨.hbm, 102, rfl⟩
abbrev main_while0b_call2_v0 : Ref sig .tc := ⟨.hbm, 103, rfl⟩
abbrev main_while0b_v96 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_c_2 : Ref sig .tc := ⟨.hbm, 108, rfl⟩
abbrev main_while0b_call3_v0 : Ref sig .tc := ⟨.hbm, 109, rfl⟩
abbrev main_while0b_v97 : Ref sig .tc := ⟨.hbm, 110, rfl⟩
abbrev main_while0b_v98 : Ref sig .tc := ⟨.hbm, 111, rfl⟩
abbrev main_while0b_v99 : Ref sig .tc := ⟨.hbm, 112, rfl⟩
abbrev main_while0b_v100 : Ref sig .tc := ⟨.hbm, 113, rfl⟩
abbrev main_while0b_v101 : Ref sig .tc := ⟨.hbm, 114, rfl⟩
abbrev main_while0b_v102 : Ref sig .tc := ⟨.hbm, 115, rfl⟩
abbrev main_while0b_v103 : Ref sig .tc := ⟨.hbm, 116, rfl⟩
abbrev main_while0b_v104 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_v110 : Ref sig .tc := ⟨.hbm, 123, rfl⟩
abbrev main_while0b_v111 : Ref sig .tc := ⟨.hbm, 124, rfl⟩
abbrev main_while0b_v112 : Ref sig .tc := ⟨.hbm, 125, rfl⟩
abbrev main_while0b_v113 : Ref sig .tc := ⟨.hbm, 126, rfl⟩
abbrev main_while0b_v114 : Ref sig .tc := ⟨.hbm, 127, rfl⟩
abbrev main_while0b_v115 : Ref sig .tc := ⟨.hbm, 128, rfl⟩
abbrev main_while0b_v116 : Ref sig .tc := ⟨.hbm, 129, rfl⟩
abbrev main_while0b_v117 : Ref sig .tc := ⟨.hbm, 130, rfl⟩
abbrev main_while0b_call4_v0 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_call4_c_1 : Ref sig .tc := ⟨.hbm, 134, rfl⟩
abbrev main_while0b_call4_c_2 : Ref sig .tc := ⟨.hbm, 135, rfl⟩
abbrev main_while0b_v118 : Ref sig .tc := ⟨.hbm, 136, rfl⟩
abbrev main_while0b_c_24 : Ref sig .tc := ⟨.hbm, 137, rfl⟩
abbrev main_while0b_v119 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_10 : Ref sig .tc := ⟨.hbm, 144, rfl⟩
abbrev main_v67 : Ref sig .tc := ⟨.hbm, 145, rfl⟩
abbrev main_v68 : Ref sig .tc := ⟨.hbm, 146, rfl⟩
abbrev main_cst_11 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_12 : Ref sig .tc := ⟨.hbm, 153, rfl⟩
abbrev main_v74 : Ref sig .tc := ⟨.hbm, 154, rfl⟩
abbrev main_v75 : Ref sig .tc := ⟨.hbm, 155, rfl⟩
abbrev main_cst_13 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_14 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩

abbrev nD : Nat := 1
abbrev τ : Topo := Topo.v7x

variable {F : FTy → Type} [FloatOps F]

abbrev main_while0_count : Scf.Loop 32 := ⟨0#32, 32#32, 1#32⟩
-- ==== KernelUp.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S2048x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDown.lean ====
abbrev S8192x8192 : Shape := ⟨2, ![8192, 8192]⟩
abbrev S8192x2048 : Shape := ⟨2, ![8192, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S2x1x2048, .f32⟩
  | .hbm, ⟨4, _⟩ => ⟨S8192x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceDownIdeal.lean ====
abbrev S8192x8192 : Shape := ⟨2, ![8192, 8192]⟩
abbrev S8192x2048 : Shape := ⟨2, ![8192, 2048]⟩
abbrev S2x1x2048 : Shape := ⟨3, ![2, 1, 2048]⟩
abbrev S2x4096x2048 : Shape := ⟨3, ![2, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S2x1x2048, .f32⟩
  | .hbm, ⟨4, _⟩ => ⟨S2x4096x2048, .f32⟩
  | .hbm, ⟨5, _⟩ => ⟨S8192x8192, .f32⟩
  | .hbm, ⟨6, _⟩ => ⟨S8192x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelGates.lean ====
abbrev S8192x2048 : Shape := ⟨2, ![8192, 2048]⟩
abbrev S2048x12848 : Shape := ⟨2, ![2048, 12848]⟩
abbrev S2048x10240 : Shape := ⟨2, ![2048, 10240]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S2048x10240, .f32⟩
  | .hbm, ⟨3, _⟩ => ⟨S2048x10240, .bf16⟩
  | .hbm, ⟨4, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S8192x2048 : Shape := ⟨2, ![8192, 2048]⟩
abbrev S2048x12848 : Shape := ⟨2, ![2048, 12848]⟩
abbrev S8192x12848 : Shape := ⟨2, ![8192, 12848]⟩
abbrev S8192x1024 : Shape := ⟨2, ![8192, 1024]⟩
abbrev S8192x256 : Shape := ⟨2, ![8192, 256]⟩
abbrev S8192x48 : Shape := ⟨2, ![8192, 48]⟩
abbrev S_ : Shape := ⟨0, ![]⟩
abbrev S8192x6144 : Shape := ⟨2, ![8192, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S8192x2048, .f32⟩
  | .hbm, ⟨3, _⟩ => ⟨S8192x12848, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x48, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x6144, .f32⟩
  | .hbm, ⟨44, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KernelRqk.lean ====
abbrev S8192x2048 : Shape := ⟨2, ![8192, 2048]⟩
abbrev S2048x12848 : Shape := ⟨2, ![2048, 12848]⟩
abbrev S2048x10240 : Shape := ⟨2, ![2048, 10240]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 22
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S2048x10240, .f32⟩
  | .hbm, ⟨3, _⟩ => ⟨S2048x10240, .bf16⟩
  | .hbm, ⟨4, _⟩ => ⟨S4096, .i32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S4096, .f32⟩
  | .hbm, ⟨14, _⟩ => ⟨S4096x1, .f32⟩
  | .hbm, ⟨15, _⟩ => ⟨S1x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceRqkIdeal.lean ====
abbrev S8192x2048 : Shape := ⟨2, ![8192, 2048]⟩
abbrev S2048x12848 : Shape := ⟨2, ![2048, 12848]⟩
abbrev S8192x12848 : Shape := ⟨2, ![8192, 12848]⟩
abbrev S8192x1024 : Shape := ⟨2, ![8192, 1024]⟩
abbrev S8192x256 : Shape := ⟨2, ![8192, 256]⟩
abbrev S8192x48 : Shape := ⟨2, ![8192, 48]⟩
abbrev S4096 : Shape := ⟨1, ![4096]⟩
abbrev S2x4096x4x256 : Shape := ⟨4, ![2, 4096, 4, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S2x4096x4x128 : Shape := ⟨4, ![2, 4096, 4, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S8192x2048, .f32⟩
  | .hbm, ⟨3, _⟩ => ⟨S8192x12848, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x48, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S4096, .i32⟩
  | .hbm, ⟨19, _⟩ => ⟨S2x4096x4x256, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S4096, .f32⟩
  | .hbm, ⟨29, _⟩ => ⟨S4096x1, .f32⟩
  | .hbm, ⟨30, _⟩ => ⟨S1x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S1x4096x1x128, .f32⟩
  | .hbm, ⟨36, _⟩ => ⟨S4096x128, .f32⟩
  | .hbm, ⟨37, _⟩ => ⟨S1x4096x1x128, .f32⟩
  | .hbm, ⟨38, _⟩ => ⟨S2x4096x4x128, .f32⟩
  | .hbm, ⟨39, _⟩ => ⟨S2x4096x4x128, .f32⟩
  | .hbm, ⟨40, _⟩ => ⟨S2x4096x4x128, .f32⟩
  | .hbm, ⟨41, _⟩ => ⟨S2x4096x4x128, .f32⟩
  | .hbm, ⟨42, _⟩ => ⟨S2x4096x4x128, .f32⟩
  | .hbm, ⟨43, _⟩ => ⟨S2x4096x4x128, .f32⟩
  | .hbm, ⟨44, _⟩ => ⟨S2x4096x4x128, .f32⟩
  | .hbm, ⟨45, _⟩ => ⟨S2x4096x4x128, .f32⟩
  | .hbm, ⟨46, _⟩ => ⟨S2x4096x4x128, .f32⟩
  | .hbm, ⟨47, _⟩ => ⟨S2x4096x4x128, .f32⟩
  | .hbm, ⟨48, _⟩ => ⟨S2x4096x4x128, .f32⟩
  | .hbm, ⟨49, _⟩ => ⟨S2x4096x4x128, .f32⟩
  | .hbm, ⟨50, _⟩ => ⟨S2x4096x4x256, .f32⟩
  | .hbm, ⟨51, _⟩ => ⟨S2x4096x4x256, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S4096, .f32⟩
  | .hbm, ⟨61, _⟩ => ⟨S4096x1, .f32⟩
  | .hbm, ⟨62, _⟩ => ⟨S1x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S1x4096x1x128, .f32⟩
  | .hbm, ⟨68, _⟩ => ⟨S4096x128, .f32⟩
  | .hbm, ⟨69, _⟩ => ⟨S1x4096x1x128, .f32⟩
  | .hbm, ⟨70, _⟩ => ⟨S2x4096x4x128, .f32⟩
  | .hbm, ⟨71, _⟩ => ⟨S2x4096x4x128, .f32⟩
  | .hbm, ⟨72, _⟩ => ⟨S2x4096x4x128, .f32⟩
  | .hbm, ⟨73, _⟩ => ⟨S2x4096x4x128, .f32⟩
  | .hbm, ⟨74, _⟩ => ⟨S2x4096x4x128, .f32⟩
  | .hbm, ⟨75, _⟩ => ⟨S2x4096x4x128, .f32⟩
  | .hbm, ⟨76, _⟩ => ⟨S2x4096x4x128, .f32⟩
  | .hbm, ⟨77, _⟩ => ⟨S2x4096x4x128, .f32⟩
  | .hbm, ⟨78, _⟩ => ⟨S2x4096x4x128, .f32⟩
  | .hbm, ⟨79, _⟩ => ⟨S2x4096x4x128, .f32⟩
  | .hbm, ⟨80, _⟩ => ⟨S2x4096x4x128, .f32⟩
  | .hbm, ⟨81, _⟩ => ⟨S2x4096x4x128, .f32⟩
  | .hbm, ⟨82, _⟩ => ⟨S2x4096x4x256, .f32⟩
  | .hbm, ⟨83, _⟩ => ⟨S_, .f32⟩
  | .hbm, ⟨84, _⟩ => ⟨S2x4096x4x256, .f32⟩
  | .hbm, ⟨85, _⟩ => ⟨S2x4096x4x256, .f32⟩
  | .hbm, ⟨86, _⟩ => ⟨S8192x1024, .f32⟩
  | .hbm, ⟨87, _⟩ => ⟨S8192x1024, .f32⟩
  | .hbm, ⟨88, _⟩ => ⟨S8192x2048, .f32⟩
  | .hbm, ⟨89, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_3 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩

abbrev nD : Nat := 1
abbrev τ : Topo := Topo.v7x

variable {F : FTy → Type} [FloatOps F]
-- ==== KernelRv.lean ====
abbrev S8192x2048 : Shape := ⟨2, ![8192, 2048]⟩
abbrev S2048x12848 : Shape := ⟨2, ![2048, 12848]⟩
abbrev S2048x10240 : Shape := ⟨2, ![2048, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S2048x10240, .f32⟩
  | .hbm, ⟨3, _⟩ => ⟨S2048x10240, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRvIdeal.lean ====
abbrev S8192x2048 : Shape := ⟨2, ![8192, 2048]⟩
abbrev S2048x12848 : Shape := ⟨2, ![2048, 12848]⟩
abbrev S8192x12848 : Shape := ⟨2, ![8192, 12848]⟩
abbrev S8192x1024 : Shape := ⟨2, ![8192, 1024]⟩
abbrev S8192x256 : Shape := ⟨2, ![8192, 256]⟩
abbrev S8192x48 : Shape := ⟨2, ![8192, 48]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S8192x2048, .f32⟩
  | .hbm, ⟨3, _⟩ => ⟨S8192x12848, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x48, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== KernelQ.lean ====
abbrev S8192x2048 : Shape := ⟨2, ![8192, 2048]⟩
abbrev S2048x12848 : Shape := ⟨2, ![2048, 12848]⟩
abbrev S2048x2560 : Shape := ⟨2, ![2048, 2560]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S2048x2560, .f32⟩
  | .hbm, ⟨3, _⟩ => ⟨S2048x2560, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQIdeal.lean ====
abbrev S8192x2048 : Shape := ⟨2, ![8192, 2048]⟩
abbrev S2048x12848 : Shape := ⟨2, ![2048, 12848]⟩
abbrev S8192x12848 : Shape := ⟨2, ![8192, 12848]⟩
abbrev S8192x1024 : Shape := ⟨2, ![8192, 1024]⟩
abbrev S8192x256 : Shape := ⟨2, ![8192, 256]⟩
abbrev S8192x48 : Shape := ⟨2, ![8192, 48]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S8192x2048, .f32⟩
  | .hbm, ⟨3, _⟩ => ⟨S8192x12848, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x48, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== KernelKv.lean ====
abbrev S8192x2048 : Shape := ⟨2, ![8192, 2048]⟩
abbrev S2048x12848 : Shape := ⟨2, ![2048, 12848]⟩
abbrev S2048x2560 : Shape := ⟨2, ![2048, 2560]⟩
abbrev S3x8192x512 : Shape := ⟨3, ![3, 8192, 512]⟩
abbrev S3x8192x256 : Shape := ⟨3, ![3, 8192, 256]⟩
abbrev S3x2x256x4096 : Shape := ⟨4, ![3, 2, 256, 4096]⟩
abbrev S3x2x512x4096 : Shape := ⟨4, ![3, 2, 512, 4096]⟩
abbrev S1024x2048 : Shape := ⟨2, ![1024, 2048]⟩
abbrev S2048x512 : Shape := ⟨2, ![2048, 512]⟩
abbrev S1x1024x512 : Shape := ⟨3, ![1, 1024, 512]⟩
abbrev S1x1024x256 : Shape := ⟨3, ![1, 1024, 256]⟩
abbrev S1x1x256x1024 : Shape := ⟨4, ![1, 1, 256, 1024]⟩
abbrev S1x1x512x1024 : Shape := ⟨4, ![1, 1, 512, 1024]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1x2x512x4096 : Shape := ⟨4, ![1, 2, 512, 4096]⟩
abbrev S2x512x4096 : Shape := ⟨3, ![2, 512, 4096]⟩
abbrev S2x512x512 : Shape := ⟨3, ![2, 512, 512]⟩
abbrev S2x2x4x64x4096 : Shape := ⟨5, ![2, 2, 4, 64, 4096]⟩
abbrev S2x4096x2x4x64 : Shape := ⟨5, ![2, 4096, 2, 4, 64]⟩
abbrev S2x2x4x64x512 : Shape := ⟨5, ![2, 2, 4, 64, 512]⟩
abbrev S2x512x2x4x64 : Shape := ⟨5, ![2, 512, 2, 4, 64]⟩

abbrev nBuf : Space → Nat
  | .hbm => 21
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S2048x2560, .f32⟩
  | .hbm, ⟨3, _⟩ => ⟨S2048x2560, .bf16⟩
  | .hbm, ⟨4, _⟩ => ⟨S3x8192x512, .f32⟩
  | .hbm, ⟨5, _⟩ => ⟨S3x8192x256, .bf16⟩
  | .hbm, ⟨6, _⟩ => ⟨S3x2x256x4096, .bf16⟩
  | .hbm, ⟨7, _⟩ => ⟨S3x2x512x4096, .f32⟩
  | .hbm, ⟨8, _⟩ => ⟨S1x2x512x4096, .f32⟩
  | .hbm, ⟨9, _⟩ => ⟨S2x512x4096, .f32⟩
  | .hbm, ⟨10, _⟩ => ⟨S2x512x512, .f32⟩
  | .hbm, ⟨11, _⟩ => ⟨S1x2x512x4096, .f32⟩
  | .hbm, ⟨12, _⟩ => ⟨S2x512x4096, .f32⟩
  | .hbm, ⟨13, _⟩ => ⟨S2x2x4x64x4096, .f32⟩
  | .hbm, ⟨14, _⟩ => ⟨S2x4096x2x4x64, .f32⟩
  | .hbm, ⟨15, _⟩ => ⟨S1x2x512x4096, .f32⟩
  | .hbm, ⟨16, _⟩ => ⟨S2x512x4096, .f32⟩
  | .hbm, ⟨17, _⟩ => ⟨S2x2x4x64x4096, .f32⟩
  | .hbm, ⟨18, _⟩ => ⟨S2x4096x2x4x64, .f32⟩
  | .hbm, ⟨19, _⟩ => ⟨S2x2x4x64x512, .f32⟩
  | .hbm, ⟨20, _⟩ => ⟨S2x512x2x4x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S1x1x512x1024, .f32⟩
  | .local _ .vmem, ⟨11, _⟩ => ⟨S1x1x512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg1.toNat, v16.toNat, c0_i32_10.toNat, v26.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg1.toNat, v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceKvIdeal.lean ====
abbrev S8192x2048 : Shape := ⟨2, ![8192, 2048]⟩
abbrev S2048x12848 : Shape := ⟨2, ![2048, 12848]⟩
abbrev S8192x12848 : Shape := ⟨2, ![8192, 12848]⟩
abbrev S8192x1024 : Shape := ⟨2, ![8192, 1024]⟩
abbrev S8192x256 : Shape := ⟨2, ![8192, 256]⟩
abbrev S8192x48 : Shape := ⟨2, ![8192, 48]⟩
abbrev S8192x512 : Shape := ⟨2, ![8192, 512]⟩
abbrev S1x8192x512 : Shape := ⟨3, ![1, 8192, 512]⟩
abbrev S3x8192x512 : Shape := ⟨3, ![3, 8192, 512]⟩
abbrev S1x8192x256 : Shape := ⟨3, ![1, 8192, 256]⟩
abbrev S3x8192x256 : Shape := ⟨3, ![3, 8192, 256]⟩
abbrev S3x2x4096x256 : Shape := ⟨4, ![3, 2, 4096, 256]⟩
abbrev S2x4096x4x64 : Shape := ⟨4, ![2, 4096, 4, 64]⟩
abbrev S2x4096x1x4x64 : Shape := ⟨5, ![2, 4096, 1, 4, 64]⟩
abbrev S2x4096x2x4x64 : Shape := ⟨5, ![2, 4096, 2, 4, 64]⟩
abbrev S2x512x2x4x64 : Shape := ⟨5, ![2, 512, 2, 4, 64]⟩
abbrev S3x2x256x4096 : Shape := ⟨4, ![3, 2, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S8192x2048, .f32⟩
  | .hbm, ⟨3, _⟩ => ⟨S8192x12848, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x48, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S1x8192x512, .f32⟩
  | .hbm, ⟨22, _⟩ => ⟨S1x8192x512, .f32⟩
  | .hbm, ⟨23, _⟩ => ⟨S1x8192x512, .f32⟩
  | .hbm, ⟨24, _⟩ => ⟨S3x8192x512, .f32⟩
  | .hbm, ⟨25, _⟩ => ⟨S1x8192x256, .f32⟩
  | .hbm, ⟨26, _⟩ => ⟨S1x8192x256, .f32⟩
  | .hbm, ⟨27, _⟩ => ⟨S1x8192x256, .f32⟩
  | .hbm, ⟨28, _⟩ => ⟨S3x8192x256, .f32⟩
  | .hbm, ⟨29, _⟩ => ⟨S3x8192x256, .bf16⟩
  | .hbm, ⟨30, _⟩ => ⟨S1x8192x256, .f32⟩
  | .hbm, ⟨31, _⟩ => ⟨S1x8192x256, .f32⟩
  | .hbm, ⟨32, _⟩ => ⟨S1x8192x256, .f32⟩
  | .hbm, ⟨33, _⟩ => ⟨S3x8192x256, .f32⟩
  | .hbm, ⟨34, _⟩ => ⟨S3x8192x256, .bf16⟩
  | .hbm, ⟨35, _⟩ => ⟨S3x2x4096x256, .bf16⟩
  | .hbm, ⟨36, _⟩ => ⟨S2x4096x4x64, .f32⟩
  | .hbm, ⟨37, _⟩ => ⟨S2x4096x4x64, .f32⟩
  | .hbm, ⟨38, _⟩ => ⟨S2x4096x4x64, .f32⟩
  | .hbm, ⟨39, _⟩ => ⟨S2x4096x4x64, .f32⟩
  | .hbm, ⟨40, _⟩ => ⟨S2x4096x4x64, .f32⟩
  | .hbm, ⟨41, _⟩ => ⟨S2x4096x4x64, .f32⟩
  | .hbm, ⟨42, _⟩ => ⟨S2x4096x1x4x64, .f32⟩
  | .hbm, ⟨43, _⟩ => ⟨S2x4096x1x4x64, .f32⟩
  | .hbm, ⟨44, _⟩ => ⟨S2x4096x2x4x64, .f32⟩
  | .hbm, ⟨45, _⟩ => ⟨S2x512x2x4x64, .f32⟩
  | .hbm, ⟨46, _⟩ => ⟨S3x2x256x4096, .bf16⟩
  | .hbm, ⟨47, _⟩ => ⟨S2x4096x1x4x64, .f32⟩
  | .hbm, ⟨48, _⟩ => ⟨S2x4096x1x4x64, .f32⟩
  | .hbm, ⟨49, _⟩ => ⟨S2x4096x2x4x64, .f32⟩
  | .hbm, ⟨50, _⟩ => ⟨S2x4096x1x4x64, .f32⟩
  | .hbm, ⟨51, _⟩ => ⟨S2x4096x1x4x64, .f32⟩
  | .hbm, ⟨52, _⟩ => ⟨S2x4096x2x4x64, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩

abbrev nD : Nat := 1
abbrev τ : Topo := Topo.v7x

variable {F : FTy → Type} [FloatOps F]
-- ==== KernelMerge.lean ====
abbrev S8192x1024 : Shape := ⟨2, ![8192, 1024]⟩
abbrev S8192x2048 : Shape := ⟨2, ![8192, 2048]⟩
abbrev S8192x6144 : Shape := ⟨2, ![8192, 6144]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x6144, .bf16⟩
  | .hbm, ⟨3, _⟩ => ⟨S1024x2048, .f32⟩
  | .hbm, ⟨4, _⟩ => ⟨S2048x2048, .f32⟩
  | .hbm, ⟨5, _⟩ => ⟨S1024x2048, .bf16⟩
  | .hbm, ⟨6, _⟩ => ⟨S2048x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeIdeal.lean ====
abbrev S8192x1024 : Shape := ⟨2, ![8192, 1024]⟩
abbrev S8192x2048 : Shape := ⟨2, ![8192, 2048]⟩
abbrev S8192x6144 : Shape := ⟨2, ![8192, 6144]⟩
abbrev S1024x2048 : Shape := ⟨2, ![1024, 2048]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x6144, .bf16⟩
  | .hbm, ⟨3, _⟩ => ⟨S1024x2048, .f32⟩
  | .hbm, ⟨4, _⟩ => ⟨S2048x2048, .f32⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2x1x2048, .f32⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S8192x2048 : Shape := ⟨2, ![8192, 2048]⟩
abbrev S2048x2048 : Shape := ⟨2, ![2048, 2048]⟩
abbrev S2x1x2048 : Shape := ⟨3, ![2, 1, 2048]⟩
abbrev S2x4096x2048 : Shape := ⟨3, ![2, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2x1x2048, .f32⟩
  | .hbm, ⟨4, _⟩ => ⟨S2x4096x2048, .f32⟩
  | .hbm, ⟨5, _⟩ => ⟨S8192x2048, .f32⟩
  | .hbm, ⟨6, _⟩ => ⟨S8192x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelYp.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceYpIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelYs.lean ====
abbrev S64x2048 : Shape := ⟨2, ![64, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S1x2048, .f32⟩
  | .hbm, ⟨3, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceYsIdeal.lean ====
abbrev S64x2048 : Shape := ⟨2, ![64, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S64x2048, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x2048, .f32⟩
  | .hbm, ⟨14, _⟩ => ⟨S64x2048, .f32⟩
  | .hbm, ⟨15, _⟩ => ⟨S1x2048, .f32⟩
  | .hbm, ⟨16, _⟩ => ⟨S64x2048, .f32⟩
  | .hbm, ⟨17, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelKvs.lean ====
abbrev S64x2048 : Shape := ⟨2, ![64, 2048]⟩
abbrev S2048x12848 : Shape := ⟨2, ![2048, 12848]⟩
abbrev S8x512x2x4x64 : Shape := ⟨5, ![8, 512, 2, 4, 64]⟩
abbrev S2048x2560 : Shape := ⟨2, ![2048, 2560]⟩
abbrev S3x64x512 : Shape := ⟨3, ![3, 64, 512]⟩
abbrev S2048x512 : Shape := ⟨2, ![2048, 512]⟩
abbrev S1x64x512 : Shape := ⟨3, ![1, 64, 512]⟩
abbrev S64x512 : Shape := ⟨2, ![64, 512]⟩
abbrev S8x8x512 : Shape := ⟨3, ![8, 8, 512]⟩
abbrev S8x512x512 : Shape := ⟨3, ![8, 512, 512]⟩
abbrev S8x520x512 : Shape := ⟨3, ![8, 520, 512]⟩
abbrev S8x8x2x4x64 : Shape := ⟨5, ![8, 8, 2, 4, 64]⟩

abbrev nBuf : Space → Nat
  | .hbm => 21
  | .vmem => 5
  | .smem => 0
  | _ => 0

abbrev bufTy : (tb : Table) → Fin (tcTables nBuf tb) → BufTy
  | .hbm, ⟨0, _⟩ => ⟨S64x2048, .f32⟩
  | .hbm, ⟨1, _⟩ => ⟨S2048x12848, .f32⟩
  | .hbm, ⟨2, _⟩ => ⟨S8x512x2x4x64, .f32⟩
  | .hbm, ⟨3, _⟩ => ⟨S2048x2560, .f32⟩
  | .hbm, ⟨4, _⟩ => ⟨S2048x2560, .bf16⟩
  | .hbm, ⟨5, _⟩ => ⟨S3x64x512, .f32⟩
  | .hbm, ⟨6, _⟩ => ⟨S1x64x512, .f32⟩
  | .hbm, ⟨7, _⟩ => ⟨S64x512, .f32⟩
  | .hbm, ⟨8, _⟩ => ⟨S8x8x512, .f32⟩
  | .hbm, ⟨9, _⟩ => ⟨S1x64x512, .f32⟩
  | .hbm, ⟨10, _⟩ => ⟨S64x512, .f32⟩
  | .hbm, ⟨11, _⟩ => ⟨S8x8x512, .f32⟩
  | .hbm, ⟨12, _⟩ => ⟨S1x64x512, .f32⟩
  | .hbm, ⟨13, _⟩ => ⟨S64x512, .f32⟩
  | .hbm, ⟨14, _⟩ => ⟨S8x8x512, .f32⟩
  | .hbm, ⟨15, _⟩ => ⟨S8x512x512, .f32⟩
  | .hbm, ⟨16, _⟩ => ⟨S8x520x512, .f32⟩
  | .hbm, ⟨17, _⟩ => ⟨S8x8x2x4x64, .f32⟩
  | .hbm, ⟨18, _⟩ => ⟨S8x8x2x4x64, .f32⟩
  | .hbm, ⟨19, _⟩ => ⟨S8x512x512, .f32⟩
  | .hbm, ⟨20, _⟩ => ⟨S8x512x2x4x64, .f32⟩
  | .local _ .vmem, ⟨0, _⟩ => ⟨S64x2048, .f32⟩
  | .local _ .vmem, ⟨1, _⟩ => ⟨S2048x512, .bf16⟩
  | .local _ .vmem, ⟨2, _⟩ => ⟨S2048x512, .bf16⟩
  | .local _ .vmem, ⟨3, _⟩ => ⟨S1x64x512, .f32⟩
  | .local _ .vmem, ⟨4, _⟩ => ⟨S1x64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvsIdeal.lean ====
abbrev S64x2048 : Shape := ⟨2, ![64, 2048]⟩
abbrev S2048x12848 : Shape := ⟨2, ![2048, 12848]⟩
abbrev S8x512x2x4x64 : Shape := ⟨5, ![8, 512, 2, 4, 64]⟩
abbrev S64x12848 : Shape := ⟨2, ![64, 12848]⟩
abbrev S64x1024 : Shape := ⟨2, ![64, 1024]⟩
abbrev S64x256 : Shape := ⟨2, ![64, 256]⟩
abbrev S64x48 : Shape := ⟨2, ![64, 48]⟩
abbrev S8x8x4x64 : Shape := ⟨4, ![8, 8, 4, 64]⟩
abbrev S8x8x1x4x64 : Shape := ⟨5, ![8, 8, 1, 4, 64]⟩
abbrev S8x8x2x4x64 : Shape := ⟨5, ![8, 8, 2, 4, 64]⟩
abbrev S8x520x2x4x64 : Shape := ⟨5, ![8, 520, 2, 4, 64]⟩

abbrev nBuf : Space → Nat
  | .hbm => 35
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x12848, .f32⟩
  | .hbm, ⟨2, _⟩ => ⟨S8x512x2x4x64, .f32⟩
  | .hbm, ⟨3, _⟩ => ⟨S64x12848, .f32⟩
  | .hbm, ⟨4, _⟩ => ⟨S64x1024, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S64x256, .f32⟩
  | .hbm, ⟨9, _⟩ => ⟨S64x256, .f32⟩
  | .hbm, ⟨10, _⟩ => ⟨S64x256, .f32⟩
  | .hbm, ⟨11, _⟩ => ⟨S64x48, .f32⟩
  | .hbm, ⟨12, _⟩ => ⟨S64x1024, .f32⟩
  | .hbm, ⟨13, _⟩ => ⟨S64x1024, .f32⟩
  | .hbm, ⟨14, _⟩ => ⟨S64x2048, .f32⟩
  | .hbm, ⟨15, _⟩ => ⟨S64x2048, .f32⟩
  | .hbm, ⟨16, _⟩ => ⟨S64x2048, .f32⟩
  | .hbm, ⟨17, _⟩ => ⟨S64x2048, .f32⟩
  | .hbm, ⟨18, _⟩ => ⟨S8x8x4x64, .f32⟩
  | .hbm, ⟨19, _⟩ => ⟨S8x8x4x64, .f32⟩
  | .hbm, ⟨20, _⟩ => ⟨S8x8x1x4x64, .f32⟩
  | .hbm, ⟨21, _⟩ => ⟨S8x8x1x4x64, .f32⟩
  | .hbm, ⟨22, _⟩ => ⟨S8x8x2x4x64, .f32⟩
  | .hbm, ⟨23, _⟩ => ⟨S8x8x4x64, .f32⟩
  | .hbm, ⟨24, _⟩ => ⟨S8x8x4x64, .f32⟩
  | .hbm, ⟨25, _⟩ => ⟨S8x8x1x4x64, .f32⟩
  | .hbm, ⟨26, _⟩ => ⟨S8x8x1x4x64, .f32⟩
  | .hbm, ⟨27, _⟩ => ⟨S8x8x2x4x64, .f32⟩
  | .hbm, ⟨28, _⟩ => ⟨S8x8x4x64, .f32⟩
  | .hbm, ⟨29, _⟩ => ⟨S8x8x4x64, .f32⟩
  | .hbm, ⟨30, _⟩ => ⟨S8x8x1x4x64, .f32⟩
  | .hbm, ⟨31, _⟩ => ⟨S8x8x1x4x64, .f32⟩
  | .hbm, ⟨32, _⟩ => ⟨S8x8x2x4x64, .f32⟩
  | .hbm, ⟨33, _⟩ => ⟨S8x520x2x4x64, .f32⟩
  | .hbm, ⟨34, _⟩ => ⟨S8x512x2x4x64, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== KernelRs.lean ====
abbrev S64x2048 : Shape := ⟨2, ![64, 2048]⟩
abbrev S64x6144 : Shape := ⟨2, ![64, 6144]⟩
abbrev S2048 : Shape := ⟨1, ![2048]⟩
abbrev S8x4x256x512 : Shape := ⟨4, ![8, 4, 256, 512]⟩
abbrev S1x2048 : Shape := ⟨2, ![1, 2048]⟩
abbrev S4 : Shape := ⟨1, ![4]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S4x1 : Shape := ⟨2, ![4, 1]⟩
abbrev S4x8 : Shape := ⟨2, ![4, 8]⟩
abbrev S4x8x1 : Shape := ⟨3, ![4, 8, 1]⟩
abbrev S8x1024 : Shape := ⟨2, ![8, 1024]⟩
abbrev S8x2048 : Shape := ⟨2, ![8, 2048]⟩
abbrev S1x4x256x512 : Shape := ⟨4, ![1, 4, 256, 512]⟩
abbrev S4x256x512 : Shape := ⟨3, ![4, 256, 512]⟩
abbrev S8x256 : Shape := ⟨2, ![8, 256]⟩
abbrev S8x512 : Shape := ⟨2, ![8, 512]⟩
abbrev S1x1x256x512 : Shape := ⟨4, ![1, 1, 256, 512]⟩
abbrev S256x512 : Shape := ⟨2, ![256, 512]⟩
abbrev S1x8x1 : Shape := ⟨3, ![1, 8, 1]⟩
abbrev S1x1x1 : Shape := ⟨3, ![1, 1, 1]⟩
abbrev S1x1 : Shape := ⟨2, ![1, 1]⟩
abbrev S1x512 : Shape := ⟨2, ![1, 512]⟩

abbrev nBuf : Space → Nat
  | .hbm => 70
  | .vmem => 20
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x6144, .f32⟩
  | .hbm, ⟨3, _⟩ => ⟨S2048, .f32⟩
  | .hbm, ⟨4, _⟩ => ⟨S2048, .f32⟩
  | .hbm, ⟨5, _⟩ => ⟨S8x4x256x512, .f32⟩
  | .hbm, ⟨6, _⟩ => ⟨S1x2048, .f32⟩
  | .hbm, ⟨7, _⟩ => ⟨S1x2048, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S8, .f32⟩
  | .hbm, ⟨21, _⟩ => ⟨S8x1, .f32⟩
  | .hbm, ⟨22, _⟩ => ⟨S1x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S_, .f32⟩
  | .hbm, ⟨27, _⟩ => ⟨S8x8, .f32⟩
  | .hbm, ⟨28, _⟩ => ⟨S8x8, .i1⟩
  | .hbm, ⟨29, _⟩ => ⟨S_, .f32⟩
  | .hbm, ⟨30, _⟩ => ⟨S8x8, .f32⟩
  | .hbm, ⟨31, _⟩ => ⟨S8x8, .f32⟩
  | .hbm, ⟨32, _⟩ => ⟨S1x8x8, .f32⟩
  | .hbm, ⟨33, _⟩ => ⟨S4x1x1, .f32⟩
  | .hbm, ⟨34, _⟩ => ⟨S4x8x8, .f32⟩
  | .hbm, ⟨35, _⟩ => ⟨S4x8x8, .f32⟩
  | .hbm, ⟨36, _⟩ => ⟨S4x8x8, .f32⟩
  | .hbm, ⟨37, _⟩ => ⟨S4x8x8, .f32⟩
  | .hbm, ⟨38, _⟩ => ⟨S_, .f32⟩
  | .hbm, ⟨39, _⟩ => ⟨S_, .f32⟩
  | .hbm, ⟨40, _⟩ => ⟨S4x8x8, .i1⟩
  | .hbm, ⟨41, _⟩ => ⟨S4x8x8, .f32⟩
  | .hbm, ⟨42, _⟩ => ⟨S4x8x8, .f32⟩
  | .hbm, ⟨43, _⟩ => ⟨S1x8, .f32⟩
  | .hbm, ⟨44, _⟩ => ⟨S_, .f32⟩
  | .hbm, ⟨45, _⟩ => ⟨S1x8, .f32⟩
  | .hbm, ⟨46, _⟩ => ⟨S1x8, .f32⟩
  | .hbm, ⟨47, _⟩ => ⟨S4x1, .f32⟩
  | .hbm, ⟨48, _⟩ => ⟨S4x8, .f32⟩
  | .hbm, ⟨49, _⟩ => ⟨S4x8, .f32⟩
  | .hbm, ⟨50, _⟩ => ⟨S4x8, .f32⟩
  | .hbm, ⟨51, _⟩ => ⟨S4x8, .f32⟩
  | .hbm, ⟨52, _⟩ => ⟨S4x8x1, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S1x8, .f32⟩
  | .hbm, ⟨57, _⟩ => ⟨S4x1, .f32⟩
  | .hbm, ⟨58, _⟩ => ⟨S4x8, .f32⟩
  | .hbm, ⟨59, _⟩ => ⟨S4x8, .f32⟩
  | .hbm, ⟨60, _⟩ => ⟨S4x8, .f32⟩
  | .hbm, ⟨61, _⟩ => ⟨S4x8, .f32⟩
  | .hbm, ⟨62, _⟩ => ⟨S4x8x1, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4x1x1, .f32⟩
  | .hbm, ⟨68, _⟩ => ⟨S64x2048, .f32⟩
  | .hbm, ⟨69, _⟩ => ⟨S8x4x256x512, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S1x2048, .f32⟩
  | .local _ .vmem, ⟨9, _⟩ => ⟨S1x2048, .f32⟩
  | .local _ .vmem, ⟨10, _⟩ => ⟨S1x4x256x512, .f32⟩
  | .local _ .vmem, ⟨11, _⟩ => ⟨S1x4x256x512, .f32⟩
  | .local _ .vmem, ⟨12, _⟩ => ⟨S4x8x8, .f32⟩
  | .local _ .vmem, ⟨13, _⟩ => ⟨S4x8x1, .f32⟩
  | .local _ .vmem, ⟨14, _⟩ => ⟨S4x8x1, .f32⟩
  | .local _ .vmem, ⟨15, _⟩ => ⟨S4x1x1, .f32⟩
  | .local _ .vmem, ⟨16, _⟩ => ⟨S8x2048, .f32⟩
  | .local _ .vmem, ⟨17, _⟩ => ⟨S8x2048, .f32⟩
  | .local _ .vmem, ⟨18, _⟩ => ⟨S1x4x256x512, .f32⟩
  | .local _ .vmem, ⟨19, _⟩ => ⟨S1x4x256x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50_0 : Ref sig .tc := ⟨.hbm, 68, rfl⟩
abbrev main_v50_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceRsIdeal.lean ====
abbrev S64x2048 : Shape := ⟨2, ![64, 2048]⟩
abbrev S64x6144 : Shape := ⟨2, ![64, 6144]⟩
abbrev S2048 : Shape := ⟨1, ![2048]⟩
abbrev S8x4x256x512 : Shape := ⟨4, ![8, 4, 256, 512]⟩
abbrev S64x1024 : Shape := ⟨2, ![64, 1024]⟩
abbrev S8x8x4x256 : Shape := ⟨4, ![8, 8, 4, 256]⟩
abbrev S8x8x4x512 : Shape := ⟨4, ![8, 8, 4, 512]⟩
abbrev S4 : Shape := ⟨1, ![4]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S1x4 : Shape := ⟨2, ![1, 4]⟩
abbrev S8x4 : Shape := ⟨2, ![8, 4]⟩
abbrev S8x1x8x4x256 : Shape := ⟨5, ![8, 1, 8, 4, 256]⟩
abbrev S1x8x8x4x256 : Shape := ⟨5, ![1, 8, 8, 4, 256]⟩
abbrev S8x1x8x4x512 : Shape := ⟨5, ![8, 1, 8, 4, 512]⟩
abbrev S1x8x8x4x512 : Shape := ⟨5, ![1, 8, 8, 4, 512]⟩
abbrev S8x4x8x8 : Shape := ⟨4, ![8, 4, 8, 8]⟩
abbrev S1x4x8x8 : Shape := ⟨4, ![1, 4, 8, 8]⟩
abbrev S8x4x512x8 : Shape := ⟨4, ![8, 4, 512, 8]⟩
abbrev S1x8x4x1 : Shape := ⟨4, ![1, 8, 4, 1]⟩
abbrev S1x4x1x1 : Shape := ⟨4, ![1, 4, 1, 1]⟩
abbrev S8x8x2048 : Shape := ⟨3, ![8, 8, 2048]⟩
abbrev S8x8x4 : Shape := ⟨3, ![8, 8, 4]⟩
abbrev S8x8x4x1 : Shape := ⟨4, ![8, 8, 4, 1]⟩
abbrev S1x1x2048 : Shape := ⟨3, ![1, 1, 2048]⟩

abbrev nBuf : Space → Nat
  | .hbm => 171
  | .vmem => 0
  | .smem => 0
  | _ => 0

abbrev hbmTy0_0 (i : Nat) : BufTy := match i % 128 with
  | 0 => ⟨S64x2048, .f32⟩
  | 1 => ⟨S64x2048, .f32⟩
  | 2 => ⟨S64x6144, .f32⟩
  | 3 => ⟨S2048, .f32⟩
  | 4 => ⟨S2048, .f32⟩
  | 5 => ⟨S8x4x256x512, .f32⟩
  | 6 => ⟨S64x1024, .f32⟩
  | 7 => ⟨S64x1024, .f32⟩
  | 8 => ⟨S8x8x4x256, .f32⟩
  | 9 => ⟨S8x8x4x256, .f32⟩
  | 10 => ⟨S8x8x4x512, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S8, .f32⟩
  | 24 => ⟨S8x1, .f32⟩
  | 25 => ⟨S1x8, .f32⟩
  | 26 => ⟨S8x8, .f32⟩
  | 27 => ⟨S8x8, .f32⟩
  | 28 => ⟨S8x8, .f32⟩
  | 29 => ⟨S_, .f32⟩
  | 30 => ⟨S8x8, .f32⟩
  | 31 => ⟨S8x8, .i1⟩
  | 32 => ⟨S_, .f32⟩
  | 33 => ⟨S8x8, .f32⟩
  | 34 => ⟨S8x8, .f32⟩
  | 35 => ⟨S1x8x8, .f32⟩
  | 36 => ⟨S4x1x1, .f32⟩
  | 37 => ⟨S4x8x8, .f32⟩
  | 38 => ⟨S4x8x8, .f32⟩
  | 39 => ⟨S4x8x8, .f32⟩
  | 40 => ⟨S4x8x8, .f32⟩
  | 41 => ⟨S_, .f32⟩
  | 42 => ⟨S_, .f32⟩
  | 43 => ⟨S4x8x8, .i1⟩
  | 44 => ⟨S4x8x8, .f32⟩
  | 45 => ⟨S4x8x8, .f32⟩
  | 46 => ⟨S8x1, .f32⟩
  | 47 => ⟨S_, .f32⟩
  | 48 => ⟨S8x1, .f32⟩
  | 49 => ⟨S8x1, .f32⟩
  | 50 => ⟨S1x4, .f32⟩
  | 51 => ⟨S8x4, .f32⟩
  | 52 => ⟨S8x4, .f32⟩
  | 53 => ⟨S8x4, .f32⟩
  | 54 => ⟨S8x4, .f32⟩
  | 55 => ⟨S_, .f32⟩
  | 56 => ⟨S8, .f32⟩
  | 57 => ⟨S8, .f32⟩
  | 58 => ⟨S8x1, .f32⟩
  | 59 => ⟨S1x4, .f32⟩
  | 60 => ⟨S8x4, .f32⟩
  | 61 => ⟨S8x4, .f32⟩
  | 62 => ⟨S8x4, .f32⟩
  | 63 => ⟨S8x4, .f32⟩
  | 64 => ⟨S_, .f32⟩
  | 65 => ⟨S4, .f32⟩
  | 66 => ⟨S4, .f32⟩
  | 67 => ⟨S4, .f32⟩
  | 68 => ⟨S8x1x8x4x256, .f32⟩
  | 69 => ⟨S1x8x8x4x256, .f32⟩
  | 70 => ⟨S8x1x8x4x256, .f32⟩
  | 71 => ⟨S1x8x8x4x256, .f32⟩
  | 72 => ⟨S8x1x8x4x512, .f32⟩
  | 73 => ⟨S1x8x8x4x512, .f32⟩
  | 74 => ⟨S_, .f32⟩
  | 75 => ⟨S1x8x8x4x512, .f32⟩
  | 76 => ⟨S_, .i32⟩
  | 77 => ⟨S1x8x8x4x256, .f32⟩
  | 78 => ⟨S1x8x8x4x256, .f32⟩
  | 79 => ⟨S1x8x8x4x512, .f32⟩
  | 80 => ⟨S4x8x8, .f32⟩
  | 81 => ⟨S8x4, .f32⟩
  | 82 => ⟨S4, .f32⟩
  | 83 => ⟨S8x4, .f32⟩
  | 84 => ⟨S_, .i32⟩
  | 85 => ⟨S8x4x256x512, .f32⟩
  | 86 => ⟨S1x8x8x4x512, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x8x8x4x256, .f32⟩
  | 94 => ⟨S8x8x4x256, .f32⟩
  | 95 => ⟨S_, .i32⟩
  | 96 => ⟨S_, .i32⟩
  | 97 => ⟨S_, .i32⟩
  | 98 => ⟨S_, .i32⟩
  | 99 => ⟨S1x8x8x4x256, .f32⟩
  | 100 => ⟨S8x8x4x256, .f32⟩
  | 101 => ⟨S_, .i32⟩
  | 102 => ⟨S_, .i32⟩
  | 103 => ⟨S_, .i32⟩
  | 104 => ⟨S_, .i32⟩
  | 105 => ⟨S1x8x8x4x512, .f32⟩
  | 106 => ⟨S8x8x4x512, .f32⟩
  | 107 => ⟨S8x4x8x8, .f32⟩
  | 108 => ⟨S1x4x8x8, .f32⟩
  | 109 => ⟨S8x4x8x8, .f32⟩
  | 110 => ⟨S8x4x8x8, .f32⟩
  | 111 => ⟨S8x4x512x8, .f32⟩
  | 112 => ⟨S8x8x4x512, .f32⟩
  | 113 => ⟨S8x4x512x8, .f32⟩
  | 114 => ⟨S8x8x4x512, .f32⟩
  | 115 => ⟨S1x8x4x1, .f32⟩
  | 116 => ⟨S8x8x4x512, .f32⟩
  | 117 => ⟨S8x8x4x512, .f32⟩
  | 118 => ⟨S8x8x4x512, .f32⟩
  | 119 => ⟨S1x4x1x1, .f32⟩
  | 120 => ⟨S8x4x256x512, .f32⟩
  | 121 => ⟨S8x4x256x512, .f32⟩
  | 122 => ⟨S1x8x4x1, .f32⟩
  | 123 => ⟨S8x8x4x256, .f32⟩
  | 124 => ⟨S8x8x4x256, .f32⟩
  | 125 => ⟨S8x4x256x512, .f32⟩
  | 126 => ⟨S8x4x256x512, .f32⟩
  | 127 => ⟨S1x8x8x4x512, .f32⟩
  | _ => ⟨S64x2048, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x8x8x4x512, .f32⟩
  | 5 => ⟨S_, .i32⟩
  | 6 => ⟨S_, .i32⟩
  | 7 => ⟨S8x1x8x4x512, .f32⟩
  | 8 => ⟨S8x8x4x512, .f32⟩
  | 9 => ⟨S64x2048, .f32⟩
  | 10 => ⟨S8x8x2048, .f32⟩
  | 11 => ⟨S_, .f32⟩
  | 12 => ⟨S8x8x4, .f32⟩
  | 13 => ⟨S8x8x4x1, .f32⟩
  | 14 => ⟨S_, .f32⟩
  | 15 => ⟨S8x8x4x1, .f32⟩
  | 16 => ⟨S8x8x4x1, .f32⟩
  | 17 => ⟨S8x8x4x512, .f32⟩
  | 18 => ⟨S8x8x4x512, .f32⟩
  | 19 => ⟨S8x8x4x512, .f32⟩
  | 20 => ⟨S_, .f32⟩
  | 21 => ⟨S8x8x4, .f32⟩
  | 22 => ⟨S8x8x4x1, .f32⟩
  | 23 => ⟨S_, .f32⟩
  | 24 => ⟨S8x8x4x1, .f32⟩
  | 25 => ⟨S8x8x4x1, .f32⟩
  | 26 => ⟨S8x8x4x512, .f32⟩
  | 27 => ⟨S8x8x4x512, .f32⟩
  | 28 => ⟨S_, .f32⟩
  | 29 => ⟨S8x8x4x1, .f32⟩
  | 30 => ⟨S8x8x4x1, .f32⟩
  | 31 => ⟨S8x8x4x1, .f32⟩
  | 32 => ⟨S8x8x4x512, .f32⟩
  | 33 => ⟨S8x8x4x512, .f32⟩
  | 34 => ⟨S8x8x2048, .f32⟩
  | 35 => ⟨S1x1x2048, .f32⟩
  | 36 => ⟨S8x8x2048, .f32⟩
  | 37 => ⟨S8x8x2048, .f32⟩
  | 38 => ⟨S1x1x2048, .f32⟩
  | 39 => ⟨S8x8x2048, .f32⟩
  | 40 => ⟨S8x8x2048, .f32⟩
  | 41 => ⟨S8x8x2048, .f32⟩
  | 42 => ⟨S64x2048, .f32⟩
  | _ => ⟨S64x2048, .f32⟩

abbrev hbmTy (i : Nat) : BufTy := match i / 128 with
  | 0 => hbmTy0_0 i
  | 1 => hbmTy0_1 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_c : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v57_3 : Ref sig .tc := ⟨.hbm, 80, rfl⟩
abbrev main_v57_4 : Ref sig .tc := ⟨.hbm, 81, rfl⟩
abbrev main_v57_5 : Ref sig .tc := ⟨.hbm, 82, rfl⟩
abbrev main_v57_6 : Ref sig .tc := ⟨.hbm, 83, rfl⟩
abbrev main_v57_7 : Ref sig .tc := ⟨.hbm, 84, rfl⟩
abbrev main_v57_8 : Ref sig .tc := ⟨.hbm, 85, rfl⟩
abbrev main_v57_9 : Ref sig .tc := ⟨.hbm, 86, rfl⟩
abbrev main_while0c_c_23 : Ref sig .tc := ⟨.hbm, 87, rfl⟩
abbrev main_while0c_v89 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_call1_c_1 : Ref sig .tc := ⟨.hbm, 91, rfl⟩
abbrev main_while0b_call1_c_2 : Ref sig .tc := ⟨.hbm, 92, rfl⟩
abbrev main_while0b_call1_v0 : Ref sig .tc := ⟨.hbm, 93, rfl⟩
abbrev main_while0b_v89 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v90 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v91 : Ref sig .tc := ⟨.hbm, 106, rfl⟩
abbrev main_while0b_v92 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_v98 : Ref sig .tc := ⟨.hbm, 113, rfl⟩
abbrev main_while0b_v99 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v112 : Ref sig .tc := ⟨.hbm, 132, rfl⟩
abbrev main_while0b_c_23 : Ref sig .tc := ⟨.hbm, 133, rfl⟩
abbrev main_while0b_v113 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_cst_9 : Ref sig .tc := ⟨.hbm, 139, rfl⟩
abbrev main_v62 : Ref sig .tc := ⟨.hbm, 140, rfl⟩
abbrev main_v63 : Ref sig .tc := ⟨.hbm, 141, rfl⟩
abbrev main_cst_10 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_cst_11 : Ref sig .tc := ⟨.hbm, 148, rfl⟩
abbrev main_v69 : Ref sig .tc := ⟨.hbm, 149, rfl⟩
abbrev main_v70 : Ref sig .tc := ⟨.hbm, 150, rfl⟩
abbrev main_cst_12 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_cst_13 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩

abbrev nD : Nat := 1
abbrev τ : Topo := Topo.v7x

variable {F : FTy → Type} [FloatOps F]

abbrev main_while0_count : Scf.Loop 32 := ⟨0#32, 1#32, 1#32⟩
-- ==== KernelMod.lean ====
abbrev S2x2048 : Shape := ⟨2, ![2, 2048]⟩
abbrev S8x2048 : Shape := ⟨2, ![8, 2048]⟩
abbrev S4x2048x12288 : Shape := ⟨3, ![4, 2048, 12288]⟩
abbrev S4x12288 : Shape := ⟨2, ![4, 12288]⟩
abbrev S10x2048 : Shape := ⟨2, ![10, 2048]⟩
abbrev S_ : Shape := ⟨0, ![]⟩
abbrev S16x2048 : Shape := ⟨2, ![16, 2048]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩
abbrev S4x2x12288 : Shape := ⟨3, ![4, 2, 12288]⟩
abbrev S4x8x12288 : Shape := ⟨3, ![4, 8, 12288]⟩

abbrev nBuf : Space → Nat
  | .hbm => 12
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S8x2048, .f32⟩
  | .hbm, ⟨2, _⟩ => ⟨S4x2048x12288, .f32⟩
  | .hbm, ⟨3, _⟩ => ⟨S4x12288, .f32⟩
  | .hbm, ⟨4, _⟩ => ⟨S10x2048, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S4x1x12288, .f32⟩
  | .hbm, ⟨9, _⟩ => ⟨S4x16x12288, .f32⟩
  | .hbm, ⟨10, _⟩ => ⟨S4x2x12288, .f32⟩
  | .hbm, ⟨11, _⟩ => ⟨S4x8x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S2x2048 : Shape := ⟨2, ![2, 2048]⟩
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S2x12288 : Shape := ⟨2, ![2, 12288]⟩
abbrev S1x12288 : Shape := ⟨2, ![1, 12288]⟩
abbrev S12288 : Shape := ⟨1, ![12288]⟩
abbrev S1x2x12288 : Shape := ⟨3, ![1, 2, 12288]⟩
abbrev S4x2x12288 : Shape := ⟨3, ![4, 2, 12288]⟩
abbrev S8x12288 : Shape := ⟨2, ![8, 12288]⟩
abbrev S1x8x12288 : Shape := ⟨3, ![1, 8, 12288]⟩
abbrev S4x8x12288 : Shape := ⟨3, ![4, 8, 12288]⟩

abbrev nBuf : Space → Nat
  | .hbm => 150
  | .vmem => 0
  | .smem => 0
  | _ => 0

abbrev hbmTy0_0 (i : Nat) : BufTy := match i % 128 with
  | 0 => ⟨S2x2048, .f32⟩
  | 1 => ⟨S8x2048, .f32⟩
  | 2 => ⟨S4x2048x12288, .f32⟩
  | 3 => ⟨S4x12288, .f32⟩
  | 4 => ⟨S2x2048, .f32⟩
  | 5 => ⟨S2x2048, .f32⟩
  | 6 => ⟨S_, .f32⟩
  | 7 => ⟨S2x2048, .f32⟩
  | 8 => ⟨S2x2048, .f32⟩
  | 9 => ⟨S_, .f32⟩
  | 10 => ⟨S2x2048, .f32⟩
  | 11 => ⟨S2x2048, .f32⟩
  | 12 => ⟨S2x2048, .f32⟩
  | 13 => ⟨S1x2048x12288, .f32⟩
  | 14 => ⟨S2048x12288, .f32⟩
  | 15 => ⟨S2x12288, .f32⟩
  | 16 => ⟨S1x12288, .f32⟩
  | 17 => ⟨S12288, .f32⟩
  | 18 => ⟨S1x12288, .f32⟩
  | 19 => ⟨S2x12288, .f32⟩
  | 20 => ⟨S2x12288, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S2x2048, .f32⟩
  | 30 => ⟨S1x2048x12288, .f32⟩
  | 31 => ⟨S2048x12288, .f32⟩
  | 32 => ⟨S2x12288, .f32⟩
  | 33 => ⟨S1x12288, .f32⟩
  | 34 => ⟨S12288, .f32⟩
  | 35 => ⟨S1x12288, .f32⟩
  | 36 => ⟨S2x12288, .f32⟩
  | 37 => ⟨S2x12288, .f32⟩
  | 38 => ⟨S2x2048, .f32⟩
  | 39 => ⟨S2x2048, .f32⟩
  | 40 => ⟨S_, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S2x2048, .f32⟩
  | 47 => ⟨S1x2048x12288, .f32⟩
  | 48 => ⟨S2048x12288, .f32⟩
  | 49 => ⟨S2x12288, .f32⟩
  | 50 => ⟨S1x12288, .f32⟩
  | 51 => ⟨S12288, .f32⟩
  | 52 => ⟨S1x12288, .f32⟩
  | 53 => ⟨S2x12288, .f32⟩
  | 54 => ⟨S2x12288, .f32⟩
  | 55 => ⟨S2x2048, .f32⟩
  | 56 => ⟨S2x2048, .f32⟩
  | 57 => ⟨S_, .f32⟩
  | 58 => ⟨S2x2048, .f32⟩
  | 59 => ⟨S2x2048, .f32⟩
  | 60 => ⟨S_, .f32⟩
  | 61 => ⟨S2x2048, .f32⟩
  | 62 => ⟨S2x2048, .f32⟩
  | 63 => ⟨S2x2048, .f32⟩
  | 64 => ⟨S1x2048x12288, .f32⟩
  | 65 => ⟨S2048x12288, .f32⟩
  | 66 => ⟨S2x12288, .f32⟩
  | 67 => ⟨S1x12288, .f32⟩
  | 68 => ⟨S12288, .f32⟩
  | 69 => ⟨S1x12288, .f32⟩
  | 70 => ⟨S2x12288, .f32⟩
  | 71 => ⟨S2x12288, .f32⟩
  | 72 => ⟨S1x2x12288, .f32⟩
  | 73 => ⟨S1x2x12288, .f32⟩
  | 74 => ⟨S1x2x12288, .f32⟩
  | 75 => ⟨S1x2x12288, .f32⟩
  | 76 => ⟨S4x2x12288, .f32⟩
  | 77 => ⟨S8x2048, .f32⟩
  | 78 => ⟨S8x2048, .f32⟩
  | 79 => ⟨S_, .f32⟩
  | 80 => ⟨S8x2048, .f32⟩
  | 81 => ⟨S8x2048, .f32⟩
  | 82 => ⟨S_, .f32⟩
  | 83 => ⟨S8x2048, .f32⟩
  | 84 => ⟨S8x2048, .f32⟩
  | 85 => ⟨S8x2048, .f32⟩
  | 86 => ⟨S1x2048x12288, .f32⟩
  | 87 => ⟨S2048x12288, .f32⟩
  | 88 => ⟨S8x12288, .f32⟩
  | 89 => ⟨S1x12288, .f32⟩
  | 90 => ⟨S12288, .f32⟩
  | 91 => ⟨S1x12288, .f32⟩
  | 92 => ⟨S8x12288, .f32⟩
  | 93 => ⟨S8x12288, .f32⟩
  | 94 => ⟨S8x2048, .f32⟩
  | 95 => ⟨S8x2048, .f32⟩
  | 96 => ⟨S_, .f32⟩
  | 97 => ⟨S8x2048, .f32⟩
  | 98 => ⟨S8x2048, .f32⟩
  | 99 => ⟨S_, .f32⟩
  | 100 => ⟨S8x2048, .f32⟩
  | 101 => ⟨S8x2048, .f32⟩
  | 102 => ⟨S8x2048, .f32⟩
  | 103 => ⟨S1x2048x12288, .f32⟩
  | 104 => ⟨S2048x12288, .f32⟩
  | 105 => ⟨S8x12288, .f32⟩
  | 106 => ⟨S1x12288, .f32⟩
  | 107 => ⟨S12288, .f32⟩
  | 108 => ⟨S1x12288, .f32⟩
  | 109 => ⟨S8x12288, .f32⟩
  | 110 => ⟨S8x12288, .f32⟩
  | 111 => ⟨S8x2048, .f32⟩
  | 112 => ⟨S8x2048, .f32⟩
  | 113 => ⟨S_, .f32⟩
  | 114 => ⟨S8x2048, .f32⟩
  | 115 => ⟨S8x2048, .f32⟩
  | 116 => ⟨S_, .f32⟩
  | 117 => ⟨S8x2048, .f32⟩
  | 118 => ⟨S8x2048, .f32⟩
  | 119 => ⟨S8x2048, .f32⟩
  | 120 => ⟨S1x2048x12288, .f32⟩
  | 121 => ⟨S2048x12288, .f32⟩
  | 122 => ⟨S8x12288, .f32⟩
  | 123 => ⟨S1x12288, .f32⟩
  | 124 => ⟨S12288, .f32⟩
  | 125 => ⟨S1x12288, .f32⟩
  | 126 => ⟨S8x12288, .f32⟩
  | 127 => ⟨S8x12288, .f32⟩
  | _ => ⟨S2x2048, .f32⟩

abbrev hbmTy0_1 (i : Nat) : BufTy := match i % 128 with
  | 0 => ⟨S8x2048, .f32⟩
  | 1 => ⟨S8x2048, .f32⟩
  | 2 => ⟨S_, .f32⟩
  | 3 => ⟨S8x2048, .f32⟩
  | 4 => ⟨S8x2048, .f32⟩
  | 5 => ⟨S_, .f32⟩
  | 6 => ⟨S8x2048, .f32⟩
  | 7 => ⟨S8x2048, .f32⟩
  | 8 => ⟨S8x2048, .f32⟩
  | 9 => ⟨S1x2048x12288, .f32⟩
  | 10 => ⟨S2048x12288, .f32⟩
  | 11 => ⟨S8x12288, .f32⟩
  | 12 => ⟨S1x12288, .f32⟩
  | 13 => ⟨S12288, .f32⟩
  | 14 => ⟨S1x12288, .f32⟩
  | 15 => ⟨S8x12288, .f32⟩
  | 16 => ⟨S8x12288, .f32⟩
  | 17 => ⟨S1x8x12288, .f32⟩
  | 18 => ⟨S1x8x12288, .f32⟩
  | 19 => ⟨S1x8x12288, .f32⟩
  | 20 => ⟨S1x8x12288, .f32⟩
  | 21 => ⟨S4x8x12288, .f32⟩
  | _ => ⟨S2x2048, .f32⟩

abbrev hbmTy (i : Nat) : BufTy := match i / 128 with
  | 0 => hbmTy0_0 i
  | 1 => hbmTy0_1 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_call5_v0 : Ref sig .tc := ⟨.hbm, 94, rfl⟩
abbrev main_call5_v1 : Ref sig .tc := ⟨.hbm, 95, rfl⟩
abbrev main_call5_cst : Ref sig .tc := ⟨.hbm, 96, rfl⟩
abbrev main_call5_v2 : Ref sig .tc := ⟨.hbm, 97, rfl⟩
abbrev main_call5_v3 : Ref sig .tc := ⟨.hbm, 98, rfl⟩
abbrev main_call5_cst_0 : Ref sig .tc := ⟨.hbm, 99, rfl⟩
abbrev main_call5_v4 : Ref sig .tc := ⟨.hbm, 100, rfl⟩
abbrev main_call5_v5 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_call6_v0 : Ref sig .tc := ⟨.hbm, 111, rfl⟩
abbrev main_call6_v1 : Ref sig .tc := ⟨.hbm, 112, rfl⟩
abbrev main_call6_cst : Ref sig .tc := ⟨.hbm, 113, rfl⟩
abbrev main_call6_v2 : Ref sig .tc := ⟨.hbm, 114, rfl⟩
abbrev main_call6_v3 : Ref sig .tc := ⟨.hbm, 115, rfl⟩
abbrev main_call6_cst_0 : Ref sig .tc := ⟨.hbm, 116, rfl⟩
abbrev main_call6_v4 : Ref sig .tc := ⟨.hbm, 117, rfl⟩
abbrev main_call6_v5 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_call7_v0 : Ref sig .tc := ⟨.hbm, 128, rfl⟩
abbrev main_call7_v1 : Ref sig .tc := ⟨.hbm, 129, rfl⟩
abbrev main_call7_cst : Ref sig .tc := ⟨.hbm, 130, rfl⟩
abbrev main_call7_v2 : Ref sig .tc := ⟨.hbm, 131, rfl⟩
abbrev main_call7_v3 : Ref sig .tc := ⟨.hbm, 132, rfl⟩
abbrev main_call7_cst_0 : Ref sig .tc := ⟨.hbm, 133, rfl⟩
abbrev main_call7_v4 : Ref sig .tc := ⟨.hbm, 134, rfl⟩
abbrev main_call7_v5 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩

abbrev nD : Nat := 1
abbrev τ : Topo := Topo.v7x

variable {F : FTy → Type} [FloatOps F]
-- ==== KernelNorm.lean ====
abbrev S8192x2048 : Shape := ⟨2, ![8192, 2048]⟩
abbrev S2048 : Shape := ⟨1, ![2048]⟩
abbrev S2x1x2048 : Shape := ⟨3, ![2, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S1x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S8192x2048 : Shape := ⟨2, ![8192, 2048]⟩
abbrev S2048 : Shape := ⟨1, ![2048]⟩
abbrev S2x1x2048 : Shape := ⟨3, ![2, 1, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x4096x2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S8192x2048, .f32⟩
  | .hbm, ⟨29, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== KernelNg.lean ====
abbrev S8192x2048 : Shape := ⟨2, ![8192, 2048]⟩
abbrev S2048x12848 : Shape := ⟨2, ![2048, 12848]⟩
abbrev S2048x48 : Shape := ⟨2, ![2048, 48]⟩
abbrev S2048x4x12 : Shape := ⟨3, ![2048, 4, 12]⟩
abbrev S_ : Shape := ⟨0, ![]⟩
abbrev S2048x4x16 : Shape := ⟨3, ![2048, 4, 16]⟩
abbrev S2048x64 : Shape := ⟨2, ![2048, 64]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩
abbrev S8192x64 : Shape := ⟨2, ![8192, 64]⟩
abbrev S2x4096x4x16 : Shape := ⟨4, ![2, 4096, 4, 16]⟩
abbrev S2x4096x4x12 : Shape := ⟨4, ![2, 4096, 4, 12]⟩
abbrev S2x4096x16x3 : Shape := ⟨4, ![2, 4096, 16, 3]⟩

abbrev nBuf : Space → Nat
  | .hbm => 17
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S2048x48, .f32⟩
  | .hbm, ⟨3, _⟩ => ⟨S2048x48, .bf16⟩
  | .hbm, ⟨4, _⟩ => ⟨S2048x4x12, .bf16⟩
  | .hbm, ⟨5, _⟩ => ⟨S_, .i32⟩
  | .hbm, ⟨6, _⟩ => ⟨S_, .bf16⟩
  | .hbm, ⟨7, _⟩ => ⟨S2048x4x16, .bf16⟩
  | .hbm, ⟨8, _⟩ => ⟨S2048x64, .bf16⟩
  | .hbm, ⟨9, _⟩ => ⟨S_, .i32⟩
  | .hbm, ⟨10, _⟩ => ⟨S_, .bf16⟩
  | .hbm, ⟨11, _⟩ => ⟨S2048x128, .bf16⟩
  | .hbm, ⟨12, _⟩ => ⟨S8192x128, .f32⟩
  | .hbm, ⟨13, _⟩ => ⟨S8192x64, .f32⟩
  | .hbm, ⟨14, _⟩ => ⟨S2x4096x4x16, .f32⟩
  | .hbm, ⟨15, _⟩ => ⟨S2x4096x4x12, .f32⟩
  | .hbm, ⟨16, _⟩ => ⟨S2x4096x16x3, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceNgIdeal.lean ====
abbrev S8192x2048 : Shape := ⟨2, ![8192, 2048]⟩
abbrev S2048x12848 : Shape := ⟨2, ![2048, 12848]⟩
abbrev S8192x12848 : Shape := ⟨2, ![8192, 12848]⟩
abbrev S8192x1024 : Shape := ⟨2, ![8192, 1024]⟩
abbrev S8192x256 : Shape := ⟨2, ![8192, 256]⟩
abbrev S8192x48 : Shape := ⟨2, ![8192, 48]⟩
abbrev S_ : Shape := ⟨0, ![]⟩
abbrev S2x4096x16x3 : Shape := ⟨4, ![2, 4096, 16, 3]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12848, .f32⟩
  | .hbm, ⟨2, _⟩ => ⟨S8192x2048, .f32⟩
  | .hbm, ⟨3, _⟩ => ⟨S8192x12848, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x48, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x48, .f32⟩
  | .hbm, ⟨19, _⟩ => ⟨S8192x48, .f32⟩
  | .hbm, ⟨20, _⟩ => ⟨S_, .f32⟩
  | .hbm, ⟨21, _⟩ => ⟨S8192x48, .f32⟩
  | .hbm, ⟨22, _⟩ => ⟨S8192x48, .f32⟩
  | .hbm, ⟨23, _⟩ => ⟨S_, .f32⟩
  | .hbm, ⟨24, _⟩ => ⟨S8192x48, .f32⟩
  | .hbm, ⟨25, _⟩ => ⟨S8192x48, .f32⟩
  | .hbm, ⟨26, _⟩ => ⟨S2x4096x16x3, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== KernelCmp.lean ====
abbrev S3x8192x512 : Shape := ⟨3, ![3, 8192, 512]⟩
abbrev S2x32x64x64 : Shape := ⟨4, ![2, 32, 64, 64]⟩
abbrev S2x32x64 : Shape := ⟨3, ![2, 32, 64]⟩
abbrev S4x4 : Shape := ⟨2, ![4, 4]⟩
abbrev S_ : Shape := ⟨0, ![]⟩
abbrev S1x32x64x64 : Shape := ⟨4, ![1, 32, 64, 64]⟩
abbrev S32x64x64 : Shape := ⟨3, ![32, 64, 64]⟩
abbrev S1x4x1x4x1 : Shape := ⟨5, ![1, 4, 1, 4, 1]⟩
abbrev S32x1x64x1x64 : Shape := ⟨5, ![32, 1, 64, 1, 64]⟩
abbrev S32x4x64x4x64 : Shape := ⟨5, ![32, 4, 64, 4, 64]⟩
abbrev S32x256x256 : Shape := ⟨3, ![32, 256, 256]⟩
abbrev S2x32x1x64 : Shape := ⟨4, ![2, 32, 1, 64]⟩
abbrev S2x32x4x64 : Shape := ⟨4, ![2, 32, 4, 64]⟩
abbrev S32x2x4x64 : Shape := ⟨4, ![32, 2, 4, 64]⟩
abbrev S1x16384 : Shape := ⟨2, ![1, 16384]⟩
abbrev S2x128x256 : Shape := ⟨3, ![2, 128, 256]⟩
abbrev S2x256x128 : Shape := ⟨3, ![2, 256, 128]⟩
abbrev S1x4096x128 : Shape := ⟨3, ![1, 4096, 128]⟩
abbrev S1x128x256 : Shape := ⟨3, ![1, 128, 256]⟩
abbrev S1x256x128 : Shape := ⟨3, ![1, 256, 128]⟩
abbrev S128x256 : Shape := ⟨2, ![128, 256]⟩
abbrev S1x128x128 : Shape := ⟨3, ![1, 128, 128]⟩
abbrev S128x128 : Shape := ⟨2, ![128, 128]⟩
abbrev S1x256 : Shape := ⟨2, ![1, 256]⟩
abbrev S1x256x256 : Shape := ⟨3, ![1, 256, 256]⟩
abbrev S256x256 : Shape := ⟨2, ![256, 256]⟩
abbrev S256x128 : Shape := ⟨2, ![256, 128]⟩

abbrev nBuf : Space → Nat
  | .hbm => 34
  | .vmem => 15
  | .smem => 0
  | _ => 0

abbrev bufTy : (tb : Table) → Fin (tcTables nBuf tb) → BufTy
  | .hbm, ⟨0, _⟩ => ⟨S3x8192x512, .f32⟩
  | .hbm, ⟨1, _⟩ => ⟨S2x32x64x64, .f32⟩
  | .hbm, ⟨2, _⟩ => ⟨S2x32x64, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S1x32x64x64, .f32⟩
  | .hbm, ⟨11, _⟩ => ⟨S32x64x64, .f32⟩
  | .hbm, ⟨12, _⟩ => ⟨S1x4x1x4x1, .f32⟩
  | .hbm, ⟨13, _⟩ => ⟨S32x1x64x1x64, .f32⟩
  | .hbm, ⟨14, _⟩ => ⟨S32x4x64x4x64, .f32⟩
  | .hbm, ⟨15, _⟩ => ⟨S32x4x64x4x64, .f32⟩
  | .hbm, ⟨16, _⟩ => ⟨S32x4x64x4x64, .f32⟩
  | .hbm, ⟨17, _⟩ => ⟨S32x256x256, .f32⟩
  | .hbm, ⟨18, _⟩ => ⟨S32x256x256, .bf16⟩
  | .hbm, ⟨19, _⟩ => ⟨S1x32x64x64, .f32⟩
  | .hbm, ⟨20, _⟩ => ⟨S32x64x64, .f32⟩
  | .hbm, ⟨21, _⟩ => ⟨S1x4x1x4x1, .f32⟩
  | .hbm, ⟨22, _⟩ => ⟨S32x1x64x1x64, .f32⟩
  | .hbm, ⟨23, _⟩ => ⟨S32x4x64x4x64, .f32⟩
  | .hbm, ⟨24, _⟩ => ⟨S32x4x64x4x64, .f32⟩
  | .hbm, ⟨25, _⟩ => ⟨S32x4x64x4x64, .f32⟩
  | .hbm, ⟨26, _⟩ => ⟨S32x256x256, .f32⟩
  | .hbm, ⟨27, _⟩ => ⟨S32x256x256, .bf16⟩
  | .hbm, ⟨28, _⟩ => ⟨S2x32x1x64, .f32⟩
  | .hbm, ⟨29, _⟩ => ⟨S2x32x4x64, .f32⟩
  | .hbm, ⟨30, _⟩ => ⟨S32x2x4x64, .f32⟩
  | .hbm, ⟨31, _⟩ => ⟨S1x16384, .f32⟩
  | .hbm, ⟨32, _⟩ => ⟨S2x128x256, .bf16⟩
  | .hbm, ⟨33, _⟩ => ⟨S2x256x128, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x16384, .f32⟩
  | .local _ .vmem, ⟨9, _⟩ => ⟨S32x256x256, .bf16⟩
  | .local _ .vmem, ⟨10, _⟩ => ⟨S32x256x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x256x128, .bf16⟩
  | .local _ .vmem, ⟨14, _⟩ => ⟨S1x256x128, .bf16⟩
  | _, _ => ⟨S3x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceCmpIdeal.lean ====
abbrev S3x8192x512 : Shape := ⟨3, ![3, 8192, 512]⟩
abbrev S2x32x64x64 : Shape := ⟨4, ![2, 32, 64, 64]⟩
abbrev S2x32x64 : Shape := ⟨3, ![2, 32, 64]⟩
abbrev S1x8192x512 : Shape := ⟨3, ![1, 8192, 512]⟩
abbrev S8192x512 : Shape := ⟨2, ![8192, 512]⟩
abbrev S2x4096x2x4x64 : Shape := ⟨5, ![2, 4096, 2, 4, 64]⟩
abbrev S2x4096x1x4x64 : Shape := ⟨5, ![2, 4096, 1, 4, 64]⟩
abbrev S2x4096x4x64 : Shape := ⟨4, ![2, 4096, 4, 64]⟩
abbrev S1x32x64 : Shape := ⟨3, ![1, 32, 64]⟩
abbrev S32x64 : Shape := ⟨2, ![32, 64]⟩
abbrev S1x32x64x64 : Shape := ⟨4, ![1, 32, 64, 64]⟩
abbrev S32x64x64 : Shape := ⟨3, ![32, 64, 64]⟩
abbrev S2x128x32x4x64 : Shape := ⟨5, ![2, 128, 32, 4, 64]⟩
abbrev S1x1x32x1x64 : Shape := ⟨5, ![1, 1, 32, 1, 64]⟩
abbrev S2x128x4x64 : Shape := ⟨4, ![2, 128, 4, 64]⟩
abbrev S2x128x256 : Shape := ⟨3, ![2, 128, 256]⟩
abbrev S2x256x128 : Shape := ⟨3, ![2, 256, 128]⟩

abbrev nBuf : Space → Nat
  | .hbm => 33
  | .vmem => 0
  | .smem => 0
  | _ => 0

abbrev bufTy : (tb : Table) → Fin (tcTables nBuf tb) → BufTy
  | .hbm, ⟨0, _⟩ => ⟨S3x8192x512, .f32⟩
  | .hbm, ⟨1, _⟩ => ⟨S2x32x64x64, .f32⟩
  | .hbm, ⟨2, _⟩ => ⟨S2x32x64, .f32⟩
  | .hbm, ⟨3, _⟩ => ⟨S1x8192x512, .f32⟩
  | .hbm, ⟨4, _⟩ => ⟨S8192x512, .f32⟩
  | .hbm, ⟨5, _⟩ => ⟨S2x4096x2x4x64, .f32⟩
  | .hbm, ⟨6, _⟩ => ⟨S2x4096x1x4x64, .f32⟩
  | .hbm, ⟨7, _⟩ => ⟨S2x4096x4x64, .f32⟩
  | .hbm, ⟨8, _⟩ => ⟨S1x32x64, .f32⟩
  | .hbm, ⟨9, _⟩ => ⟨S32x64, .f32⟩
  | .hbm, ⟨10, _⟩ => ⟨S1x32x64x64, .f32⟩
  | .hbm, ⟨11, _⟩ => ⟨S32x64x64, .f32⟩
  | .hbm, ⟨12, _⟩ => ⟨S2x128x32x4x64, .f32⟩
  | .hbm, ⟨13, _⟩ => ⟨S1x1x32x1x64, .f32⟩
  | .hbm, ⟨14, _⟩ => ⟨S2x128x32x4x64, .f32⟩
  | .hbm, ⟨15, _⟩ => ⟨S2x128x32x4x64, .f32⟩
  | .hbm, ⟨16, _⟩ => ⟨S2x128x4x64, .f32⟩
  | .hbm, ⟨17, _⟩ => ⟨S2x4096x1x4x64, .f32⟩
  | .hbm, ⟨18, _⟩ => ⟨S2x4096x4x64, .f32⟩
  | .hbm, ⟨19, _⟩ => ⟨S1x32x64, .f32⟩
  | .hbm, ⟨20, _⟩ => ⟨S32x64, .f32⟩
  | .hbm, ⟨21, _⟩ => ⟨S1x32x64x64, .f32⟩
  | .hbm, ⟨22, _⟩ => ⟨S32x64x64, .f32⟩
  | .hbm, ⟨23, _⟩ => ⟨S2x128x32x4x64, .f32⟩
  | .hbm, ⟨24, _⟩ => ⟨S1x1x32x1x64, .f32⟩
  | .hbm, ⟨25, _⟩ => ⟨S2x128x32x4x64, .f32⟩
  | .hbm, ⟨26, _⟩ => ⟨S2x128x32x4x64, .f32⟩
  | .hbm, ⟨27, _⟩ => ⟨S2x128x4x64, .f32⟩
  | .hbm, ⟨28, _⟩ => ⟨S2x128x256, .f32⟩
  | .hbm, ⟨29, _⟩ => ⟨S2x128x256, .bf16⟩
  | .hbm, ⟨30, _⟩ => ⟨S2x128x256, .f32⟩
  | .hbm, ⟨31, _⟩ => ⟨S2x128x256, .bf16⟩
  | .hbm, ⟨32, _⟩ => ⟨S2x256x128, .bf16⟩
  | _, _ => ⟨S3x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Proof.RetMath.lean ====
module
public import Idealize.ShloMosaic.Lib.Pointwise

open Idealize Idealize.ShloMosaic

@[expose] public section

namespace Cert.RetMath

/-- Column `d` of head `h` among the 1024 columns of a query or key block. -/
def kcol (h : Fin 4) (d : Fin 256) : Fin 1024 := ⟨256 * h.val + d.val, by omega⟩
/-- Column `e` of head `h` among the 2048 columns of a value, gate or output block. -/
def vcol (h : Fin 4) (e : Fin 512) : Fin 2048 := ⟨512 * h.val + e.val, by omega⟩
/-- The row of position `j` of chunk `n` of batch entry `b`. -/
def row (b : Fin 2) (n : Fin 32) (j : Fin 128) : Fin 8192 := ⟨4096 * b.val + 128 * n.val + j.val, by omega⟩

/-- The logarithm of head `h`'s decay rate, as the programs compute it: `log (1 - exp (log 2 * (-5 - h)))`. -/
noncomputable def lg (h : Fin 4) : EReal :=
  Ideal.log (1 - Ideal.exp (Ideal.ofBits FTy.f32 1060205080#32 *
    (Ideal.ofBits FTy.f32 3231711232#32 - FloatOps.sitofp (F := Ideal) FTy.f32 (BitVec.ofNat 32 h.val))))
/-- A position of a chunk, as a number. -/
noncomputable def pos (i : Fin 128) : EReal := FloatOps.sitofp (F := Ideal) FTy.f32 (BitVec.ofNat 32 i.val)
/-- The decay from position `j` of a chunk to position `i` of it: none from a later position. -/
noncomputable def din (h : Fin 4) (i j : Fin 128) : EReal := if 0 ≤ pos i - pos j then Ideal.exp (max (pos i - pos j) 0 * lg h) else 0
/-- The decay from a chunk's beginning to position `i` of it. -/
noncomputable def dq (h : Fin 4) (i : Fin 128) : EReal := Ideal.exp ((pos i + 1) * lg h)
/-- The decay from position `i` of a chunk to its end. -/
noncomputable def dk (h : Fin 4) (i : Fin 128) : EReal := Ideal.exp ((Ideal.ofBits FTy.f32 1123942400#32 - pos i) * lg h)
/-- The decay over a chunk. -/
noncomputable def dc (h : Fin 4) : EReal := Ideal.exp (Ideal.ofBits FTy.f32 1124073472#32 * lg h)

/-- An array of 8192 rows (two batch entries of 4096 positions) by 2048 columns. -/
abbrev Arr := Shape.Idx ⟨2, ![8192, 2048]⟩ → EReal

/-- Queries: the left 1024 columns. -/
def qAt (qk : Arr) (b : Fin 2) (n : Fin 32) (h : Fin 4) (j : Fin 128) (d : Fin 256) : EReal :=
  qk (ix2 (row b n j) ⟨256 * h.val + d.val, by omega⟩)
/-- Keys: the right 1024 columns. -/
def kAt (qk : Arr) (b : Fin 2) (n : Fin 32) (h : Fin 4) (j : Fin 128) (d : Fin 256) : EReal :=
  qk (ix2 (row b n j) ⟨1024 + 256 * h.val + d.val, by omega⟩)
/-- Values. -/
def vAt (v : Arr) (b : Fin 2) (n : Fin 32) (h : Fin 4) (j : Fin 128) (e : Fin 512) : EReal := v (ix2 (row b n j) (vcol h e))

/-- The retention state of a batch entry before chunk `n`: zero, then at each chunk decayed and added to. -/
noncomputable def state (qk v : Arr) (b : Fin 2) : (n : ℕ) → n ≤ 32 → Fin 4 → Fin 256 → Fin 512 → EReal
  | 0, _ => fun _ _ _ => 0
  | n + 1, hn => fun h d e => state qk v b n (Nat.le_of_succ_le hn) h d e * dc h
      + ∑ j : Fin 128, (kAt qk b ⟨n, hn⟩ h j d * dk h j) * vAt v b ⟨n, hn⟩ h j e

/-- The retention at position `i` of chunk `n`: the decayed causal scores within the chunk times the values, plus the query
times the state before the chunk, decayed to the position. -/
noncomputable def ret (qk v : Arr) (b : Fin 2) (n : Fin 32) (h : Fin 4) (i : Fin 128) (e : Fin 512) : EReal :=
  (∑ j : Fin 128, ((∑ d : Fin 256, qAt qk b n h i d * kAt qk b n h j d) * din h i j) * vAt v b n h j e)
    + (∑ d : Fin 256, qAt qk b n h i d * state qk v b n.val n.isLt.le h d e) * dq h i

/-- The mean of a row of 512 values. -/
noncomputable def muRow (o : Fin 512 → EReal) : EReal := Ideal.div (∑ x : Fin 512, o x) (Ideal.ofBits FTy.f32 0x44000000#32)

/-- The group normalisation of a row `o` of 512 values, at place `e`. -/
noncomputable def gnRow (o : Fin 512 → EReal) (e : Fin 512) : EReal :=
  (o e - muRow o) * Ideal.rsqrt (Ideal.div (∑ x : Fin 512, (o x - muRow o) * (o x - muRow o)) (Ideal.ofBits FTy.f32 0x44000000#32)
    + Ideal.ofBits FTy.f32 0x358637BD#32)

/-- The gated, group-normalised retention. -/
noncomputable def out (qk v : Arr) (rg : Shape.Idx ⟨2, ![8192, 6144]⟩ → EReal) (gw gb : Shape.Idx ⟨1, ![2048]⟩ → EReal)
    (b : Fin 2) (n : Fin 32) (i : Fin 128) (h : Fin 4) (e : Fin 512) : EReal :=
  rg (ix2 (row b n i) ⟨512 * h.val + e.val, by omega⟩)
    * (gnRow (ret qk v b n h i) e * gw (ix1 (vcol h e)) + gb (ix1 (vcol h e)))

end Cert.RetMath
-- ==== Proof.RetStep.lean ====
module
public import proofs.«01_k».proof.Proof.Gen.KernelIdeal.Value
public import proofs.«01_k».proof.Proof.RetMath
public import Idealize.ShloMosaic.Lib.Pointwise
public import Idealize.ShloMosaic.Lib.Pipeline.ValueKit
public import Idealize.ShloMosaic.Lib.Pipeline.ReadBack

open Idealize Idealize.ShloMosaic Idealize.ShloMosaic.Pipeline
open Cert.KernelIdeal Cert.KernelIdeal.Gen

@[expose] public section

namespace Cert.Ret

set_option maxRecDepth 16384

open Cert.RetMath (kcol vcol gnRow muRow)

/-- The state of head `h` after a chunk: the state before it, decayed by the chunk, plus the sum over the chunk's positions of
the decayed key times the value. -/
noncomputable def stNext (k : Vec Ideal S128x1024 .bf16) (v : Vec Ideal S128x2048 .bf16) (dk : Vec Ideal S4x128x1 .f32)
    (dc : Vec Ideal S4x1x1 .f32) (st : Vec Ideal S1x4x256x512 .f32) (h : Fin 4) (d : Fin 256) (e : Fin 512) : EReal :=
  st (ix4 0 h d e) * dc (ix3 h 0 0) + ∑ j : Fin 128, (k (ix2 j (kcol h d)) * dk (ix3 h j 0)) * v (ix2 j (vcol h e))

/-- The retention of position `i` of a chunk: the decayed scores times the values of the chunk, plus the query times the state
before the chunk, decayed to the position. -/
noncomputable def oRow (q k : Vec Ideal S128x1024 .bf16) (v : Vec Ideal S128x2048 .bf16) (din : Vec Ideal S4x128x128 .f32)
    (dq : Vec Ideal S4x128x1 .f32) (st : Vec Ideal S1x4x256x512 .f32) (h : Fin 4) (i : Fin 128) (e : Fin 512) : EReal :=
  (∑ j : Fin 128, ((∑ d : Fin 256, q (ix2 i (kcol h d)) * k (ix2 j (kcol h d))) * din (ix3 h i j)) * v (ix2 j (vcol h e)))
    + (∑ d : Fin 256, q (ix2 i (kcol h d)) * st (ix4 0 h d e)) * dq (ix3 h i 0)

/-- Row `i` of head `h` of a chunk's output: the retention, group-normalised, scaled, shifted and gated. -/
noncomputable def outRow (q k : Vec Ideal S128x1024 .bf16) (v rg : Vec Ideal S128x2048 .bf16) (gw gb : Vec Ideal S1x2048 .f32)
    (din : Vec Ideal S4x128x128 .f32) (dq : Vec Ideal S4x128x1 .f32) (st : Vec Ideal S1x4x256x512 .f32)
    (h : Fin 4) (i : Fin 128) (e : Fin 512) : EReal :=
  rg (ix2 i (vcol h e)) * (gnRow (oRow q k v din dq st h i) e * gw (ix2 0 (vcol h e)) + gb (ix2 0 (vcol h e)))

/-- Later stores decide: where one of the first stores of the list covers an index, the rest of the list does not matter. -/
theorem canon_append_left {s : Shape} {ty : EltTy} (L' : List (View.Piece (Elt Ideal) s ty)) :
    ∀ (L : List (View.Piece (Elt Ideal) s ty)) (y : s.Idx), (∃ p ∈ L, y ∈ p.1.set) →
      View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' L y ?_
      obtain ⟨q, hq, hyq⟩ := h
      rcases List.mem_cons.mp hq with rfl | hq'
      · exact absurd hyq hm
      · exact ⟨q, hq', hyq⟩

/-- The four stores of the new state, one per head, over the state `st` before the chunk. -/
noncomputable def stPieces (k : Vec Ideal S128x1024 .bf16) (v : Vec Ideal S128x2048 .bf16) (dk : Vec Ideal S4x128x1 .f32)
    (dc : Vec Ideal S4x1x1 .f32) (st : Vec Ideal S1x4x256x512 .f32) : List (View.Piece (Elt Ideal) S1x4x256x512 .f32) :=
  [⟨Rect.unit ![0, 3, 0, 0] ![1, 1, 256, 512] inb_S1x4x256x512_S1x1x256x512_0_3_0_0,
      k0_pay27 (k0_pay23 (View.ld k (Rect.unit ![0, 768] ![128, 256] inb_S128x1024_S128x256_0_768)))
        (View.ld v (Rect.unit ![0, 1536] ![128, 512] inb_S128x2048_S128x512_0_1536))
        (k0_pay24 (View.ld st (Rect.unit ![0, 3, 0, 0] ![1, 1, 256, 512] inb_S1x4x256x512_S1x1x256x512_0_3_0_0)))
        (View.ld dk (Rect.unit ![3, 0, 0] ![1, 128, 1] inb_S4x128x1_S1x128x1_3_0_0))
        (View.ld dc (Rect.unit ![3, 0, 0] ![1, 1, 1] inb_S4x1x1_S1x1x1_3_0_0))⟩,
   ⟨Rect.unit ![0, 2, 0, 0] ![1, 1, 256, 512] inb_S1x4x256x512_S1x1x256x512_0_2_0_0,
      k0_pay19 (k0_pay16 (View.ld k (Rect.unit ![0, 512] ![128, 256] inb_S128x1024_S128x256_0_512)))
        (View.ld v (Rect.unit ![0, 1024] ![128, 512] inb_S128x2048_S128x512_0_1024))
        (View.ld st (Rect.unit ![0, 2, 0, 0] ![1, 1, 256, 512] inb_S1x4x256x512_S1x1x256x512_0_2_0_0))
        (View.ld dk (Rect.unit ![2, 0, 0] ![1, 128, 1] inb_S4x128x1_S1x128x1_2_0_0))
        (View.ld dc (Rect.unit ![2, 0, 0] ![1, 1, 1] inb_S4x1x1_S1x1x1_2_0_0))⟩,
   ⟨Rect.unit ![0, 1, 0, 0] ![1, 1, 256, 512] inb_S1x4x256x512_S1x1x256x512_0_1_0_0,
      k0_pay14 (k0_pay13 (View.ld k (Rect.unit ![0, 256] ![128, 256] inb_S128x1024_S128x256_0_256))
        (View.ld v (Rect.unit ![0, 512] ![128, 512] inb_S128x2048_S128x512_0_512))
        (View.ld st (Rect.unit ![0, 1, 0, 0] ![1, 1, 256, 512] inb_S1x4x256x512_S1x1x256x512_0_1_0_0))
        (View.ld dk (Rect.unit ![1, 0, 0] ![1, 128, 1] inb_S4x128x1_S1x128x1_1_0_0))
        (View.ld dc (Rect.unit ![1, 0, 0] ![1, 1, 1] inb_S4x1x1_S1x1x1_1_0_0)))⟩,
   ⟨Rect.unit ![0, 0, 0, 0] ![1, 1, 256, 512] inb_S1x4x256x512_S1x1x256x512_0_0_0_0,
      k0_pay8 (View.ld v (Rect.unit ![0, 0] ![128, 512] inb_S128x2048_S128x512_0_0))
        (k0_pay4 (View.ld st (Rect.unit ![0, 0, 0, 0] ![1, 1, 256, 512] inb_S1x4x256x512_S1x1x256x512_0_0_0_0)))
        (k0_pay6 (View.ld k (Rect.unit ![0, 0] ![128, 256] inb_S128x1024_S128x256_0_0))
          (View.ld dk (Rect.unit ![0, 0, 0] ![1, 128, 1] inb_S4x128x1_S1x128x1_0_0_0)))
        (k0_pay7 (View.ld dc (Rect.unit ![0, 0, 0] ![1, 1, 1] inb_S4x1x1_S1x1x1_0_0_0)))⟩]

/-- Together the four stores leave `stNext` everywhere. -/
theorem stPieces_at (k : Vec Ideal S128x1024 .bf16) (v : Vec Ideal S128x2048 .bf16) (dk : Vec Ideal S4x128x1 .f32)
    (dc : Vec Ideal S4x1x1 .f32) (st : Vec Ideal S1x4x256x512 .f32) (y : S1x4x256x512.Idx) :
    View.canon (stPieces k v dk dc st) y = stNext k v dk dc st (y 1) (y 2) (y 3) := by
  unfold stPieces
  canon_tiles x h
  · obtain rfl : y = ix4 0 3 (x 2) (x 3) := by blk_ext []
    pointwise [k0_pay27, k0_pay23, k0_pay24, stNext, kcol, vcol]
  · obtain rfl : y = ix4 0 2 (x 2) (x 3) := by blk_ext []
    pointwise [k0_pay19, k0_pay17, k0_pay16, stNext, kcol, vcol]
  · obtain rfl : y = ix4 0 1 (x 2) (x 3) := by blk_ext []
    pointwise [k0_pay14, k0_pay13, k0_pay10, k0_pay11, stNext, kcol, vcol]
  · obtain rfl : y = ix4 0 0 (x 2) (x 3) := by blk_ext []
    pointwise [k0_pay8, k0_pay4, k0_pay6, k0_pay7, k0_pay3, stNext, kcol, vcol]

variable (m : (ℓ : Loc nD τ sig) → Buf (Elt Ideal) ℓ)

/-- Within a batch entry, the state after a chunk is `stNext` of the state after the chunk before. -/
theorem stateB (c : Dev nD) (t : Fin cfg0.N) (h0 : ¬t.val % 32 = 0) (y : S1x4x256x512.Idx) :
    (outsAt0 m c t.val t.isLt).2 y
      = stNext (iblk m c 1 t) (iblk m c 2 t) (iblk m c 9 t) (iblk m c 10 t)
          (outsAt0 m c (t.val - 1) (Nat.lt_of_le_of_lt (Nat.sub_le _ _) t.isLt)).2 (y 1) (y 2) (y 3) := by
  rw [outsAt0_B m c t h0]
  frame_open
  simp (disch := decide) only [↓ View.readCov_skip, ↓ View.readCov_cons_toLoadRect, ↓ View.readCov_fill]
  frame_out
  exact stPieces_at _ _ _ _ _ y

/-- At a batch entry's first chunk the state before is the one the kernel is given. -/
theorem stateA (c : Dev nD) (t : Fin cfg0.N) (h0 : t.val % 32 = 0) (y : S1x4x256x512.Idx) :
    (outsAt0 m c t.val t.isLt).2 y
      = stNext (iblk m c 1 t) (iblk m c 2 t) (iblk m c 9 t) (iblk m c 10 t) (k0_pay2 (iblk m c 6 t)) (y 1) (y 2) (y 3) := by
  rw [outsAt0_A m c t h0]
  frame_open
  simp (disch := decide) only [↓ View.readCov_skip, ↓ View.readCov_cons_toLoadRect, ↓ View.readCov_fill]
  frame_out
  exact (canon_append_left [⟨_, _⟩] (stPieces (iblk m c 1 t) (iblk m c 2 t) (iblk m c 9 t) (iblk m c 10 t) (k0_pay2 (iblk m c 6 t))) y
    (View.cover_of_tiledL (stPieces (iblk m c 1 t) (iblk m c 2 t) (iblk m c 9 t) (iblk m c 10 t) (k0_pay2 (iblk m c 6 t)))
      S1x1x256x512.size (by sl_kernel_rfl) y)).trans (stPieces_at _ _ _ _ _ y)

/-- A row of a chunk's output past the first chunk of a batch entry. -/
theorem outB (c : Dev nD) (t : Fin cfg0.N) (h0 : ¬t.val % 32 = 0) (h : Fin 4) (i : Fin 128) (e : Fin 512) :
    (outsAt0 m c t.val t.isLt).1 (ix2 i (vcol h e))
      = outRow (iblk m c 0 t) (iblk m c 1 t) (iblk m c 2 t) (iblk m c 3 t) (iblk m c 4 t) (iblk m c 5 t) (iblk m c 7 t) (iblk m c 8 t)
          (outsAt0 m c (t.val - 1) (Nat.lt_of_le_of_lt (Nat.sub_le _ _) t.isLt)).2 h i e := by
  rw [outsAt0_B m c t h0]
  frame_open
  simp (disch := decide) only [↓ View.readCov_skip, ↓ View.readCov_cons_toLoadRect, ↓ View.readCov_fill]
  frame_out
  generalize (outsAt0 m c (t.val - 1) (Nat.lt_of_le_of_lt (Nat.sub_le _ _) t.isLt)).2 = st
  canon_tiles x hx
  · obtain rfl : h = 3 := by simp [vcol, ix2] at hx1; omega
    obtain rfl : e = x 1 := by simp [vcol, ix2] at hx1; omega
    obtain rfl : i = x 0 := by simp [vcol, ix2] at hx0; omega
    pointwise [k0_pay1, k0_pay30, k0_pay29, k0_pay28, k0_pay26, k0_pay25, k0_pay24, k0_pay23, outRow, gnRow, muRow, oRow, kcol, vcol]
  · obtain rfl : h = 2 := by simp [vcol, ix2] at hx1; omega
    obtain rfl : e = x 1 := by simp [vcol, ix2] at hx1; omega
    obtain rfl : i = x 0 := by simp [vcol, ix2] at hx0; omega
    pointwise [k0_pay22, k0_pay21, k0_pay20, k0_pay18, k0_pay17, k0_pay16, outRow, gnRow, muRow, oRow, kcol, vcol]
  · obtain rfl : h = 1 := by simp [vcol, ix2] at hx1; omega
    obtain rfl : e = x 1 := by simp [vcol, ix2] at hx1; omega
    obtain rfl : i = x 0 := by simp [vcol, ix2] at hx0; omega
    pointwise [k0_pay15, k0_pay12, k0_pay11, k0_pay10, outRow, gnRow, muRow, oRow, kcol, vcol]
  · obtain rfl : h = 0 := by simp [vcol, ix2] at hx1; omega
    obtain rfl : e = x 1 := by simp [vcol, ix2] at hx1; omega
    obtain rfl : i = x 0 := by simp [vcol, ix2] at hx0; omega
    pointwise [k0_pay9, k0_pay5, k0_pay4, k0_pay3, outRow, gnRow, muRow, oRow, kcol, vcol]

/-- A row of the first chunk's output of a batch entry. -/
theorem outA (c : Dev nD) (t : Fin cfg0.N) (h0 : t.val % 32 = 0) (h : Fin 4) (i : Fin 128) (e : Fin 512) :
    (outsAt0 m c t.val t.isLt).1 (ix2 i (vcol h e))
      = outRow (iblk m c 0 t) (iblk m c 1 t) (iblk m c 2 t) (iblk m c 3 t) (iblk m c 4 t) (iblk m c 5 t) (iblk m c 7 t) (iblk m c 8 t)
          (k0_pay2 (iblk m c 6 t)) h i e := by
  rw [outsAt0_A m c t h0]
  frame_open
  simp (disch := decide) only [↓ View.readCov_skip, ↓ View.readCov_cons_toLoadRect, ↓ View.readCov_fill]
  frame_out
  generalize (k0_pay2 (iblk m c 6 t)) = st
  canon_tiles x hx
  · obtain rfl : h = 3 := by simp [vcol, ix2] at hx1; omega
    obtain rfl : e = x 1 := by simp [vcol, ix2] at hx1; omega
    obtain rfl : i = x 0 := by simp [vcol, ix2] at hx0; omega
    pointwise [k0_pay1, k0_pay30, k0_pay29, k0_pay28, k0_pay26, k0_pay25, k0_pay24, k0_pay23, outRow, gnRow, muRow, oRow, kcol, vcol]
  · obtain rfl : h = 2 := by simp [vcol, ix2] at hx1; omega
    obtain rfl : e = x 1 := by simp [vcol, ix2] at hx1; omega
    obtain rfl : i = x 0 := by simp [vcol, ix2] at hx0; omega
    pointwise [k0_pay22, k0_pay21, k0_pay20, k0_pay18, k0_pay17, k0_pay16, outRow, gnRow, muRow, oRow, kcol, vcol]
  · obtain rfl : h = 1 := by simp [vcol, ix2] at hx1; omega
    obtain rfl : e = x 1 := by simp [vcol, ix2] at hx1; omega
    obtain rfl : i = x 0 := by simp [vcol, ix2] at hx0; omega
    pointwise [k0_pay15, k0_pay12, k0_pay11, k0_pay10, outRow, gnRow, muRow, oRow, kcol, vcol]
  · obtain rfl : h = 0 := by simp [vcol, ix2] at hx1; omega
    obtain rfl : e = x 1 := by simp [vcol, ix2] at hx1; omega
    obtain rfl : i = x 0 := by simp [vcol, ix2] at hx0; omega
    pointwise [k0_pay9, k0_pay5, k0_pay4, k0_pay3, outRow, gnRow, muRow, oRow, kcol, vcol]

end Cert.Ret
-- ==== Proof.RetHost.lean ====
module
public import proofs.«01_k».proof.Proof.RetStep
public import Idealize.ShloMosaic.Lib.StableHlo.ReadAt
public import Idealize.ShloMosaic.Lib.Claim

open Idealize Idealize.ShloMosaic Idealize.ShloMosaic.Pipeline
open Cert.KernelIdeal Cert.KernelIdeal.Gen Idealize.ShloMosaic.TcCoe Idealize.SL.Sem
open Cert.RetMath (kcol vcol row)

@[expose] public section

namespace Cert.Ret

set_option maxRecDepth 16384
variable (m : (ℓ : Loc nD τ sig) → Buf (Elt Ideal) ℓ)

/-! ## The arrays the host code makes before the call -/

theorem V_dc (c : Dev nD) (h : Fin 4) : V m c main_v50 (ix3 h 0 0) = RetMath.dc h := by
  unfold V
  after_reads_at
  rfl
theorem V_dk (c : Dev nD) (h : Fin 4) (i : Fin 128) : V m c main_v46 (ix3 h i 0) = RetMath.dk h i := by
  unfold V
  after_reads_at
  rfl
theorem V_dq (c : Dev nD) (h : Fin 4) (i : Fin 128) : V m c main_v37 (ix3 h i 0) = RetMath.dq h i := by
  unfold V
  after_reads_at
  rfl
theorem V_din (c : Dev nD) (h : Fin 4) (i j : Fin 128) : V m c main_v28 (ix3 h i j) = RetMath.din h i j := by
  unfold V
  after_reads_at
  simp only [id_eq]
  pointwise
  rfl
theorem V_s0 (c : Dev nD) (y : S2x4x256x512.Idx) : V m c main_v0 y = (0 : EReal) := by
  unfold V
  after_reads_at
theorem V_gw (c : Dev nD) (y : Fin 2048) : V m c main_v1 (ix2 0 y) = (m ((c : Thread nD τ).loc main_arg3)) (ix1 y) := by
  unfold V
  after_reads_at
theorem V_gb (c : Dev nD) (y : Fin 2048) : V m c main_v2 (ix2 0 y) = (m ((c : Thread nD τ).loc main_arg4)) (ix1 y) := by
  unfold V
  after_reads_at
theorem V_arg0 (c : Dev nD) : V m c main_arg0 = m ((c : Thread nD τ).loc main_arg0) := by
  unfold V
  after_reads_simp

theorem V_arg1 (c : Dev nD) : V m c main_arg1 = m ((c : Thread nD τ).loc main_arg1) := by
  unfold V
  after_reads_simp
theorem V_arg2 (c : Dev nD) : V m c main_arg2 = m ((c : Thread nD τ).loc main_arg2) := by
  unfold V
  after_reads_simp

/-! ## The blocks at a grid point -/

/-- The grid point of batch entry `b`'s chunk `n`. -/
def pt (b : Fin 2) (n : Fin 32) : Fin cfg0.N := ⟨32 * b.val + n.val, by show _ < 64; omega⟩

/-- The blocks' places at each grid point. -/
theorem idx : ∀ (b : Fin 2) (n : Fin 32), win0_0.index (pt b n) = ![32 * b.val + n.val, 0] ∧ win0_1.index (pt b n) = ![32 * b.val + n.val, 1]
    ∧ win0_2.index (pt b n) = ![32 * b.val + n.val, 0] ∧ win0_3.index (pt b n) = ![32 * b.val + n.val, 0] ∧ win0_4.index (pt b n) = ![0, 0]
    ∧ win0_5.index (pt b n) = ![0, 0] ∧ win0_6.index (pt b n) = ![b.val, 0, 0, 0] ∧ win0_7.index (pt b n) = ![0, 0, 0] ∧ win0_8.index (pt b n) = ![0, 0, 0]
    ∧ win0_9.index (pt b n) = ![0, 0, 0] ∧ win0_10.index (pt b n) = ![0, 0, 0] ∧ win0_11.index (pt b n) = ![32 * b.val + n.val, 0]
    ∧ win0_12.index (pt b n) = ![b.val, 0, 0, 0] := by decide +kernel

theorem blk0 (c : Dev nD) (b : Fin 2) (n : Fin 32) (j : Fin 128) (h : Fin 4) (d : Fin 256) :
    iblk m c 0 (pt b n) (ix2 j (kcol h d)) = RetMath.qAt (m ((c : Thread nD τ).loc main_arg0)) b n h j d := by
  show V m c main_arg0 _ = _
  rw [V_arg0]
  unfold RetMath.qAt row kcol
  blk_ext! [idx b n]
theorem blk1 (c : Dev nD) (b : Fin 2) (n : Fin 32) (j : Fin 128) (h : Fin 4) (d : Fin 256) :
    iblk m c 1 (pt b n) (ix2 j (kcol h d)) = RetMath.kAt (m ((c : Thread nD τ).loc main_arg0)) b n h j d := by
  show V m c main_arg0 _ = _
  rw [V_arg0]
  unfold RetMath.kAt row kcol
  blk_ext! [idx b n]
theorem blk2 (c : Dev nD) (b : Fin 2) (n : Fin 32) (j : Fin 128) (h : Fin 4) (e : Fin 512) :
    iblk m c 2 (pt b n) (ix2 j (vcol h e)) = RetMath.vAt (m ((c : Thread nD τ).loc main_arg1)) b n h j e := by
  show V m c main_arg1 _ = _
  rw [V_arg1]
  unfold RetMath.vAt row vcol
  blk_ext! [idx b n]
theorem blk3 (c : Dev nD) (b : Fin 2) (n : Fin 32) (j : Fin 128) (h : Fin 4) (e : Fin 512) :
    iblk m c 3 (pt b n) (ix2 j (vcol h e)) = (m ((c : Thread nD τ).loc main_arg2)) (ix2 (row b n j) ⟨512 * h.val + e.val, by omega⟩) := by
  show V m c main_arg2 _ = _
  rw [V_arg2]
  unfold row vcol
  blk_ext! [idx b n]
theorem blk4 (c : Dev nD) (b : Fin 2) (n : Fin 32) (y : Fin 2048) : iblk m c 4 (pt b n) (ix2 0 y) = (m ((c : Thread nD τ).loc main_arg3)) (ix1 y) := by
  refine Eq.trans ?_ (V_gw m c y)
  show V m c main_v1 _ = V m c main_v1 _
  blk_ext! [idx b n]
theorem blk5 (c : Dev nD) (b : Fin 2) (n : Fin 32) (y : Fin 2048) : iblk m c 5 (pt b n) (ix2 0 y) = (m ((c : Thread nD τ).loc main_arg4)) (ix1 y) := by
  refine Eq.trans ?_ (V_gb m c y)
  show V m c main_v2 _ = V m c main_v2 _
  blk_ext! [idx b n]
theorem blk6 (c : Dev nD) (t : Fin cfg0.N) (y) : iblk m c 6 t y = (0 : EReal) := V_s0 m c _
theorem blk7 (c : Dev nD) (b : Fin 2) (n : Fin 32) (h : Fin 4) (i j : Fin 128) : iblk m c 7 (pt b n) (ix3 h i j) = RetMath.din h i j := by
  refine Eq.trans ?_ (V_din m c h i j)
  show V m c main_v28 _ = V m c main_v28 _
  blk_ext! [idx b n]
theorem blk8 (c : Dev nD) (b : Fin 2) (n : Fin 32) (h : Fin 4) (i : Fin 128) : iblk m c 8 (pt b n) (ix3 h i 0) = RetMath.dq h i := by
  refine Eq.trans ?_ (V_dq m c h i)
  show V m c main_v37 _ = V m c main_v37 _
  blk_ext! [idx b n]
theorem blk9 (c : Dev nD) (b : Fin 2) (n : Fin 32) (h : Fin 4) (i : Fin 128) : iblk m c 9 (pt b n) (ix3 h i 0) = RetMath.dk h i := by
  refine Eq.trans ?_ (V_dk m c h i)
  show V m c main_v46 _ = V m c main_v46 _
  blk_ext! [idx b n]
theorem blk10 (c : Dev nD) (b : Fin 2) (n : Fin 32) (h : Fin 4) : iblk m c 10 (pt b n) (ix3 h 0 0) = RetMath.dc h := by
  refine Eq.trans ?_ (V_dc m c h)
  show V m c main_v50 _ = V m c main_v50 _
  blk_ext! [idx b n]

/-! ## The state and the output after each point -/

/-- The state before chunk `n` read through the state block's index. -/
noncomputable def stOf (c : Dev nD) (b : Fin 2) (k : ℕ) (hk : k ≤ 32) : S1x4x256x512.Idx → EReal := fun y =>
  RetMath.state (m ((c : Thread nD τ).loc main_arg0)) (m ((c : Thread nD τ).loc main_arg1)) b k hk (y 1) (y 2) (y 3)

/-- A step of the recurrence on the point's blocks. -/
theorem stNext_eq (c : Dev nD) (b : Fin 2) (n : Fin 32) (h : Fin 4) (d : Fin 256) (e : Fin 512) :
    stNext (iblk m c 1 (pt b n)) (iblk m c 2 (pt b n)) (iblk m c 9 (pt b n)) (iblk m c 10 (pt b n)) (stOf m c b n.val n.isLt.le) h d e
      = RetMath.state (m ((c : Thread nD τ).loc main_arg0)) (m ((c : Thread nD τ).loc main_arg1)) b (n.val + 1) n.isLt h d e := by
  simp only [stNext, RetMath.state, blk1, blk2, blk9, blk10]
  rfl

/-- A row of the output on the point's blocks. -/
theorem outRow_eq (c : Dev nD) (b : Fin 2) (n : Fin 32) (h : Fin 4) (i : Fin 128) (e : Fin 512) :
    outRow (iblk m c 0 (pt b n)) (iblk m c 1 (pt b n)) (iblk m c 2 (pt b n)) (iblk m c 3 (pt b n)) (iblk m c 4 (pt b n)) (iblk m c 5 (pt b n))
        (iblk m c 7 (pt b n)) (iblk m c 8 (pt b n)) (stOf m c b n.val n.isLt.le) h i e
      = RetMath.out (m ((c : Thread nD τ).loc main_arg0)) (m ((c : Thread nD τ).loc main_arg1)) (m ((c : Thread nD τ).loc main_arg2))
          (m ((c : Thread nD τ).loc main_arg3)) (m ((c : Thread nD τ).loc main_arg4)) b n i h e := by
  have ho : oRow (iblk m c 0 (pt b n)) (iblk m c 1 (pt b n)) (iblk m c 2 (pt b n)) (iblk m c 7 (pt b n)) (iblk m c 8 (pt b n)) (stOf m c b n.val n.isLt.le) h i
      = RetMath.ret (m ((c : Thread nD τ).loc main_arg0)) (m ((c : Thread nD τ).loc main_arg1)) b n h i := by
    funext x
    simp only [oRow, RetMath.ret, blk0, blk1, blk2, blk7, blk8]
    rfl
  simp only [outRow, RetMath.out, ho, blk3, blk4, blk5]

/-- The state before chunk 0 is the zero array the call is given. -/
theorem first_eq (c : Dev nD) (b : Fin 2) (t : Fin cfg0.N) : k0_pay2 (iblk m c 6 t) = stOf m c b 0 (Nat.zero_le _) := by
  funext y
  idx_vars y
  pointwise [k0_pay2]
  refine (blk6 m c t _).trans ?_
  rfl

theorem pt_mod (b : Fin 2) (n : Fin 32) : (pt b n).val % 32 = n.val := by show (32 * b.val + n.val) % 32 = _; omega

/-- After a point of chunk `n` the state block holds the state before chunk `n + 1`. -/
theorem state_after (c : Dev nD) (b : Fin 2) : ∀ (k : ℕ) (hk : k < 32), (outsAt0 m c (pt b ⟨k, hk⟩).val (pt b ⟨k, hk⟩).isLt).2 = stOf m c b (k + 1) hk
  | 0, hk => by
    funext y
    refine (stateA m c (pt b ⟨0, hk⟩) (pt_mod b ⟨0, hk⟩) y).trans ?_
    rw [first_eq m c b]
    exact stNext_eq m c b ⟨0, hk⟩ _ _ _
  | k + 1, hk => by
    funext y
    refine (stateB m c (pt b ⟨k + 1, hk⟩) (by rw [pt_mod]; exact Nat.succ_ne_zero k) y).trans ?_
    have hp : (outsAt0 m c ((pt b ⟨k + 1, hk⟩).val - 1) (Nat.lt_of_le_of_lt (Nat.sub_le _ _) (pt b ⟨k + 1, hk⟩).isLt)).2 = stOf m c b (k + 1) (Nat.le_of_succ_le hk) :=
      state_after c b k (Nat.lt_of_succ_lt hk)
    rw [hp]
    exact stNext_eq m c b ⟨k + 1, hk⟩ _ _ _

/-- What a point leaves in the output block. -/
theorem out_after (c : Dev nD) (b : Fin 2) (n : Fin 32) (h : Fin 4) (i : Fin 128) (e : Fin 512) :
    (outsAt0 m c (pt b n).val (pt b n).isLt).1 (ix2 i (vcol h e))
      = RetMath.out (m ((c : Thread nD τ).loc main_arg0)) (m ((c : Thread nD τ).loc main_arg1)) (m ((c : Thread nD τ).loc main_arg2))
          (m ((c : Thread nD τ).loc main_arg3)) (m ((c : Thread nD τ).loc main_arg4)) b n i h e := by
  rcases n with ⟨_ | k, hk⟩
  · refine (outA m c (pt b ⟨0, hk⟩) (pt_mod b ⟨0, hk⟩) h i e).trans ?_
    rw [first_eq m c b]
    exact outRow_eq m c b ⟨0, hk⟩ h i e
  · refine (outB m c (pt b ⟨k + 1, hk⟩) (by rw [pt_mod]; exact Nat.succ_ne_zero k) h i e).trans ?_
    have hp : (outsAt0 m c ((pt b ⟨k + 1, hk⟩).val - 1) (Nat.lt_of_le_of_lt (Nat.sub_le _ _) (pt b ⟨k + 1, hk⟩).isLt)).2 = stOf m c b (k + 1) (Nat.le_of_succ_le hk) :=
      state_after m c b k (Nat.lt_of_succ_lt hk)
    rw [hp]
    exact outRow_eq m c b ⟨k + 1, hk⟩ h i e

end Cert.Ret
-- ==== Proof.RetArr.lean ====
module
public import proofs.«01_k».proof.Proof.RetHost
public import proofs.«01_k».proof.Proof.Gen.KernelIdeal.Value
public import Idealize.ShloMosaic.Lib.Pipeline.ValueKit

open Idealize Idealize.ShloMosaic Idealize.ShloMosaic.Pipeline
open Cert.KernelIdeal Cert.KernelIdeal.Gen Idealize.ShloMosaic.TcCoe Idealize.SL.Sem
open Cert.RetMath (kcol vcol row)

@[expose] public section

namespace Cert.Ret

set_option maxRecDepth 16384
variable (m : (ℓ : Loc nD τ sig) → Buf (Elt Ideal) ℓ)

theorem pt_surj : ∀ t : Fin cfg0.N, t.val % 32 = 31 → ∃ (b : Fin 2) (n : Fin 32), t = pt b n ∧ n.val + 1 = 32 :=
  fun t ht => ⟨⟨t.val / 32, by have : t.val < 64 := t.isLt; omega⟩, ⟨t.val % 32, by omega⟩, Fin.ext (by show t.val = 32 * (t.val / 32) + t.val % 32; omega), by show t.val % 32 + 1 = 32; omega⟩

/-- Where the state block of batch entry `b` lies in the array of states. -/
theorem emb12 (b : Fin 2) (n : Fin 32) (y : S1x4x256x512.Idx) : ((win0_12.blk (pt b n)).view.emb y) = ix4 b (y 1) (y 2) (y 3) := by
  blk_ext! [idx b n]

/-- The retention state after all the chunks, as an array. -/
noncomputable def stateFin (c : Dev nD) : S2x4x256x512.Idx → EReal := fun y =>
  RetMath.state (m ((c : Thread nD τ).loc main_arg0)) (m ((c : Thread nD τ).loc main_arg1)) (y 0) 32 le_rfl (y 1) (y 2) (y 3)

theorem stateFin_eq (c : Dev nD) (b : Fin 2) (k : ℕ) (hk : k ≤ 32) (h : k = 32) (y : S1x4x256x512.Idx) :
    stOf m c b k hk y = stateFin m c (ix4 b (y 1) (y 2) (y 3)) := by
  subst h
  rfl

/-- The kernel's second result: the retention state after all the chunks. -/
theorem state_final (c : Dev nD) : (dats m 0 c).arrAt 12 cfg0.N = stateFin m c := by
  refine (dats m 0 c).arrAt_eq_of_covers 12 (stateFin m c) (by decide +kernel) fun t hf y => ?_
  obtain ⟨b, n, rfl, hn⟩ := pt_surj t ((flush0_12 t).mp hf)
  blk_simp
  rw [after0_12]
  exact (congrFun (state_after m c b n.val n.isLt) y).trans ((stateFin_eq m c b _ _ hn y).trans (congrArg (stateFin m c) (emb12 b n y)).symm)

/-- The kernel's first result, at every row and column. -/
theorem out_final (c : Dev nD) (b : Fin 2) (n : Fin 32) (i : Fin 128) (h : Fin 4) (e : Fin 512) :
    ((dats m 0 c).arrAt 11 cfg0.N : FVec Ideal S8192x2048 .bf16) (ix2 (row b n i) (vcol h e))
      = RetMath.out (m ((c : Thread nD τ).loc main_arg0)) (m ((c : Thread nD τ).loc main_arg1)) (m ((c : Thread nD τ).loc main_arg2))
          (m ((c : Thread nD τ).loc main_arg3)) (m ((c : Thread nD τ).loc main_arg4)) b n i h e := by
  have hb := congrFun (Value.blocks11 m c (pt b n) (flush0_11 _)) (ix2 i (vcol h e))
  rw [Value.flushed11] at hb
  have hy : ((win0_11.blk (pt b n)).view.emb (ix2 i (vcol h e)) : S8192x2048.Idx) = ix2 (row b n i) (vcol h e) := by
    unfold row
    blk_ext! [idx b n]
  exact (congrArg ((dats m 0 c).arrAt 11 cfg0.N : FVec Ideal S8192x2048 .bf16) hy).symm.trans (hb.trans (out_after m c b n h i e))

end Cert.Ret
-- ==== Proof.RetRef.lean ====
module
public import proofs.«01_k».proof.Proof.Gen.ReferenceIdeal.Run
public import proofs.«01_k».proof.Proof.RetMath
public import Idealize.ShloMosaic.Lib.Pointwise
public import Idealize.ShloMosaic.Lib.DynamicIndex
public import Idealize.ShloMosaic.Lib.StableHlo.ReadAt
public import Idealize.ShloMosaic.Lib.Claim
public import Idealize.ShloMosaic.Lib.Pipeline.ValueKit

open Idealize Idealize.ShloMosaic
open Cert.ReferenceIdeal Cert.ReferenceIdeal.Gen Cert.ReferenceIdeal.Value Idealize.ShloMosaic.TcCoe Idealize.SL.Sem Idealize.ShloMosaic.StableHlo

@[expose] public section

namespace Cert.RetRef

set_option maxRecDepth 16384

/-- A state after one trip, of the state, the chunk's keys and values and the decays. -/
noncomputable def nextS (S : FVec Ideal S2x4x256x512 .f32) (kc : FVec Ideal S2x128x4x256 .f32) (vc : FVec Ideal S2x128x4x512 .f32)
    (dc : FVec Ideal S4 .f32) (dk : FVec Ideal S128x4 .f32) : FVec Ideal S2x4x256x512 .f32 :=
  addf (mulf S (broadcastInDim S2x4x256x512 ![0, 1, 2, 3] bcast_S1x4x1x1_S2x4x256x512_0_1_2_3 (broadcastInDim S1x4x1x1 ![1] bcast_S4_S1x4x1x1_1 dc)))
    (Host.dotGeneral dot_S2x128x4x256_S2x128x4x512_S2x4x256x512_1_1_3_3_02_02 none (mulf kc (broadcastInDim S2x128x4x256 ![0, 1, 2, 3] bcast_S1x128x4x1_S2x128x4x256_0_1_2_3 (broadcastInDim S1x128x4x1 ![1, 2] bcast_S128x4_S1x128x4x1_1_2 dk))) vc)

theorem nextS_at (S : FVec Ideal S2x4x256x512 .f32) (kc : FVec Ideal S2x128x4x256 .f32) (vc : FVec Ideal S2x128x4x512 .f32)
    (dc : FVec Ideal S4 .f32) (dk : FVec Ideal S128x4 .f32) (b : Fin 2) (h : Fin 4) (d : Fin 256) (e : Fin 512) :
    nextS S kc vc dc dk (ix4 b h d e)
      = S (ix4 b h d e) * dc (ix1 h) + ∑ j : Fin 128, (kc (ix4 b j h d) * dk (ix2 j h)) * vc (ix4 b j h e) := by
  pointwise [nextS]

/-- The retention of a chunk. -/
noncomputable def chunkO (S : FVec Ideal S2x4x256x512 .f32) (qc kc : FVec Ideal S2x128x4x256 .f32) (vc : FVec Ideal S2x128x4x512 .f32)
    (di : FVec Ideal S4x128x128 .f32) (dq : FVec Ideal S128x4 .f32) : FVec Ideal S2x128x4x512 .f32 :=
  addf (transpose S2x128x4x512 [0, 3, 1, 2] (Host.dotGeneral dot_S2x128x4x512_S2x4x128x128_S2x4x512x128_1_3_3_2_02_01 none vc (mulf (Host.dotGeneral dot_S2x128x4x256_S2x128x4x256_S2x4x128x128_3_3_1_1_02_02 none qc kc) (broadcastInDim S2x4x128x128 ![0, 1, 2, 3] bcast_S1x4x128x128_S2x4x128x128_0_1_2_3 (broadcastInDim S1x4x128x128 ![1, 2, 3] bcast_S4x128x128_S1x4x128x128_1_2_3 di)))) transposes_S2x4x512x128_S2x128x4x512_0_3_1_2)
    (mulf (transpose S2x128x4x512 [0, 3, 1, 2] (Host.dotGeneral dot_S2x4x256x512_S2x128x4x256_S2x4x512x128_2_3_3_1_01_02 none S qc) transposes_S2x4x512x128_S2x128x4x512_0_3_1_2) (broadcastInDim S2x128x4x512 ![0, 1, 2, 3] bcast_S1x128x4x1_S2x128x4x512_0_1_2_3 (broadcastInDim S1x128x4x1 ![1, 2] bcast_S128x4_S1x128x4x1_1_2 dq)))

theorem chunkO_at (S : FVec Ideal S2x4x256x512 .f32) (qc kc : FVec Ideal S2x128x4x256 .f32) (vc : FVec Ideal S2x128x4x512 .f32)
    (di : FVec Ideal S4x128x128 .f32) (dq : FVec Ideal S128x4 .f32) (b : Fin 2) (i : Fin 128) (h : Fin 4) (e : Fin 512) :
    chunkO S qc kc vc di dq (ix4 b i h e)
      = (∑ j : Fin 128, ((∑ d : Fin 256, qc (ix4 b i h d) * kc (ix4 b j h d)) * di (ix3 h i j)) * vc (ix4 b j h e))
        + (∑ d : Fin 256, qc (ix4 b i h d) * S (ix4 b h d e)) * dq (ix2 i h) := by
  pointwise [chunkO]
  congr 1
  · exact Finset.sum_congr rfl fun j _ => mul_comm _ _
  · congr 1
    exact Finset.sum_congr rfl fun j _ => mul_comm _ _

/-- The block of a chunked array that a trip reads, its counter being the number `k`. -/
theorem slice4_at {k : Fin 32} (x : FVec Ideal S32x2x128x4x256 .f32) (s : Fin 5 → Int) (hs : ∀ a, s a = ((![k.val, 0, 0, 0, 0] : Fin 5 → ℕ) a : ℤ))
    (b : Fin 2) (i : Fin 128) (h : Fin 4) (d : Fin 256) :
    shapeCast S2x128x4x256 (Host.dynamicSlice S1x2x128x4x256 x s sliceFits_S32x2x128x4x256_S1x2x128x4x256) shapeCasts_S1x2x128x4x256_S2x128x4x256 (ix4 b i h d)
      = x (ix5 k b i h d) := by
  have hk : S32x2x128x4x256.Slices ![k.val, 0, 0, 0, 0] S1x2x128x4x256 := ⟨rfl, fun a => by
    have := k.isLt
    fin_cases a <;> simp <;> omega⟩
  rw [Host.dynamicSlice_eq_extractStridedSlice _ x s ![k.val, 0, 0, 0, 0] _ hk hs]
  pointwise

theorem slice5_at {k : Fin 32} (x : FVec Ideal S32x2x128x4x512 .f32) (s : Fin 5 → Int) (hs : ∀ a, s a = ((![k.val, 0, 0, 0, 0] : Fin 5 → ℕ) a : ℤ))
    (b : Fin 2) (i : Fin 128) (h : Fin 4) (d : Fin 512) :
    shapeCast S2x128x4x512 (Host.dynamicSlice S1x2x128x4x512 x s sliceFits_S32x2x128x4x512_S1x2x128x4x512) shapeCasts_S1x2x128x4x512_S2x128x4x512 (ix4 b i h d)
      = x (ix5 k b i h d) := by
  have hk : S32x2x128x4x512.Slices ![k.val, 0, 0, 0, 0] S1x2x128x4x512 := ⟨rfl, fun a => by
    have := k.isLt
    fin_cases a <;> simp <;> omega⟩
  rw [Host.dynamicSlice_eq_extractStridedSlice _ x s ![k.val, 0, 0, 0, 0] _ hk hs]
  pointwise

theorem update_at {k : Fin 32} (x : FVec Ideal S32x2x128x4x512 .f32) (u : FVec Ideal S2x128x4x512 .f32) (s : Fin 5 → Int) (hs : ∀ a, s a = ((![k.val, 0, 0, 0, 0] : Fin 5 → ℕ) a : ℤ))
    (n : Fin 32) (b : Fin 2) (i : Fin 128) (h : Fin 4) (d : Fin 512) :
    Host.dynamicUpdateSlice x (broadcastInDim S1x2x128x4x512 ![1, 2, 3, 4] bcast_S2x128x4x512_S1x2x128x4x512_1_2_3_4 u) s updateFits_S32x2x128x4x512_S1x2x128x4x512 (ix5 n b i h d)
      = if n = k then u (ix4 b i h d) else x (ix5 n b i h d) := by
  have hk : S32x2x128x4x512.Slices ![k.val, 0, 0, 0, 0] S1x2x128x4x512 := ⟨rfl, fun a => by
    have := k.isLt
    fin_cases a <;> simp <;> omega⟩
  refine (congrFun (Host.dynamicUpdateSlice_eq_updateSlice x (broadcastInDim S1x2x128x4x512 ![1, 2, 3, 4] bcast_S2x128x4x512_S1x2x128x4x512_1_2_3_4 u) s
    updateFits_S32x2x128x4x512_S1x2x128x4x512 ![k.val, 0, 0, 0, 0] (fun a => by
    rw [show s a = _ from hs a]
    have := k.isLt
    fin_cases a <;> simp <;> omega) hk) _).trans ?_
  pointwise
  by_cases hn : n = k
  · subst hn
    rw [if_pos rfl, dif_pos ⟨le_rfl, Nat.lt_succ_self _⟩]
  · rw [if_neg hn, dif_neg fun hh => hn (Fin.ext (by omega))]

theorem starts_at (k : Fin 32) {x : IVec S_ 32} (hk : x = fun _ => Scf.iv 0#32 1#32 k.val) (a : Fin 5) :
    (BitVec.toInt ((![x, constantI S_ 32 0#32, constantI S_ 32 0#32, constantI S_ 32 0#32, constantI S_ 32 0#32] : Fin 5 → IVec S_ 32) a (Shape.Idx.first h_S_))
      = ((![k.val, 0, 0, 0, 0] : Fin 5 → ℕ) a : ℤ)) := by
  subst hk
  revert k
  fin_cases a
  · decide
  all_goals exact fun _ => rfl

theorem qchunks_at (x : FVec Ideal S8192x2048 .bf16) (n : Fin 32) (b : Fin 2) (i : Fin 128) (h : Fin 4) (d : Fin 256) :
    transpose S32x2x128x4x256 [1, 0, 2, 3, 4] (shapeCast S2x32x128x4x256 (shapeCast S2x4096x4x256 (extf FTy.f32 (extractStridedSlice S8192x1024 ![0, 0] x
      slices_S8192x2048_S8192x1024_0_0) bitsLt_bf16_f32) shapeCasts_S8192x1024_S2x4096x4x256) shapeCasts_S2x4096x4x256_S2x32x128x4x256)
      transposes_S2x32x128x4x256_S32x2x128x4x256_1_0_2_3_4 (ix5 n b i h d) = RetMath.qAt x b n h i d := by
  pointwise
  refine congrArg x ?_
  unfold RetMath.row
  blk_ext []
theorem kchunks_at (x : FVec Ideal S8192x2048 .bf16) (n : Fin 32) (b : Fin 2) (i : Fin 128) (h : Fin 4) (d : Fin 256) :
    transpose S32x2x128x4x256 [1, 0, 2, 3, 4] (shapeCast S2x32x128x4x256 (shapeCast S2x4096x4x256 (extf FTy.f32 (extractStridedSlice S8192x1024 ![0, 1024] x
      slices_S8192x2048_S8192x1024_0_1024) bitsLt_bf16_f32) shapeCasts_S8192x1024_S2x4096x4x256) shapeCasts_S2x4096x4x256_S2x32x128x4x256)
      transposes_S2x32x128x4x256_S32x2x128x4x256_1_0_2_3_4 (ix5 n b i h d) = RetMath.kAt x b n h i d := by
  pointwise
  refine congrArg x ?_
  unfold RetMath.row
  blk_ext []
theorem vchunks_at (x : FVec Ideal S8192x2048 .bf16) (n : Fin 32) (b : Fin 2) (i : Fin 128) (h : Fin 4) (d : Fin 512) :
    transpose S32x2x128x4x512 [1, 0, 2, 3, 4] (shapeCast S2x32x128x4x512 (shapeCast S2x4096x4x512 (extf FTy.f32 x bitsLt_bf16_f32)
      shapeCasts_S8192x2048_S2x4096x4x512) shapeCasts_S2x4096x4x512_S2x32x128x4x512)
      transposes_S2x32x128x4x512_S32x2x128x4x512_1_0_2_3_4 (ix5 n b i h d) = RetMath.vAt x b n h i d := by
  pointwise
  refine congrArg x ?_
  unfold RetMath.row RetMath.vcol
  blk_ext []

/-- The chunked output as rows of positions. -/
noncomputable def rows (o : FVec Ideal S32x2x128x4x512 .f32) : FVec Ideal S2x4096x4x512 .f32 :=
  shapeCast _ (transpose S2x32x128x4x512 [1, 0, 2, 3, 4] o transposes_S32x2x128x4x512_S2x32x128x4x512_1_0_2_3_4) shapeCasts_S2x32x128x4x512_S2x4096x4x512

theorem rows_at (o : FVec Ideal S32x2x128x4x512 .f32) (b : Fin 2) (n : Fin 32) (i : Fin 128) (h : Fin 4) (e : Fin 512) :
    rows o (ix4 b ⟨128 * n.val + i.val, by omega⟩ h e) = o (ix5 n b i h e) := by
  pointwise [rows]

/-- The rows less their means. -/
noncomputable def centred (o : FVec Ideal S32x2x128x4x512 .f32) : FVec Ideal S2x4096x4x512 .f32 :=
  subf (rows o) (broadcastInDim S2x4096x4x512 ![0, 1, 2, 3] bcast_S2x4096x4x1_S2x4096x4x512_0_1_2_3 (Host.divf (broadcastInDim S2x4096x4x1 ![0, 1, 2] bcast_S2x4096x4_S2x4096x4x1_0_1_2 (Host.reduceAdd (rows o) (constant S_ .f32 0x00000000#32) reducesTo_S2x4096x4x512_S2x4096x4_d3 h_S_)) (broadcastInDim S2x4096x4x1 ![] bcast_S_S2x4096x4x1 (constant S_ .f32 0x44000000#32))))

theorem centred_at (o : FVec Ideal S32x2x128x4x512 .f32) (b : Fin 2) (l : Fin 4096) (h : Fin 4) (e : Fin 512) :
    centred o (ix4 b l h e) = rows o (ix4 b l h e) - RetMath.muRow (fun x => rows o (ix4 b l h x)) := by
  pointwise [centred]
  rfl

/-- The rows normalised. -/
noncomputable def normed (o : FVec Ideal S32x2x128x4x512 .f32) : FVec Ideal S2x4096x4x512 .f32 :=
  mulf (centred o) (broadcastInDim S2x4096x4x512 ![0, 1, 2, 3] bcast_S2x4096x4x1_S2x4096x4x512_0_1_2_3 (Host.rsqrt (addf (Host.divf (broadcastInDim S2x4096x4x1 ![0, 1, 2] bcast_S2x4096x4_S2x4096x4x1_0_1_2 (Host.reduceAdd (mulf (centred o) (centred o)) (constant S_ .f32 0x00000000#32) reducesTo_S2x4096x4x512_S2x4096x4_d3 h_S_)) (broadcastInDim S2x4096x4x1 ![] bcast_S_S2x4096x4x1 (constant S_ .f32 0x44000000#32))) (broadcastInDim S2x4096x4x1 ![] bcast_S_S2x4096x4x1 (constant S_ .f32 0x358637BD#32)))))

theorem normed_at (o : FVec Ideal S32x2x128x4x512 .f32) (b : Fin 2) (l : Fin 4096) (h : Fin 4) (e : Fin 512) :
    normed o (ix4 b l h e) = RetMath.gnRow (fun x => rows o (ix4 b l h x)) e := by
  pointwise [normed]
  simp only [centred_at]
  rfl

/-- The gated, normalised rows: what the operations after the loop make. -/
noncomputable def tail (o : FVec Ideal S32x2x128x4x512 .f32) (g : FVec Ideal S8192x6144 .bf16) (gw gb : FVec Ideal S2048 .f32) : FVec Ideal S8192x2048 .bf16 :=
  truncf .bf16 (shapeCast _ (mulf (shapeCast _ (extf .f32 (extractStridedSlice S8192x2048 ![0, 0] g slices_S8192x6144_S8192x2048_0_0) bitsLt_bf16_f32) shapeCasts_S8192x2048_S2x4096x2048) (addf (mulf (shapeCast _ (normed o) shapeCasts_S2x4096x4x512_S2x4096x2048) (broadcastInDim S2x4096x2048 ![0, 1, 2] bcast_S1x1x2048_S2x4096x2048_0_1_2 (broadcastInDim S1x1x2048 ![2] bcast_S2048_S1x1x2048_2 gw))) (broadcastInDim S2x4096x2048 ![0, 1, 2] bcast_S1x1x2048_S2x4096x2048_0_1_2 (broadcastInDim S1x1x2048 ![2] bcast_S2048_S1x1x2048_2 gb)))) shapeCasts_S2x4096x2048_S8192x2048) bitsLt_bf16_f32

theorem tail_at (o : FVec Ideal S32x2x128x4x512 .f32) (g : FVec Ideal S8192x6144 .bf16) (gw gb : FVec Ideal S2048 .f32)
    (b : Fin 2) (l : Fin 4096) (h : Fin 4) (e : Fin 512) :
    tail o g gw gb (ix2 ⟨4096 * b.val + l.val, by omega⟩ (RetMath.vcol h e)) = g (ix2 ⟨4096 * b.val + l.val, by omega⟩ ⟨512 * h.val + e.val, by omega⟩)
      * (normed o (ix4 b l h e) * gw (ix1 (RetMath.vcol h e)) + gb (ix1 (RetMath.vcol h e))) := by
  pointwise [tail, RetMath.vcol]
  congr 2
  blk_ext []

theorem tail_row (o : FVec Ideal S32x2x128x4x512 .f32) (g : FVec Ideal S8192x6144 .bf16) (gw gb : FVec Ideal S2048 .f32)
    (b : Fin 2) (n : Fin 32) (i : Fin 128) (h : Fin 4) (e : Fin 512) :
    tail o g gw gb (ix2 (RetMath.row b n i) (RetMath.vcol h e)) = g (ix2 (RetMath.row b n i) ⟨512 * h.val + e.val, by omega⟩)
      * (RetMath.gnRow (fun x => o (ix5 n b i h x)) e * gw (ix1 (RetMath.vcol h e)) + gb (ix1 (RetMath.vcol h e))) := by
  rw [show RetMath.row b n i = ⟨4096 * b.val + (⟨128 * n.val + i.val, by omega⟩ : Fin 4096).val, by show _ < 8192; omega⟩ from Fin.ext (by simp [RetMath.row]; omega)]
  rw [tail_at, normed_at]
  simp only [rows_at]

theorem out_eq (V0 : Valuation τ sig (Elt Ideal)) : out_main_v94 V0 = tail (V0 (Proc.devRef .tc main_v61_9)) (V0 (Proc.devRef .tc main_arg2))
    (V0 (Proc.devRef .tc main_arg3)) (V0 (Proc.devRef .tc main_arg4)) := rfl

variable (m : (ℓ : Loc nD τ sig) → Buf (Elt Ideal) ℓ)

theorem e0 (c : Dev nD) (n : Fin 32) (b : Fin 2) (i : Fin 128) (h : Fin 4) (d : Fin 256) :
    (entryContents preI m c (Proc.devRef .tc main_v61_0) : FVec Ideal S32x2x128x4x256 .f32) (ix5 n b i h d)
      = RetMath.qAt (m ((c : Thread nD τ).loc main_arg0)) b n h i d := by
  simp only [entryContents, afterL_cons, afterL_nil]
  after_reads_simp
  exact qchunks_at (m ((c : Thread nD τ).loc main_arg0)) n b i h d
theorem e1 (c : Dev nD) (n : Fin 32) (b : Fin 2) (i : Fin 128) (h : Fin 4) (d : Fin 256) :
    (entryContents preI m c (Proc.devRef .tc main_v61_1) : FVec Ideal S32x2x128x4x256 .f32) (ix5 n b i h d)
      = RetMath.kAt (m ((c : Thread nD τ).loc main_arg0)) b n h i d := by
  simp only [entryContents, afterL_cons, afterL_nil]
  after_reads_simp
  exact kchunks_at (m ((c : Thread nD τ).loc main_arg0)) n b i h d
theorem e2 (c : Dev nD) (n : Fin 32) (b : Fin 2) (i : Fin 128) (h : Fin 4) (d : Fin 512) :
    (entryContents preI m c (Proc.devRef .tc main_v61_2) : FVec Ideal S32x2x128x4x512 .f32) (ix5 n b i h d)
      = RetMath.vAt (m ((c : Thread nD τ).loc main_arg1)) b n h i d := by
  simp only [entryContents, afterL_cons, afterL_nil]
  after_reads_simp
  exact vchunks_at (m ((c : Thread nD τ).loc main_arg1)) n b i h d
theorem e3 (c : Dev nD) (h : Fin 4) (i j : Fin 128) :
    (entryContents preI m c (Proc.devRef .tc main_v61_3) : FVec Ideal S4x128x128 .f32) (ix3 h i j) = RetMath.din h i j := by
  simp only [entryContents, afterL_cons, afterL_nil]
  after_reads_simp
  simp only [id_eq, cast_eq]
  clean_types
  pointwise
  rfl
theorem e4 (c : Dev nD) (h : Fin 4) (i : Fin 128) :
    (entryContents preI m c (Proc.devRef .tc main_v61_4) : FVec Ideal S128x4 .f32) (ix2 i h) = RetMath.dq h i := by
  simp only [entryContents, afterL_cons, afterL_nil]
  after_reads_simp
  simp only [id_eq, cast_eq]
  clean_types
  pointwise
  rfl
theorem e5 (c : Dev nD) (h : Fin 4) :
    (entryContents preI m c (Proc.devRef .tc main_v61_5) : FVec Ideal S4 .f32) (ix1 h) = RetMath.dc h := by
  simp only [entryContents, afterL_cons, afterL_nil]
  after_reads_simp
  simp only [id_eq, cast_eq]
  clean_types
  pointwise
  rfl
theorem e6 (c : Dev nD) (h : Fin 4) (i : Fin 128) :
    (entryContents preI m c (Proc.devRef .tc main_v61_6) : FVec Ideal S128x4 .f32) (ix2 i h) = RetMath.dk h i := by
  simp only [entryContents, afterL_cons, afterL_nil]
  after_reads_simp
  simp only [id_eq, cast_eq]
  clean_types
  pointwise
  rfl
theorem e8 (c : Dev nD) (y) :
    (entryContents preI m c (Proc.devRef .tc main_v61_8) : FVec Ideal S2x4x256x512 .f32) y = (0 : EReal) := by
  simp only [entryContents, afterL_cons, afterL_nil]
  after_reads_simp
  simp only [id_eq, cast_eq]
  clean_types
  pointwise
theorem s8 (V0 : Valuation τ sig (Elt Ideal)) : step_main_v61_8 V0 = nextS (V0 (Proc.devRef .tc main_v61_8)) (res_main_while0b_v96 V0) (res_main_while0b_v97 V0)
    (V0 (Proc.devRef .tc main_v61_5)) (V0 (Proc.devRef .tc main_v61_6)) := rfl
theorem r95 (V0 : Valuation τ sig (Elt Ideal)) (k : Fin 32) (hk : V0 (Proc.devRef .tc main_v61_7) = fun _ => Scf.iv 0#32 1#32 k.val)
    (b : Fin 2) (i : Fin 128) (h : Fin 4) (d : Fin 256) : (res_main_while0b_v95 V0 : FVec Ideal S2x128x4x256 .f32) (ix4 b i h d) = (V0 (Proc.devRef .tc main_v61_0) : FVec Ideal S32x2x128x4x256 .f32) (ix5 k b i h d) := by
  refine slice4_at (k := k) _ _ (fun a => ?_) b i h d
  exact starts_at k hk a
theorem r9 (V0 : Valuation τ sig (Elt Ideal)) (k : Fin 32) (hk : V0 (Proc.devRef .tc main_v61_7) = fun _ => Scf.iv 0#32 1#32 k.val)
    (n : Fin 32) (b : Fin 2) (i : Fin 128) (h : Fin 4) (d : Fin 512) : (step_main_v61_9 V0 : FVec Ideal S32x2x128x4x512 .f32) (ix5 n b i h d) =
     if n = k then chunkO (V0 (Proc.devRef .tc main_v61_8)) (res_main_while0b_v95 V0) (res_main_while0b_v96 V0) (res_main_while0b_v97 V0)
       (V0 (Proc.devRef .tc main_v61_3)) (V0 (Proc.devRef .tc main_v61_4)) (ix4 b i h d) else (V0 (Proc.devRef .tc main_v61_9) : FVec Ideal S32x2x128x4x512 .f32) (ix5 n b i h d) := by
  refine update_at (k := k) _ _ _ (fun a => ?_) n b i h d
  exact starts_at k hk a
theorem r96 (V0 : Valuation τ sig (Elt Ideal)) (k : Fin 32) (hk : V0 (Proc.devRef .tc main_v61_7) = fun _ => Scf.iv 0#32 1#32 k.val)
    (b : Fin 2) (i : Fin 128) (h : Fin 4) (d : Fin 256) : (res_main_while0b_v96 V0 : FVec Ideal S2x128x4x256 .f32) (ix4 b i h d) = (V0 (Proc.devRef .tc main_v61_1) : FVec Ideal S32x2x128x4x256 .f32) (ix5 k b i h d) := by
  refine slice4_at (k := k) _ _ (fun a => ?_) b i h d
  exact starts_at k hk a
theorem r97 (V0 : Valuation τ sig (Elt Ideal)) (k : Fin 32) (hk : V0 (Proc.devRef .tc main_v61_7) = fun _ => Scf.iv 0#32 1#32 k.val)
    (b : Fin 2) (i : Fin 128) (h : Fin 4) (d : Fin 512) : (res_main_while0b_v97 V0 : FVec Ideal S2x128x4x512 .f32) (ix4 b i h d) = (V0 (Proc.devRef .tc main_v61_2) : FVec Ideal S32x2x128x4x512 .f32) (ix5 k b i h d) := by
  refine slice5_at (k := k) _ _ (fun a => ?_) b i h d
  exact starts_at k hk a

/-- The buffers before trip `k`. -/
noncomputable def atT (c : Dev nD) (k : ℕ) : Valuation τ sig (Elt Ideal) := STEP^[k] (entryContents preI m c)

theorem atT_succ (c : Dev nD) (k : ℕ) : atT m c (k + 1) = STEP (atT m c k) := Function.iterate_succ_apply' _ _ _

theorem ctr (c : Dev nD) (k : ℕ) : atT m c k (Proc.devRef .tc main_v61_7) = fun _ => Scf.iv 0#32 1#32 k := by
  rw [← atK_ctr m c k]
  exact (atK_agree m c k _ (by simp)).symm

theorem stays {β : DevRef τ sig} (hβ : ∀ V0 : Valuation τ sig (Elt Ideal), STEP V0 β = V0 β) (c : Dev nD) :
    ∀ k, atT m c k β = entryContents preI m c β
  | 0 => rfl
  | k + 1 => by rw [atT_succ, hβ]; exact stays hβ c k

/-- The carried state before trip `k` is the retention state before chunk `k`. -/
theorem state_at (c : Dev nD) : ∀ (k : ℕ) (hk : k ≤ 32) (b : Fin 2) (h : Fin 4) (d : Fin 256) (e : Fin 512),
    (atT m c k (Proc.devRef .tc main_v61_8) : FVec Ideal S2x4x256x512 .f32) (ix4 b h d e)
      = RetMath.state (m ((c : Thread nD τ).loc main_arg0)) (m ((c : Thread nD τ).loc main_arg1)) b k hk h d e
  | 0, _, b, h, d, e => e8 m c _
  | k + 1, hk, b, h, d, e => by
    rw [atT_succ, STEP_main_v61_8, s8]
    refine (nextS_at _ _ _ _ _ b h d e).trans ?_
    have hc := ctr m c k
    rw [state_at c k (Nat.le_of_succ_le hk) b h d e, stays m STEP_main_v61_5 c k, stays m STEP_main_v61_6 c k, e5]
    simp only [RetMath.state]
    refine congrArg _ (Finset.sum_congr rfl fun j _ => ?_)
    rw [r96 _ ⟨k, hk⟩ hc, r97 _ ⟨k, hk⟩ hc, stays m STEP_main_v61_1 c k, stays m STEP_main_v61_2 c k, e1, e2, e6]

/-- What the carried output holds of the chunks before trip `k`. -/
theorem o_at (c : Dev nD) : ∀ (k : ℕ) (hk : k ≤ 32) (n : Fin 32) (hn : n.val < k) (b : Fin 2) (i : Fin 128) (h : Fin 4) (e : Fin 512),
    (atT m c k (Proc.devRef .tc main_v61_9) : FVec Ideal S32x2x128x4x512 .f32) (ix5 n b i h e)
      = RetMath.ret (m ((c : Thread nD τ).loc main_arg0)) (m ((c : Thread nD τ).loc main_arg1)) b n h i e
  | 0, _, _, hn, _, _, _, _ => absurd hn (Nat.not_lt_zero _)
  | k + 1, hk, n, hn, b, i, h, e => by
    have hc := ctr m c k
    rw [atT_succ, STEP_main_v61_9, r9 _ ⟨k, hk⟩ hc]
    by_cases hnk : n = ⟨k, hk⟩
    · subst hnk
      rw [if_pos rfl]
      refine (chunkO_at _ _ _ _ _ _ b i h e).trans ?_
      rw [stays m STEP_main_v61_3 c k, stays m STEP_main_v61_4 c k, e4]
      unfold RetMath.ret
      congr 1
      · refine Finset.sum_congr rfl fun j _ => ?_
        rw [r97 _ ⟨k, hk⟩ hc, stays m STEP_main_v61_2 c k, e2, e3]
        congr 2
        refine Finset.sum_congr rfl fun d _ => ?_
        rw [r95 _ ⟨k, hk⟩ hc, r96 _ ⟨k, hk⟩ hc, stays m STEP_main_v61_0 c k, stays m STEP_main_v61_1 c k, e0, e1]
      · congr 1
        refine Finset.sum_congr rfl fun d _ => ?_
        rw [r95 _ ⟨k, hk⟩ hc, stays m STEP_main_v61_0 c k, e0, state_at m c k (Nat.le_of_succ_le hk)]
    · rw [if_neg hnk]
      exact o_at c k (Nat.le_of_succ_le hk) n (lt_of_le_of_ne (Nat.le_of_lt_succ hn) fun hh => hnk (Fin.ext hh)) b i h e

/-- The reference's first result, at every row and column. -/
theorem out_at (c : Dev nD) (b : Fin 2) (n : Fin 32) (i : Fin 128) (h : Fin 4) (e : Fin 512) :
    (out_main_v94 (atT m c 32) : FVec Ideal S8192x2048 .bf16) (ix2 (RetMath.row b n i) (RetMath.vcol h e))
      = RetMath.out (m ((c : Thread nD τ).loc main_arg0)) (m ((c : Thread nD τ).loc main_arg1)) (m ((c : Thread nD τ).loc main_arg2))
          (m ((c : Thread nD τ).loc main_arg3)) (m ((c : Thread nD τ).loc main_arg4)) b n i h e := by
  have ho : (fun x => (atT m c 32 (Proc.devRef .tc main_v61_9) : FVec Ideal S32x2x128x4x512 .f32) (ix5 n b i h x))
      = RetMath.ret (m ((c : Thread nD τ).loc main_arg0)) (m ((c : Thread nD τ).loc main_arg1)) b n h i :=
    funext fun x => o_at m c 32 le_rfl n n.isLt b i h x
  rw [out_eq, show atT m c 32 (Proc.devRef .tc main_arg2) = _ from iter_main_arg2 m c 32,
    show atT m c 32 (Proc.devRef .tc main_arg3) = _ from iter_main_arg3 m c 32, show atT m c 32 (Proc.devRef .tc main_arg4) = _ from iter_main_arg4 m c 32]
  refine (tail_row _ _ _ _ b n i h e).trans ?_
  rw [ho]
  rfl

end Cert.RetRef
-- ==== Proof.Ret.lean ====
/- The retention call: the reference's frame, and the equation of the kernel's results with the reference's. -/
module
public import proofs.«01_k».proof.Defs
public import proofs.«01_k».proof.Proof.Gen.KernelIdeal
public import proofs.«01_k».proof.Proof.Gen.ReferenceIdeal
public import proofs.«01_k».proof.Proof.RetArr
public import proofs.«01_k».proof.Proof.RetRef

open Idealize Idealize.ShloMosaic Idealize.SL.Sem

@[expose] public section

namespace Cert.Ret

set_option maxRecDepth 16384

/-- Every row and column of the output is a position of a chunk of a batch entry, and a column of a head. -/
theorem idx_out (y : Shape.Idx ⟨2, ![8192, 2048]⟩) : ∃ (b : Fin 2) (n : Fin 32) (i : Fin 128) (h : Fin 4) (e : Fin 512),
    y = ix2 (RetMath.row b n i) (RetMath.vcol h e) := by
  idx_vars y
  refine ⟨⟨y0.val / 4096, by omega⟩, ⟨y0.val / 128 % 32, by omega⟩, ⟨y0.val % 128, by omega⟩, ⟨y1.val / 512, by omega⟩, ⟨y1.val % 512, by omega⟩, ?_⟩
  congr 1
  · apply Fin.ext
    simp only [RetMath.row]
    omega
  · apply Fin.ext
    simp only [RetMath.vcol]
    omega

theorem ext_out {f g : Shape.Idx ⟨2, ![8192, 2048]⟩ → EReal} (hfg : ∀ b n i h e, f (ix2 (RetMath.row b n i) (RetMath.vcol h e)) = g (ix2 (RetMath.row b n i) (RetMath.vcol h e))) : f = g := by
  funext y
  obtain ⟨b, n, i, h, e, rfl⟩ := idx_out y
  exact hfg b n i h e

theorem ext_state {f g : Shape.Idx ⟨4, ![2, 4, 256, 512]⟩ → EReal} (hfg : ∀ b h d e, f (ix4 b h d e) = g (ix4 b h d e)) : f = g := by
  funext y
  idx_vars y
  exact hfg _ _ _ _

/-- The reference runs and leaves its arguments. -/
theorem ref_frame [hReferenceIdeal : Cert.ReferenceIdeal.Facts] : Cert.quiescent_ReferenceIdeal := fun m g _ =>
  (θ_run Cert.ReferenceIdeal.defs _ _).mono (fun r h => ⟨fun c => (h c).2.2, Idealize.ShloMosaic.sem_eq_zero_of_no_sems (by decide) r.2⟩)
    (ReferenceIdeal.Value.run m g)

/-- The kernel's results and the reference's are the same arrays. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => (KernelIdeal.Gen.dats m 0 c).arrAt 11 KernelIdeal.cfg0.N, fun c => (KernelIdeal.Gen.dats m 0 c).arrAt 12 KernelIdeal.cfg0.N, KernelIdeal.Value.run_blocks m g, ?_⟩
  refine (θ_run _ _ _).mono (fun r h c => ?_) (ReferenceIdeal.Value.run m' g')
  obtain ⟨h0, h1, h2⟩ := h c
  obtain ⟨a0, a1, a2, a3, a4⟩ := hargs c
  refine ⟨h0.trans ?_, h1.trans ?_, h2⟩
  · refine ext_out fun b n i hh e => (RetRef.out_at m' c b n i hh e).trans ?_
    rw [a0, a1, a2, a3, a4]
    exact (out_final m c b n i hh e).symm
  · refine (ext_state fun b hh d e => ?_).trans (state_final m c).symm
    refine (RetRef.state_at m' c 32 le_rfl b hh d e).trans ?_
    rw [a0, a1]
    rfl

end Cert.Ret
-- ==== Proof.Up.lean ====
/- The MLP's first product: rows of `h2` times columns of `w_up`, its positive part squared. -/
module
public import proofs.«01_k».proof.Defs
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.KernelUpIdeal.Value
public import proofs.«01_k».proof.Proof.Gen.ReferenceUpIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Up

set_option maxRecDepth 16384

section
open Cert.KernelUpIdeal Cert.KernelUpIdeal.Gen
variable (m : (ℓ : Loc nD τ sig) → Buf (Elt Ideal) ℓ)

/-- The positive part of a number, squared. -/
noncomputable def act (a : EReal) : EReal := max a (Ideal.ofBits FTy.f32 0x00000000#32) * max a (Ideal.ofBits FTy.f32 0x00000000#32)

/-- Row `i` of `h` times column `j` of `w`, its positive part squared. -/
noncomputable def val (h : FVec Ideal S8192x2048 .bf16) (w : FVec Ideal S2048x8192 .f32) (i j : Fin 8192) : EReal :=
  act (∑ k : Fin 2048, h (ix2 i k) * w (ix2 k j))

noncomputable def arr (h : FVec Ideal S8192x2048 .bf16) (w : FVec Ideal S2048x8192 .f32) : S8192x8192.Idx → EReal :=
  fun y => val h w (y 0) (y 1)

theorem V_w (c : Dev nD) (i : Fin 2048) (j : Fin 8192) : V m c main_v0 (ix2 i j) = m ((c : Thread nD τ).loc main_arg1) (ix2 i j) := by
  unfold V
  after_reads_at
theorem V_h (c : Dev nD) : V m c main_arg0 = m ((c : Thread nD τ).loc main_arg0) := by
  unfold V
  after_reads_simp

/-- The grid point of tile `i` of the rows and tile `j` of the columns. -/
def pt (i j : Fin 8) : Fin cfg0.N := ⟨8 * i.val + j.val, by show _ < 64; omega⟩
theorem pt_surj : ∀ t : Fin cfg0.N, ∃ i j : Fin 8, t = pt i j :=
  fun t => ⟨⟨t.val / 8, by have : t.val < 64 := t.isLt; omega⟩, ⟨t.val % 8, by omega⟩, Fin.ext (by show t.val = 8 * (t.val / 8) + t.val % 8; omega)⟩
theorem idx : ∀ i j : Fin 8, win0_0.index (pt i j) = ![i.val, 0] ∧ win0_1.index (pt i j) = ![0, j.val] ∧ win0_2.index (pt i j) = ![i.val, j.val] := by
  decide +kernel

theorem blk0 (c : Dev nD) (i j : Fin 8) (a : Fin 1024) (k : Fin 2048) :
    iblk m c 0 (pt i j) (ix2 a k) = m ((c : Thread nD τ).loc main_arg0) (ix2 ⟨1024 * i.val + a.val, by omega⟩ k) := by
  show V m c main_arg0 _ = _
  rw [V_h]
  congr 1
  blk_ext! [idx i j]
theorem blk1 (c : Dev nD) (i j : Fin 8) (k : Fin 2048) (b : Fin 1024) :
    iblk m c 1 (pt i j) (ix2 k b) = m ((c : Thread nD τ).loc main_arg1) (ix2 k ⟨1024 * j.val + b.val, by omega⟩) := by
  refine Eq.trans ?_ (V_w m c k ⟨1024 * j.val + b.val, by omega⟩)
  show V m c main_v0 _ = _
  congr 1
  blk_ext! [idx i j]

theorem out_at (x0 : Vec Ideal S1024x2048 .bf16) (x1 : Vec Ideal S2048x1024 .bf16) (a b : Fin 1024) :
    out0_2 x0 x1 (ix2 a b) = act (∑ k : Fin 2048, x0 (ix2 a k) * x1 (ix2 k b)) := by
  frame_out
  pointwise [k0_pay1, act]

theorem emb (i j : Fin 8) (y : S1024x1024.Idx) : (win0_2.blk (pt i j)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j]

/-- The kernel's result array. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S1024x1024.Idx) => ?_
  obtain ⟨i, j, rfl⟩ := pt_surj t
  blk_simp
  rw [after0_2]
  refine Eq.trans ?_ (congrArg (arr (m ((c : Thread nD τ).loc main_arg0)) (m ((c : Thread nD τ).loc main_arg1))) (emb i j y)).symm
  idx_vars y
  refine (out_at _ _ y0 y1).trans ?_
  simp only [blk0, blk1]
  rfl

end

section
open Idealize.ShloMosaic.StableHlo Cert.ReferenceUpIdeal Cert.ReferenceUpIdeal.Gen

theorem ref_at (h : FVec Ideal S8192x2048 .bf16) (w : FVec Ideal S2048x8192 .f32) (i j : Fin 8192) :
    (truncf .bf16 (mulf (maximumf (Host.dotGeneral dot_S8192x2048_S2048x8192_S8192x8192_1_0_0_1_n_n none (extf .f32 h bitsLt_bf16_f32) w) (broadcastInDim S8192x8192 ![] bcast_S_S8192x8192 (constant S_ .f32 0x00000000#32)))
      (maximumf (Host.dotGeneral dot_S8192x2048_S2048x8192_S8192x8192_1_0_0_1_n_n none (extf .f32 h bitsLt_bf16_f32) w) (broadcastInDim S8192x8192 ![] bcast_S_S8192x8192 (constant S_ .f32 0x00000000#32)))) bitsLt_bf16_f32
      : FVec Ideal S8192x8192 .bf16) (ix2 i j) = val h w i j := by
  pointwise [val, act]

/-- The reference's result array. -/
theorem ref_arr (h : FVec Ideal S8192x2048 .bf16) (w : FVec Ideal S2048x8192 .f32) :
    (truncf .bf16 (mulf (maximumf (Host.dotGeneral dot_S8192x2048_S2048x8192_S8192x8192_1_0_0_1_n_n none (extf .f32 h bitsLt_bf16_f32) w) (broadcastInDim S8192x8192 ![] bcast_S_S8192x8192 (constant S_ .f32 0x00000000#32)))
      (maximumf (Host.dotGeneral dot_S8192x2048_S2048x8192_S8192x8192_1_0_0_1_n_n none (extf .f32 h bitsLt_bf16_f32) w) (broadcastInDim S8192x8192 ![] bcast_S_S8192x8192 (constant S_ .f32 0x00000000#32)))) bitsLt_bf16_f32
      : FVec Ideal S8192x8192 .bf16) = arr h w := by
  funext y
  idx_vars y
  exact ref_at h w y0 y1
end

/-- The reference runs and leaves its arguments. -/
theorem ref_frame [hReferenceUpIdeal : Cert.ReferenceUpIdeal.Facts] : Cert.quiescent_ReferenceUpIdeal := fun m g _ =>
  (θ_run Cert.ReferenceUpIdeal.defs _ _).mono (fun r h => ⟨fun c => (h c).2, Idealize.ShloMosaic.sem_eq_zero_of_no_sems (by decide) r.2⟩)
    (ReferenceUpIdeal.Value.run m g)

/-- The kernel's result and the reference's are the same array. -/
theorem algebraic : Cert.algebraic_KernelUpIdeal_ReferenceUpIdeal (hKernelUpIdeal := Cert.KernelUpIdeal.Gen.facts) (hReferenceUpIdeal := Cert.ReferenceUpIdeal.Gen.facts) := by
  intro m g m' g' _ hargs
  refine ⟨fun c => (KernelUpIdeal.Gen.dats m 0 c).arrAt 2 KernelUpIdeal.cfg0.N, KernelUpIdeal.Value.run_blocks m g, ?_⟩
  refine (θ_run _ _ _).mono (fun r h c => ?_) (ReferenceUpIdeal.Value.run m' g')
  obtain ⟨h0, h1⟩ := h c
  obtain ⟨a0, a1⟩ := hargs c
  refine ⟨h0.trans ?_, h1⟩
  rw [a0, a1]
  exact (ref_arr _ _).trans (final m c).symm

end Cert.Up
-- ==== Proof.Down.lean ====
/- The MLP's second product and its residual: `x + g2 * (u @ w_down)`, the contracted axis in four steps accumulated in a scratch. -/
module
public import proofs.«01_k».proof.Defs
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.KernelDownIdeal.Value
public import proofs.«01_k».proof.Proof.Gen.ReferenceDownIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Down

set_option maxRecDepth 16384

section
open Cert.KernelDownIdeal Cert.KernelDownIdeal.Gen
variable (m : (ℓ : Loc nD τ sig) → Buf (Elt Ideal) ℓ)

/-- The residual at row `i` and column `j`: `x` plus the batch entry's gate times row `i` of `u` times column `j` of `w`. -/
noncomputable def val (u : FVec Ideal S8192x8192 .bf16) (w : FVec Ideal S8192x2048 .f32) (x : FVec Ideal S8192x2048 .f32) (g : FVec Ideal S2x1x2048 .f32) (i : Fin 8192) (j : Fin 2048) : EReal :=
  x (ix2 i j) + g (ix3 ⟨i.val / 4096, by omega⟩ 0 j) * ∑ k : Fin 8192, u (ix2 i k) * w (ix2 k j)

noncomputable def arr (u : FVec Ideal S8192x8192 .bf16) (w : FVec Ideal S8192x2048 .f32) (x : FVec Ideal S8192x2048 .f32) (g : FVec Ideal S2x1x2048 .f32) : S8192x2048.Idx → EReal :=
  fun y => val u w x g (y 0) (y 1)

theorem V_w (c : Dev nD) (i : Fin 8192) (j : Fin 2048) : V m c main_v0 (ix2 i j) = m ((c : Thread nD τ).loc main_arg1) (ix2 i j) := by
  unfold V
  after_reads_at

/-- The grid point of tile `i` of the rows, tile `j` of the columns and step `k` of the contracted axis. -/
def pt (i : Fin 8) (j : Fin 2) (k : Fin 4) : Fin cfg0.N := ⟨8 * i.val + 4 * j.val + k.val, by show _ < 64; omega⟩
theorem pt_surj : ∀ t : Fin cfg0.N, ∃ (i : Fin 8) (j : Fin 2) (k : Fin 4), t = pt i j k :=
  fun t => ⟨⟨t.val / 8, by have : t.val < 64 := t.isLt; omega⟩, ⟨t.val / 4 % 2, by omega⟩, ⟨t.val % 4, by omega⟩,
    Fin.ext (by show t.val = 8 * (t.val / 8) + 4 * (t.val / 4 % 2) + t.val % 4; omega)⟩
theorem idx : ∀ (i : Fin 8) (j : Fin 2) (k : Fin 4), win0_0.index (pt i j k) = ![i.val, k.val] ∧ win0_1.index (pt i j k) = ![k.val, j.val]
    ∧ win0_2.index (pt i j k) = ![i.val, j.val] ∧ win0_3.index (pt i j k) = ![i.val / 4, 0, j.val] ∧ win0_4.index (pt i j k) = ![i.val, j.val] := by
  decide +kernel
theorem last : ∀ (i : Fin 8) (j : Fin 2) (k : Fin 4), (cfg0.win 4).flush (pt i j k) = true → k = 3 := by
  decide +kernel

theorem blk0 (c : Dev nD) (i : Fin 8) (j : Fin 2) (k : Fin 4) (a : Fin 1024) (l : Fin 2048) :
    iblk m c 0 (pt i j k) (ix2 a l) = m ((c : Thread nD τ).loc main_arg0) (ix2 ⟨1024 * i.val + a.val, by omega⟩ ⟨k.val * 2048 + l.val, by omega⟩) := by
  show V m c main_arg0 _ = _
  rw [V_main_arg0]
  congr 1
  blk_ext! [idx i j k]
theorem blk1 (c : Dev nD) (i : Fin 8) (j : Fin 2) (k : Fin 4) (l : Fin 2048) (b : Fin 1024) :
    iblk m c 1 (pt i j k) (ix2 l b) = m ((c : Thread nD τ).loc main_arg1) (ix2 ⟨k.val * 2048 + l.val, by omega⟩ ⟨1024 * j.val + b.val, by omega⟩) := by
  refine Eq.trans ?_ (V_w m c ⟨k.val * 2048 + l.val, by omega⟩ ⟨1024 * j.val + b.val, by omega⟩)
  show V m c main_v0 _ = _
  congr 1
  blk_ext! [idx i j k]
theorem blk2 (c : Dev nD) (i : Fin 8) (j : Fin 2) (k : Fin 4) (a b : Fin 1024) :
    iblk m c 2 (pt i j k) (ix2 a b) = m ((c : Thread nD τ).loc main_arg2) (ix2 ⟨1024 * i.val + a.val, by omega⟩ ⟨1024 * j.val + b.val, by omega⟩) := by
  show V m c main_arg2 _ = _
  rw [V_main_arg2]
  congr 1
  blk_ext! [idx i j k]
theorem blk3 (c : Dev nD) (i : Fin 8) (j : Fin 2) (k : Fin 4) (b : Fin 1024) :
    iblk m c 3 (pt i j k) (ix3 0 0 b) = m ((c : Thread nD τ).loc main_arg3) (ix3 ⟨i.val / 4, by omega⟩ 0 ⟨1024 * j.val + b.val, by omega⟩) := by
  show V m c main_arg3 _ = _
  rw [V_main_arg3]
  congr 1
  blk_ext! [idx i j k]

/-- One step's product at a row and a column. -/
noncomputable def P (x0 : FVec Ideal S1024x2048 .bf16) (x1 : FVec Ideal S2048x1024 .bf16) (a b : Fin 1024) : EReal :=
  ∑ l : Fin 2048, x0 (ix2 a l) * x1 (ix2 l b)

/-- The residual: an entry plus the gate's entry times a sum. -/
noncomputable def res (x2 : FVec Ideal S1024x1024 .f32) (x3 : FVec Ideal S1x1x1024 .f32) (a b : Fin 1024) (s : EReal) : EReal :=
  x2 (ix2 a b) + x3 (ix3 0 0 b) * s

theorem outs_congr (c : Dev nD) (n n' : ℕ) (e : n = n') (hn : n < cfg0.N) (hn' : n' < cfg0.N) : outsAt0 m c n hn = outsAt0 m c n' hn' := by
  subst e
  rfl

/-- The first step stores its product. -/
theorem scA (c : Dev nD) (t : Fin cfg0.N) (h0 : t.val % 4 = 0) (a b : Fin 1024) :
    (outsAt0 m c t.val t.isLt).2 (ix2 a b) = P (iblk m c 0 t) (iblk m c 1 t) a b := by
  rw [outsAt0_A m c t h0 (by omega) (by omega)]
  frame_open
  simp (disch := decide) only [↓ View.readCov_skip, ↓ View.readCov_cons_toLoadRect, ↓ View.readCov_fill]
  frame_out
  pointwise [k0_pay2, k0_pay1, P]
/-- A middle step adds its product. -/
theorem scB (c : Dev nD) (t t' : Fin cfg0.N) (e : t'.val = t.val - 1) (h0 : ¬t.val % 4 = 0) (h2 : ¬t.val % 4 = 3) (a b : Fin 1024) :
    (outsAt0 m c t.val t.isLt).2 (ix2 a b) = (outsAt0 m c t'.val t'.isLt).2 (ix2 a b) + P (iblk m c 0 t) (iblk m c 1 t) a b := by
  rw [outsAt0_B m c t h0 (by omega) h2, outs_congr m c t'.val (t.val - 1) e t'.isLt (Nat.lt_of_le_of_lt (Nat.sub_le _ _) t.isLt)]
  generalize (outsAt0 m c (t.val - 1) (Nat.lt_of_le_of_lt (Nat.sub_le _ _) t.isLt)).2 = st
  frame_open
  simp (disch := decide) only [↓ View.readCov_skip, ↓ View.readCov_cons_toLoadRect, ↓ View.readCov_fill]
  frame_out
  simp only [read_unread_whole]
  pointwise [k0_pay3, k0_pay1, P]
/-- The last step stores the residual. -/
theorem outC (c : Dev nD) (t t' : Fin cfg0.N) (e : t'.val = t.val - 1) (h2 : t.val % 4 = 3) (a b : Fin 1024) :
    (outsAt0 m c t.val t.isLt).1 (ix2 a b) = res (iblk m c 2 t) (iblk m c 3 t) a b ((outsAt0 m c t'.val t'.isLt).2 (ix2 a b) + P (iblk m c 0 t) (iblk m c 1 t) a b) := by
  rw [outsAt0_C m c t (by omega) (by omega) h2, outs_congr m c t'.val (t.val - 1) e t'.isLt (Nat.lt_of_le_of_lt (Nat.sub_le _ _) t.isLt)]
  generalize (outsAt0 m c (t.val - 1) (Nat.lt_of_le_of_lt (Nat.sub_le _ _) t.isLt)).2 = st
  frame_open
  simp (disch := decide) only [↓ View.readCov_skip, ↓ View.readCov_cons_toLoadRect, ↓ View.readCov_fill]
  frame_out
  simp only [read_unread_whole]
  pointwise [k0_pay4, k0_pay3, k0_pay1, P, res]

/-- The term of the whole contraction at position `l`. -/
noncomputable def tm (u : FVec Ideal S8192x8192 .bf16) (w : FVec Ideal S8192x2048 .f32) (i : Fin 8192) (j : Fin 2048) (l : Fin 8192) : EReal := u (ix2 i l) * w (ix2 l j)

theorem P_blk (c : Dev nD) (i : Fin 8) (j : Fin 2) (k : Fin 4) (a b : Fin 1024) :
    P (iblk m c 0 (pt i j k)) (iblk m c 1 (pt i j k)) a b = ∑ l : Fin 2048, tm (m ((c : Thread nD τ).loc main_arg0)) (m ((c : Thread nD τ).loc main_arg1)) ⟨1024 * i.val + a.val, by omega⟩ ⟨1024 * j.val + b.val, by omega⟩ ⟨k.val * 2048 + l.val, by omega⟩ := by
  unfold P tm
  simp only [blk0, blk1]

/-- The residual in the arrays: an entry of `x` plus the gate's entry times a sum. -/
noncomputable def rs (x : FVec Ideal S8192x2048 .f32) (g : FVec Ideal S2x1x2048 .f32) (i : Fin 8192) (j : Fin 2048) (s : EReal) : EReal :=
  x (ix2 i j) + g (ix3 ⟨i.val / 4096, by omega⟩ 0 j) * s

theorem res_blk (c : Dev nD) (i : Fin 8) (j : Fin 2) (k : Fin 4) (a b : Fin 1024) (s : EReal) :
    res (iblk m c 2 (pt i j k)) (iblk m c 3 (pt i j k)) a b s = rs (m ((c : Thread nD τ).loc main_arg2)) (m ((c : Thread nD τ).loc main_arg3)) ⟨1024 * i.val + a.val, by omega⟩ ⟨1024 * j.val + b.val, by omega⟩ s := by
  have hd : i.val / 4 = (1024 * i.val + a.val) / 4096 := by omega
  unfold res rs
  simp only [blk2, blk3, hd]

theorem out_pt (c : Dev nD) (i : Fin 8) (j : Fin 2) (a b : Fin 1024) :
    (outsAt0 m c (pt i j 3).val (pt i j 3).isLt).1 (ix2 a b) = arr (m ((c : Thread nD τ).loc main_arg0)) (m ((c : Thread nD τ).loc main_arg1)) (m ((c : Thread nD τ).loc main_arg2)) (m ((c : Thread nD τ).loc main_arg3)) (ix2 ⟨1024 * i.val + a.val, by omega⟩ ⟨1024 * j.val + b.val, by omega⟩) := by
  rw [outC m c (pt i j 3) (pt i j 2) rfl (by show (8 * i.val + 4 * j.val + 3) % 4 = 3; omega) a b,
    scB m c (pt i j 2) (pt i j 1) rfl (by show ¬(8 * i.val + 4 * j.val + 2) % 4 = 0; omega) (by show ¬(8 * i.val + 4 * j.val + 2) % 4 = 3; omega) a b,
    scB m c (pt i j 1) (pt i j 0) rfl (by show ¬(8 * i.val + 4 * j.val + 1) % 4 = 0; omega) (by show ¬(8 * i.val + 4 * j.val + 1) % 4 = 3; omega) a b,
    scA m c (pt i j 0) (by show (8 * i.val + 4 * j.val + 0) % 4 = 0; omega) a b]
  simp only [P_blk, res_blk]
  have hs := Fin.sum_mul_add_fin 4 2048 (tm (m ((c : Thread nD τ).loc main_arg0)) (m ((c : Thread nD τ).loc main_arg1)) ⟨1024 * i.val + a.val, by omega⟩ ⟨1024 * j.val + b.val, by omega⟩)
  rw [Fin.sum_univ_four] at hs
  exact congrArg (rs _ _ _ _) hs

theorem emb (i : Fin 8) (j : Fin 2) (k : Fin 4) (y : S1024x1024.Idx) : (win0_4.blk (pt i j k)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j k]

/-- The kernel's result array. -/
theorem final (c : Dev nD) : (dats m 0 c).arrAt 4 cfg0.N = arr (m ((c : Thread nD τ).loc main_arg0)) (m ((c : Thread nD τ).loc main_arg1)) (m ((c : Thread nD τ).loc main_arg2)) (m ((c : Thread nD τ).loc main_arg3)) := by
  refine (dats m 0 c).arrAt_eq_of_covers 4 (arr (m ((c : Thread nD τ).loc main_arg0)) (m ((c : Thread nD τ).loc main_arg1)) (m ((c : Thread nD τ).loc main_arg2)) (m ((c : Thread nD τ).loc main_arg3))) (by decide +kernel) fun t hf (y : S1024x1024.Idx) => ?_
  obtain ⟨i, j, k, rfl⟩ := pt_surj t
  obtain rfl := last i j k hf
  blk_simp
  rw [after0_4]
  refine Eq.trans ?_ (congrArg (arr (m ((c : Thread nD τ).loc main_arg0)) (m ((c : Thread nD τ).loc main_arg1)) (m ((c : Thread nD τ).loc main_arg2)) (m ((c : Thread nD τ).loc main_arg3))) (emb i j 3 y)).symm
  idx_vars y
  exact out_pt m c i j y0 y1

end

section
open Idealize.ShloMosaic.StableHlo Cert.ReferenceDownIdeal Cert.ReferenceDownIdeal.Gen

/-- The reference's result array. -/
theorem ref_arr (u : FVec Ideal S8192x8192 .bf16) (w : FVec Ideal S8192x2048 .f32) (x : FVec Ideal S8192x2048 .f32) (g : FVec Ideal S2x1x2048 .f32) :
    (shapeCast S8192x2048 (addf (shapeCast S2x4096x2048 x shapeCasts_S8192x2048_S2x4096x2048) (mulf (broadcastInDim S2x4096x2048 ![0, 1, 2] bcast_S2x1x2048_S2x4096x2048_0_1_2 g) (shapeCast S2x4096x2048 (Host.dotGeneral dot_S8192x8192_S8192x2048_S8192x2048_1_0_0_1_n_n none (extf .f32 u bitsLt_bf16_f32) w) shapeCasts_S8192x2048_S2x4096x2048))) shapeCasts_S2x4096x2048_S8192x2048
      : FVec Ideal S8192x2048 .f32) = arr u w x g := by
  funext y
  idx_vars y
  pointwise [arr, val]
end

/-- The reference runs and leaves its arguments. -/
theorem ref_frame [hReferenceDownIdeal : Cert.ReferenceDownIdeal.Facts] : Cert.quiescent_ReferenceDownIdeal := fun m g _ =>
  (θ_run Cert.ReferenceDownIdeal.defs _ _).mono (fun r h => ⟨fun c => (h c).2, Idealize.ShloMosaic.sem_eq_zero_of_no_sems (by decide) r.2⟩)
    (ReferenceDownIdeal.Value.run m g)

/-- The kernel's result and the reference's are the same array. -/
theorem algebraic : Cert.algebraic_KernelDownIdeal_ReferenceDownIdeal (hKernelDownIdeal := Cert.KernelDownIdeal.Gen.facts) (hReferenceDownIdeal := Cert.ReferenceDownIdeal.Gen.facts) := by
  intro m g m' g' _ hargs
  refine ⟨fun c => (KernelDownIdeal.Gen.dats m 0 c).arrAt 4 KernelDownIdeal.cfg0.N, KernelDownIdeal.Value.run_blocks m g, ?_⟩
  refine (θ_run _ _ _).mono (fun r h c => ?_) (ReferenceDownIdeal.Value.run m' g')
  obtain ⟨h0, h1⟩ := h c
  obtain ⟨a0, a1, a2, a3⟩ := hargs c
  refine ⟨h0.trans ?_, h1⟩
  rw [a0, a1, a2, a3]
  exact (ref_arr _ _ _ _).trans (final m c).symm

end Cert.Down
-- ==== Proof.Gates.lean ====
/- The gates: rows of `h` times the columns of `w_in` from 6704 on; the first third `z` becomes `z / (1 + exp (-z))`, the rest `1 / (1 + exp (-z))`. -/
module
public import proofs.«01_k».proof.Defs
public import proofs.«01_k».proof.Proof.Gen.KernelGates
public import proofs.«01_k».proof.Proof.Gen.KernelGates.Frame
public import proofs.«01_k».proof.Proof.Gen.KernelGatesIdeal
public import proofs.«01_k».proof.Proof.Gen.KernelGatesIdeal.Frame
public import proofs.«01_k».proof.Proof.Gen.ReferenceGatesIdeal
public import proofs.«01_k».proof.Proof.Gen.KernelGatesIdeal.Value
public import proofs.«01_k».proof.Proof.Gen.ReferenceGatesIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Gates

set_option maxRecDepth 16384

section
open Cert.KernelGatesIdeal Cert.KernelGatesIdeal.Gen
variable (m : (ℓ : Loc nD τ sig) → Buf (Elt Ideal) ℓ)

/-- Row `i` of `h` times column `6704 + j` of `w`. -/
noncomputable def z (h : FVec Ideal S8192x2048 .bf16) (w : FVec Ideal S2048x12848 .f32) (i : Fin 8192) (j : Fin 6144) : EReal :=
  ∑ k : Fin 2048, h (ix2 i k) * w (ix2 k ⟨6704 + j.val, by omega⟩)

/-- The first 2048 columns: the product times its sigmoid; the others: the sigmoid. -/
noncomputable def val (h : FVec Ideal S8192x2048 .bf16) (w : FVec Ideal S2048x12848 .f32) (i : Fin 8192) (j : Fin 6144) : EReal :=
  if j.val < 2048 then z h w i j * Ideal.logistic (z h w i j) else Ideal.logistic (z h w i j)

noncomputable def arr (h : FVec Ideal S8192x2048 .bf16) (w : FVec Ideal S2048x12848 .f32) : S8192x6144.Idx → EReal :=
  fun y => val h w (y 0) (y 1)

theorem V_w (c : Dev nD) (i : Fin 2048) (j : Fin 10240) : V m c main_v1 (ix2 i j) = m ((c : Thread nD τ).loc main_arg1) (ix2 i ⟨2608 + j.val, by omega⟩) := by
  unfold V
  after_reads_at

/-- The grid point of tile `i` of the rows and tile `j` of the columns. -/
def pt (i : Fin 8) (j : Fin 6) : Fin cfg0.N := ⟨6 * i.val + j.val, by show _ < 48; omega⟩
theorem pt_surj : ∀ t : Fin cfg0.N, ∃ (i : Fin 8) (j : Fin 6), t = pt i j :=
  fun t => ⟨⟨t.val / 6, by have : t.val < 48 := t.isLt; omega⟩, ⟨t.val % 6, by omega⟩, Fin.ext (by show t.val = 6 * (t.val / 6) + t.val % 6; omega)⟩
theorem idx : ∀ (i : Fin 8) (j : Fin 6), win0_0.index (pt i j) = ![i.val, 0] ∧ win0_1.index (pt i j) = ![0, 4 + j.val] ∧ win0_2.index (pt i j) = ![i.val, j.val] := by
  decide +kernel

theorem blk0 (c : Dev nD) (i : Fin 8) (j : Fin 6) (a : Fin 1024) (k : Fin 2048) :
    iblk m c 0 (pt i j) (ix2 a k) = m ((c : Thread nD τ).loc main_arg0) (ix2 ⟨1024 * i.val + a.val, by omega⟩ k) := by
  show V m c main_arg0 _ = _
  rw [V_main_arg0]
  congr 1
  blk_ext! [idx i j]
theorem blk1 (c : Dev nD) (i : Fin 8) (j : Fin 6) (k : Fin 2048) (b : Fin 1024) :
    iblk m c 1 (pt i j) (ix2 k b) = m ((c : Thread nD τ).loc main_arg1) (ix2 k ⟨6704 + (1024 * j.val + b.val), by omega⟩) := by
  refine Eq.trans ?_ ((V_w m c k ⟨4096 + 1024 * j.val + b.val, by omega⟩).trans (congrArg _ (congrArg _ (Fin.ext (by show 2608 + (4096 + 1024 * j.val + b.val) = 6704 + (1024 * j.val + b.val); omega)))))
  show V m c main_v1 _ = _
  congr 1
  blk_ext! [idx i j]

/-- One tile's product at a row and a column. -/
noncomputable def zt (x0 : FVec Ideal S1024x2048 .bf16) (x1 : FVec Ideal S2048x1024 .bf16) (a b : Fin 1024) : EReal :=
  ∑ k : Fin 2048, x0 (ix2 a k) * x1 (ix2 k b)
theorem out_at (i : grid0.Coords) (x0 : Vec Ideal S1024x2048 .bf16) (x1 : Vec Ideal S2048x1024 .bf16) (a b : Fin 1024) :
    out0_2 i x0 x1 (ix2 a b) = if Scalar.cmpi .slt (BitVec.ofNat 32 (i 1).val) 2#32 = 1#1 then zt x0 x1 a b * Ideal.logistic (zt x0 x1 a b) else Ideal.logistic (zt x0 x1 a b) := by
  frame_out
  pointwise [k0_pay1, zt]
  rfl
theorem cond : ∀ (i : Fin 8) (j : Fin 6), (Scalar.cmpi .slt (BitVec.ofNat 32 ((grid0.coords (pt i j)) 1).val) 2#32 = 1#1) ↔ j.val < 2 := by
  decide +kernel

theorem emb (i : Fin 8) (j : Fin 6) (y : S1024x1024.Idx) : (win0_2.blk (pt i j)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j]

/-- The kernel's result array. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S1024x1024.Idx) => ?_
  obtain ⟨i, j, rfl⟩ := pt_surj t
  blk_simp
  rw [after0_2]
  refine Eq.trans ?_ (congrArg (arr (m ((c : Thread nD τ).loc main_arg0)) (m ((c : Thread nD τ).loc main_arg1))) (emb i j y)).symm
  idx_vars y
  refine (out_at _ _ _ y0 y1).trans ?_
  have e : zt (iblk m c 0 (pt i j)) (iblk m c 1 (pt i j)) y0 y1 = z (m ((c : Thread nD τ).loc main_arg0)) (m ((c : Thread nD τ).loc main_arg1)) ⟨1024 * i.val + y0.val, by omega⟩ ⟨1024 * j.val + y1.val, by omega⟩ := by
    unfold zt z
    simp only [blk0, blk1]
  rw [e]
  have h2 : (1024 * j.val + y1.val < 2048) ↔ j.val < 2 := by omega
  simp only [cond]
  show _ = if 1024 * j.val + y1.val < 2048 then _ else _
  simp only [h2]
  rfl

end

section
open Idealize.ShloMosaic.StableHlo Cert.ReferenceGatesIdeal Cert.ReferenceGatesIdeal.Gen

/-- The sigmoid as the reference writes it. -/
theorem sig_at (a : EReal) : Ideal.div (Ideal.ofBits FTy.f32 0x3F800000#32) (Ideal.ofBits FTy.f32 0x3F800000#32 + Ideal.exp (-a)) = Ideal.logistic a := by
  unfold Ideal.logistic
  rw [Ideal.ofBits_one_f32]

/-- The reference's result array. -/
theorem ref_arr (h : FVec Ideal S8192x2048 .bf16) (w : FVec Ideal S2048x12848 .f32) :
    (truncf .bf16 (concatenate S8192x6144 1 [⟨S8192x2048, mulf (extractStridedSlice S8192x2048 ![0, 6704] (Host.dotGeneral dot_S8192x2048_S2048x12848_S8192x12848_1_0_0_1_n_n none (extf .f32 h bitsLt_bf16_f32) w) slices_S8192x12848_S8192x2048_0_6704) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 6704] (Host.dotGeneral dot_S8192x2048_S2048x12848_S8192x12848_1_0_0_1_n_n none (extf .f32 h bitsLt_bf16_f32) w) slices_S8192x12848_S8192x2048_0_6704)))))⟩, ⟨S8192x2048, (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 8752] (Host.dotGeneral dot_S8192x2048_S2048x12848_S8192x12848_1_0_0_1_n_n none (extf .f32 h bitsLt_bf16_f32) w) slices_S8192x12848_S8192x2048_0_8752)))))⟩, ⟨S8192x2048, (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 10800] (Host.dotGeneral dot_S8192x2048_S2048x12848_S8192x12848_1_0_0_1_n_n none (extf .f32 h bitsLt_bf16_f32) w) slices_S8192x12848_S8192x2048_0_10800)))))⟩] concatenates_S8192x2048_S8192x2048_S8192x2048_S8192x6144_d1 : FVec Ideal S8192x6144 .f32) bitsLt_bf16_f32
      : FVec Ideal S8192x6144 .bf16) = arr h w := by
  funext y
  idx_vars y
  pointwise [arr, val, z, Ideal.logistic]
  all_goals (repeat' split)
  all_goals blk_point []
end

/-- The reference runs and leaves its arguments. -/
theorem ref_frame [hReferenceGatesIdeal : Cert.ReferenceGatesIdeal.Facts] : Cert.quiescent_ReferenceGatesIdeal := fun m g _ =>
  (θ_run Cert.ReferenceGatesIdeal.defs _ _).mono (fun r h => ⟨fun c => (h c).2, Idealize.ShloMosaic.sem_eq_zero_of_no_sems (by decide) r.2⟩)
    (ReferenceGatesIdeal.Value.run m g)

/-- The kernel's result and the reference's are the same array. -/
theorem algebraic : Cert.algebraic_KernelGatesIdeal_ReferenceGatesIdeal (hKernelGatesIdeal := Cert.KernelGatesIdeal.Gen.facts) (hReferenceGatesIdeal := Cert.ReferenceGatesIdeal.Gen.facts) := by
  intro m g m' g' _ hargs
  refine ⟨fun c => (KernelGatesIdeal.Gen.dats m 0 c).arrAt 2 KernelGatesIdeal.cfg0.N, KernelGatesIdeal.Value.run_blocks m g, ?_⟩
  refine (θ_run _ _ _).mono (fun r h c => ?_) (ReferenceGatesIdeal.Value.run m' g')
  obtain ⟨h0, h1⟩ := h c
  obtain ⟨a0, a1⟩ := hargs c
  refine ⟨h0.trans ?_, h1⟩
  rw [a0, a1]
  exact (ref_arr _ _).trans (final m c).symm

end Cert.Gates
-- ==== Proof.Rqk.lean ====
/- The retention's queries and keys: `h` times the columns of `w_in` from 2608 on, each head turned by its position, the keys scaled. -/
module
public import proofs.«01_k».proof.Defs
public import proofs.«01_k».proof.Proof.Gen.KernelRqk
public import proofs.«01_k».proof.Proof.Gen.KernelRqk.Frame
public import proofs.«01_k».proof.Proof.Gen.KernelRqkIdeal
public import proofs.«01_k».proof.Proof.Gen.KernelRqkIdeal.Frame
public import proofs.«01_k».proof.Proof.Gen.ReferenceRqkIdeal
public import proofs.«01_k».proof.Proof.Gen.KernelRqkIdeal.Value
public import proofs.«01_k».proof.Proof.Gen.ReferenceRqkIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Rqk

set_option maxRecDepth 16384

section
open Idealize.ShloMosaic.StableHlo Cert.ReferenceRqkIdeal Cert.ReferenceRqkIdeal.Gen
/-- The tables of cosines and sines of position times frequency. -/
noncomputable def cosT : FVec Ideal S4096x128 .f32 := Host.cos (mulf (broadcastInDim S4096x128 ![0, 1] bcast_S4096x1_S4096x128_0_1 (broadcastInDim S4096x1 ![0] bcast_S4096_S4096x1_0 (sitofp .f32 (iotaInDim S4096 32 0)))) (broadcastInDim S4096x128 ![0, 1] bcast_S1x128_S4096x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))
noncomputable def sinT : FVec Ideal S4096x128 .f32 := Host.sin (mulf (broadcastInDim S4096x128 ![0, 1] bcast_S4096x1_S4096x128_0_1 (broadcastInDim S4096x1 ![0] bcast_S4096_S4096x1_0 (sitofp .f32 (iotaInDim S4096 32 0)))) (broadcastInDim S4096x128 ![0, 1] bcast_S1x128_S4096x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))
end

section
open Cert.KernelRqkIdeal Cert.KernelRqkIdeal.Gen
variable (m : (ℓ : Loc nD τ sig) → Buf (Elt Ideal) ℓ)

/-- Row `i` of `h` times column `2608 + l` of `w`. -/
noncomputable def z (h : FVec Ideal S8192x2048 .bf16) (w : FVec Ideal S2048x12848 .f32) (i : Fin 8192) (l : Fin 2048) : EReal :=
  ∑ k : Fin 2048, h (ix2 i k) * w (ix2 k ⟨2608 + l.val, by omega⟩)

/-- The turned column `l`: the first half of a head is `x₁ cos − x₂ sin`, the second `x₂ cos + x₁ sin`. -/
noncomputable def turn (h : FVec Ideal S8192x2048 .bf16) (w : FVec Ideal S2048x12848 .f32) (i : Fin 8192) (l : Fin 2048) : EReal :=
  if hl : l.val % 256 < 128 then
    z h w i l * cosT (ix2 ⟨i.val % 4096, by omega⟩ ⟨l.val % 128, by omega⟩) - z h w i ⟨l.val + 128, by omega⟩ * sinT (ix2 ⟨i.val % 4096, by omega⟩ ⟨l.val % 128, by omega⟩)
  else
    z h w i l * cosT (ix2 ⟨i.val % 4096, by omega⟩ ⟨l.val % 128, by omega⟩) + z h w i ⟨l.val - 128, by omega⟩ * sinT (ix2 ⟨i.val % 4096, by omega⟩ ⟨l.val % 128, by omega⟩)

/-- The keys (columns from 1024 on) are scaled. -/
noncomputable def arr (h : FVec Ideal S8192x2048 .bf16) (w : FVec Ideal S2048x12848 .f32) : S8192x2048.Idx → EReal :=
  fun y => if (y 1).val < 1024 then turn h w (y 0) (y 1) else turn h w (y 0) (y 1) * Ideal.ofBits .f32 0x3D800000#32

theorem V_w (c : Dev nD) (i : Fin 2048) (j : Fin 10240) : V m c main_v1 (ix2 i j) = m ((c : Thread nD τ).loc main_arg1) (ix2 i ⟨2608 + j.val, by omega⟩) := by
  unfold V
  after_reads_at
theorem V_cos (c : Dev nD) (i : Fin 4096) (j : Fin 128) : V m c main_v15 (ix2 i j) = cosT (ix2 i j) := by
  unfold V
  after_reads_at
  pointwise [cosT]
theorem V_sin (c : Dev nD) (i : Fin 4096) (j : Fin 128) : V m c main_v16 (ix2 i j) = sinT (ix2 i j) := by
  unfold V
  after_reads_at
  pointwise [sinT]

/-- The grid point of tile `i` of the rows and half `j` (queries, keys). -/
def pt (i : Fin 8) (j : Fin 2) : Fin cfg0.N := ⟨2 * i.val + j.val, by show _ < 16; omega⟩
theorem pt_surj : ∀ t : Fin cfg0.N, ∃ (i : Fin 8) (j : Fin 2), t = pt i j :=
  fun t => ⟨⟨t.val / 2, by have : t.val < 16 := t.isLt; omega⟩, ⟨t.val % 2, by omega⟩, Fin.ext (by show t.val = 2 * (t.val / 2) + t.val % 2; omega)⟩
theorem idx : ∀ (i : Fin 8) (j : Fin 2), win0_0.index (pt i j) = ![i.val, 0] ∧ win0_1.index (pt i j) = ![0, j.val] ∧ win0_2.index (pt i j) = ![i.val % 4, 0]
    ∧ win0_3.index (pt i j) = ![i.val % 4, 0] ∧ win0_4.index (pt i j) = ![i.val, j.val] := by
  decide +kernel

theorem blk0 (c : Dev nD) (i : Fin 8) (j : Fin 2) (a : Fin 1024) (k : Fin 2048) :
    iblk m c 0 (pt i j) (ix2 a k) = m ((c : Thread nD τ).loc main_arg0) (ix2 ⟨1024 * i.val + a.val, by omega⟩ k) := by
  show V m c main_arg0 _ = _
  rw [V_main_arg0]
  congr 1
  blk_ext! [idx i j]
theorem blk1 (c : Dev nD) (i : Fin 8) (j : Fin 2) (k : Fin 2048) (b : Fin 1024) :
    iblk m c 1 (pt i j) (ix2 k b) = m ((c : Thread nD τ).loc main_arg1) (ix2 k ⟨2608 + (1024 * j.val + b.val), by omega⟩) := by
  refine Eq.trans ?_ (V_w m c k ⟨1024 * j.val + b.val, by omega⟩)
  show V m c main_v1 _ = _
  congr 1
  blk_ext! [idx i j]
theorem blk2 (c : Dev nD) (i : Fin 8) (j : Fin 2) (a : Fin 1024) (l : Fin 128) :
    iblk m c 2 (pt i j) (ix2 a l) = cosT (ix2 ⟨1024 * (i.val % 4) + a.val, by omega⟩ l) := by
  refine Eq.trans ?_ (V_cos m c ⟨1024 * (i.val % 4) + a.val, by omega⟩ l)
  show V m c main_v15 _ = _
  congr 1
  blk_ext! [idx i j]
theorem blk3 (c : Dev nD) (i : Fin 8) (j : Fin 2) (a : Fin 1024) (l : Fin 128) :
    iblk m c 3 (pt i j) (ix2 a l) = sinT (ix2 ⟨1024 * (i.val % 4) + a.val, by omega⟩ l) := by
  refine Eq.trans ?_ (V_sin m c ⟨1024 * (i.val % 4) + a.val, by omega⟩ l)
  show V m c main_v16 _ = _
  congr 1
  blk_ext! [idx i j]

/-- The scale the body picks by the half it is in. -/
noncomputable def sc (i : grid0.Coords) : EReal :=
  Scalar.select (Scalar.cmpi .sge (BitVec.ofNat 32 (i 1).val) 1#32) (Ideal.ofBits .f32 0x3D800000#32) 1
theorem sc_q (i : Fin 8) : sc (grid0.coords (pt i 0)) = 1 := by
  have e : ∀ i : Fin 8, Scalar.cmpi .sge (BitVec.ofNat 32 (grid0.coords (pt i 0) 1).val) 1#32 = 0#1 := by decide +kernel
  unfold sc
  rw [e]
  rfl
theorem sc_k (i : Fin 8) : sc (grid0.coords (pt i 1)) = Ideal.ofBits .f32 0x3D800000#32 := by
  have e : ∀ i : Fin 8, Scalar.cmpi .sge (BitVec.ofNat 32 (grid0.coords (pt i 1) 1).val) 1#32 = 1#1 := by decide +kernel
  unfold sc
  rw [e]
  rfl

theorem out_at (i : grid0.Coords) (x0 : Vec Ideal S1024x2048 .bf16) (x1 : Vec Ideal S2048x1024 .bf16) (x2 x3 : Vec Ideal S1024x128 .f32) (a b : Fin 1024) :
    out0_4 i x0 x1 x2 x3 (ix2 a b) = (if hb : b.val % 256 < 128 then
      (∑ k : Fin 2048, x0 (ix2 a k) * x1 (ix2 k b)) * x2 (ix2 a ⟨b.val % 128, by omega⟩) - (∑ k : Fin 2048, x0 (ix2 a k) * x1 (ix2 k ⟨b.val + 128, by omega⟩)) * x3 (ix2 a ⟨b.val % 128, by omega⟩)
    else
      (∑ k : Fin 2048, x0 (ix2 a k) * x1 (ix2 k b)) * x2 (ix2 a ⟨b.val % 128, by omega⟩) + (∑ k : Fin 2048, x0 (ix2 a k) * x1 (ix2 k ⟨b.val - 128, by omega⟩)) * x3 (ix2 a ⟨b.val % 128, by omega⟩)) * sc i := by
  frame_out
  pointwise [k0_pay1]
  refine congrArg₂ (· * ·) ?_ ?_
  · have h8 : b.val / 128 = 0 ∨ b.val / 128 = 1 ∨ b.val / 128 = 2 ∨ b.val / 128 = 3 ∨ b.val / 128 = 4 ∨ b.val / 128 = 5 ∨ b.val / 128 = 6 ∨ b.val / 128 = 7 := by omega
    rcases h8 with h8 | h8 | h8 | h8 | h8 | h8 | h8 | h8 <;>
    · simp (disch := omega) only [dif_pos, dif_neg]
      blk_point []
  · pointwise [sc]

theorem emb (i : Fin 8) (j : Fin 2) (y : S1024x1024.Idx) : (win0_4.blk (pt i j)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j]

/-- One tile's turned columns are the array's. -/
theorem tile (h : FVec Ideal S8192x2048 .bf16) (w : FVec Ideal S2048x12848 .f32) (i : Fin 8) (j : Fin 2) (a b : Fin 1024) :
    (if hb : b.val % 256 < 128 then
      (∑ k : Fin 2048, h (ix2 ⟨1024 * i.val + a.val, by omega⟩ k) * w (ix2 k ⟨2608 + (1024 * j.val + b.val), by omega⟩)) * cosT (ix2 ⟨1024 * (i.val % 4) + a.val, by omega⟩ ⟨b.val % 128, by omega⟩)
        - (∑ k : Fin 2048, h (ix2 ⟨1024 * i.val + a.val, by omega⟩ k) * w (ix2 k ⟨2608 + (1024 * j.val + (b.val + 128)), by omega⟩)) * sinT (ix2 ⟨1024 * (i.val % 4) + a.val, by omega⟩ ⟨b.val % 128, by omega⟩)
    else
      (∑ k : Fin 2048, h (ix2 ⟨1024 * i.val + a.val, by omega⟩ k) * w (ix2 k ⟨2608 + (1024 * j.val + b.val), by omega⟩)) * cosT (ix2 ⟨1024 * (i.val % 4) + a.val, by omega⟩ ⟨b.val % 128, by omega⟩)
        + (∑ k : Fin 2048, h (ix2 ⟨1024 * i.val + a.val, by omega⟩ k) * w (ix2 k ⟨2608 + (1024 * j.val + (b.val - 128)), by omega⟩)) * sinT (ix2 ⟨1024 * (i.val % 4) + a.val, by omega⟩ ⟨b.val % 128, by omega⟩))
    = turn h w ⟨1024 * i.val + a.val, by omega⟩ ⟨1024 * j.val + b.val, by omega⟩ := by
  unfold turn z
  by_cases hb : b.val % 256 < 128
  · have hb' : (1024 * j.val + b.val) % 256 < 128 := by omega
    rw [dif_pos hb, dif_pos hb']
    blk_point []
    all_goals first | omega | exact congrArg _ (by omega)
  · have hb' : ¬ (1024 * j.val + b.val) % 256 < 128 := by omega
    rw [dif_neg hb, dif_neg hb']
    blk_point []
    all_goals first | omega | exact congrArg _ (by omega)

/-- The array the kernel ends with. -/
theorem final (c : Dev nD) : (dats m 0 c).arrAt 4 cfg0.N = arr (m ((c : Thread nD τ).loc main_arg0)) (m ((c : Thread nD τ).loc main_arg1)) := by
  refine (dats m 0 c).arrAt_eq_of_covers 4 (arr (m ((c : Thread nD τ).loc main_arg0)) (m ((c : Thread nD τ).loc main_arg1))) (by decide +kernel) fun t hf (y : S1024x1024.Idx) => ?_
  obtain ⟨i, j, rfl⟩ := pt_surj t
  blk_simp
  rw [after0_4]
  refine Eq.trans ?_ (congrArg (arr (m ((c : Thread nD τ).loc main_arg0)) (m ((c : Thread nD τ).loc main_arg1))) (emb i j y)).symm
  idx_vars y
  refine (out_at _ _ _ _ _ y0 y1).trans ?_
  simp only [blk0, blk1, blk2, blk3]
  refine (congrArg (· * sc (grid0.coords (pt i j))) (tile _ _ i j y0 y1)).trans ?_
  show _ = if 1024 * j.val + y1.val < 1024 then turn _ _ ⟨1024 * i.val + y0.val, _⟩ ⟨1024 * j.val + y1.val, _⟩ else _
  obtain rfl | rfl : j = 0 ∨ j = 1 := by omega
  · rw [if_pos (by simp), sc_q, mul_one]
  · rw [if_neg (by simp), sc_k]
    rfl

end

section
open Idealize.ShloMosaic.StableHlo Cert.ReferenceRqkIdeal Cert.ReferenceRqkIdeal.Gen
theorem ref_arr (h : FVec Ideal S8192x2048 .bf16) (w : FVec Ideal S2048x12848 .f32) :
    (truncf .bf16 (concatenate S8192x2048 1 [⟨S8192x1024, (shapeCast S8192x1024 (concatenate S2x4096x4x256 3 [⟨S2x4096x4x128, (subf (mulf (extractStridedSlice S2x4096x4x128 ![0, 0, 0, 0] (shapeCast S2x4096x4x256 (extractStridedSlice S8192x1024 ![0, 2608] (Host.dotGeneral dot_S8192x2048_S2048x12848_S8192x12848_1_0_0_1_n_n none (extf .f32 h bitsLt_bf16_f32) w) slices_S8192x12848_S8192x1024_0_2608) shapeCasts_S8192x1024_S2x4096x4x256) slices_S2x4096x4x256_S2x4096x4x128_0_0_0_0) (broadcastInDim S2x4096x4x128 ![0, 1, 2, 3] bcast_S1x4096x1x128_S2x4096x4x128_0_1_2_3 (broadcastInDim S1x4096x1x128 ![1, 3] bcast_S4096x128_S1x4096x1x128_1_3 cosT))) (mulf (extractStridedSlice S2x4096x4x128 ![0, 0, 0, 128] (shapeCast S2x4096x4x256 (extractStridedSlice S8192x1024 ![0, 2608] (Host.dotGeneral dot_S8192x2048_S2048x12848_S8192x12848_1_0_0_1_n_n none (extf .f32 h bitsLt_bf16_f32) w) slices_S8192x12848_S8192x1024_0_2608) shapeCasts_S8192x1024_S2x4096x4x256) slices_S2x4096x4x256_S2x4096x4x128_0_0_0_128) (broadcastInDim S2x4096x4x128 ![0, 1, 2, 3] bcast_S1x4096x1x128_S2x4096x4x128_0_1_2_3 (broadcastInDim S1x4096x1x128 ![1, 3] bcast_S4096x128_S1x4096x1x128_1_3 sinT))))⟩, ⟨S2x4096x4x128, (addf (mulf (extractStridedSlice S2x4096x4x128 ![0, 0, 0, 128] (shapeCast S2x4096x4x256 (extractStridedSlice S8192x1024 ![0, 2608] (Host.dotGeneral dot_S8192x2048_S2048x12848_S8192x12848_1_0_0_1_n_n none (extf .f32 h bitsLt_bf16_f32) w) slices_S8192x12848_S8192x1024_0_2608) shapeCasts_S8192x1024_S2x4096x4x256) slices_S2x4096x4x256_S2x4096x4x128_0_0_0_128) (broadcastInDim S2x4096x4x128 ![0, 1, 2, 3] bcast_S1x4096x1x128_S2x4096x4x128_0_1_2_3 (broadcastInDim S1x4096x1x128 ![1, 3] bcast_S4096x128_S1x4096x1x128_1_3 cosT))) (mulf (extractStridedSlice S2x4096x4x128 ![0, 0, 0, 0] (shapeCast S2x4096x4x256 (extractStridedSlice S8192x1024 ![0, 2608] (Host.dotGeneral dot_S8192x2048_S2048x12848_S8192x12848_1_0_0_1_n_n none (extf .f32 h bitsLt_bf16_f32) w) slices_S8192x12848_S8192x1024_0_2608) shapeCasts_S8192x1024_S2x4096x4x256) slices_S2x4096x4x256_S2x4096x4x128_0_0_0_0) (broadcastInDim S2x4096x4x128 ![0, 1, 2, 3] bcast_S1x4096x1x128_S2x4096x4x128_0_1_2_3 (broadcastInDim S1x4096x1x128 ![1, 3] bcast_S4096x128_S1x4096x1x128_1_3 sinT))))⟩] concatenates_S2x4096x4x128_S2x4096x4x128_S2x4096x4x256_d3) shapeCasts_S2x4096x4x256_S8192x1024)⟩, ⟨S8192x1024, (shapeCast S8192x1024 (mulf (concatenate S2x4096x4x256 3 [⟨S2x4096x4x128, (subf (mulf (extractStridedSlice S2x4096x4x128 ![0, 0, 0, 0] (shapeCast S2x4096x4x256 (extractStridedSlice S8192x1024 ![0, 3632] (Host.dotGeneral dot_S8192x2048_S2048x12848_S8192x12848_1_0_0_1_n_n none (extf .f32 h bitsLt_bf16_f32) w) slices_S8192x12848_S8192x1024_0_3632) shapeCasts_S8192x1024_S2x4096x4x256) slices_S2x4096x4x256_S2x4096x4x128_0_0_0_0) (broadcastInDim S2x4096x4x128 ![0, 1, 2, 3] bcast_S1x4096x1x128_S2x4096x4x128_0_1_2_3 (broadcastInDim S1x4096x1x128 ![1, 3] bcast_S4096x128_S1x4096x1x128_1_3 cosT))) (mulf (extractStridedSlice S2x4096x4x128 ![0, 0, 0, 128] (shapeCast S2x4096x4x256 (extractStridedSlice S8192x1024 ![0, 3632] (Host.dotGeneral dot_S8192x2048_S2048x12848_S8192x12848_1_0_0_1_n_n none (extf .f32 h bitsLt_bf16_f32) w) slices_S8192x12848_S8192x1024_0_3632) shapeCasts_S8192x1024_S2x4096x4x256) slices_S2x4096x4x256_S2x4096x4x128_0_0_0_128) (broadcastInDim S2x4096x4x128 ![0, 1, 2, 3] bcast_S1x4096x1x128_S2x4096x4x128_0_1_2_3 (broadcastInDim S1x4096x1x128 ![1, 3] bcast_S4096x128_S1x4096x1x128_1_3 sinT))))⟩, ⟨S2x4096x4x128, (addf (mulf (extractStridedSlice S2x4096x4x128 ![0, 0, 0, 128] (shapeCast S2x4096x4x256 (extractStridedSlice S8192x1024 ![0, 3632] (Host.dotGeneral dot_S8192x2048_S2048x12848_S8192x12848_1_0_0_1_n_n none (extf .f32 h bitsLt_bf16_f32) w) slices_S8192x12848_S8192x1024_0_3632) shapeCasts_S8192x1024_S2x4096x4x256) slices_S2x4096x4x256_S2x4096x4x128_0_0_0_128) (broadcastInDim S2x4096x4x128 ![0, 1, 2, 3] bcast_S1x4096x1x128_S2x4096x4x128_0_1_2_3 (broadcastInDim S1x4096x1x128 ![1, 3] bcast_S4096x128_S1x4096x1x128_1_3 cosT))) (mulf (extractStridedSlice S2x4096x4x128 ![0, 0, 0, 0] (shapeCast S2x4096x4x256 (extractStridedSlice S8192x1024 ![0, 3632] (Host.dotGeneral dot_S8192x2048_S2048x12848_S8192x12848_1_0_0_1_n_n none (extf .f32 h bitsLt_bf16_f32) w) slices_S8192x12848_S8192x1024_0_3632) shapeCasts_S8192x1024_S2x4096x4x256) slices_S2x4096x4x256_S2x4096x4x128_0_0_0_0) (broadcastInDim S2x4096x4x128 ![0, 1, 2, 3] bcast_S1x4096x1x128_S2x4096x4x128_0_1_2_3 (broadcastInDim S1x4096x1x128 ![1, 3] bcast_S4096x128_S1x4096x1x128_1_3 sinT))))⟩] concatenates_S2x4096x4x128_S2x4096x4x128_S2x4096x4x256_d3) (broadcastInDim S2x4096x4x256 ![] bcast_S_S2x4096x4x256 (constant S_ .f32 0x3D800000#32))) shapeCasts_S2x4096x4x256_S8192x1024)⟩] concatenates_S8192x1024_S8192x1024_S8192x2048_d1) bitsLt_bf16_f32 : FVec Ideal S8192x2048 .bf16) = arr h w := by
  funext y
  idx_vars y
  pointwise [arr, turn, z]
  have h4 : ¬y1.val < 1024 → y1.val % 256 < 128 → (y1.val - 1024) % 256 = y1.val % 128 := by omega
  have h3 : y1.val % 256 < 128 → y1.val % 256 = y1.val % 128 := by omega
  by_cases h1 : y1.val < 1024
  · by_cases h2 : y1.val % 256 < 128
    · simp (disch := omega) only [dif_pos, if_pos, h3 h2]
      blk_point []
      all_goals first | omega | exact congrArg _ (by omega)
    · simp (disch := omega) only [dif_pos, dif_neg, if_pos]
      blk_point []
      all_goals first | omega | exact congrArg _ (by omega)
  · by_cases h2 : y1.val % 256 < 128
    · simp (disch := omega) only [dif_pos, dif_neg, if_neg, h4 h1 h2]
      blk_point []
    · simp (disch := omega) only [dif_neg, if_neg]
      blk_point []
      all_goals first | omega | exact congrArg _ (by omega)
end

/-- The reference runs and leaves its arguments. -/
theorem ref_frame [hReferenceRqkIdeal : Cert.ReferenceRqkIdeal.Facts] : Cert.quiescent_ReferenceRqkIdeal := fun m g _ =>
  (θ_run Cert.ReferenceRqkIdeal.defs _ _).mono (fun r h => ⟨fun c => (h c).2, Idealize.ShloMosaic.sem_eq_zero_of_no_sems (by decide) r.2⟩)
    (ReferenceRqkIdeal.Value.run m g)

/-- The kernel's result and the reference's are the same array. -/
theorem algebraic : Cert.algebraic_KernelRqkIdeal_ReferenceRqkIdeal (hKernelRqkIdeal := Cert.KernelRqkIdeal.Gen.facts) (hReferenceRqkIdeal := Cert.ReferenceRqkIdeal.Gen.facts) := by
  intro m g m' g' _ hargs
  refine ⟨fun c => (KernelRqkIdeal.Gen.dats m 0 c).arrAt 4 KernelRqkIdeal.cfg0.N, KernelRqkIdeal.Value.run_blocks m g, ?_⟩
  refine (θ_run _ _ _).mono (fun r h c => ?_) (ReferenceRqkIdeal.Value.run m' g')
  obtain ⟨h0, h1⟩ := h c
  obtain ⟨a0, a1⟩ := hargs c
  refine ⟨h0.trans ?_, h1⟩
  unfold Cert.ReferenceRqkIdeal.Value.res_main_v82
  rw [a0, a1]
  exact (ref_arr _ _).trans (final m c).symm

end Cert.Rqk
-- ==== Proof.Rv.lean ====
/- The projection to the retention's values: rows of `h` times the columns of `w_in` from 4656 on. -/
module
public import proofs.«01_k».proof.Defs
public import proofs.«01_k».proof.Proof.Gen.KernelRv
public import proofs.«01_k».proof.Proof.Gen.KernelRv.Frame
public import proofs.«01_k».proof.Proof.Gen.KernelRvIdeal
public import proofs.«01_k».proof.Proof.Gen.KernelRvIdeal.Frame
public import proofs.«01_k».proof.Proof.Gen.ReferenceRvIdeal
public import proofs.«01_k».proof.Proof.Gen.KernelRvIdeal.Value
public import proofs.«01_k».proof.Proof.Gen.ReferenceRvIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Rv

set_option maxRecDepth 16384

section
open Cert.KernelRvIdeal Cert.KernelRvIdeal.Gen
variable (m : (ℓ : Loc nD τ sig) → Buf (Elt Ideal) ℓ)

/-- Row `i` of `h` times column `4656 + j` of `w`. -/
noncomputable def val (h : FVec Ideal S8192x2048 .bf16) (w : FVec Ideal S2048x12848 .f32) (i : Fin 8192) (j : Fin 2048) : EReal :=
  ∑ k : Fin 2048, h (ix2 i k) * w (ix2 k ⟨4656 + j.val, by omega⟩)

noncomputable def arr (h : FVec Ideal S8192x2048 .bf16) (w : FVec Ideal S2048x12848 .f32) : S8192x2048.Idx → EReal :=
  fun y => val h w (y 0) (y 1)

theorem V_w (c : Dev nD) (i : Fin 2048) (j : Fin 10240) : V m c main_v1 (ix2 i j) = m ((c : Thread nD τ).loc main_arg1) (ix2 i ⟨2608 + j.val, by omega⟩) := by
  unfold V
  after_reads_at

/-- The grid point of tile `i` of the rows and tile `j` of the columns. -/
def pt (i : Fin 8) (j : Fin 2) : Fin cfg0.N := ⟨2 * i.val + j.val, by show _ < 16; omega⟩
theorem pt_surj : ∀ t : Fin cfg0.N, ∃ (i : Fin 8) (j : Fin 2), t = pt i j :=
  fun t => ⟨⟨t.val / 2, by have : t.val < 16 := t.isLt; omega⟩, ⟨t.val % 2, by omega⟩, Fin.ext (by show t.val = 2 * (t.val / 2) + t.val % 2; omega)⟩
theorem idx : ∀ (i : Fin 8) (j : Fin 2), win0_0.index (pt i j) = ![i.val, 0] ∧ win0_1.index (pt i j) = ![0, 2 + j.val] ∧ win0_2.index (pt i j) = ![i.val, j.val] := by
  decide +kernel

theorem blk0 (c : Dev nD) (i : Fin 8) (j : Fin 2) (a : Fin 1024) (k : Fin 2048) :
    iblk m c 0 (pt i j) (ix2 a k) = m ((c : Thread nD τ).loc main_arg0) (ix2 ⟨1024 * i.val + a.val, by omega⟩ k) := by
  show V m c main_arg0 _ = _
  rw [V_main_arg0]
  congr 1
  blk_ext! [idx i j]
theorem blk1 (c : Dev nD) (i : Fin 8) (j : Fin 2) (k : Fin 2048) (b : Fin 1024) :
    iblk m c 1 (pt i j) (ix2 k b) = m ((c : Thread nD τ).loc main_arg1) (ix2 k ⟨4656 + (1024 * j.val + b.val), by omega⟩) := by
  refine Eq.trans ?_ ((V_w m c k ⟨2048 + 1024 * j.val + b.val, by omega⟩).trans (congrArg _ (congrArg _ (Fin.ext (by show 2608 + (2048 + 1024 * j.val + b.val) = 4656 + (1024 * j.val + b.val); omega)))))
  show V m c main_v1 _ = _
  congr 1
  blk_ext! [idx i j]

theorem out_at (x0 : Vec Ideal S1024x2048 .bf16) (x1 : Vec Ideal S2048x1024 .bf16) (a b : Fin 1024) :
    out0_2 x0 x1 (ix2 a b) = ∑ k : Fin 2048, x0 (ix2 a k) * x1 (ix2 k b) := by
  frame_out
  pointwise [k0_pay1]

theorem emb (i : Fin 8) (j : Fin 2) (y : S1024x1024.Idx) : (win0_2.blk (pt i j)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j]

/-- The kernel's result array. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S1024x1024.Idx) => ?_
  obtain ⟨i, j, rfl⟩ := pt_surj t
  blk_simp
  rw [after0_2]
  refine Eq.trans ?_ (congrArg (arr (m ((c : Thread nD τ).loc main_arg0)) (m ((c : Thread nD τ).loc main_arg1))) (emb i j y)).symm
  idx_vars y
  refine (out_at _ _ y0 y1).trans ?_
  simp only [blk0, blk1]
  rfl

end

section
open Idealize.ShloMosaic.StableHlo Cert.ReferenceRvIdeal Cert.ReferenceRvIdeal.Gen

/-- The reference's result array. -/
theorem ref_arr (h : FVec Ideal S8192x2048 .bf16) (w : FVec Ideal S2048x12848 .f32) :
    (truncf .bf16 (extractStridedSlice S8192x2048 ![0, 4656] (Host.dotGeneral dot_S8192x2048_S2048x12848_S8192x12848_1_0_0_1_n_n none (extf .f32 h bitsLt_bf16_f32) w) slices_S8192x12848_S8192x2048_0_4656) bitsLt_bf16_f32
      : FVec Ideal S8192x2048 .bf16) = arr h w := by
  funext y
  idx_vars y
  pointwise [arr, val]
end

/-- The reference runs and leaves its arguments. -/
theorem ref_frame [hReferenceRvIdeal : Cert.ReferenceRvIdeal.Facts] : Cert.quiescent_ReferenceRvIdeal := fun m g _ =>
  (θ_run Cert.ReferenceRvIdeal.defs _ _).mono (fun r h => ⟨fun c => (h c).2, Idealize.ShloMosaic.sem_eq_zero_of_no_sems (by decide) r.2⟩)
    (ReferenceRvIdeal.Value.run m g)

/-- The kernel's result and the reference's are the same array. -/
theorem algebraic : Cert.algebraic_KernelRvIdeal_ReferenceRvIdeal (hKernelRvIdeal := Cert.KernelRvIdeal.Gen.facts) (hReferenceRvIdeal := Cert.ReferenceRvIdeal.Gen.facts) := by
  intro m g m' g' _ hargs
  refine ⟨fun c => (KernelRvIdeal.Gen.dats m 0 c).arrAt 2 KernelRvIdeal.cfg0.N, KernelRvIdeal.Value.run_blocks m g, ?_⟩
  refine (θ_run _ _ _).mono (fun r h c => ?_) (ReferenceRvIdeal.Value.run m' g')
  obtain ⟨h0, h1⟩ := h c
  obtain ⟨a0, a1⟩ := hargs c
  refine ⟨h0.trans ?_, h1⟩
  rw [a0, a1]
  exact (ref_arr _ _).trans (final m c).symm

end Cert.Rv
-- ==== Proof.Q.lean ====
/- The projection to the queries: rows of `h` times the first 1024 columns of `w_in`, scaled. -/
module
public import proofs.«01_k».proof.Defs
public import proofs.«01_k».proof.Proof.Gen.KernelQ
public import proofs.«01_k».proof.Proof.Gen.KernelQ.Frame
public import proofs.«01_k».proof.Proof.Gen.KernelQIdeal
public import proofs.«01_k».proof.Proof.Gen.KernelQIdeal.Frame
public import proofs.«01_k».proof.Proof.Gen.ReferenceQIdeal
public import proofs.«01_k».proof.Proof.Gen.KernelQIdeal.Value
public import proofs.«01_k».proof.Proof.Gen.ReferenceQIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Q

set_option maxRecDepth 16384

section
open Cert.KernelQIdeal Cert.KernelQIdeal.Gen
variable (m : (ℓ : Loc nD τ sig) → Buf (Elt Ideal) ℓ)

/-- The scale of the queries, `0.125 · log₂ e` rounded to f32. -/
noncomputable def sc : EReal := Ideal.ofBits FTy.f32 0x3E38AA3B#32

/-- Row `i` of `h` times column `j` of `w`, scaled. -/
noncomputable def val (h : FVec Ideal S8192x2048 .bf16) (w : FVec Ideal S2048x12848 .f32) (i : Fin 8192) (j : Fin 1024) : EReal :=
  (∑ k : Fin 2048, h (ix2 i k) * w (ix2 k ⟨j.val, by omega⟩)) * sc

noncomputable def arr (h : FVec Ideal S8192x2048 .bf16) (w : FVec Ideal S2048x12848 .f32) : S8192x1024.Idx → EReal :=
  fun y => val h w (y 0) (y 1)

theorem V_w (c : Dev nD) (i : Fin 2048) (j : Fin 2560) : V m c main_v1 (ix2 i j) = m ((c : Thread nD τ).loc main_arg1) (ix2 i ⟨j.val, by omega⟩) := by
  unfold V
  after_reads_at

theorem N_eq : cfg0.N = 8 := rfl
/-- The grid point of tile `i` of the rows. -/
def pt (i : Fin 8) : Fin cfg0.N := ⟨i.val, i.isLt⟩
theorem pt_surj : ∀ t : Fin cfg0.N, ∃ (i : Fin 8), t = pt i := fun t => ⟨⟨t.val, t.isLt⟩, rfl⟩
theorem idx : ∀ (i : Fin 8), win0_0.index (pt i) = ![i.val, 0] ∧ win0_1.index (pt i) = ![0, 0] ∧ win0_2.index (pt i) = ![i.val, 0] := by
  decide +kernel

theorem blk0 (c : Dev nD) (i : Fin 8) (a : Fin 1024) (k : Fin 2048) :
    iblk m c 0 (pt i) (ix2 a k) = m ((c : Thread nD τ).loc main_arg0) (ix2 ⟨1024 * i.val + a.val, by omega⟩ k) := by
  show V m c main_arg0 _ = _
  rw [V_main_arg0]
  congr 1
  blk_ext! [idx i]
theorem blk1 (c : Dev nD) (i : Fin 8) (k : Fin 2048) (b : Fin 1024) :
    X0_1 m c (pt i) (ix2 k b) = m ((c : Thread nD τ).loc main_arg1) (ix2 k ⟨b.val, by omega⟩) := by
  refine Eq.trans ?_ (V_w m c k ⟨b.val, by omega⟩)
  unfold X0_1 Pipeline.Window.fill
  rw [dif_pos (moved0_1 (pt i) (ix2 k b))]
  show V m c main_v1 _ = _
  congr 1
  blk_ext! [idx i]

/-- One tile's product at a row and a column, scaled. -/
noncomputable def dot (x0 : FVec Ideal S1024x2048 .bf16) (x1 : FVec Ideal S2048x1024 .bf16) (a b : Fin 1024) : EReal :=
  (∑ k : Fin 2048, x0 (ix2 a k) * x1 (ix2 k b)) * sc

theorem out_at (c : Dev nD) (t : Fin cfg0.N) (a b : Fin 1024) :
    outsAt0 m c t (ix2 a b) = dot (iblk m c 0 t) (X0_1 m c t) a b := by
  unfold outsAt0
  frame_open
  frame_out
  pointwise [k0_pay1, dot, sc]

theorem emb (i : Fin 8) (y : S1024x1024.Idx) : (win0_2.blk (pt i)).view.emb y = ix2 ⟨1024 * i.val + (y 0).val, by have hy : (y 0).val < 1024 := (y 0).isLt; omega⟩ ⟨(y 1).val, by have hy : (y 1).val < 1024 := (y 1).isLt; omega⟩ := by
  blk_ext! [idx i]

/-- The kernel's result array. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S1024x1024.Idx) => ?_
  obtain ⟨i, rfl⟩ := pt_surj t
  blk_simp
  rw [after0_2]
  refine Eq.trans ?_ (congrArg (arr (m ((c : Thread nD τ).loc main_arg0)) (m ((c : Thread nD τ).loc main_arg1))) (emb i y)).symm
  idx_vars y
  refine (out_at m c _ y0 y1).trans ?_
  unfold dot
  simp only [blk0, blk1]
  rfl

end

section
open Idealize.ShloMosaic.StableHlo Cert.ReferenceQIdeal Cert.ReferenceQIdeal.Gen

/-- The reference's result array. -/
theorem ref_arr (h : FVec Ideal S8192x2048 .bf16) (w : FVec Ideal S2048x12848 .f32) :
    (truncf .bf16 (mulf (extractStridedSlice S8192x1024 ![0, 0] (Host.dotGeneral dot_S8192x2048_S2048x12848_S8192x12848_1_0_0_1_n_n none (extf .f32 h bitsLt_bf16_f32) w) slices_S8192x12848_S8192x1024_0_0) (broadcastInDim S8192x1024 ![] bcast_S_S8192x1024 (constant S_ .f32 0x3E38AA3B#32))) bitsLt_bf16_f32
      : FVec Ideal S8192x1024 .bf16) = arr h w := by
  funext y
  idx_vars y
  pointwise [arr, val, sc]
end

/-- The reference runs and leaves its arguments. -/
theorem ref_frame [hReferenceQIdeal : Cert.ReferenceQIdeal.Facts] : Cert.quiescent_ReferenceQIdeal := fun m g _ =>
  (θ_run Cert.ReferenceQIdeal.defs _ _).mono (fun r h => ⟨fun c => (h c).2, Idealize.ShloMosaic.sem_eq_zero_of_no_sems (by decide) r.2⟩)
    (ReferenceQIdeal.Value.run m g)

/-- The kernel's result and the reference's are the same array. -/
theorem algebraic : Cert.algebraic_KernelQIdeal_ReferenceQIdeal (hKernelQIdeal := Cert.KernelQIdeal.Gen.facts) (hReferenceQIdeal := Cert.ReferenceQIdeal.Gen.facts) := by
  intro m g m' g' _ hargs
  refine ⟨fun c => (KernelQIdeal.Gen.dats m 0 c).arrAt 2 KernelQIdeal.cfg0.N, KernelQIdeal.Value.run_blocks m g, ?_⟩
  refine (θ_run _ _ _).mono (fun r h c => ?_) (ReferenceQIdeal.Value.run m' g')
  obtain ⟨h0, h1⟩ := h c
  obtain ⟨a0, a1⟩ := hargs c
  refine ⟨h0.trans ?_, h1⟩
  rw [a0, a1]
  exact (ref_arr _ _).trans (final m c).symm

end Cert.Q
-- ==== Proof.Kv.lean ====
/- The prompt rows' keys and values: rows of `h` times the columns of `w_in` from 1024 on, in six layouts. -/
module
public import proofs.«01_k».proof.Defs
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.ReferenceKvIdeal
public import proofs.«01_k».proof.Proof.Gen.ReferenceKvIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Kv

set_option maxRecDepth 16384

section
open Cert.KernelKvIdeal Cert.KernelKvIdeal.Gen
variable (m : (ℓ : Loc nD τ sig) → Buf (Elt Ideal) ℓ)

/-- Row `i` of `h` times column `1024 + l` of `w`. -/
noncomputable def z (h : FVec Ideal S8192x2048 .bf16) (w : FVec Ideal S2048x12848 .f32) (i : Fin 8192) (l : Fin 1536) : EReal :=
  ∑ k : Fin 2048, h (ix2 i k) * w (ix2 k ⟨1024 + l.val, by omega⟩)

/-- The three pairs' rows. -/
noncomputable def raw (h : FVec Ideal S8192x2048 .bf16) (w : FVec Ideal S2048x12848 .f32) : S3x8192x512.Idx → EReal :=
  fun y => z h w (y 1) ⟨512 * (y 0).val + (y 2).val, by have h0 : (y 0).val < 3 := (y 0).isLt; have h2 : (y 2).val < 512 := (y 2).isLt; omega⟩
/-- The three pairs' keys. -/
noncomputable def keys (h : FVec Ideal S8192x2048 .bf16) (w : FVec Ideal S2048x12848 .f32) : S3x8192x256.Idx → EReal :=
  fun y => z h w (y 1) ⟨512 * (y 0).val + (y 2).val, by have h0 : (y 0).val < 3 := (y 0).isLt; have h2 : (y 2).val < 256 := (y 2).isLt; omega⟩
/-- The three pairs' values, positions last. -/
noncomputable def vals (h : FVec Ideal S8192x2048 .bf16) (w : FVec Ideal S2048x12848 .f32) : S3x2x256x4096.Idx → EReal :=
  fun y => z h w ⟨4096 * (y 1).val + (y 3).val, by have h1 : (y 1).val < 2 := (y 1).isLt; have h3 : (y 3).val < 4096 := (y 3).isLt; omega⟩
    ⟨512 * (y 0).val + (256 + (y 2).val), by have h0 : (y 0).val < 3 := (y 0).isLt; have h2 : (y 2).val < 256 := (y 2).isLt; omega⟩
/-- The three pairs' rows, positions last. -/
noncomputable def rawt (h : FVec Ideal S8192x2048 .bf16) (w : FVec Ideal S2048x12848 .f32) : S3x2x512x4096.Idx → EReal :=
  fun y => z h w ⟨4096 * (y 1).val + (y 3).val, by have h1 : (y 1).val < 2 := (y 1).isLt; have h3 : (y 3).val < 4096 := (y 3).isLt; omega⟩
    ⟨512 * (y 0).val + (y 2).val, by have h0 : (y 0).val < 3 := (y 0).isLt; have h2 : (y 2).val < 512 := (y 2).isLt; omega⟩
/-- Pair `p`'s rows by batch entry, position, key or value, head and lane. -/
noncomputable def rows (p : Fin 3) (h : FVec Ideal S8192x2048 .bf16) (w : FVec Ideal S2048x12848 .f32) : S2x4096x2x4x64.Idx → EReal :=
  fun y => z h w ⟨4096 * (y 0).val + (y 1).val, by have h0 : (y 0).val < 2 := (y 0).isLt; have h1 : (y 1).val < 4096 := (y 1).isLt; omega⟩
    ⟨512 * p.val + (256 * (y 2).val + (64 * (y 3).val + (y 4).val)), by
      have h2 : (y 2).val < 2 := (y 2).isLt; have h3 : (y 3).val < 4 := (y 3).isLt; have h4 : (y 4).val < 64 := (y 4).isLt; omega⟩
/-- The last pair's rows at the last 512 positions. -/
noncomputable def win (h : FVec Ideal S8192x2048 .bf16) (w : FVec Ideal S2048x12848 .f32) : S2x512x2x4x64.Idx → EReal :=
  fun y => rows 2 h w (ix5 (y 0) ⟨3584 + (y 1).val, by have h1 : (y 1).val < 512 := (y 1).isLt; omega⟩ (y 2) (y 3) (y 4))

theorem V_w (c : Dev nD) (i : Fin 2048) (j : Fin 2560) : V m c main_v1 (ix2 i j) = m ((c : Thread nD τ).loc main_arg1) (ix2 i ⟨j.val, by omega⟩) := by
  unfold V
  after_reads_at

/-- The grid point of tile `i` of the rows and pair `j`. -/
def pt (i : Fin 8) (j : Fin 3) : Fin cfg0.N := ⟨3 * i.val + j.val, by show _ < 24; omega⟩
theorem pt_surj : ∀ t : Fin cfg0.N, ∃ (i : Fin 8) (j : Fin 3), t = pt i j :=
  fun t => ⟨⟨t.val / 3, by have : t.val < 24 := t.isLt; omega⟩, ⟨t.val % 3, by omega⟩, Fin.ext (by show t.val = 3 * (t.val / 3) + t.val % 3; omega)⟩
theorem idx : ∀ (i : Fin 8) (j : Fin 3), win0_0.index (pt i j) = ![i.val, 0] ∧ win0_1.index (pt i j) = ![0, 2 + j.val] ∧ win0_2.index (pt i j) = ![j.val, i.val, 0]
    ∧ win0_3.index (pt i j) = ![j.val, i.val, 0] ∧ win0_4.index (pt i j) = ![j.val, i.val / 4, 0, i.val % 4] ∧ win0_5.index (pt i j) = ![j.val, i.val / 4, 0, i.val % 4] := by
  decide +kernel

theorem blk0 (c : Dev nD) (i : Fin 8) (j : Fin 3) (a : Fin 1024) (k : Fin 2048) :
    iblk m c 0 (pt i j) (ix2 a k) = m ((c : Thread nD τ).loc main_arg0) (ix2 ⟨1024 * i.val + a.val, by omega⟩ k) := by
  show V m c main_arg0 _ = _
  rw [V_main_arg0]
  congr 1
  blk_ext! [idx i j]
theorem blk1 (c : Dev nD) (i : Fin 8) (j : Fin 3) (k : Fin 2048) (b : Fin 512) :
    iblk m c 1 (pt i j) (ix2 k b) = m ((c : Thread nD τ).loc main_arg1) (ix2 k ⟨1024 + (512 * j.val + b.val), by omega⟩) := by
  refine Eq.trans ?_ (V_w m c k ⟨1024 + (512 * j.val + b.val), by omega⟩)
  show V m c main_v1 _ = _
  congr 1
  blk_ext! [idx i j]

theorem out2_at (x0 : Vec Ideal S1024x2048 .bf16) (x1 : Vec Ideal S2048x512 .bf16) (a : Fin 1024) (b : Fin 512) :
    out0_2 x0 x1 (ix3 0 a b) = ∑ k : Fin 2048, x0 (ix2 a k) * x1 (ix2 k b) := by
  frame_out
  pointwise [k0_pay3, k0_pay1]
theorem out3_at (x0 : Vec Ideal S1024x2048 .bf16) (x1 : Vec Ideal S2048x512 .bf16) (a : Fin 1024) (b : Fin 256) :
    out0_3 x0 x1 (ix3 0 a b) = ∑ k : Fin 2048, x0 (ix2 a k) * x1 (ix2 k ⟨b.val, by omega⟩) := by
  frame_out
  pointwise [k0_pay4, k0_pay1]
theorem out4_at (x0 : Vec Ideal S1024x2048 .bf16) (x1 : Vec Ideal S2048x512 .bf16) (b : Fin 256) (a : Fin 1024) :
    out0_4 x0 x1 (ix4 0 0 b a) = ∑ k : Fin 2048, x0 (ix2 a k) * x1 (ix2 k ⟨256 + b.val, by omega⟩) := by
  frame_out
  pointwise [k0_pay5, k0_pay2, k0_pay1]
theorem out5_at (x0 : Vec Ideal S1024x2048 .bf16) (x1 : Vec Ideal S2048x512 .bf16) (b : Fin 512) (a : Fin 1024) :
    out0_5 x0 x1 (ix4 0 0 b a) = ∑ k : Fin 2048, x0 (ix2 a k) * x1 (ix2 k b) := by
  frame_out
  pointwise [k0_pay6, k0_pay2, k0_pay1]

theorem emb2 (i : Fin 8) (j : Fin 3) (y : S1x1024x512.Idx) : (win0_2.blk (pt i j)).view.emb y = ix3 j ⟨1024 * i.val + (y 1).val, by have hy : (y 1).val < 1024 := (y 1).isLt; omega⟩ ⟨(y 2).val, by have hy : (y 2).val < 512 := (y 2).isLt; omega⟩ := by
  blk_ext! [idx i j]
theorem emb3 (i : Fin 8) (j : Fin 3) (y : S1x1024x256.Idx) : (win0_3.blk (pt i j)).view.emb y = ix3 j ⟨1024 * i.val + (y 1).val, by have hy : (y 1).val < 1024 := (y 1).isLt; omega⟩ ⟨(y 2).val, by have hy : (y 2).val < 256 := (y 2).isLt; omega⟩ := by
  blk_ext! [idx i j]
theorem emb4 (i : Fin 8) (j : Fin 3) (y : S1x1x256x1024.Idx) : (win0_4.blk (pt i j)).view.emb y = ix4 j ⟨i.val / 4, by omega⟩ ⟨(y 2).val, by have hy : (y 2).val < 256 := (y 2).isLt; omega⟩ ⟨1024 * (i.val % 4) + (y 3).val, by have hy : (y 3).val < 1024 := (y 3).isLt; omega⟩ := by
  blk_ext! [idx i j]
theorem emb5 (i : Fin 8) (j : Fin 3) (y : S1x1x512x1024.Idx) : (win0_5.blk (pt i j)).view.emb y = ix4 j ⟨i.val / 4, by omega⟩ ⟨(y 2).val, by have hy : (y 2).val < 512 := (y 2).isLt; omega⟩ ⟨1024 * (i.val % 4) + (y 3).val, by have hy : (y 3).val < 1024 := (y 3).isLt; omega⟩ := by
  blk_ext! [idx i j]

theorem final2 (c : Dev nD) : (dats m 0 c).arrAt 2 cfg0.N = raw (m ((c : Thread nD τ).loc main_arg0)) (m ((c : Thread nD τ).loc main_arg1)) := by
  refine (dats m 0 c).arrAt_eq_of_covers 2 (raw (m ((c : Thread nD τ).loc main_arg0)) (m ((c : Thread nD τ).loc main_arg1))) (by decide +kernel) fun t hf (y : S1x1024x512.Idx) => ?_
  obtain ⟨i, j, rfl⟩ := pt_surj t
  blk_simp
  rw [after0_2]
  refine Eq.trans ?_ (congrArg (raw (m ((c : Thread nD τ).loc main_arg0)) (m ((c : Thread nD τ).loc main_arg1))) (emb2 i j y)).symm
  idx_vars y
  obtain rfl : y0 = 0 := Subsingleton.elim _ _
  refine (out2_at _ _ y1 y2).trans ?_
  simp only [blk0, blk1]
  rfl

theorem final3 (c : Dev nD) : (dats m 0 c).arrAt 3 cfg0.N = keys (m ((c : Thread nD τ).loc main_arg0)) (m ((c : Thread nD τ).loc main_arg1)) := by
  refine (dats m 0 c).arrAt_eq_of_covers 3 (keys (m ((c : Thread nD τ).loc main_arg0)) (m ((c : Thread nD τ).loc main_arg1))) (by decide +kernel) fun t hf (y : S1x1024x256.Idx) => ?_
  obtain ⟨i, j, rfl⟩ := pt_surj t
  blk_simp
  rw [after0_3]
  refine Eq.trans ?_ (congrArg (keys (m ((c : Thread nD τ).loc main_arg0)) (m ((c : Thread nD τ).loc main_arg1))) (emb3 i j y)).symm
  idx_vars y
  obtain rfl : y0 = 0 := Subsingleton.elim _ _
  refine (out3_at _ _ y1 y2).trans ?_
  simp only [blk0, blk1]
  rfl

theorem final4 (c : Dev nD) : (dats m 0 c).arrAt 4 cfg0.N = vals (m ((c : Thread nD τ).loc main_arg0)) (m ((c : Thread nD τ).loc main_arg1)) := by
  refine (dats m 0 c).arrAt_eq_of_covers 4 (vals (m ((c : Thread nD τ).loc main_arg0)) (m ((c : Thread nD τ).loc main_arg1))) (by decide +kernel) fun t hf (y : S1x1x256x1024.Idx) => ?_
  obtain ⟨i, j, rfl⟩ := pt_surj t
  blk_simp
  rw [after0_4]
  refine Eq.trans ?_ (congrArg (vals (m ((c : Thread nD τ).loc main_arg0)) (m ((c : Thread nD τ).loc main_arg1))) (emb4 i j y)).symm
  idx_vars y
  obtain rfl : y0 = 0 := Subsingleton.elim _ _
  obtain rfl : y1 = 0 := Subsingleton.elim _ _
  refine (out4_at _ _ y2 y3).trans ?_
  simp only [blk0, blk1]
  have e : 1024 * i.val + y3.val = 4096 * (i.val / 4) + (1024 * (i.val % 4) + y3.val) := by omega
  simp only [e]
  rfl

theorem final5 (c : Dev nD) : (dats m 0 c).arrAt 5 cfg0.N = rawt (m ((c : Thread nD τ).loc main_arg0)) (m ((c : Thread nD τ).loc main_arg1)) := by
  refine (dats m 0 c).arrAt_eq_of_covers 5 (rawt (m ((c : Thread nD τ).loc main_arg0)) (m ((c : Thread nD τ).loc main_arg1))) (by decide +kernel) fun t hf (y : S1x1x512x1024.Idx) => ?_
  obtain ⟨i, j, rfl⟩ := pt_surj t
  blk_simp
  rw [after0_5]
  refine Eq.trans ?_ (congrArg (rawt (m ((c : Thread nD τ).loc main_arg0)) (m ((c : Thread nD τ).loc main_arg1))) (emb5 i j y)).symm
  idx_vars y
  obtain rfl : y0 = 0 := Subsingleton.elim _ _
  obtain rfl : y1 = 0 := Subsingleton.elim _ _
  refine (out5_at _ _ y2 y3).trans ?_
  simp only [blk0, blk1]
  have e : 1024 * i.val + y3.val = 4096 * (i.val / 4) + (1024 * (i.val % 4) + y3.val) := by omega
  simp only [e]
  rfl

theorem tail9 (U : Valuation τ sig (Elt Ideal)) (b : Fin 2) (t : Fin 4096) (e : Fin 2) (hh : Fin 4) (d : Fin 64) :
    StableHlo.after hostOps1 U (Proc.devRef .tc main_v9) (ix5 b t e hh d) = U (Proc.devRef .tc main_v2_3) (ix4 0 b ⟨256 * e.val + (64 * hh.val + d.val), by omega⟩ t) := by
  after_reads_at
  blk_ext []
theorem tail13 (U : Valuation τ sig (Elt Ideal)) (b : Fin 2) (t : Fin 4096) (e : Fin 2) (hh : Fin 4) (d : Fin 64) :
    StableHlo.after hostOps1 U (Proc.devRef .tc main_v13) (ix5 b t e hh d) = U (Proc.devRef .tc main_v2_3) (ix4 1 b ⟨256 * e.val + (64 * hh.val + d.val), by omega⟩ t) := by
  after_reads_at
  blk_ext []
theorem tail15 (U : Valuation τ sig (Elt Ideal)) (b : Fin 2) (t : Fin 512) (e : Fin 2) (hh : Fin 4) (d : Fin 64) :
    StableHlo.after hostOps1 U (Proc.devRef .tc main_v15) (ix5 b t e hh d) = U (Proc.devRef .tc main_v2_3) (ix4 2 b ⟨256 * e.val + (64 * hh.val + d.val), by omega⟩ ⟨3584 + t.val, by omega⟩) := by
  after_reads_at
  blk_ext []

/-- The host lines read the region's last array where it lies. -/
theorem base (c : Dev nD) : Pipeline.withArrays (cfgs 0).spec c (V0 m c) (fun w => (dats m 0 c).arrAt w (cfgs 0).N) (Proc.devRef .tc main_v2_3)
    = rawt (m ((c : Thread nD τ).loc main_arg0)) (m ((c : Thread nD τ).loc main_arg1)) :=
  (Pipeline.withArrays_arr spec0 (by decide) c (V0 m c) (fun w => (dats m 0 c).arrAt w (cfgs 0).N) 5).trans (final5 m c)

theorem res9 (c : Dev nD) : Pipeline.afterTail₀ cfgs (dats m) 0 (V0 m) [hostOps1] c main_v9 = rows 0 (m ((c : Thread nD τ).loc main_arg0)) (m ((c : Thread nD τ).loc main_arg1)) := by
  unfold Pipeline.afterTail₀
  rw [List.flatten_singleton]
  funext y
  idx_vars y
  refine (tail9 _ y0 y1 y2 y3 y4).trans ((congrFun (base m c) _).trans ?_)
  rfl
theorem res13 (c : Dev nD) : Pipeline.afterTail₀ cfgs (dats m) 0 (V0 m) [hostOps1] c main_v13 = rows 1 (m ((c : Thread nD τ).loc main_arg0)) (m ((c : Thread nD τ).loc main_arg1)) := by
  unfold Pipeline.afterTail₀
  rw [List.flatten_singleton]
  funext y
  idx_vars y
  refine (tail13 _ y0 y1 y2 y3 y4).trans ((congrFun (base m c) _).trans ?_)
  rfl
theorem res15 (c : Dev nD) : Pipeline.afterTail₀ cfgs (dats m) 0 (V0 m) [hostOps1] c main_v15 = win (m ((c : Thread nD τ).loc main_arg0)) (m ((c : Thread nD τ).loc main_arg1)) := by
  unfold Pipeline.afterTail₀
  rw [List.flatten_singleton]
  funext y
  idx_vars y
  refine (tail15 _ y0 y1 y2 y3 y4).trans ((congrFun (base m c) _).trans ?_)
  rfl

end

section
open Idealize.ShloMosaic.StableHlo Cert.ReferenceKvIdeal Cert.ReferenceKvIdeal.Gen
variable (h : FVec Ideal S8192x2048 .bf16) (w : FVec Ideal S2048x12848 .f32)

theorem ref_raw : (concatenate S3x8192x512 0 [⟨S1x8192x512, (broadcastInDim S1x8192x512 ![1, 2] bcast_S8192x512_S1x8192x512_1_2 (concatenate S8192x512 1 [⟨S8192x256, (extractStridedSlice S8192x256 ![0, 1024] (Host.dotGeneral dot_S8192x2048_S2048x12848_S8192x12848_1_0_0_1_n_n none (extf .f32 h bitsLt_bf16_f32) w) slices_S8192x12848_S8192x256_0_1024)⟩, ⟨S8192x256, (extractStridedSlice S8192x256 ![0, 1280] (Host.dotGeneral dot_S8192x2048_S2048x12848_S8192x12848_1_0_0_1_n_n none (extf .f32 h bitsLt_bf16_f32) w) slices_S8192x12848_S8192x256_0_1280)⟩] concatenates_S8192x256_S8192x256_S8192x512_d1))⟩, ⟨S1x8192x512, (broadcastInDim S1x8192x512 ![1, 2] bcast_S8192x512_S1x8192x512_1_2 (concatenate S8192x512 1 [⟨S8192x256, (extractStridedSlice S8192x256 ![0, 1536] (Host.dotGeneral dot_S8192x2048_S2048x12848_S8192x12848_1_0_0_1_n_n none (extf .f32 h bitsLt_bf16_f32) w) slices_S8192x12848_S8192x256_0_1536)⟩, ⟨S8192x256, (extractStridedSlice S8192x256 ![0, 1792] (Host.dotGeneral dot_S8192x2048_S2048x12848_S8192x12848_1_0_0_1_n_n none (extf .f32 h bitsLt_bf16_f32) w) slices_S8192x12848_S8192x256_0_1792)⟩] concatenates_S8192x256_S8192x256_S8192x512_d1))⟩, ⟨S1x8192x512, (broadcastInDim S1x8192x512 ![1, 2] bcast_S8192x512_S1x8192x512_1_2 (concatenate S8192x512 1 [⟨S8192x256, (extractStridedSlice S8192x256 ![0, 2048] (Host.dotGeneral dot_S8192x2048_S2048x12848_S8192x12848_1_0_0_1_n_n none (extf .f32 h bitsLt_bf16_f32) w) slices_S8192x12848_S8192x256_0_2048)⟩, ⟨S8192x256, (extractStridedSlice S8192x256 ![0, 2304] (Host.dotGeneral dot_S8192x2048_S2048x12848_S8192x12848_1_0_0_1_n_n none (extf .f32 h bitsLt_bf16_f32) w) slices_S8192x12848_S8192x256_0_2304)⟩] concatenates_S8192x256_S8192x256_S8192x512_d1))⟩] concatenates_S1x8192x512_S1x8192x512_S1x8192x512_S3x8192x512_d0 : FVec Ideal S3x8192x512 .f32) = raw h w := by
  funext y
  idx_vars y
  pointwise [raw, z]
  all_goals (repeat' split)
  all_goals blk_point []
theorem ref_keys : (truncf .bf16 (concatenate S3x8192x256 0 [⟨S1x8192x256, (broadcastInDim S1x8192x256 ![1, 2] bcast_S8192x256_S1x8192x256_1_2 (extractStridedSlice S8192x256 ![0, 1024] (Host.dotGeneral dot_S8192x2048_S2048x12848_S8192x12848_1_0_0_1_n_n none (extf .f32 h bitsLt_bf16_f32) w) slices_S8192x12848_S8192x256_0_1024))⟩, ⟨S1x8192x256, (broadcastInDim S1x8192x256 ![1, 2] bcast_S8192x256_S1x8192x256_1_2 (extractStridedSlice S8192x256 ![0, 1536] (Host.dotGeneral dot_S8192x2048_S2048x12848_S8192x12848_1_0_0_1_n_n none (extf .f32 h bitsLt_bf16_f32) w) slices_S8192x12848_S8192x256_0_1536))⟩, ⟨S1x8192x256, (broadcastInDim S1x8192x256 ![1, 2] bcast_S8192x256_S1x8192x256_1_2 (extractStridedSlice S8192x256 ![0, 2048] (Host.dotGeneral dot_S8192x2048_S2048x12848_S8192x12848_1_0_0_1_n_n none (extf .f32 h bitsLt_bf16_f32) w) slices_S8192x12848_S8192x256_0_2048))⟩] concatenates_S1x8192x256_S1x8192x256_S1x8192x256_S3x8192x256_d0 : FVec Ideal S3x8192x256 .f32) bitsLt_bf16_f32 : FVec Ideal S3x8192x256 .bf16) = keys h w := by
  funext y
  idx_vars y
  pointwise [keys, z]
  all_goals (repeat' split)
  all_goals blk_point []
theorem ref_vals : (transpose S3x2x256x4096 [0, 1, 3, 2] (shapeCast S3x2x4096x256 (truncf .bf16 (concatenate S3x8192x256 0 [⟨S1x8192x256, (broadcastInDim S1x8192x256 ![1, 2] bcast_S8192x256_S1x8192x256_1_2 (extractStridedSlice S8192x256 ![0, 1280] (Host.dotGeneral dot_S8192x2048_S2048x12848_S8192x12848_1_0_0_1_n_n none (extf .f32 h bitsLt_bf16_f32) w) slices_S8192x12848_S8192x256_0_1280))⟩, ⟨S1x8192x256, (broadcastInDim S1x8192x256 ![1, 2] bcast_S8192x256_S1x8192x256_1_2 (extractStridedSlice S8192x256 ![0, 1792] (Host.dotGeneral dot_S8192x2048_S2048x12848_S8192x12848_1_0_0_1_n_n none (extf .f32 h bitsLt_bf16_f32) w) slices_S8192x12848_S8192x256_0_1792))⟩, ⟨S1x8192x256, (broadcastInDim S1x8192x256 ![1, 2] bcast_S8192x256_S1x8192x256_1_2 (extractStridedSlice S8192x256 ![0, 2304] (Host.dotGeneral dot_S8192x2048_S2048x12848_S8192x12848_1_0_0_1_n_n none (extf .f32 h bitsLt_bf16_f32) w) slices_S8192x12848_S8192x256_0_2304))⟩] concatenates_S1x8192x256_S1x8192x256_S1x8192x256_S3x8192x256_d0 : FVec Ideal S3x8192x256 .f32) bitsLt_bf16_f32 : FVec Ideal S3x8192x256 .bf16) shapeCasts_S3x8192x256_S3x2x4096x256) transposes_S3x2x4096x256_S3x2x256x4096_0_1_3_2 : FVec Ideal S3x2x256x4096 .bf16) = vals h w := by
  funext y
  idx_vars y
  pointwise [vals, z]
  all_goals (repeat' split)
  all_goals blk_point []
theorem ref0 : ((concatenate S2x4096x2x4x64 2 [⟨S2x4096x1x4x64, (broadcastInDim S2x4096x1x4x64 ![0, 1, 3, 4] bcast_S2x4096x4x64_S2x4096x1x4x64_0_1_3_4 (shapeCast S2x4096x4x64 (extractStridedSlice S8192x256 ![0, 1024] (Host.dotGeneral dot_S8192x2048_S2048x12848_S8192x12848_1_0_0_1_n_n none (extf .f32 h bitsLt_bf16_f32) w) slices_S8192x12848_S8192x256_0_1024) shapeCasts_S8192x256_S2x4096x4x64))⟩, ⟨S2x4096x1x4x64, (broadcastInDim S2x4096x1x4x64 ![0, 1, 3, 4] bcast_S2x4096x4x64_S2x4096x1x4x64_0_1_3_4 (shapeCast S2x4096x4x64 (extractStridedSlice S8192x256 ![0, 1280] (Host.dotGeneral dot_S8192x2048_S2048x12848_S8192x12848_1_0_0_1_n_n none (extf .f32 h bitsLt_bf16_f32) w) slices_S8192x12848_S8192x256_0_1280) shapeCasts_S8192x256_S2x4096x4x64))⟩] concatenates_S2x4096x1x4x64_S2x4096x1x4x64_S2x4096x2x4x64_d2) : FVec Ideal S2x4096x2x4x64 .f32) = rows 0 h w := by
  funext y
  idx_vars y
  pointwise [rows, z]
  all_goals (repeat' split)
  all_goals blk_point []
theorem ref1 : ((concatenate S2x4096x2x4x64 2 [⟨S2x4096x1x4x64, (broadcastInDim S2x4096x1x4x64 ![0, 1, 3, 4] bcast_S2x4096x4x64_S2x4096x1x4x64_0_1_3_4 (shapeCast S2x4096x4x64 (extractStridedSlice S8192x256 ![0, 1536] (Host.dotGeneral dot_S8192x2048_S2048x12848_S8192x12848_1_0_0_1_n_n none (extf .f32 h bitsLt_bf16_f32) w) slices_S8192x12848_S8192x256_0_1536) shapeCasts_S8192x256_S2x4096x4x64))⟩, ⟨S2x4096x1x4x64, (broadcastInDim S2x4096x1x4x64 ![0, 1, 3, 4] bcast_S2x4096x4x64_S2x4096x1x4x64_0_1_3_4 (shapeCast S2x4096x4x64 (extractStridedSlice S8192x256 ![0, 1792] (Host.dotGeneral dot_S8192x2048_S2048x12848_S8192x12848_1_0_0_1_n_n none (extf .f32 h bitsLt_bf16_f32) w) slices_S8192x12848_S8192x256_0_1792) shapeCasts_S8192x256_S2x4096x4x64))⟩] concatenates_S2x4096x1x4x64_S2x4096x1x4x64_S2x4096x2x4x64_d2) : FVec Ideal S2x4096x2x4x64 .f32) = rows 1 h w := by
  funext y
  idx_vars y
  pointwise [rows, z]
  all_goals (repeat' split)
  all_goals blk_point []
theorem ref2 : ((concatenate S2x4096x2x4x64 2 [⟨S2x4096x1x4x64, (broadcastInDim S2x4096x1x4x64 ![0, 1, 3, 4] bcast_S2x4096x4x64_S2x4096x1x4x64_0_1_3_4 (shapeCast S2x4096x4x64 (extractStridedSlice S8192x256 ![0, 2048] (Host.dotGeneral dot_S8192x2048_S2048x12848_S8192x12848_1_0_0_1_n_n none (extf .f32 h bitsLt_bf16_f32) w) slices_S8192x12848_S8192x256_0_2048) shapeCasts_S8192x256_S2x4096x4x64))⟩, ⟨S2x4096x1x4x64, (broadcastInDim S2x4096x1x4x64 ![0, 1, 3, 4] bcast_S2x4096x4x64_S2x4096x1x4x64_0_1_3_4 (shapeCast S2x4096x4x64 (extractStridedSlice S8192x256 ![0, 2304] (Host.dotGeneral dot_S8192x2048_S2048x12848_S8192x12848_1_0_0_1_n_n none (extf .f32 h bitsLt_bf16_f32) w) slices_S8192x12848_S8192x256_0_2304) shapeCasts_S8192x256_S2x4096x4x64))⟩] concatenates_S2x4096x1x4x64_S2x4096x1x4x64_S2x4096x2x4x64_d2) : FVec Ideal S2x4096x2x4x64 .f32) = rows 2 h w := by
  funext y
  idx_vars y
  pointwise [rows, z]
  all_goals (repeat' split)
  all_goals blk_point []
theorem ref_win : (extractStridedSlice S2x512x2x4x64 ![0, 3584, 0, 0, 0] (concatenate S2x4096x2x4x64 2 [⟨S2x4096x1x4x64, (broadcastInDim S2x4096x1x4x64 ![0, 1, 3, 4] bcast_S2x4096x4x64_S2x4096x1x4x64_0_1_3_4 (shapeCast S2x4096x4x64 (extractStridedSlice S8192x256 ![0, 2048] (Host.dotGeneral dot_S8192x2048_S2048x12848_S8192x12848_1_0_0_1_n_n none (extf .f32 h bitsLt_bf16_f32) w) slices_S8192x12848_S8192x256_0_2048) shapeCasts_S8192x256_S2x4096x4x64))⟩, ⟨S2x4096x1x4x64, (broadcastInDim S2x4096x1x4x64 ![0, 1, 3, 4] bcast_S2x4096x4x64_S2x4096x1x4x64_0_1_3_4 (shapeCast S2x4096x4x64 (extractStridedSlice S8192x256 ![0, 2304] (Host.dotGeneral dot_S8192x2048_S2048x12848_S8192x12848_1_0_0_1_n_n none (extf .f32 h bitsLt_bf16_f32) w) slices_S8192x12848_S8192x256_0_2304) shapeCasts_S8192x256_S2x4096x4x64))⟩] concatenates_S2x4096x1x4x64_S2x4096x1x4x64_S2x4096x2x4x64_d2) slices_S2x4096x2x4x64_S2x512x2x4x64_0_3584_0_0_0 : FVec Ideal S2x512x2x4x64 .f32) = win h w := by
  rw [ref2]
  funext y
  idx_vars y
  pointwise [win]
end

/-- The reference runs and leaves its arguments. -/
theorem ref_frame [hReferenceKvIdeal : Cert.ReferenceKvIdeal.Facts] : Cert.quiescent_ReferenceKvIdeal := fun m g _ =>
  (θ_run Cert.ReferenceKvIdeal.defs _ _).mono (fun r h => ⟨fun c => (h c).2.2.2.2.2.2, Idealize.ShloMosaic.sem_eq_zero_of_no_sems (by decide) r.2⟩)
    (ReferenceKvIdeal.Value.run m g)

section
open Cert.KernelKvIdeal Cert.KernelKvIdeal.Gen
/-- The kernel runs, leaves its arguments and ends with the six arrays. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = (dats m 0 c).arrAt 2 cfg0.N
      ∧ r.2.mem ((c.tc : Thread nD τ).loc main_v2_1) = (dats m 0 c).arrAt 3 cfg0.N
      ∧ r.2.mem ((c.tc : Thread nD τ).loc main_v2_2) = (dats m 0 c).arrAt 4 cfg0.N
      ∧ r.2.mem ((c.tc : Thread nD τ).loc main_v9) = Pipeline.afterTail₀ cfgs (dats m) 0 (V0 m) [hostOps1] c main_v9
      ∧ r.2.mem ((c.tc : Thread nD τ).loc main_v13) = Pipeline.afterTail₀ cfgs (dats m) 0 (V0 m) [hostOps1] c main_v13
      ∧ r.2.mem ((c.tc : Thread nD τ).loc main_v15) = Pipeline.afterTail₀ cfgs (dats m) 0 (V0 m) [hostOps1] c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, (h.1 c).1 3, (h.1 c).1 4,
      (h.1 c).2 main_v9 (Pipeline.mem_restRefs_of main_v9 (by decide) (by decide)),
      (h.1 c).2 main_v13 (Pipeline.mem_restRefs_of main_v13 (by decide) (by decide)),
      (h.1 c).2 main_v15 (Pipeline.mem_restRefs_of main_v15 (by decide) (by decide)), h.2 c⟩)
    (θ_run_and (run_main m g) (unchanged m g))
end

/-- The kernel's results and the reference's are the same arrays. -/
theorem algebraic : Cert.algebraic_KernelKvIdeal_ReferenceKvIdeal (hKernelKvIdeal := Cert.KernelKvIdeal.Gen.facts) (hReferenceKvIdeal := Cert.ReferenceKvIdeal.Gen.facts) := by
  intro m g m' g' _ hargs
  refine ⟨_, _, _, _, _, _, kernel_run m g, ?_⟩
  refine (θ_run _ _ _).mono (fun r h c => ?_) (ReferenceKvIdeal.Value.run m' g')
  obtain ⟨h0, h1, h2, h3, h4, h5, h6⟩ := h c
  obtain ⟨a0, a1⟩ := hargs c
  rw [a0, a1] at h0 h1 h2 h3 h4 h5
  exact ⟨h0.trans ((ref_raw _ _).trans (final2 m c).symm), h1.trans ((ref_keys _ _).trans (final3 m c).symm), h2.trans ((ref_vals _ _).trans (final4 m c).symm),
    h3.trans ((ref0 _ _).trans (res9 m c).symm), h4.trans ((ref1 _ _).trans (res13 m c).symm), h5.trans ((ref_win _ _).trans (res15 m c).symm), h6⟩

end Cert.Kv
-- ==== Proof.Merge.lean ====
/- The merge of the two branches: each branch's projection times its gate, summed. -/
module
public import proofs.«01_k».proof.Defs
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.ReferenceMergeIdeal
public import proofs.«01_k».proof.Proof.Gen.KernelMergeIdeal.Value
public import proofs.«01_k».proof.Proof.Gen.ReferenceMergeIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Merge

set_option maxRecDepth 16384

section
open Cert.KernelMergeIdeal Cert.KernelMergeIdeal.Gen
variable (m : (ℓ : Loc nD τ sig) → Buf (Elt Ideal) ℓ)

/-- The merge at row `i` and column `j`: the gates stand in columns `2048 + j` and `4096 + j` of `q`. -/
noncomputable def val (o : FVec Ideal S8192x1024 .bf16) (r : FVec Ideal S8192x2048 .bf16) (q : FVec Ideal S8192x6144 .bf16) (wo : FVec Ideal S1024x2048 .f32) (wr : FVec Ideal S2048x2048 .f32) (i : Fin 8192) (j : Fin 2048) : EReal :=
  q (ix2 i ⟨2048 + j.val, by omega⟩) * (∑ k : Fin 1024, o (ix2 i k) * wo (ix2 k j)) + q (ix2 i ⟨4096 + j.val, by omega⟩) * ∑ k : Fin 2048, r (ix2 i k) * wr (ix2 k j)

noncomputable def arr (o : FVec Ideal S8192x1024 .bf16) (r : FVec Ideal S8192x2048 .bf16) (q : FVec Ideal S8192x6144 .bf16) (wo : FVec Ideal S1024x2048 .f32) (wr : FVec Ideal S2048x2048 .f32) : S8192x2048.Idx → EReal :=
  fun y => val o r q wo wr (y 0) (y 1)

theorem V_wo (c : Dev nD) (i : Fin 1024) (j : Fin 2048) : V m c main_v0 (ix2 i j) = m ((c : Thread nD τ).loc main_arg3) (ix2 i j) := by
  unfold V
  after_reads_at
theorem V_wr (c : Dev nD) (i : Fin 2048) (j : Fin 2048) : V m c main_v1 (ix2 i j) = m ((c : Thread nD τ).loc main_arg4) (ix2 i j) := by
  unfold V
  after_reads_at

/-- The grid point of tile `i` of the rows and tile `j` of the columns. -/
def pt (i : Fin 8) (j : Fin 2) : Fin cfg0.N := ⟨2 * i.val + j.val, by show _ < 16; omega⟩
theorem pt_surj : ∀ t : Fin cfg0.N, ∃ (i : Fin 8) (j : Fin 2), t = pt i j :=
  fun t => ⟨⟨t.val / 2, by have : t.val < 16 := t.isLt; omega⟩, ⟨t.val % 2, by omega⟩, Fin.ext (by show t.val = 2 * (t.val / 2) + t.val % 2; omega)⟩
theorem idx : ∀ (i : Fin 8) (j : Fin 2), win0_0.index (pt i j) = ![i.val, 0] ∧ win0_1.index (pt i j) = ![i.val, 0] ∧ win0_2.index (pt i j) = ![0, j.val]
    ∧ win0_3.index (pt i j) = ![0, j.val] ∧ win0_4.index (pt i j) = ![i.val, 2 + j.val] ∧ win0_5.index (pt i j) = ![i.val, 4 + j.val] ∧ win0_6.index (pt i j) = ![i.val, j.val] := by
  decide +kernel

theorem blk0 (c : Dev nD) (i : Fin 8) (j : Fin 2) (a : Fin 1024) (k : Fin 1024) :
    iblk m c 0 (pt i j) (ix2 a k) = m ((c : Thread nD τ).loc main_arg0) (ix2 ⟨1024 * i.val + a.val, by omega⟩ k) := by
  show V m c main_arg0 _ = _
  rw [V_main_arg0]
  congr 1
  blk_ext! [idx i j]
theorem blk1 (c : Dev nD) (i : Fin 8) (j : Fin 2) (a : Fin 1024) (k : Fin 2048) :
    iblk m c 1 (pt i j) (ix2 a k) = m ((c : Thread nD τ).loc main_arg1) (ix2 ⟨1024 * i.val + a.val, by omega⟩ k) := by
  show V m c main_arg1 _ = _
  rw [V_main_arg1]
  congr 1
  blk_ext! [idx i j]
theorem blk2 (c : Dev nD) (i : Fin 8) (j : Fin 2) (k : Fin 1024) (b : Fin 1024) :
    iblk m c 2 (pt i j) (ix2 k b) = m ((c : Thread nD τ).loc main_arg3) (ix2 k ⟨1024 * j.val + b.val, by omega⟩) := by
  refine Eq.trans ?_ (V_wo m c k ⟨1024 * j.val + b.val, by omega⟩)
  show V m c main_v0 _ = _
  congr 1
  blk_ext! [idx i j]
theorem blk3 (c : Dev nD) (i : Fin 8) (j : Fin 2) (k : Fin 2048) (b : Fin 1024) :
    iblk m c 3 (pt i j) (ix2 k b) = m ((c : Thread nD τ).loc main_arg4) (ix2 k ⟨1024 * j.val + b.val, by omega⟩) := by
  refine Eq.trans ?_ (V_wr m c k ⟨1024 * j.val + b.val, by omega⟩)
  show V m c main_v1 _ = _
  congr 1
  blk_ext! [idx i j]
theorem blk4 (c : Dev nD) (i : Fin 8) (j : Fin 2) (a b : Fin 1024) :
    iblk m c 4 (pt i j) (ix2 a b) = m ((c : Thread nD τ).loc main_arg2) (ix2 ⟨1024 * i.val + a.val, by omega⟩ ⟨2048 + (1024 * j.val + b.val), by omega⟩) := by
  show V m c main_arg2 _ = _
  rw [V_main_arg2]
  congr 1
  blk_ext! [idx i j]
theorem blk5 (c : Dev nD) (i : Fin 8) (j : Fin 2) (a b : Fin 1024) :
    iblk m c 5 (pt i j) (ix2 a b) = m ((c : Thread nD τ).loc main_arg2) (ix2 ⟨1024 * i.val + a.val, by omega⟩ ⟨4096 + (1024 * j.val + b.val), by omega⟩) := by
  show V m c main_arg2 _ = _
  rw [V_main_arg2]
  congr 1
  blk_ext! [idx i j]

theorem out_at (x0 : Vec Ideal S1024x1024 .bf16) (x1 : Vec Ideal S1024x2048 .bf16) (x2 : Vec Ideal S1024x1024 .bf16) (x3 : Vec Ideal S2048x1024 .bf16) (x4 x5 : Vec Ideal S1024x1024 .bf16) (a b : Fin 1024) :
    out0_6 x0 x1 x2 x3 x4 x5 (ix2 a b) = x4 (ix2 a b) * (∑ k : Fin 1024, x0 (ix2 a k) * x2 (ix2 k b)) + x5 (ix2 a b) * ∑ k : Fin 2048, x1 (ix2 a k) * x3 (ix2 k b) := by
  frame_out
  pointwise [k0_pay1]

theorem emb (i : Fin 8) (j : Fin 2) (y : S1024x1024.Idx) : (win0_6.blk (pt i j)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j]

/-- The kernel's result array. -/
theorem final (c : Dev nD) : (dats m 0 c).arrAt 6 cfg0.N = arr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 (arr (m ((c : Thread nD τ).loc main_arg0)) (m ((c : Thread nD τ).loc main_arg1)) (m ((c : Thread nD τ).loc main_arg2)) (m ((c : Thread nD τ).loc main_arg3)) (m ((c : Thread nD τ).loc main_arg4))) (by decide +kernel) fun t hf (y : S1024x1024.Idx) => ?_
  obtain ⟨i, j, rfl⟩ := pt_surj t
  blk_simp
  rw [after0_6]
  refine Eq.trans ?_ (congrArg (arr (m ((c : Thread nD τ).loc main_arg0)) (m ((c : Thread nD τ).loc main_arg1)) (m ((c : Thread nD τ).loc main_arg2)) (m ((c : Thread nD τ).loc main_arg3)) (m ((c : Thread nD τ).loc main_arg4))) (emb i j y)).symm
  idx_vars y
  refine (out_at _ _ _ _ _ _ y0 y1).trans ?_
  simp only [blk0, blk1, blk2, blk3, blk4, blk5]
  rfl

end

section
open Idealize.ShloMosaic.StableHlo Cert.ReferenceMergeIdeal Cert.ReferenceMergeIdeal.Gen

/-- The reference's result array. -/
theorem ref_arr (o : FVec Ideal S8192x1024 .bf16) (r : FVec Ideal S8192x2048 .bf16) (q : FVec Ideal S8192x6144 .bf16) (wo : FVec Ideal S1024x2048 .f32) (wr : FVec Ideal S2048x2048 .f32) :
    (truncf .bf16 (addf (mulf (extf .f32 (extractStridedSlice S8192x2048 ![0, 2048] q slices_S8192x6144_S8192x2048_0_2048) bitsLt_bf16_f32) (Host.dotGeneral dot_S8192x1024_S1024x2048_S8192x2048_1_0_0_1_n_n none (extf .f32 o bitsLt_bf16_f32) wo)) (mulf (extf .f32 (extractStridedSlice S8192x2048 ![0, 4096] q slices_S8192x6144_S8192x2048_0_4096) bitsLt_bf16_f32) (Host.dotGeneral dot_S8192x2048_S2048x2048_S8192x2048_1_0_0_1_n_n none (extf .f32 r bitsLt_bf16_f32) wr))) bitsLt_bf16_f32
      : FVec Ideal S8192x2048 .bf16) = arr o r q wo wr := by
  funext y
  idx_vars y
  pointwise [arr, val]
end

/-- The reference runs and leaves its arguments. -/
theorem ref_frame [hReferenceMergeIdeal : Cert.ReferenceMergeIdeal.Facts] : Cert.quiescent_ReferenceMergeIdeal := fun m g _ =>
  (θ_run Cert.ReferenceMergeIdeal.defs _ _).mono (fun r h => ⟨fun c => (h c).2, Idealize.ShloMosaic.sem_eq_zero_of_no_sems (by decide) r.2⟩)
    (ReferenceMergeIdeal.Value.run m g)

/-- The kernel's result and the reference's are the same array. -/
theorem algebraic : Cert.algebraic_KernelMergeIdeal_ReferenceMergeIdeal (hKernelMergeIdeal := Cert.KernelMergeIdeal.Gen.facts) (hReferenceMergeIdeal := Cert.ReferenceMergeIdeal.Gen.facts) := by
  intro m g m' g' _ hargs
  refine ⟨fun c => (KernelMergeIdeal.Gen.dats m 0 c).arrAt 6 KernelMergeIdeal.cfg0.N, KernelMergeIdeal.Value.run_blocks m g, ?_⟩
  refine (θ_run _ _ _).mono (fun r h c => ?_) (ReferenceMergeIdeal.Value.run m' g')
  obtain ⟨h0, h1⟩ := h c
  obtain ⟨a0, a1, a2, a3, a4⟩ := hargs c
  refine ⟨h0.trans ?_, h1⟩
  rw [a0, a1, a2, a3, a4]
  exact (ref_arr _ _ _ _ _).trans (final m c).symm

end Cert.Merge
-- ==== Proof.Out.lean ====
/- The output projection and its residual: `x + g1 * (merged @ w_out)`. -/
module
public import proofs.«01_k».proof.Defs
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.KernelOutIdeal.Value
public import proofs.«01_k».proof.Proof.Gen.ReferenceOutIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Out

set_option maxRecDepth 16384

section
open Cert.KernelOutIdeal Cert.KernelOutIdeal.Gen
variable (m : (ℓ : Loc nD τ sig) → Buf (Elt Ideal) ℓ)

/-- The residual at row `i` and column `j`: `x` plus the batch entry's gate times row `i` of `u` times column `j` of `w`. -/
noncomputable def val (u : FVec Ideal S8192x2048 .bf16) (w : FVec Ideal S2048x2048 .f32) (x : FVec Ideal S8192x2048 .f32) (g : FVec Ideal S2x1x2048 .f32) (i : Fin 8192) (j : Fin 2048) : EReal :=
  x (ix2 i j) + g (ix3 ⟨i.val / 4096, by omega⟩ 0 j) * ∑ k : Fin 2048, u (ix2 i k) * w (ix2 k j)

noncomputable def arr (u : FVec Ideal S8192x2048 .bf16) (w : FVec Ideal S2048x2048 .f32) (x : FVec Ideal S8192x2048 .f32) (g : FVec Ideal S2x1x2048 .f32) : S8192x2048.Idx → EReal :=
  fun y => val u w x g (y 0) (y 1)

theorem V_w (c : Dev nD) (i : Fin 2048) (j : Fin 2048) : V m c main_v0 (ix2 i j) = m ((c : Thread nD τ).loc main_arg1) (ix2 i j) := by
  unfold V
  after_reads_at

/-- The grid point of tile `i` of the rows and tile `j` of the columns. -/
def pt (i : Fin 8) (j : Fin 2) : Fin cfg0.N := ⟨2 * i.val + j.val, by show _ < 16; omega⟩
theorem pt_surj : ∀ t : Fin cfg0.N, ∃ (i : Fin 8) (j : Fin 2), t = pt i j :=
  fun t => ⟨⟨t.val / 2, by have : t.val < 16 := t.isLt; omega⟩, ⟨t.val % 2, by omega⟩, Fin.ext (by show t.val = 2 * (t.val / 2) + t.val % 2; omega)⟩
theorem idx : ∀ (i : Fin 8) (j : Fin 2), win0_0.index (pt i j) = ![i.val, 0] ∧ win0_1.index (pt i j) = ![0, j.val] ∧ win0_2.index (pt i j) = ![i.val, j.val] ∧ win0_3.index (pt i j) = ![i.val / 4, 0, j.val] ∧ win0_4.index (pt i j) = ![i.val, j.val] := by
  decide +kernel

theorem blk0 (c : Dev nD) (i : Fin 8) (j : Fin 2) (a : Fin 1024) (k : Fin 2048) :
    iblk m c 0 (pt i j) (ix2 a k) = m ((c : Thread nD τ).loc main_arg0) (ix2 ⟨1024 * i.val + a.val, by omega⟩ k) := by
  show V m c main_arg0 _ = _
  rw [V_main_arg0]
  congr 1
  blk_ext! [idx i j]
theorem blk1 (c : Dev nD) (i : Fin 8) (j : Fin 2) (k : Fin 2048) (b : Fin 1024) :
    iblk m c 1 (pt i j) (ix2 k b) = m ((c : Thread nD τ).loc main_arg1) (ix2 k ⟨1024 * j.val + b.val, by omega⟩) := by
  refine Eq.trans ?_ (V_w m c k ⟨1024 * j.val + b.val, by omega⟩)
  show V m c main_v0 _ = _
  congr 1
  blk_ext! [idx i j]
theorem blk2 (c : Dev nD) (i : Fin 8) (j : Fin 2) (a b : Fin 1024) :
    iblk m c 2 (pt i j) (ix2 a b) = m ((c : Thread nD τ).loc main_arg2) (ix2 ⟨1024 * i.val + a.val, by omega⟩ ⟨1024 * j.val + b.val, by omega⟩) := by
  show V m c main_arg2 _ = _
  rw [V_main_arg2]
  congr 1
  blk_ext! [idx i j]
theorem blk3 (c : Dev nD) (i : Fin 8) (j : Fin 2) (b : Fin 1024) :
    iblk m c 3 (pt i j) (ix3 0 0 b) = m ((c : Thread nD τ).loc main_arg3) (ix3 ⟨i.val / 4, by omega⟩ 0 ⟨1024 * j.val + b.val, by omega⟩) := by
  show V m c main_arg3 _ = _
  rw [V_main_arg3]
  congr 1
  blk_ext! [idx i j]

theorem out_at (x0 : Vec Ideal S1024x2048 .bf16) (x1 : Vec Ideal S2048x1024 .bf16) (x2 : Vec Ideal S1024x1024 .f32) (x3 : Vec Ideal S1x1x1024 .f32) (a b : Fin 1024) :
    out0_4 x0 x1 x2 x3 (ix2 a b) = x2 (ix2 a b) + x3 (ix3 0 0 b) * ∑ k : Fin 2048, x0 (ix2 a k) * x1 (ix2 k b) := by
  frame_out
  pointwise [k0_pay1]

theorem emb (i : Fin 8) (j : Fin 2) (y : S1024x1024.Idx) : (win0_4.blk (pt i j)).view.emb y = ix2 ⟨1024 * i.val + (y 0).val, by have hy : (y 0).val < 1024 := (y 0).isLt; omega⟩ ⟨1024 * j.val + (y 1).val, by have hy : (y 1).val < 1024 := (y 1).isLt; omega⟩ := by
  blk_ext! [idx i j]

/-- The kernel's result array. -/
theorem final (c : Dev nD) : (dats m 0 c).arrAt 4 cfg0.N = arr (m ((c : Thread nD τ).loc main_arg0)) (m ((c : Thread nD τ).loc main_arg1)) (m ((c : Thread nD τ).loc main_arg2)) (m ((c : Thread nD τ).loc main_arg3)) := by
  refine (dats m 0 c).arrAt_eq_of_covers 4 (arr (m ((c : Thread nD τ).loc main_arg0)) (m ((c : Thread nD τ).loc main_arg1)) (m ((c : Thread nD τ).loc main_arg2)) (m ((c : Thread nD τ).loc main_arg3))) (by decide +kernel) fun t hf (y : S1024x1024.Idx) => ?_
  obtain ⟨i, j, rfl⟩ := pt_surj t
  blk_simp
  rw [after0_4]
  refine Eq.trans ?_ (congrArg (arr (m ((c : Thread nD τ).loc main_arg0)) (m ((c : Thread nD τ).loc main_arg1)) (m ((c : Thread nD τ).loc main_arg2)) (m ((c : Thread nD τ).loc main_arg3))) (emb i j y)).symm
  idx_vars y
  refine (out_at _ _ _ _ y0 y1).trans ?_
  have hd : i.val / 4 = (1024 * i.val + y0.val) / 4096 := by omega
  simp only [blk0, blk1, blk2, blk3, hd]
  rfl

end

section
open Idealize.ShloMosaic.StableHlo Cert.ReferenceOutIdeal Cert.ReferenceOutIdeal.Gen

/-- The reference's result array. -/
theorem ref_arr (u : FVec Ideal S8192x2048 .bf16) (w : FVec Ideal S2048x2048 .f32) (x : FVec Ideal S8192x2048 .f32) (g : FVec Ideal S2x1x2048 .f32) :
    (shapeCast S8192x2048 (addf (shapeCast S2x4096x2048 x shapeCasts_S8192x2048_S2x4096x2048) (mulf (broadcastInDim S2x4096x2048 ![0, 1, 2] bcast_S2x1x2048_S2x4096x2048_0_1_2 g) (shapeCast S2x4096x2048 (Host.dotGeneral dot_S8192x2048_S2048x2048_S8192x2048_1_0_0_1_n_n none (extf .f32 u bitsLt_bf16_f32) w) shapeCasts_S8192x2048_S2x4096x2048))) shapeCasts_S2x4096x2048_S8192x2048
      : FVec Ideal S8192x2048 .f32) = arr u w x g := by
  funext y
  idx_vars y
  pointwise [arr, val]
end

/-- The reference runs and leaves its arguments. -/
theorem ref_frame [hReferenceOutIdeal : Cert.ReferenceOutIdeal.Facts] : Cert.quiescent_ReferenceOutIdeal := fun m g _ =>
  (θ_run Cert.ReferenceOutIdeal.defs _ _).mono (fun r h => ⟨fun c => (h c).2, Idealize.ShloMosaic.sem_eq_zero_of_no_sems (by decide) r.2⟩)
    (ReferenceOutIdeal.Value.run m g)

/-- The kernel's result and the reference's are the same array. -/
theorem algebraic : Cert.algebraic_KernelOutIdeal_ReferenceOutIdeal (hKernelOutIdeal := Cert.KernelOutIdeal.Gen.facts) (hReferenceOutIdeal := Cert.ReferenceOutIdeal.Gen.facts) := by
  intro m g m' g' _ hargs
  refine ⟨fun c => (KernelOutIdeal.Gen.dats m 0 c).arrAt 4 KernelOutIdeal.cfg0.N, KernelOutIdeal.Value.run_blocks m g, ?_⟩
  refine (θ_run _ _ _).mono (fun r h c => ?_) (ReferenceOutIdeal.Value.run m' g')
  obtain ⟨h0, h1⟩ := h c
  obtain ⟨a0, a1, a2, a3⟩ := hargs c
  refine ⟨h0.trans ?_, h1⟩
  rw [a0, a1, a2, a3]
  exact (ref_arr _ _ _ _).trans (final m c).symm

end Cert.Out
-- ==== Proof.Yp.lean ====
/- The final norm of the prompt rows: each row over the root of its mean square, times the weights. -/
module
public import proofs.«01_k».proof.Defs
public import proofs.«01_k».proof.Proof.Gen.KernelYp
public import proofs.«01_k».proof.Proof.Gen.KernelYp.Frame
public import proofs.«01_k».proof.Proof.Gen.KernelYpIdeal
public import proofs.«01_k».proof.Proof.Gen.KernelYpIdeal.Frame
public import proofs.«01_k».proof.Proof.Gen.ReferenceYpIdeal
public import proofs.«01_k».proof.Proof.Gen.KernelYpIdeal.Value
public import proofs.«01_k».proof.Proof.Gen.ReferenceYpIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Yp

set_option maxRecDepth 16384

section
open Cert.KernelYpIdeal Cert.KernelYpIdeal.Gen
variable (m : (ℓ : Loc nD τ sig) → Buf (Elt Ideal) ℓ)

/-- Row `i` of `x` over the root of its mean square plus `1e-6`, times `w`. -/
noncomputable def val (x : FVec Ideal S8192x2048 .f32) (w : FVec Ideal S2048 .f32) (i : Fin 8192) (j : Fin 2048) : EReal :=
  x (ix2 i j) * Ideal.rsqrt (Ideal.div (∑ k : Fin 2048, x (ix2 i k) * x (ix2 i k)) (Ideal.ofBits FTy.f32 0x45000000#32) + Ideal.ofBits FTy.f32 0x358637BD#32) * w (ix1 j)

noncomputable def arr (x : FVec Ideal S8192x2048 .f32) (w : FVec Ideal S2048 .f32) : S8192x2048.Idx → EReal :=
  fun y => val x w (y 0) (y 1)

theorem V_w (c : Dev nD) (j : Fin 2048) : V m c main_v0 (ix2 0 j) = m ((c : Thread nD τ).loc main_arg1) (ix1 j) := by
  unfold V
  after_reads_at

/-- The grid point of tile `i` of the rows. -/
def pt (i : Fin 32) : Fin cfg0.N := ⟨i.val, i.isLt⟩
theorem pt_surj : ∀ t : Fin cfg0.N, ∃ (i : Fin 32), t = pt i := fun t => ⟨⟨t.val, t.isLt⟩, rfl⟩
theorem idx : ∀ (i : Fin 32), win0_0.index (pt i) = ![i.val, 0] ∧ win0_1.index (pt i) = ![0, 0] ∧ win0_2.index (pt i) = ![i.val, 0] := by
  decide +kernel

theorem blk0 (c : Dev nD) (i : Fin 32) (a : Fin 256) (k : Fin 2048) :
    iblk m c 0 (pt i) (ix2 a k) = m ((c : Thread nD τ).loc main_arg0) (ix2 ⟨256 * i.val + a.val, by omega⟩ k) := by
  show V m c main_arg0 _ = _
  rw [V_main_arg0]
  congr 1
  blk_ext! [idx i]
theorem blk1 (c : Dev nD) (i : Fin 32) (k : Fin 2048) :
    iblk m c 1 (pt i) (ix2 0 k) = m ((c : Thread nD τ).loc main_arg1) (ix1 k) := by
  refine Eq.trans ?_ (V_w m c k)
  show V m c main_v0 _ = _
  congr 1
  blk_ext! [idx i]

theorem out_at (x0 : Vec Ideal S256x2048 .f32) (x1 : Vec Ideal S1x2048 .f32) (a : Fin 256) (b : Fin 2048) :
    out0_2 x0 x1 (ix2 a b) = x0 (ix2 a b) * Ideal.rsqrt (Ideal.div (∑ k : Fin 2048, x0 (ix2 a k) * x0 (ix2 a k)) (Ideal.ofBits FTy.f32 0x45000000#32) + Ideal.ofBits FTy.f32 0x358637BD#32) * x1 (ix2 0 b) := by
  frame_out
  pointwise [k0_pay1]

theorem emb (i : Fin 32) (y : S256x2048.Idx) : (win0_2.blk (pt i)).view.emb y = ix2 ⟨256 * i.val + (y 0).val, by have hy : (y 0).val < 256 := (y 0).isLt; omega⟩ ⟨(y 1).val, by have hy : (y 1).val < 2048 := (y 1).isLt; omega⟩ := by
  blk_ext! [idx i]

/-- The kernel's result array. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S256x2048.Idx) => ?_
  obtain ⟨i, rfl⟩ := pt_surj t
  blk_simp
  rw [after0_2]
  refine Eq.trans ?_ (congrArg (arr (m ((c : Thread nD τ).loc main_arg0)) (m ((c : Thread nD τ).loc main_arg1))) (emb i y)).symm
  idx_vars y
  refine (out_at _ _ y0 y1).trans ?_
  simp only [blk0, blk1]
  rfl

end

section
open Idealize.ShloMosaic.StableHlo Cert.ReferenceYpIdeal Cert.ReferenceYpIdeal.Gen

/-- The reference's result array. -/
theorem ref_arr (x : FVec Ideal S8192x2048 .f32) (w : FVec Ideal S2048 .f32) :
    (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 w))
      : FVec Ideal S8192x2048 .f32) = arr x w := by
  funext y
  idx_vars y
  pointwise [arr, val]
end

/-- The reference runs and leaves its arguments. -/
theorem ref_frame [hReferenceYpIdeal : Cert.ReferenceYpIdeal.Facts] : Cert.quiescent_ReferenceYpIdeal := fun m g _ =>
  (θ_run Cert.ReferenceYpIdeal.defs _ _).mono (fun r h => ⟨fun c => (h c).2, Idealize.ShloMosaic.sem_eq_zero_of_no_sems (by decide) r.2⟩)
    (ReferenceYpIdeal.Value.run m g)

/-- The kernel's result and the reference's are the same array. -/
theorem algebraic : Cert.algebraic_KernelYpIdeal_ReferenceYpIdeal (hKernelYpIdeal := Cert.KernelYpIdeal.Gen.facts) (hReferenceYpIdeal := Cert.ReferenceYpIdeal.Gen.facts) := by
  intro m g m' g' _ hargs
  refine ⟨fun c => (KernelYpIdeal.Gen.dats m 0 c).arrAt 2 KernelYpIdeal.cfg0.N, KernelYpIdeal.Value.run_blocks m g, ?_⟩
  refine (θ_run _ _ _).mono (fun r h c => ?_) (ReferenceYpIdeal.Value.run m' g')
  obtain ⟨h0, h1⟩ := h c
  obtain ⟨a0, a1⟩ := hargs c
  refine ⟨h0.trans ?_, h1⟩
  rw [a0, a1]
  exact (ref_arr _ _).trans (final m c).symm

end Cert.Yp
-- ==== Proof.Ys.lean ====
/- The final norm of the sample rows: each row over the root of its mean square, times the weights. -/
module
public import proofs.«01_k».proof.Defs
public import proofs.«01_k».proof.Proof.Gen.KernelYs
public import proofs.«01_k».proof.Proof.Gen.KernelYs.Frame
public import proofs.«01_k».proof.Proof.Gen.KernelYsIdeal
public import proofs.«01_k».proof.Proof.Gen.KernelYsIdeal.Frame
public import proofs.«01_k».proof.Proof.Gen.ReferenceYsIdeal
public import proofs.«01_k».proof.Proof.Gen.KernelYsIdeal.Value
public import proofs.«01_k».proof.Proof.Gen.ReferenceYsIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Ys

set_option maxRecDepth 16384

section
open Cert.KernelYsIdeal Cert.KernelYsIdeal.Gen
variable (m : (ℓ : Loc nD τ sig) → Buf (Elt Ideal) ℓ)

/-- Row `i` of `x` over the root of its mean square plus `1e-6`, times `w`. -/
noncomputable def val (x : FVec Ideal S64x2048 .f32) (w : FVec Ideal S2048 .f32) (i : Fin 64) (j : Fin 2048) : EReal :=
  x (ix2 i j) * Ideal.rsqrt (Ideal.div (∑ k : Fin 2048, x (ix2 i k) * x (ix2 i k)) (Ideal.ofBits FTy.f32 0x45000000#32) + Ideal.ofBits FTy.f32 0x358637BD#32) * w (ix1 j)

noncomputable def arr (x : FVec Ideal S64x2048 .f32) (w : FVec Ideal S2048 .f32) : S64x2048.Idx → EReal :=
  fun y => val x w (y 0) (y 1)

theorem V_w (c : Dev nD) (j : Fin 2048) : V m c main_v0 (ix2 0 j) = m ((c : Thread nD τ).loc main_arg1) (ix1 j) := by
  unfold V
  after_reads_at

/-- The grid point of tile `i` of the rows. -/
def pt (i : Fin 1) : Fin cfg0.N := ⟨i.val, i.isLt⟩
theorem pt_surj : ∀ t : Fin cfg0.N, ∃ (i : Fin 1), t = pt i := fun t => ⟨⟨t.val, t.isLt⟩, rfl⟩
theorem idx : ∀ (i : Fin 1), win0_0.index (pt i) = ![i.val, 0] ∧ win0_1.index (pt i) = ![0, 0] ∧ win0_2.index (pt i) = ![i.val, 0] := by
  decide +kernel

theorem blk0 (c : Dev nD) (i : Fin 1) (a : Fin 64) (k : Fin 2048) :
    iblk m c 0 (pt i) (ix2 a k) = m ((c : Thread nD τ).loc main_arg0) (ix2 ⟨64 * i.val + a.val, by omega⟩ k) := by
  show V m c main_arg0 _ = _
  rw [V_main_arg0]
  congr 1
  blk_ext! [idx i]
theorem blk1 (c : Dev nD) (i : Fin 1) (k : Fin 2048) :
    iblk m c 1 (pt i) (ix2 0 k) = m ((c : Thread nD τ).loc main_arg1) (ix1 k) := by
  refine Eq.trans ?_ (V_w m c k)
  show V m c main_v0 _ = _
  congr 1
  blk_ext! [idx i]

theorem out_at (x0 : Vec Ideal S64x2048 .f32) (x1 : Vec Ideal S1x2048 .f32) (a : Fin 64) (b : Fin 2048) :
    out0_2 x0 x1 (ix2 a b) = x0 (ix2 a b) * Ideal.rsqrt (Ideal.div (∑ k : Fin 2048, x0 (ix2 a k) * x0 (ix2 a k)) (Ideal.ofBits FTy.f32 0x45000000#32) + Ideal.ofBits FTy.f32 0x358637BD#32) * x1 (ix2 0 b) := by
  frame_out
  pointwise [k0_pay1]

theorem emb (i : Fin 1) (y : S64x2048.Idx) : (win0_2.blk (pt i)).view.emb y = ix2 ⟨64 * i.val + (y 0).val, by have hy : (y 0).val < 64 := (y 0).isLt; omega⟩ ⟨(y 1).val, by have hy : (y 1).val < 2048 := (y 1).isLt; omega⟩ := by
  blk_ext! [idx i]

/-- The kernel's result array. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S64x2048.Idx) => ?_
  obtain ⟨i, rfl⟩ := pt_surj t
  blk_simp
  rw [after0_2]
  refine Eq.trans ?_ (congrArg (arr (m ((c : Thread nD τ).loc main_arg0)) (m ((c : Thread nD τ).loc main_arg1))) (emb i y)).symm
  idx_vars y
  refine (out_at _ _ y0 y1).trans ?_
  simp only [blk0, blk1]
  rfl

end

section
open Idealize.ShloMosaic.StableHlo Cert.ReferenceYsIdeal Cert.ReferenceYsIdeal.Gen

/-- The reference's result array. -/
theorem ref_arr (x : FVec Ideal S64x2048 .f32) (w : FVec Ideal S2048 .f32) :
    (mulf (mulf x (broadcastInDim S64x2048 ![0, 1] bcast_S64x1_S64x2048_0_1 (Host.rsqrt (addf (Host.divf (broadcastInDim S64x1 ![0] bcast_S64_S64x1_0 (Host.reduceAdd (mulf x x) (constant S_ .f32 0x00000000#32) reducesTo_S64x2048_S64_d1 h_S_)) (broadcastInDim S64x1 ![] bcast_S_S64x1 (constant S_ .f32 0x45000000#32))) (broadcastInDim S64x1 ![] bcast_S_S64x1 (constant S_ .f32 0x358637BD#32)))))) (broadcastInDim S64x2048 ![0, 1] bcast_S1x2048_S64x2048_0_1 (broadcastInDim S1x2048 ![1] bcast_S2048_S1x2048_1 w))
      : FVec Ideal S64x2048 .f32) = arr x w := by
  funext y
  idx_vars y
  pointwise [arr, val]
end

/-- The reference runs and leaves its arguments. -/
theorem ref_frame [hReferenceYsIdeal : Cert.ReferenceYsIdeal.Facts] : Cert.quiescent_ReferenceYsIdeal := fun m g _ =>
  (θ_run Cert.ReferenceYsIdeal.defs _ _).mono (fun r h => ⟨fun c => (h c).2, Idealize.ShloMosaic.sem_eq_zero_of_no_sems (by decide) r.2⟩)
    (ReferenceYsIdeal.Value.run m g)

/-- The kernel's result and the reference's are the same array. -/
theorem algebraic : Cert.algebraic_KernelYsIdeal_ReferenceYsIdeal (hKernelYsIdeal := Cert.KernelYsIdeal.Gen.facts) (hReferenceYsIdeal := Cert.ReferenceYsIdeal.Gen.facts) := by
  intro m g m' g' _ hargs
  refine ⟨fun c => (KernelYsIdeal.Gen.dats m 0 c).arrAt 2 KernelYsIdeal.cfg0.N, KernelYsIdeal.Value.run_blocks m g, ?_⟩
  refine (θ_run _ _ _).mono (fun r h c => ?_) (ReferenceYsIdeal.Value.run m' g')
  obtain ⟨h0, h1⟩ := h c
  obtain ⟨a0, a1⟩ := hargs c
  refine ⟨h0.trans ?_, h1⟩
  rw [a0, a1]
  exact (ref_arr _ _).trans (final m c).symm

end Cert.Ys
-- ==== Proof.Kvs.lean ====
/- The sample rows' keys and values: rows of `h` times the columns of `w_in` from 1024 on, and the window buffer moved on by the new positions. -/
module
public import proofs.«01_k».proof.Defs
public import proofs.«01_k».proof.Proof.Gen.KernelKvs
public import proofs.«01_k».proof.Proof.Gen.KernelKvs.Frame
public import proofs.«01_k».proof.Proof.Gen.KernelKvsIdeal
public import proofs.«01_k».proof.Proof.Gen.KernelKvsIdeal.Frame
public import proofs.«01_k».proof.Proof.Gen.ReferenceKvsIdeal
public import proofs.«01_k».proof.Proof.Gen.ReferenceKvsIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Kvs

set_option maxRecDepth 16384

section
open Cert.KernelKvsIdeal Cert.KernelKvsIdeal.Gen
variable (m : (ℓ : Loc nD τ sig) → Buf (Elt Ideal) ℓ)

/-- Row `i` of `h` times column `1024 + l` of `w`. -/
noncomputable def z (h : FVec Ideal S64x2048 .f32) (w : FVec Ideal S2048x12848 .f32) (i : Fin 64) (l : Fin 1536) : EReal :=
  ∑ k : Fin 2048, h (ix2 i k) * w (ix2 k ⟨1024 + l.val, by omega⟩)

noncomputable def arr (h : FVec Ideal S64x2048 .f32) (w : FVec Ideal S2048x12848 .f32) : S3x64x512.Idx → EReal :=
  fun y => z h w (y 1) ⟨512 * (y 0).val + (y 2).val, by have h0 : (y 0).val < 3 := (y 0).isLt; have h2 : (y 2).val < 512 := (y 2).isLt; omega⟩

/-- The new rows of pair `p` (compressed, selected, window), by batch entry, position, key or value, head and lane. -/
noncomputable def rows (p : Fin 3) (h : FVec Ideal S64x2048 .f32) (w : FVec Ideal S2048x12848 .f32) : S8x8x2x4x64.Idx → EReal :=
  fun y => z h w ⟨8 * (y 0).val + (y 1).val, by have h0 : (y 0).val < 8 := (y 0).isLt; have h1 : (y 1).val < 8 := (y 1).isLt; omega⟩
    ⟨512 * p.val + (256 * (y 2).val + (64 * (y 3).val + (y 4).val)), by
      have h2 : (y 2).val < 2 := (y 2).isLt; have h3 : (y 3).val < 4 := (y 3).isLt; have h4 : (y 4).val < 64 := (y 4).isLt; omega⟩

/-- The window buffer without its first 8 positions, then the new rows. -/
noncomputable def win (h : FVec Ideal S64x2048 .f32) (w : FVec Ideal S2048x12848 .f32) (s : FVec Ideal S8x512x2x4x64 .f32) : S8x512x2x4x64.Idx → EReal :=
  fun y => if hy : (y 1).val < 504 then s (ix5 (y 0) ⟨(y 1).val + 8, by omega⟩ (y 2) (y 3) (y 4))
    else rows 2 h w (ix5 (y 0) ⟨(y 1).val - 504, by have h1 : (y 1).val < 512 := (y 1).isLt; omega⟩ (y 2) (y 3) (y 4))

theorem V_w (c : Dev nD) (i : Fin 2048) (j : Fin 2560) : V m c main_v1 (ix2 i j) = m ((c : Thread nD τ).loc main_arg1) (ix2 i ⟨j.val, by omega⟩) := by
  unfold V
  after_reads_at

/-- The grid point of pair `j`. -/
def pt (j : Fin 3) : Fin cfg0.N := ⟨j.val, j.isLt⟩
theorem pt_surj : ∀ t : Fin cfg0.N, ∃ (j : Fin 3), t = pt j := fun t => ⟨⟨t.val, t.isLt⟩, rfl⟩
theorem idx : ∀ (j : Fin 3), win0_0.index (pt j) = ![0, 0] ∧ win0_1.index (pt j) = ![0, 2 + j.val] ∧ win0_2.index (pt j) = ![j.val, 0, 0] := by
  decide +kernel

theorem blk0 (c : Dev nD) (j : Fin 3) (a : Fin 64) (k : Fin 2048) :
    iblk m c 0 (pt j) (ix2 a k) = m ((c : Thread nD τ).loc main_arg0) (ix2 a k) := by
  show V m c main_arg0 _ = _
  rw [V_main_arg0]
  congr 1
  blk_ext! [idx j]
theorem blk1 (c : Dev nD) (j : Fin 3) (k : Fin 2048) (b : Fin 512) :
    iblk m c 1 (pt j) (ix2 k b) = m ((c : Thread nD τ).loc main_arg1) (ix2 k ⟨1024 + (512 * j.val + b.val), by omega⟩) := by
  refine Eq.trans ?_ (V_w m c k ⟨1024 + (512 * j.val + b.val), by omega⟩)
  show V m c main_v1 _ = _
  congr 1
  blk_ext! [idx j]

theorem out_at (x0 : Vec Ideal S64x2048 .f32) (x1 : Vec Ideal S2048x512 .bf16) (a : Fin 64) (b : Fin 512) :
    out0_2 x0 x1 (ix3 0 a b) = ∑ k : Fin 2048, x0 (ix2 a k) * x1 (ix2 k b) := by
  frame_out
  pointwise [k0_pay1]

theorem emb (j : Fin 3) (y : S1x64x512.Idx) : (win0_2.blk (pt j)).view.emb y = ix3 j ⟨(y 1).val, by have hy : (y 1).val < 64 := (y 1).isLt; omega⟩ ⟨(y 2).val, by have hy : (y 2).val < 512 := (y 2).isLt; omega⟩ := by
  blk_ext! [idx j]

/-- The array the kernel's region writes. -/
theorem final (c : Dev nD) : (dats m 0 c).arrAt 2 cfg0.N = arr (m ((c : Thread nD τ).loc main_arg0)) (m ((c : Thread nD τ).loc main_arg1)) := by
  refine (dats m 0 c).arrAt_eq_of_covers 2 (arr (m ((c : Thread nD τ).loc main_arg0)) (m ((c : Thread nD τ).loc main_arg1))) (by decide +kernel) fun t hf (y : S1x64x512.Idx) => ?_
  obtain ⟨j, rfl⟩ := pt_surj t
  blk_simp
  rw [after0_2]
  refine Eq.trans ?_ (congrArg (arr (m ((c : Thread nD τ).loc main_arg0)) (m ((c : Thread nD τ).loc main_arg1))) (emb j y)).symm
  idx_vars y
  obtain rfl : y0 = 0 := Subsingleton.elim _ _
  refine (out_at _ _ y1 y2).trans ?_
  simp only [blk0, blk1]
  rfl

theorem tail14 (U : Valuation τ sig (Elt Ideal)) (b t : Fin 8) (e : Fin 2) (hh : Fin 4) (d : Fin 64) :
    StableHlo.after hostOps1 U (Proc.devRef .tc main_v14) (ix5 b t e hh d) = U (Proc.devRef .tc main_v2) (ix3 0 ⟨8 * b.val + t.val, by omega⟩ ⟨256 * e.val + (64 * hh.val + d.val), by omega⟩) := by
  after_reads_at
  blk_ext []
theorem tail15 (U : Valuation τ sig (Elt Ideal)) (b t : Fin 8) (e : Fin 2) (hh : Fin 4) (d : Fin 64) :
    StableHlo.after hostOps1 U (Proc.devRef .tc main_v15) (ix5 b t e hh d) = U (Proc.devRef .tc main_v2) (ix3 1 ⟨8 * b.val + t.val, by omega⟩ ⟨256 * e.val + (64 * hh.val + d.val), by omega⟩) := by
  after_reads_at
  blk_ext []
theorem tail17 (U : Valuation τ sig (Elt Ideal)) (b : Fin 8) (t : Fin 512) (e : Fin 2) (hh : Fin 4) (d : Fin 64) :
    StableHlo.after hostOps1 U (Proc.devRef .tc main_v17) (ix5 b t e hh d) = if ht : t.val < 504 then U (Proc.devRef .tc main_arg2) (ix5 b ⟨t.val + 8, by omega⟩ e hh d)
      else U (Proc.devRef .tc main_v2) (ix3 2 ⟨8 * b.val + (t.val - 504), by omega⟩ ⟨256 * e.val + (64 * hh.val + d.val), by omega⟩) := by
  after_reads_at
  by_cases ht : t.val < 504
  · rw [dif_pos (by omega), dif_pos ht]
    after_reads_at
    blk_ext []
  · rw [dif_neg (by omega), dif_neg ht]
    after_reads_at
    blk_ext []

/-- What the host lines start from: the region's array where it lies, the arguments as launched. -/
theorem base_v2 (c : Dev nD) : Pipeline.withArrays (cfgs 0).spec c (V0 m c) (fun w => (dats m 0 c).arrAt w (cfgs 0).N) (Proc.devRef .tc main_v2)
    = arr (m ((c : Thread nD τ).loc main_arg0)) (m ((c : Thread nD τ).loc main_arg1)) :=
  (Pipeline.withArrays_arr spec0 (by decide) c (V0 m c) (fun w => (dats m 0 c).arrAt w (cfgs 0).N) 2).trans (final m c)
theorem base_arg2 (c : Dev nD) : Pipeline.withArrays (cfgs 0).spec c (V0 m c) (fun w => (dats m 0 c).arrAt w (cfgs 0).N) (Proc.devRef .tc main_arg2)
    = m ((c : Thread nD τ).loc main_arg2) :=
  (Pipeline.withArrays_of_ne _ c (V0 m c) _ main_arg2 (by exact (by decide : ∀ w, Pipeline.arrRef spec0 w ≠ main_arg2))).trans (V_main_arg2 m c)

theorem res14 (c : Dev nD) : Pipeline.afterTail₀ cfgs (dats m) 0 (V0 m) [hostOps1] c main_v14 = rows 0 (m ((c : Thread nD τ).loc main_arg0)) (m ((c : Thread nD τ).loc main_arg1)) := by
  unfold Pipeline.afterTail₀
  rw [List.flatten_singleton]
  funext y
  idx_vars y
  refine (tail14 _ y0 y1 y2 y3 y4).trans ((congrFun (base_v2 m c) _).trans ?_)
  show z _ _ _ _ = z _ _ _ _
  congr 1
theorem res15 (c : Dev nD) : Pipeline.afterTail₀ cfgs (dats m) 0 (V0 m) [hostOps1] c main_v15 = rows 1 (m ((c : Thread nD τ).loc main_arg0)) (m ((c : Thread nD τ).loc main_arg1)) := by
  unfold Pipeline.afterTail₀
  rw [List.flatten_singleton]
  funext y
  idx_vars y
  refine (tail15 _ y0 y1 y2 y3 y4).trans ((congrFun (base_v2 m c) _).trans ?_)
  show z _ _ _ _ = z _ _ _ _
  congr 1
theorem res17 (c : Dev nD) : Pipeline.afterTail₀ cfgs (dats m) 0 (V0 m) [hostOps1] c main_v17 = win (m ((c : Thread nD τ).loc main_arg0)) (m ((c : Thread nD τ).loc main_arg1)) (m ((c : Thread nD τ).loc main_arg2)) := by
  unfold Pipeline.afterTail₀
  rw [List.flatten_singleton]
  funext y
  idx_vars y
  refine (tail17 _ y0 y1 y2 y3 y4).trans ?_
  rw [base_v2, base_arg2]
  show _ = if hy : y1.val < 504 then _ else _
  split
  · rfl
  · rfl

end

section
open Idealize.ShloMosaic.StableHlo Cert.ReferenceKvsIdeal Cert.ReferenceKvsIdeal.Gen

theorem ref0 (h : FVec Ideal S64x2048 .f32) (w : FVec Ideal S2048x12848 .f32) :
    ((concatenate S8x8x2x4x64 2 [⟨S8x8x1x4x64, (broadcastInDim S8x8x1x4x64 ![0, 1, 3, 4] bcast_S8x8x4x64_S8x8x1x4x64_0_1_3_4 (shapeCast S8x8x4x64 (extractStridedSlice S64x256 ![0, 1024] (Host.dotGeneral dot_S64x2048_S2048x12848_S64x12848_1_0_0_1_n_n none h w) slices_S64x12848_S64x256_0_1024) shapeCasts_S64x256_S8x8x4x64))⟩, ⟨S8x8x1x4x64, (broadcastInDim S8x8x1x4x64 ![0, 1, 3, 4] bcast_S8x8x4x64_S8x8x1x4x64_0_1_3_4 (shapeCast S8x8x4x64 (extractStridedSlice S64x256 ![0, 1280] (Host.dotGeneral dot_S64x2048_S2048x12848_S64x12848_1_0_0_1_n_n none h w) slices_S64x12848_S64x256_0_1280) shapeCasts_S64x256_S8x8x4x64))⟩] concatenates_S8x8x1x4x64_S8x8x1x4x64_S8x8x2x4x64_d2) : FVec Ideal S8x8x2x4x64 .f32) = rows 0 h w := by
  funext y
  idx_vars y
  pointwise [rows, z]
  all_goals (repeat' split)
  all_goals blk_point []
theorem ref1 (h : FVec Ideal S64x2048 .f32) (w : FVec Ideal S2048x12848 .f32) :
    ((concatenate S8x8x2x4x64 2 [⟨S8x8x1x4x64, (broadcastInDim S8x8x1x4x64 ![0, 1, 3, 4] bcast_S8x8x4x64_S8x8x1x4x64_0_1_3_4 (shapeCast S8x8x4x64 (extractStridedSlice S64x256 ![0, 1536] (Host.dotGeneral dot_S64x2048_S2048x12848_S64x12848_1_0_0_1_n_n none h w) slices_S64x12848_S64x256_0_1536) shapeCasts_S64x256_S8x8x4x64))⟩, ⟨S8x8x1x4x64, (broadcastInDim S8x8x1x4x64 ![0, 1, 3, 4] bcast_S8x8x4x64_S8x8x1x4x64_0_1_3_4 (shapeCast S8x8x4x64 (extractStridedSlice S64x256 ![0, 1792] (Host.dotGeneral dot_S64x2048_S2048x12848_S64x12848_1_0_0_1_n_n none h w) slices_S64x12848_S64x256_0_1792) shapeCasts_S64x256_S8x8x4x64))⟩] concatenates_S8x8x1x4x64_S8x8x1x4x64_S8x8x2x4x64_d2) : FVec Ideal S8x8x2x4x64 .f32) = rows 1 h w := by
  funext y
  idx_vars y
  pointwise [rows, z]
  all_goals (repeat' split)
  all_goals blk_point []
theorem ref2 (h : FVec Ideal S64x2048 .f32) (w : FVec Ideal S2048x12848 .f32) :
    ((concatenate S8x8x2x4x64 2 [⟨S8x8x1x4x64, (broadcastInDim S8x8x1x4x64 ![0, 1, 3, 4] bcast_S8x8x4x64_S8x8x1x4x64_0_1_3_4 (shapeCast S8x8x4x64 (extractStridedSlice S64x256 ![0, 2048] (Host.dotGeneral dot_S64x2048_S2048x12848_S64x12848_1_0_0_1_n_n none h w) slices_S64x12848_S64x256_0_2048) shapeCasts_S64x256_S8x8x4x64))⟩, ⟨S8x8x1x4x64, (broadcastInDim S8x8x1x4x64 ![0, 1, 3, 4] bcast_S8x8x4x64_S8x8x1x4x64_0_1_3_4 (shapeCast S8x8x4x64 (extractStridedSlice S64x256 ![0, 2304] (Host.dotGeneral dot_S64x2048_S2048x12848_S64x12848_1_0_0_1_n_n none h w) slices_S64x12848_S64x256_0_2304) shapeCasts_S64x256_S8x8x4x64))⟩] concatenates_S8x8x1x4x64_S8x8x1x4x64_S8x8x2x4x64_d2) : FVec Ideal S8x8x2x4x64 .f32) = rows 2 h w := by
  funext y
  idx_vars y
  pointwise [rows, z]
  all_goals (repeat' split)
  all_goals blk_point []
theorem ref_win (h : FVec Ideal S64x2048 .f32) (w : FVec Ideal S2048x12848 .f32) (s : FVec Ideal S8x512x2x4x64 .f32) :
    (extractStridedSlice S8x512x2x4x64 ![0, 8, 0, 0, 0] (concatenate S8x520x2x4x64 1 [⟨S8x512x2x4x64, s⟩, ⟨S8x8x2x4x64, (concatenate S8x8x2x4x64 2 [⟨S8x8x1x4x64, (broadcastInDim S8x8x1x4x64 ![0, 1, 3, 4] bcast_S8x8x4x64_S8x8x1x4x64_0_1_3_4 (shapeCast S8x8x4x64 (extractStridedSlice S64x256 ![0, 2048] (Host.dotGeneral dot_S64x2048_S2048x12848_S64x12848_1_0_0_1_n_n none h w) slices_S64x12848_S64x256_0_2048) shapeCasts_S64x256_S8x8x4x64))⟩, ⟨S8x8x1x4x64, (broadcastInDim S8x8x1x4x64 ![0, 1, 3, 4] bcast_S8x8x4x64_S8x8x1x4x64_0_1_3_4 (shapeCast S8x8x4x64 (extractStridedSlice S64x256 ![0, 2304] (Host.dotGeneral dot_S64x2048_S2048x12848_S64x12848_1_0_0_1_n_n none h w) slices_S64x12848_S64x256_0_2304) shapeCasts_S64x256_S8x8x4x64))⟩] concatenates_S8x8x1x4x64_S8x8x1x4x64_S8x8x2x4x64_d2)⟩] concatenates_S8x512x2x4x64_S8x8x2x4x64_S8x520x2x4x64_d1) slices_S8x520x2x4x64_S8x512x2x4x64_0_8_0_0_0
      : FVec Ideal S8x512x2x4x64 .f32) = win h w s := by
  rw [ref2]
  funext y
  idx_vars y
  pointwise [win]
  by_cases hy : y1.val < 504
  · rw [dif_pos (by omega), dif_pos hy]
    blk_ext []
  · rw [dif_neg (by omega), dif_neg hy]
    blk_ext []
end

/-- The reference runs and leaves its arguments. -/
theorem ref_frame [hReferenceKvsIdeal : Cert.ReferenceKvsIdeal.Facts] : Cert.quiescent_ReferenceKvsIdeal := fun m g _ =>
  (θ_run Cert.ReferenceKvsIdeal.defs _ _).mono (fun r h => ⟨fun c => (h c).2.2.2, Idealize.ShloMosaic.sem_eq_zero_of_no_sems (by decide) r.2⟩)
    (ReferenceKvsIdeal.Value.run m g)

section
open Cert.KernelKvsIdeal Cert.KernelKvsIdeal.Gen
/-- The kernel runs, leaves its arguments and ends with the three arrays. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v14) = Pipeline.afterTail₀ cfgs (dats m) 0 (V0 m) [hostOps1] c main_v14
      ∧ r.2.mem ((c.tc : Thread nD τ).loc main_v15) = Pipeline.afterTail₀ cfgs (dats m) 0 (V0 m) [hostOps1] c main_v15
      ∧ r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).2 main_v14 (Pipeline.mem_restRefs_of main_v14 (by decide) (by decide)),
      (h.1 c).2 main_v15 (Pipeline.mem_restRefs_of main_v15 (by decide) (by decide)),
      (h.1 c).2 main_v17 (Pipeline.mem_restRefs_of main_v17 (by decide) (by decide)), h.2 c⟩)
    (θ_run_and (run_main m g) (unchanged m g))
end

/-- The kernel's results and the reference's are the same arrays. -/
theorem algebraic : Cert.algebraic_KernelKvsIdeal_ReferenceKvsIdeal (hKernelKvsIdeal := Cert.KernelKvsIdeal.Gen.facts) (hReferenceKvsIdeal := Cert.ReferenceKvsIdeal.Gen.facts) := by
  intro m g m' g' _ hargs
  refine ⟨_, _, _, kernel_run m g, ?_⟩
  refine (θ_run _ _ _).mono (fun r h c => ?_) (ReferenceKvsIdeal.Value.run m' g')
  obtain ⟨h0, h1, h2, h3⟩ := h c
  obtain ⟨a0, a1, a2⟩ := hargs c
  refine ⟨h0.trans ?_, h1.trans ?_, h2.trans ?_, h3⟩
  · rw [a0, a1]
    exact (ref0 _ _).trans (res14 m c).symm
  · rw [a0, a1]
    exact (ref1 _ _).trans (res15 m c).symm
  · rw [a0, a1, a2]
    exact (ref_win _ _ _).trans (res17 m c).symm

end Cert.Kvs
-- ==== Proof.RsMath.lean ====
module
public import Idealize.ShloMosaic.Lib.Pointwise
public import proofs.«01_k».proof.Proof.RetMath

open Idealize Idealize.ShloMosaic

@[expose] public section

namespace Cert.RsMath

open Cert.RetMath (vcol lg gnRow)

/-- The row of position `j` of batch entry `b`. -/
def row (b j : Fin 8) : Fin 64 := ⟨8 * b.val + j.val, by omega⟩

/-- A position, as a number. -/
noncomputable def pos (i : Fin 8) : EReal := FloatOps.sitofp (F := Ideal) FTy.f32 (BitVec.ofNat 32 i.val)
/-- The decay from position `j` to position `i`: none from a later position. -/
noncomputable def din (h : Fin 4) (i j : Fin 8) : EReal := if 0 ≤ pos i - pos j then Ideal.exp (max (pos i - pos j) 0 * lg h) else 0
/-- The decay from the state before to position `i`. -/
noncomputable def dq (h : Fin 4) (i : Fin 8) : EReal := Ideal.exp ((pos i + 1) * lg h)
/-- The decay from position `i` to the end of the eight positions. -/
noncomputable def dk (h : Fin 4) (i : Fin 8) : EReal := Ideal.exp ((Ideal.ofBits FTy.f32 1088421888#32 - pos i) * lg h)
/-- The decay over the eight positions. -/
noncomputable def dc (h : Fin 4) : EReal := Ideal.exp (Ideal.ofBits FTy.f32 1090519040#32 * lg h)

/-- An array of 64 rows (eight batch entries of eight positions) by 2048 columns. -/
abbrev Arr := Shape.Idx ⟨2, ![64, 2048]⟩ → EReal
/-- An array of states: one per batch entry and head. -/
abbrev St := Shape.Idx ⟨4, ![8, 4, 256, 512]⟩ → EReal

/-- Queries: the left 1024 columns. -/
def qAt (qk : Arr) (b : Fin 8) (h : Fin 4) (j : Fin 8) (d : Fin 256) : EReal := qk (ix2 (row b j) ⟨256 * h.val + d.val, by omega⟩)
/-- Keys: the right 1024 columns. -/
def kAt (qk : Arr) (b : Fin 8) (h : Fin 4) (j : Fin 8) (d : Fin 256) : EReal := qk (ix2 (row b j) ⟨1024 + 256 * h.val + d.val, by omega⟩)
/-- Values. -/
def vAt (v : Arr) (b : Fin 8) (h : Fin 4) (j : Fin 8) (e : Fin 512) : EReal := v (ix2 (row b j) (vcol h e))

/-- The new state: the state before, decayed, plus the sum of the decayed keys times the values. -/
noncomputable def state (qk v : Arr) (s : St) (b : Fin 8) (h : Fin 4) (d : Fin 256) (e : Fin 512) : EReal :=
  s (ix4 b h d e) * dc h + ∑ j : Fin 8, (kAt qk b h j d * dk h j) * vAt v b h j e

/-- The retention at position `i`: the decayed causal scores times the values, plus the query times the state before, decayed. -/
noncomputable def ret (qk v : Arr) (s : St) (b : Fin 8) (h : Fin 4) (i : Fin 8) (e : Fin 512) : EReal :=
  (∑ j : Fin 8, ((∑ d : Fin 256, qAt qk b h i d * kAt qk b h j d) * din h i j) * vAt v b h j e)
    + (∑ d : Fin 256, qAt qk b h i d * s (ix4 b h d e)) * dq h i

/-- The gated, group-normalised retention. -/
noncomputable def out (qk v : Arr) (rg : Shape.Idx ⟨2, ![64, 6144]⟩ → EReal) (gw gb : Shape.Idx ⟨1, ![2048]⟩ → EReal) (s : St)
    (b i : Fin 8) (h : Fin 4) (e : Fin 512) : EReal :=
  rg (ix2 (row b i) ⟨512 * h.val + e.val, by omega⟩)
    * (gnRow (ret qk v s b h i) e * gw (ix1 (vcol h e)) + gb (ix1 (vcol h e)))

end Cert.RsMath
-- ==== Proof.RsStep.lean ====
module
public import proofs.«01_k».proof.Proof.Gen.KernelRsIdeal.Value
public import proofs.«01_k».proof.Proof.RsMath
public import proofs.«01_k».proof.Proof.RetStep
public import Idealize.ShloMosaic.Lib.Pointwise
public import Idealize.ShloMosaic.Lib.Pipeline.ValueKit
public import Idealize.ShloMosaic.Lib.Pipeline.ReadBack

open Idealize Idealize.ShloMosaic Idealize.ShloMosaic.Pipeline
open Cert.KernelRsIdeal Cert.KernelRsIdeal.Gen

@[expose] public section

namespace Cert.Rs

set_option maxRecDepth 16384

open Cert.RetMath (kcol vcol gnRow muRow)

/-- The state of head `h` after the eight positions: the state before, decayed, plus the sum of the decayed keys times the values. -/
noncomputable def stNext (k : Vec Ideal S8x1024 .f32) (v : Vec Ideal S8x2048 .f32) (dk : Vec Ideal S4x8x1 .f32)
    (dc : Vec Ideal S4x1x1 .f32) (st : Vec Ideal S1x4x256x512 .f32) (h : Fin 4) (d : Fin 256) (e : Fin 512) : EReal :=
  st (ix4 0 h d e) * dc (ix3 h 0 0) + ∑ j : Fin 8, (k (ix2 j (kcol h d)) * dk (ix3 h j 0)) * v (ix2 j (vcol h e))

/-- The retention of position `i`: the decayed scores times the values, plus the query times the state before, decayed. -/
noncomputable def oRow (q k : Vec Ideal S8x1024 .f32) (v : Vec Ideal S8x2048 .f32) (din : Vec Ideal S4x8x8 .f32)
    (dq : Vec Ideal S4x8x1 .f32) (st : Vec Ideal S1x4x256x512 .f32) (h : Fin 4) (i : Fin 8) (e : Fin 512) : EReal :=
  (∑ j : Fin 8, ((∑ d : Fin 256, q (ix2 i (kcol h d)) * k (ix2 j (kcol h d))) * din (ix3 h i j)) * v (ix2 j (vcol h e)))
    + (∑ d : Fin 256, q (ix2 i (kcol h d)) * st (ix4 0 h d e)) * dq (ix3 h i 0)

/-- Row `i` of head `h` of a batch entry's output: the retention, group-normalised, scaled, shifted and gated. -/
noncomputable def outRow (q k : Vec Ideal S8x1024 .f32) (v rg : Vec Ideal S8x2048 .f32) (gw gb : Vec Ideal S1x2048 .f32)
    (din : Vec Ideal S4x8x8 .f32) (dq : Vec Ideal S4x8x1 .f32) (st : Vec Ideal S1x4x256x512 .f32)
    (h : Fin 4) (i : Fin 8) (e : Fin 512) : EReal :=
  rg (ix2 i (vcol h e)) * (gnRow (oRow q k v din dq st h i) e * gw (ix2 0 (vcol h e)) + gb (ix2 0 (vcol h e)))

/-- The four stores of the new state, one per head, over the state `st` before. -/
noncomputable def stPieces (k : Vec Ideal S8x1024 .f32) (v : Vec Ideal S8x2048 .f32) (dk : Vec Ideal S4x8x1 .f32)
    (dc : Vec Ideal S4x1x1 .f32) (st : Vec Ideal S1x4x256x512 .f32) : List (View.Piece (Elt Ideal) S1x4x256x512 .f32) :=
  [⟨Rect.unit ![0, 3, 0, 0] ![1, 1, 256, 512] inb_S1x4x256x512_S1x1x256x512_0_3_0_0,
      k0_pay29 (View.ld k (Rect.unit ![0, 768] ![8, 256] inb_S8x1024_S8x256_0_768)) (k0_pay24 (View.ld v (Rect.unit ![0, 1536] ![8, 512] inb_S8x2048_S8x512_0_1536))) (k0_pay25 (View.ld st (Rect.unit ![0, 3, 0, 0] ![1, 1, 256, 512] inb_S1x4x256x512_S1x1x256x512_0_3_0_0))) (View.ld dk (Rect.unit ![3, 0, 0] ![1, 8, 1] inb_S4x8x1_S1x8x1_3_0_0)) (View.ld dc (Rect.unit ![3, 0, 0] ![1, 1, 1] inb_S4x1x1_S1x1x1_3_0_0))⟩,
   ⟨Rect.unit ![0, 2, 0, 0] ![1, 1, 256, 512] inb_S1x4x256x512_S1x1x256x512_0_2_0_0,
      k0_pay19 (View.ld k (Rect.unit ![0, 512] ![8, 256] inb_S8x1024_S8x256_0_512)) (k0_pay16 (View.ld v (Rect.unit ![0, 1024] ![8, 512] inb_S8x2048_S8x512_0_1024))) (View.ld st (Rect.unit ![0, 2, 0, 0] ![1, 1, 256, 512] inb_S1x4x256x512_S1x1x256x512_0_2_0_0)) (View.ld dk (Rect.unit ![2, 0, 0] ![1, 8, 1] inb_S4x8x1_S1x8x1_2_0_0)) (View.ld dc (Rect.unit ![2, 0, 0] ![1, 1, 1] inb_S4x1x1_S1x1x1_2_0_0))⟩,
   ⟨Rect.unit ![0, 1, 0, 0] ![1, 1, 256, 512] inb_S1x4x256x512_S1x1x256x512_0_1_0_0,
      k0_pay13 (k0_pay12 (View.ld k (Rect.unit ![0, 256] ![8, 256] inb_S8x1024_S8x256_0_256)) (View.ld v (Rect.unit ![0, 512] ![8, 512] inb_S8x2048_S8x512_0_512)) (View.ld st (Rect.unit ![0, 1, 0, 0] ![1, 1, 256, 512] inb_S1x4x256x512_S1x1x256x512_0_1_0_0)) (View.ld dk (Rect.unit ![1, 0, 0] ![1, 8, 1] inb_S4x8x1_S1x8x1_1_0_0)) (View.ld dc (Rect.unit ![1, 0, 0] ![1, 1, 1] inb_S4x1x1_S1x1x1_1_0_0)))⟩,
   ⟨Rect.unit ![0, 0, 0, 0] ![1, 1, 256, 512] inb_S1x4x256x512_S1x1x256x512_0_0_0_0,
      k0_pay7 (k0_pay3 (View.ld v (Rect.unit ![0, 0] ![8, 512] inb_S8x2048_S8x512_0_0))) (k0_pay4 (View.ld st (Rect.unit ![0, 0, 0, 0] ![1, 1, 256, 512] inb_S1x4x256x512_S1x1x256x512_0_0_0_0))) (k0_pay6 (View.ld k (Rect.unit ![0, 0] ![8, 256] inb_S8x1024_S8x256_0_0)) (View.ld dk (Rect.unit ![0, 0, 0] ![1, 8, 1] inb_S4x8x1_S1x8x1_0_0_0))) (View.ld dc (Rect.unit ![0, 0, 0] ![1, 1, 1] inb_S4x1x1_S1x1x1_0_0_0))⟩]

/-- Together the four stores leave `stNext` everywhere. -/
theorem stPieces_at (k : Vec Ideal S8x1024 .f32) (v : Vec Ideal S8x2048 .f32) (dk : Vec Ideal S4x8x1 .f32)
    (dc : Vec Ideal S4x1x1 .f32) (st : Vec Ideal S1x4x256x512 .f32) (y : S1x4x256x512.Idx) :
    View.canon (stPieces k v dk dc st) y = stNext k v dk dc st (y 1) (y 2) (y 3) := by
  unfold stPieces
  canon_tiles x h
  · obtain rfl : y = ix4 0 3 (x 2) (x 3) := by blk_ext []
    pointwise [k0_pay29, k0_pay25, k0_pay24, stNext, kcol, vcol]
  · obtain rfl : y = ix4 0 2 (x 2) (x 3) := by blk_ext []
    pointwise [k0_pay19, k0_pay17, k0_pay16, stNext, kcol, vcol]
  · obtain rfl : y = ix4 0 1 (x 2) (x 3) := by blk_ext []
    pointwise [k0_pay13, k0_pay12, k0_pay10, k0_pay9, stNext, kcol, vcol]
  · obtain rfl : y = ix4 0 0 (x 2) (x 3) := by blk_ext []
    pointwise [k0_pay7, k0_pay6, k0_pay4, k0_pay3, stNext, kcol, vcol]

variable (m : (ℓ : Loc nD τ sig) → Buf (Elt Ideal) ℓ)

/-- What a point leaves in the state block. -/
theorem stateA (c : Dev nD) (t : Fin cfg0.N) (y : S1x4x256x512.Idx) :
    (outsAt0 m c t).2 y = stNext (iblk m c 1 t) (iblk m c 2 t) (iblk m c 9 t) (iblk m c 10 t) (k0_pay2 (iblk m c 6 t)) (y 1) (y 2) (y 3) := by
  unfold outsAt0
  frame_open
  simp (disch := decide) only [↓ View.readCov_skip, ↓ View.readCov_cons_toLoadRect, ↓ View.readCov_fill]
  frame_out
  exact (Cert.Ret.canon_append_left [⟨_, _⟩] (stPieces (iblk m c 1 t) (iblk m c 2 t) (iblk m c 9 t) (iblk m c 10 t) (k0_pay2 (iblk m c 6 t))) y
    (View.cover_of_tiledL (stPieces (iblk m c 1 t) (iblk m c 2 t) (iblk m c 9 t) (iblk m c 10 t) (k0_pay2 (iblk m c 6 t)))
      S1x1x256x512.size (by sl_kernel_rfl) y)).trans (stPieces_at _ _ _ _ _ y)

/-- A row of a point's output block. -/
theorem outA (c : Dev nD) (t : Fin cfg0.N) (h : Fin 4) (i : Fin 8) (e : Fin 512) :
    (outsAt0 m c t).1 (ix2 i (vcol h e))
      = outRow (iblk m c 0 t) (iblk m c 1 t) (iblk m c 2 t) (iblk m c 3 t) (iblk m c 4 t) (iblk m c 5 t) (iblk m c 7 t) (iblk m c 8 t)
          (k0_pay2 (iblk m c 6 t)) h i e := by
  unfold outsAt0
  frame_open
  simp (disch := decide) only [↓ View.readCov_skip, ↓ View.readCov_cons_toLoadRect, ↓ View.readCov_fill]
  frame_out
  generalize (k0_pay2 (iblk m c 6 t)) = st
  canon_tiles x hx
  · obtain rfl : h = 3 := by simp [vcol, ix2] at hx1; omega
    obtain rfl : e = x 1 := by simp [vcol, ix2] at hx1; omega
    obtain rfl : i = x 0 := by simp [vcol, ix2] at hx0; omega
    pointwise [k0_pay1, k0_pay33, k0_pay32, k0_pay31, k0_pay30, k0_pay28, k0_pay27, k0_pay26, k0_pay25, k0_pay24, k0_pay23, outRow, gnRow, muRow, oRow, kcol, vcol]
  · obtain rfl : h = 2 := by simp [vcol, ix2] at hx1; omega
    obtain rfl : e = x 1 := by simp [vcol, ix2] at hx1; omega
    obtain rfl : i = x 0 := by simp [vcol, ix2] at hx0; omega
    pointwise [k0_pay22, k0_pay21, k0_pay20, k0_pay18, k0_pay17, k0_pay16, k0_pay15, outRow, gnRow, muRow, oRow, kcol, vcol]
  · obtain rfl : h = 1 := by simp [vcol, ix2] at hx1; omega
    obtain rfl : e = x 1 := by simp [vcol, ix2] at hx1; omega
    obtain rfl : i = x 0 := by simp [vcol, ix2] at hx0; omega
    pointwise [k0_pay14, k0_pay11, k0_pay10, k0_pay9, outRow, gnRow, muRow, oRow, kcol, vcol]
  · obtain rfl : h = 0 := by simp [vcol, ix2] at hx1; omega
    obtain rfl : e = x 1 := by simp [vcol, ix2] at hx1; omega
    obtain rfl : i = x 0 := by simp [vcol, ix2] at hx0; omega
    pointwise [k0_pay8, k0_pay5, k0_pay4, k0_pay3, outRow, gnRow, muRow, oRow, kcol, vcol]

end Cert.Rs
-- ==== Proof.RsArr.lean ====
module
public import proofs.«01_k».proof.Proof.RsStep
public import Idealize.ShloMosaic.Lib.StableHlo.ReadAt
public import Idealize.ShloMosaic.Lib.Claim

open Idealize Idealize.ShloMosaic Idealize.ShloMosaic.Pipeline
open Cert.KernelRsIdeal Cert.KernelRsIdeal.Gen Idealize.ShloMosaic.TcCoe Idealize.SL.Sem
open Cert.RetMath (kcol vcol)
open Cert.RsMath (row)

@[expose] public section

namespace Cert.Rs

set_option maxRecDepth 16384
variable (m : (ℓ : Loc nD τ sig) → Buf (Elt Ideal) ℓ)

/-! ## The arrays the host code makes before the call -/

theorem V_dc (c : Dev nD) (h : Fin 4) : V m c main_v49 (ix3 h 0 0) = RsMath.dc h := by
  unfold V
  after_reads_at
  rfl
theorem V_dk (c : Dev nD) (h : Fin 4) (i : Fin 8) : V m c main_v45 (ix3 h i 0) = RsMath.dk h i := by
  unfold V
  after_reads_at
  rfl
theorem V_dq (c : Dev nD) (h : Fin 4) (i : Fin 8) : V m c main_v36 (ix3 h i 0) = RsMath.dq h i := by
  unfold V
  after_reads_at
  rfl
theorem V_din (c : Dev nD) (h : Fin 4) (i j : Fin 8) : V m c main_v27 (ix3 h i j) = RsMath.din h i j := by
  unfold V
  after_reads_at
  simp only [id_eq]
  pointwise
  rfl
theorem V_gw (c : Dev nD) (y : Fin 2048) : V m c main_v0 (ix2 0 y) = (m ((c : Thread nD τ).loc main_arg3)) (ix1 y) := by
  unfold V
  after_reads_at
theorem V_gb (c : Dev nD) (y : Fin 2048) : V m c main_v1 (ix2 0 y) = (m ((c : Thread nD τ).loc main_arg4)) (ix1 y) := by
  unfold V
  after_reads_at

/-! ## The blocks at a grid point -/

/-- The grid point of batch entry `b`. -/
def pt (b : Fin 8) : Fin cfg0.N := ⟨b.val, b.isLt⟩

/-- The blocks' places at each grid point. -/
theorem idx : ∀ (b : Fin 8), win0_0.index (pt b) = ![b.val, 0] ∧ win0_1.index (pt b) = ![b.val, 1]
    ∧ win0_2.index (pt b) = ![b.val, 0] ∧ win0_3.index (pt b) = ![b.val, 0] ∧ win0_4.index (pt b) = ![0, 0]
    ∧ win0_5.index (pt b) = ![0, 0] ∧ win0_6.index (pt b) = ![b.val, 0, 0, 0] ∧ win0_7.index (pt b) = ![0, 0, 0] ∧ win0_8.index (pt b) = ![0, 0, 0]
    ∧ win0_9.index (pt b) = ![0, 0, 0] ∧ win0_10.index (pt b) = ![0, 0, 0] ∧ win0_11.index (pt b) = ![b.val, 0]
    ∧ win0_12.index (pt b) = ![b.val, 0, 0, 0] := by decide +kernel

theorem blk0 (c : Dev nD) (b j : Fin 8) (h : Fin 4) (d : Fin 256) :
    iblk m c 0 (pt b) (ix2 j (kcol h d)) = RsMath.qAt (m ((c : Thread nD τ).loc main_arg0)) b h j d := by
  show V m c main_arg0 _ = _
  rw [V_main_arg0 m c]
  unfold RsMath.qAt row kcol
  blk_ext! [idx b]
theorem blk1 (c : Dev nD) (b j : Fin 8) (h : Fin 4) (d : Fin 256) :
    iblk m c 1 (pt b) (ix2 j (kcol h d)) = RsMath.kAt (m ((c : Thread nD τ).loc main_arg0)) b h j d := by
  show V m c main_arg0 _ = _
  rw [V_main_arg0 m c]
  unfold RsMath.kAt row kcol
  blk_ext! [idx b]
theorem blk2 (c : Dev nD) (b j : Fin 8) (h : Fin 4) (e : Fin 512) :
    iblk m c 2 (pt b) (ix2 j (vcol h e)) = RsMath.vAt (m ((c : Thread nD τ).loc main_arg1)) b h j e := by
  show V m c main_arg1 _ = _
  rw [V_main_arg1 m c]
  unfold RsMath.vAt row vcol
  blk_ext! [idx b]
theorem blk3 (c : Dev nD) (b j : Fin 8) (h : Fin 4) (e : Fin 512) :
    iblk m c 3 (pt b) (ix2 j (vcol h e)) = (m ((c : Thread nD τ).loc main_arg2)) (ix2 (row b j) ⟨512 * h.val + e.val, by omega⟩) := by
  show V m c main_arg2 _ = _
  rw [V_main_arg2 m c]
  unfold row vcol
  blk_ext! [idx b]
theorem blk4 (c : Dev nD) (b : Fin 8) (y : Fin 2048) : iblk m c 4 (pt b) (ix2 0 y) = (m ((c : Thread nD τ).loc main_arg3)) (ix1 y) := by
  refine Eq.trans ?_ (V_gw m c y)
  show V m c main_v0 _ = V m c main_v0 _
  blk_ext! [idx b]
theorem blk5 (c : Dev nD) (b : Fin 8) (y : Fin 2048) : iblk m c 5 (pt b) (ix2 0 y) = (m ((c : Thread nD τ).loc main_arg4)) (ix1 y) := by
  refine Eq.trans ?_ (V_gb m c y)
  show V m c main_v1 _ = V m c main_v1 _
  blk_ext! [idx b]
theorem blk6 (c : Dev nD) (b : Fin 8) (h : Fin 4) (d : Fin 256) (e : Fin 512) :
    iblk m c 6 (pt b) (ix4 0 h d e) = (m ((c : Thread nD τ).loc main_arg5)) (ix4 b h d e) := by
  show V m c main_arg5 _ = _
  rw [V_main_arg5 m c]
  blk_ext! [idx b]
theorem blk7 (c : Dev nD) (b : Fin 8) (h : Fin 4) (i j : Fin 8) : iblk m c 7 (pt b) (ix3 h i j) = RsMath.din h i j := by
  refine Eq.trans ?_ (V_din m c h i j)
  show V m c main_v27 _ = V m c main_v27 _
  blk_ext! [idx b]
theorem blk8 (c : Dev nD) (b : Fin 8) (h : Fin 4) (i : Fin 8) : iblk m c 8 (pt b) (ix3 h i 0) = RsMath.dq h i := by
  refine Eq.trans ?_ (V_dq m c h i)
  show V m c main_v36 _ = V m c main_v36 _
  blk_ext! [idx b]
theorem blk9 (c : Dev nD) (b : Fin 8) (h : Fin 4) (i : Fin 8) : iblk m c 9 (pt b) (ix3 h i 0) = RsMath.dk h i := by
  refine Eq.trans ?_ (V_dk m c h i)
  show V m c main_v45 _ = V m c main_v45 _
  blk_ext! [idx b]
theorem blk10 (c : Dev nD) (b : Fin 8) (h : Fin 4) : iblk m c 10 (pt b) (ix3 h 0 0) = RsMath.dc h := by
  refine Eq.trans ?_ (V_dc m c h)
  show V m c main_v49 _ = V m c main_v49 _
  blk_ext! [idx b]

/-! ## The state and the output after each point -/

/-- The state of batch entry `b` read through the state block's index. -/
noncomputable def stOf (c : Dev nD) (b : Fin 8) : S1x4x256x512.Idx → EReal := fun y => (m ((c : Thread nD τ).loc main_arg5)) (ix4 b (y 1) (y 2) (y 3))

/-- The state the body starts from is the one it is given. -/
theorem first_eq (c : Dev nD) (b : Fin 8) : k0_pay2 (iblk m c 6 (pt b)) = stOf m c b := by
  funext y
  idx_vars y
  obtain rfl : y0 = 0 := Subsingleton.elim _ _
  pointwise [k0_pay2]
  exact blk6 m c b _ _ _

/-- The new state of a batch entry, on the point's blocks. -/
theorem stNext_eq (c : Dev nD) (b : Fin 8) (h : Fin 4) (d : Fin 256) (e : Fin 512) :
    stNext (iblk m c 1 (pt b)) (iblk m c 2 (pt b)) (iblk m c 9 (pt b)) (iblk m c 10 (pt b)) (stOf m c b) h d e
      = RsMath.state (m ((c : Thread nD τ).loc main_arg0)) (m ((c : Thread nD τ).loc main_arg1)) (m ((c : Thread nD τ).loc main_arg5)) b h d e := by
  simp only [stNext, RsMath.state, blk1, blk2, blk9, blk10]
  rfl

/-- A row of the output on the point's blocks. -/
theorem outRow_eq (c : Dev nD) (b : Fin 8) (h : Fin 4) (i : Fin 8) (e : Fin 512) :
    outRow (iblk m c 0 (pt b)) (iblk m c 1 (pt b)) (iblk m c 2 (pt b)) (iblk m c 3 (pt b)) (iblk m c 4 (pt b)) (iblk m c 5 (pt b))
        (iblk m c 7 (pt b)) (iblk m c 8 (pt b)) (stOf m c b) h i e
      = RsMath.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b i h e := by
  have ho : oRow (iblk m c 0 (pt b)) (iblk m c 1 (pt b)) (iblk m c 2 (pt b)) (iblk m c 7 (pt b)) (iblk m c 8 (pt b)) (stOf m c b) h i
      = RsMath.ret (m ((c : Thread nD τ).loc main_arg0)) (m ((c : Thread nD τ).loc main_arg1)) (m ((c : Thread nD τ).loc main_arg5)) b h i := by
    funext x
    simp only [oRow, RsMath.ret, blk0, blk1, blk2, blk7, blk8]
    rfl
  simp only [outRow, RsMath.out, ho, blk3, blk4, blk5]

theorem state_after (c : Dev nD) (b : Fin 8) (h : Fin 4) (d : Fin 256) (e : Fin 512) :
    (outsAt0 m c (pt b)).2 (ix4 0 h d e) = RsMath.state (m ((c : Thread nD τ).loc main_arg0)) (m ((c : Thread nD τ).loc main_arg1)) (m ((c : Thread nD τ).loc main_arg5)) b h d e := by
  refine (stateA m c (pt b) _).trans ?_
  rw [first_eq m c b]
  exact stNext_eq m c b h d e

theorem out_after (c : Dev nD) (b : Fin 8) (h : Fin 4) (i : Fin 8) (e : Fin 512) :
    (outsAt0 m c (pt b)).1 (ix2 i (vcol h e)) = RsMath.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b i h e := by
  refine (outA m c (pt b) h i e).trans ?_
  rw [first_eq m c b]
  exact outRow_eq m c b h i e

/-- The kernel's second result: the new state. -/
theorem state_final (c : Dev nD) (b : Fin 8) (h : Fin 4) (d : Fin 256) (e : Fin 512) :
    ((dats m 0 c).arrAt 12 cfg0.N : FVec Ideal S8x4x256x512 .f32) (ix4 b h d e)
      = RsMath.state (m ((c : Thread nD τ).loc main_arg0)) (m ((c : Thread nD τ).loc main_arg1)) (m ((c : Thread nD τ).loc main_arg5)) b h d e := by
  have hb := congrFun (Value.blocks12 m c (pt b) (flush0_12 _)) (ix4 0 h d e)
  rw [Value.flushed12] at hb
  have hy : ((win0_12.blk (pt b)).view.emb (ix4 0 h d e) : S8x4x256x512.Idx) = ix4 b h d e := by
    blk_ext! [idx b]
  exact (congrArg ((dats m 0 c).arrAt 12 cfg0.N : FVec Ideal S8x4x256x512 .f32) hy).symm.trans (hb.trans (state_after m c b h d e))

/-- The kernel's first result, at every row and column. -/
theorem out_final (c : Dev nD) (b i : Fin 8) (h : Fin 4) (e : Fin 512) :
    ((dats m 0 c).arrAt 11 cfg0.N : FVec Ideal S64x2048 .f32) (ix2 (row b i) (vcol h e)) = RsMath.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b i h e := by
  have hb := congrFun (Value.blocks11 m c (pt b) (flush0_11 _)) (ix2 i (vcol h e))
  rw [Value.flushed11] at hb
  have hy : ((win0_11.blk (pt b)).view.emb (ix2 i (vcol h e)) : S64x2048.Idx) = ix2 (row b i) (vcol h e) := by
    unfold row
    blk_ext! [idx b]
  exact (congrArg ((dats m 0 c).arrAt 11 cfg0.N : FVec Ideal S64x2048 .f32) hy).symm.trans (hb.trans (out_after m c b h i e))

end Cert.Rs
-- ==== Proof.RsRef.lean ====
module
public import proofs.«01_k».proof.Proof.Gen.ReferenceRsIdeal.Run
public import proofs.«01_k».proof.Proof.RsMath
public import Idealize.ShloMosaic.Lib.Pointwise
public import Idealize.ShloMosaic.Lib.DynamicIndex
public import Idealize.ShloMosaic.Lib.StableHlo.ReadAt
public import Idealize.ShloMosaic.Lib.Claim
public import Idealize.ShloMosaic.Lib.Pipeline.ValueKit

open Idealize Idealize.ShloMosaic
open Cert.ReferenceRsIdeal Cert.ReferenceRsIdeal.Gen Cert.ReferenceRsIdeal.Value Idealize.ShloMosaic.TcCoe Idealize.SL.Sem Idealize.ShloMosaic.StableHlo

@[expose] public section

namespace Cert.RsRef

set_option maxRecDepth 16384

/-- A state after one trip, of the state, the chunk's keys and values and the decays. -/
noncomputable def nextS (S : FVec Ideal S8x4x256x512 .f32) (kc : FVec Ideal S8x8x4x256 .f32) (vc : FVec Ideal S8x8x4x512 .f32)
    (dc : FVec Ideal S4 .f32) (dk : FVec Ideal S8x4 .f32) : FVec Ideal S8x4x256x512 .f32 :=
  addf (mulf S (broadcastInDim S8x4x256x512 ![0, 1, 2, 3] bcast_S1x4x1x1_S8x4x256x512_0_1_2_3 (broadcastInDim S1x4x1x1 ![1] bcast_S4_S1x4x1x1_1 dc)))
    (Host.dotGeneral dot_S8x8x4x256_S8x8x4x512_S8x4x256x512_1_1_3_3_02_02 none (mulf kc (broadcastInDim S8x8x4x256 ![0, 1, 2, 3] bcast_S1x8x4x1_S8x8x4x256_0_1_2_3 (broadcastInDim S1x8x4x1 ![1, 2] bcast_S8x4_S1x8x4x1_1_2 dk))) vc)

theorem nextS_at (S : FVec Ideal S8x4x256x512 .f32) (kc : FVec Ideal S8x8x4x256 .f32) (vc : FVec Ideal S8x8x4x512 .f32)
    (dc : FVec Ideal S4 .f32) (dk : FVec Ideal S8x4 .f32) (b : Fin 8) (h : Fin 4) (d : Fin 256) (e : Fin 512) :
    nextS S kc vc dc dk (ix4 b h d e)
      = S (ix4 b h d e) * dc (ix1 h) + ∑ j : Fin 8, (kc (ix4 b j h d) * dk (ix2 j h)) * vc (ix4 b j h e) := by
  pointwise [nextS]

/-- The retention of a chunk. -/
noncomputable def chunkO (S : FVec Ideal S8x4x256x512 .f32) (qc kc : FVec Ideal S8x8x4x256 .f32) (vc : FVec Ideal S8x8x4x512 .f32)
    (di : FVec Ideal S4x8x8 .f32) (dq : FVec Ideal S8x4 .f32) : FVec Ideal S8x8x4x512 .f32 :=
  addf (transpose S8x8x4x512 [0, 3, 1, 2] (Host.dotGeneral dot_S8x8x4x512_S8x4x8x8_S8x4x512x8_1_3_3_2_02_01 none vc (mulf (Host.dotGeneral dot_S8x8x4x256_S8x8x4x256_S8x4x8x8_3_3_1_1_02_02 none qc kc) (broadcastInDim S8x4x8x8 ![0, 1, 2, 3] bcast_S1x4x8x8_S8x4x8x8_0_1_2_3 (broadcastInDim S1x4x8x8 ![1, 2, 3] bcast_S4x8x8_S1x4x8x8_1_2_3 di)))) transposes_S8x4x512x8_S8x8x4x512_0_3_1_2)
    (mulf (transpose S8x8x4x512 [0, 3, 1, 2] (Host.dotGeneral dot_S8x4x256x512_S8x8x4x256_S8x4x512x8_2_3_3_1_01_02 none S qc) transposes_S8x4x512x8_S8x8x4x512_0_3_1_2) (broadcastInDim S8x8x4x512 ![0, 1, 2, 3] bcast_S1x8x4x1_S8x8x4x512_0_1_2_3 (broadcastInDim S1x8x4x1 ![1, 2] bcast_S8x4_S1x8x4x1_1_2 dq)))

theorem chunkO_at (S : FVec Ideal S8x4x256x512 .f32) (qc kc : FVec Ideal S8x8x4x256 .f32) (vc : FVec Ideal S8x8x4x512 .f32)
    (di : FVec Ideal S4x8x8 .f32) (dq : FVec Ideal S8x4 .f32) (b : Fin 8) (i : Fin 8) (h : Fin 4) (e : Fin 512) :
    chunkO S qc kc vc di dq (ix4 b i h e)
      = (∑ j : Fin 8, ((∑ d : Fin 256, qc (ix4 b i h d) * kc (ix4 b j h d)) * di (ix3 h i j)) * vc (ix4 b j h e))
        + (∑ d : Fin 256, qc (ix4 b i h d) * S (ix4 b h d e)) * dq (ix2 i h) := by
  pointwise [chunkO]
  congr 1
  · exact Finset.sum_congr rfl fun j _ => mul_comm _ _
  · congr 1
    exact Finset.sum_congr rfl fun j _ => mul_comm _ _

/-- The block of a chunked array that a trip reads, its counter being the number `k`. -/
theorem slice4_at {k : Fin 1} (x : FVec Ideal S1x8x8x4x256 .f32) (s : Fin 5 → Int) (hs : ∀ a, s a = ((![k.val, 0, 0, 0, 0] : Fin 5 → ℕ) a : ℤ))
    (b : Fin 8) (i : Fin 8) (h : Fin 4) (d : Fin 256) :
    shapeCast S8x8x4x256 (Host.dynamicSlice S1x8x8x4x256 x s sliceFits_S1x8x8x4x256_S1x8x8x4x256) shapeCasts_S1x8x8x4x256_S8x8x4x256 (ix4 b i h d)
      = x (ix5 k b i h d) := by
  obtain rfl : k = 0 := Subsingleton.elim _ _
  have hk : S1x8x8x4x256.Slices ![0, 0, 0, 0, 0] S1x8x8x4x256 := ⟨rfl, fun a => by
    fin_cases a <;> simp⟩
  rw [Host.dynamicSlice_eq_extractStridedSlice _ x s ![0, 0, 0, 0, 0] _ hk hs]
  pointwise

theorem slice5_at {k : Fin 1} (x : FVec Ideal S1x8x8x4x512 .f32) (s : Fin 5 → Int) (hs : ∀ a, s a = ((![k.val, 0, 0, 0, 0] : Fin 5 → ℕ) a : ℤ))
    (b : Fin 8) (i : Fin 8) (h : Fin 4) (d : Fin 512) :
    shapeCast S8x8x4x512 (Host.dynamicSlice S1x8x8x4x512 x s sliceFits_S1x8x8x4x512_S1x8x8x4x512) shapeCasts_S1x8x8x4x512_S8x8x4x512 (ix4 b i h d)
      = x (ix5 k b i h d) := by
  obtain rfl : k = 0 := Subsingleton.elim _ _
  have hk : S1x8x8x4x512.Slices ![0, 0, 0, 0, 0] S1x8x8x4x512 := ⟨rfl, fun a => by
    fin_cases a <;> simp⟩
  rw [Host.dynamicSlice_eq_extractStridedSlice _ x s ![0, 0, 0, 0, 0] _ hk hs]
  pointwise

theorem update_at {k : Fin 1} (x : FVec Ideal S1x8x8x4x512 .f32) (u : FVec Ideal S8x8x4x512 .f32) (s : Fin 5 → Int) (hs : ∀ a, s a = ((![k.val, 0, 0, 0, 0] : Fin 5 → ℕ) a : ℤ))
    (n : Fin 1) (b : Fin 8) (i : Fin 8) (h : Fin 4) (d : Fin 512) :
    Host.dynamicUpdateSlice x (broadcastInDim S1x8x8x4x512 ![1, 2, 3, 4] bcast_S8x8x4x512_S1x8x8x4x512_1_2_3_4 u) s updateFits_S1x8x8x4x512_S1x8x8x4x512 (ix5 n b i h d)
      = if n = k then u (ix4 b i h d) else x (ix5 n b i h d) := by
  obtain rfl : k = 0 := Subsingleton.elim _ _
  obtain rfl : n = 0 := Subsingleton.elim _ _
  rw [if_pos rfl]
  have hk : S1x8x8x4x512.Slices ![0, 0, 0, 0, 0] S1x8x8x4x512 := ⟨rfl, fun a => by
    fin_cases a <;> simp⟩
  refine (congrFun (Host.dynamicUpdateSlice_eq_updateSlice x (broadcastInDim S1x8x8x4x512 ![1, 2, 3, 4] bcast_S8x8x4x512_S1x8x8x4x512_1_2_3_4 u) s
    updateFits_S1x8x8x4x512_S1x8x8x4x512 ![0, 0, 0, 0, 0] (fun a => by
    rw [show s a = _ from hs a]
    fin_cases a <;> simp) hk) _).trans ?_
  pointwise

theorem starts_at (k : Fin 1) {x : IVec S_ 32} (hk : x = fun _ => Scf.iv 0#32 1#32 k.val) (a : Fin 5) :
    (BitVec.toInt ((![x, constantI S_ 32 0#32, constantI S_ 32 0#32, constantI S_ 32 0#32, constantI S_ 32 0#32] : Fin 5 → IVec S_ 32) a (Shape.Idx.first h_S_))
      = ((![k.val, 0, 0, 0, 0] : Fin 5 → ℕ) a : ℤ)) := by
  subst hk
  revert k
  fin_cases a
  · decide
  all_goals exact fun _ => rfl

theorem qchunks_at (x : FVec Ideal S64x2048 .f32) (n : Fin 1) (b : Fin 8) (i : Fin 8) (h : Fin 4) (d : Fin 256) :
    transpose S1x8x8x4x256 [1, 0, 2, 3, 4] (shapeCast S8x1x8x4x256 (shapeCast S8x8x4x256 (extractStridedSlice S64x1024 ![0, 0] x
      slices_S64x2048_S64x1024_0_0) shapeCasts_S64x1024_S8x8x4x256) shapeCasts_S8x8x4x256_S8x1x8x4x256)
      transposes_S8x1x8x4x256_S1x8x8x4x256_1_0_2_3_4 (ix5 n b i h d) = RsMath.qAt x b h i d := by
  pointwise
  refine congrArg x ?_
  unfold RsMath.row
  blk_ext []
theorem kchunks_at (x : FVec Ideal S64x2048 .f32) (n : Fin 1) (b : Fin 8) (i : Fin 8) (h : Fin 4) (d : Fin 256) :
    transpose S1x8x8x4x256 [1, 0, 2, 3, 4] (shapeCast S8x1x8x4x256 (shapeCast S8x8x4x256 (extractStridedSlice S64x1024 ![0, 1024] x
      slices_S64x2048_S64x1024_0_1024) shapeCasts_S64x1024_S8x8x4x256) shapeCasts_S8x8x4x256_S8x1x8x4x256)
      transposes_S8x1x8x4x256_S1x8x8x4x256_1_0_2_3_4 (ix5 n b i h d) = RsMath.kAt x b h i d := by
  pointwise
  refine congrArg x ?_
  unfold RsMath.row
  blk_ext []
theorem vchunks_at (x : FVec Ideal S64x2048 .f32) (n : Fin 1) (b : Fin 8) (i : Fin 8) (h : Fin 4) (d : Fin 512) :
    transpose S1x8x8x4x512 [1, 0, 2, 3, 4] (shapeCast S8x1x8x4x512 (shapeCast S8x8x4x512 x
      shapeCasts_S64x2048_S8x8x4x512) shapeCasts_S8x8x4x512_S8x1x8x4x512)
      transposes_S8x1x8x4x512_S1x8x8x4x512_1_0_2_3_4 (ix5 n b i h d) = RsMath.vAt x b h i d := by
  pointwise
  refine congrArg x ?_
  unfold RsMath.row RetMath.vcol
  blk_ext []

/-- The chunked output as rows of positions. -/
noncomputable def rows (o : FVec Ideal S1x8x8x4x512 .f32) : FVec Ideal S8x8x4x512 .f32 :=
  shapeCast _ (transpose S8x1x8x4x512 [1, 0, 2, 3, 4] o transposes_S1x8x8x4x512_S8x1x8x4x512_1_0_2_3_4) shapeCasts_S8x1x8x4x512_S8x8x4x512

theorem rows_at (o : FVec Ideal S1x8x8x4x512 .f32) (b i : Fin 8) (h : Fin 4) (e : Fin 512) :
    rows o (ix4 b i h e) = o (ix5 0 b i h e) := by
  pointwise [rows]

/-- The rows less their means. -/
noncomputable def centred (o : FVec Ideal S1x8x8x4x512 .f32) : FVec Ideal S8x8x4x512 .f32 :=
  subf (rows o) (broadcastInDim S8x8x4x512 ![0, 1, 2, 3] bcast_S8x8x4x1_S8x8x4x512_0_1_2_3 (Host.divf (broadcastInDim S8x8x4x1 ![0, 1, 2] bcast_S8x8x4_S8x8x4x1_0_1_2 (Host.reduceAdd (rows o) (constant S_ .f32 0x00000000#32) reducesTo_S8x8x4x512_S8x8x4_d3 h_S_)) (broadcastInDim S8x8x4x1 ![] bcast_S_S8x8x4x1 (constant S_ .f32 0x44000000#32))))

theorem centred_at (o : FVec Ideal S1x8x8x4x512 .f32) (b : Fin 8) (l : Fin 8) (h : Fin 4) (e : Fin 512) :
    centred o (ix4 b l h e) = rows o (ix4 b l h e) - RetMath.muRow (fun x => rows o (ix4 b l h x)) := by
  pointwise [centred]
  rfl

/-- The rows normalised. -/
noncomputable def normed (o : FVec Ideal S1x8x8x4x512 .f32) : FVec Ideal S8x8x4x512 .f32 :=
  mulf (centred o) (broadcastInDim S8x8x4x512 ![0, 1, 2, 3] bcast_S8x8x4x1_S8x8x4x512_0_1_2_3 (Host.rsqrt (addf (Host.divf (broadcastInDim S8x8x4x1 ![0, 1, 2] bcast_S8x8x4_S8x8x4x1_0_1_2 (Host.reduceAdd (mulf (centred o) (centred o)) (constant S_ .f32 0x00000000#32) reducesTo_S8x8x4x512_S8x8x4_d3 h_S_)) (broadcastInDim S8x8x4x1 ![] bcast_S_S8x8x4x1 (constant S_ .f32 0x44000000#32))) (broadcastInDim S8x8x4x1 ![] bcast_S_S8x8x4x1 (constant S_ .f32 0x358637BD#32)))))

theorem normed_at (o : FVec Ideal S1x8x8x4x512 .f32) (b : Fin 8) (l : Fin 8) (h : Fin 4) (e : Fin 512) :
    normed o (ix4 b l h e) = RetMath.gnRow (fun x => rows o (ix4 b l h x)) e := by
  pointwise [normed]
  simp only [centred_at]
  rfl

/-- The gated, normalised rows: what the operations after the loop make. -/
noncomputable def tail (o : FVec Ideal S1x8x8x4x512 .f32) (g : FVec Ideal S64x6144 .f32) (gw gb : FVec Ideal S2048 .f32) : FVec Ideal S64x2048 .f32 :=
  shapeCast _ (mulf (shapeCast _ (extractStridedSlice S64x2048 ![0, 0] g slices_S64x6144_S64x2048_0_0) shapeCasts_S64x2048_S8x8x2048) (addf (mulf (shapeCast _ (normed o) shapeCasts_S8x8x4x512_S8x8x2048) (broadcastInDim S8x8x2048 ![0, 1, 2] bcast_S1x1x2048_S8x8x2048_0_1_2 (broadcastInDim S1x1x2048 ![2] bcast_S2048_S1x1x2048_2 gw))) (broadcastInDim S8x8x2048 ![0, 1, 2] bcast_S1x1x2048_S8x8x2048_0_1_2 (broadcastInDim S1x1x2048 ![2] bcast_S2048_S1x1x2048_2 gb)))) shapeCasts_S8x8x2048_S64x2048

theorem tail_at (o : FVec Ideal S1x8x8x4x512 .f32) (g : FVec Ideal S64x6144 .f32) (gw gb : FVec Ideal S2048 .f32)
    (b : Fin 8) (l : Fin 8) (h : Fin 4) (e : Fin 512) :
    tail o g gw gb (ix2 ⟨8 * b.val + l.val, by omega⟩ (RetMath.vcol h e)) = g (ix2 ⟨8 * b.val + l.val, by omega⟩ ⟨512 * h.val + e.val, by omega⟩)
      * (normed o (ix4 b l h e) * gw (ix1 (RetMath.vcol h e)) + gb (ix1 (RetMath.vcol h e))) := by
  pointwise [tail, RetMath.vcol]
  congr 2
  blk_ext []

theorem tail_row (o : FVec Ideal S1x8x8x4x512 .f32) (g : FVec Ideal S64x6144 .f32) (gw gb : FVec Ideal S2048 .f32)
    (b : Fin 8) (n : Fin 1) (i : Fin 8) (h : Fin 4) (e : Fin 512) :
    tail o g gw gb (ix2 (RsMath.row b i) (RetMath.vcol h e)) = g (ix2 (RsMath.row b i) ⟨512 * h.val + e.val, by omega⟩)
      * (RetMath.gnRow (fun x => o (ix5 n b i h x)) e * gw (ix1 (RetMath.vcol h e)) + gb (ix1 (RetMath.vcol h e))) := by
  obtain rfl : n = 0 := Subsingleton.elim _ _
  refine (tail_at o g gw gb b i h e).trans ?_
  rw [normed_at]
  simp only [rows_at]
  rfl

theorem out_eq (V0 : Valuation τ sig (Elt Ideal)) : out_main_v88 V0 = tail (V0 (Proc.devRef .tc main_v57_9)) (V0 (Proc.devRef .tc main_arg2))
    (V0 (Proc.devRef .tc main_arg3)) (V0 (Proc.devRef .tc main_arg4)) := rfl

variable (m : (ℓ : Loc nD τ sig) → Buf (Elt Ideal) ℓ)

theorem e0 (c : Dev nD) (n : Fin 1) (b : Fin 8) (i : Fin 8) (h : Fin 4) (d : Fin 256) :
    (entryContents preI m c (Proc.devRef .tc main_v57_0) : FVec Ideal S1x8x8x4x256 .f32) (ix5 n b i h d)
      = RsMath.qAt (m ((c : Thread nD τ).loc main_arg0)) b h i d := by
  simp only [entryContents, afterL_cons, afterL_nil]
  after_reads_simp
  exact qchunks_at (m ((c : Thread nD τ).loc main_arg0)) n b i h d
theorem e1 (c : Dev nD) (n : Fin 1) (b : Fin 8) (i : Fin 8) (h : Fin 4) (d : Fin 256) :
    (entryContents preI m c (Proc.devRef .tc main_v57_1) : FVec Ideal S1x8x8x4x256 .f32) (ix5 n b i h d)
      = RsMath.kAt (m ((c : Thread nD τ).loc main_arg0)) b h i d := by
  simp only [entryContents, afterL_cons, afterL_nil]
  after_reads_simp
  exact kchunks_at (m ((c : Thread nD τ).loc main_arg0)) n b i h d
theorem e2 (c : Dev nD) (n : Fin 1) (b : Fin 8) (i : Fin 8) (h : Fin 4) (d : Fin 512) :
    (entryContents preI m c (Proc.devRef .tc main_v57_2) : FVec Ideal S1x8x8x4x512 .f32) (ix5 n b i h d)
      = RsMath.vAt (m ((c : Thread nD τ).loc main_arg1)) b h i d := by
  simp only [entryContents, afterL_cons, afterL_nil]
  after_reads_simp
  exact vchunks_at (m ((c : Thread nD τ).loc main_arg1)) n b i h d
theorem e3 (c : Dev nD) (h : Fin 4) (i j : Fin 8) :
    (entryContents preI m c (Proc.devRef .tc main_v57_3) : FVec Ideal S4x8x8 .f32) (ix3 h i j) = RsMath.din h i j := by
  simp only [entryContents, afterL_cons, afterL_nil]
  after_reads_simp
  simp only [id_eq, cast_eq]
  clean_types
  pointwise
  rfl
theorem e4 (c : Dev nD) (h : Fin 4) (i : Fin 8) :
    (entryContents preI m c (Proc.devRef .tc main_v57_4) : FVec Ideal S8x4 .f32) (ix2 i h) = RsMath.dq h i := by
  simp only [entryContents, afterL_cons, afterL_nil]
  after_reads_simp
  simp only [id_eq, cast_eq]
  clean_types
  pointwise
  rfl
theorem e5 (c : Dev nD) (h : Fin 4) :
    (entryContents preI m c (Proc.devRef .tc main_v57_5) : FVec Ideal S4 .f32) (ix1 h) = RsMath.dc h := by
  simp only [entryContents, afterL_cons, afterL_nil]
  after_reads_simp
  simp only [id_eq, cast_eq]
  clean_types
  pointwise
  rfl
theorem e6 (c : Dev nD) (h : Fin 4) (i : Fin 8) :
    (entryContents preI m c (Proc.devRef .tc main_v57_6) : FVec Ideal S8x4 .f32) (ix2 i h) = RsMath.dk h i := by
  simp only [entryContents, afterL_cons, afterL_nil]
  after_reads_simp
  simp only [id_eq, cast_eq]
  clean_types
  pointwise
  rfl
theorem e8 (c : Dev nD) (b : Fin 8) (h : Fin 4) (d : Fin 256) (e : Fin 512) :
    (entryContents preI m c (Proc.devRef .tc main_v57_8) : FVec Ideal S8x4x256x512 .f32) (ix4 b h d e) = (m ((c : Thread nD τ).loc main_arg5)) (ix4 b h d e) := by
  simp only [entryContents, afterL_cons, afterL_nil]
  after_reads_simp
  rfl
theorem s8 (V0 : Valuation τ sig (Elt Ideal)) : step_main_v57_8 V0 = nextS (V0 (Proc.devRef .tc main_v57_8)) (res_main_while0b_v90 V0) (res_main_while0b_v91 V0)
    (V0 (Proc.devRef .tc main_v57_5)) (V0 (Proc.devRef .tc main_v57_6)) := rfl
theorem r95 (V0 : Valuation τ sig (Elt Ideal)) (k : Fin 1) (hk : V0 (Proc.devRef .tc main_v57_7) = fun _ => Scf.iv 0#32 1#32 k.val)
    (b : Fin 8) (i : Fin 8) (h : Fin 4) (d : Fin 256) : (res_main_while0b_v89 V0 : FVec Ideal S8x8x4x256 .f32) (ix4 b i h d) = (V0 (Proc.devRef .tc main_v57_0) : FVec Ideal S1x8x8x4x256 .f32) (ix5 k b i h d) := by
  refine slice4_at (k := k) _ _ (fun a => ?_) b i h d
  exact starts_at k hk a
theorem r9 (V0 : Valuation τ sig (Elt Ideal)) (k : Fin 1) (hk : V0 (Proc.devRef .tc main_v57_7) = fun _ => Scf.iv 0#32 1#32 k.val)
    (n : Fin 1) (b : Fin 8) (i : Fin 8) (h : Fin 4) (d : Fin 512) : (step_main_v57_9 V0 : FVec Ideal S1x8x8x4x512 .f32) (ix5 n b i h d) =
     if n = k then chunkO (V0 (Proc.devRef .tc main_v57_8)) (res_main_while0b_v89 V0) (res_main_while0b_v90 V0) (res_main_while0b_v91 V0)
       (V0 (Proc.devRef .tc main_v57_3)) (V0 (Proc.devRef .tc main_v57_4)) (ix4 b i h d) else (V0 (Proc.devRef .tc main_v57_9) : FVec Ideal S1x8x8x4x512 .f32) (ix5 n b i h d) := by
  refine update_at (k := k) _ _ _ (fun a => ?_) n b i h d
  exact starts_at k hk a
theorem r96 (V0 : Valuation τ sig (Elt Ideal)) (k : Fin 1) (hk : V0 (Proc.devRef .tc main_v57_7) = fun _ => Scf.iv 0#32 1#32 k.val)
    (b : Fin 8) (i : Fin 8) (h : Fin 4) (d : Fin 256) : (res_main_while0b_v90 V0 : FVec Ideal S8x8x4x256 .f32) (ix4 b i h d) = (V0 (Proc.devRef .tc main_v57_1) : FVec Ideal S1x8x8x4x256 .f32) (ix5 k b i h d) := by
  refine slice4_at (k := k) _ _ (fun a => ?_) b i h d
  exact starts_at k hk a
theorem r97 (V0 : Valuation τ sig (Elt Ideal)) (k : Fin 1) (hk : V0 (Proc.devRef .tc main_v57_7) = fun _ => Scf.iv 0#32 1#32 k.val)
    (b : Fin 8) (i : Fin 8) (h : Fin 4) (d : Fin 512) : (res_main_while0b_v91 V0 : FVec Ideal S8x8x4x512 .f32) (ix4 b i h d) = (V0 (Proc.devRef .tc main_v57_2) : FVec Ideal S1x8x8x4x512 .f32) (ix5 k b i h d) := by
  refine slice5_at (k := k) _ _ (fun a => ?_) b i h d
  exact starts_at k hk a

/-- The carried counter at the loop's entry. -/
theorem e7 (c : Dev nD) : entryContents preI m c (Proc.devRef .tc main_v57_7) = fun _ => Scf.iv 0#32 1#32 (0 : Fin 1).val :=
  (atK_agree m c 0 _ (by simp)).symm.trans (atK_ctr m c 0)

/-- The new state, after the single trip. -/
theorem state_at (c : Dev nD) (b : Fin 8) (h : Fin 4) (d : Fin 256) (e : Fin 512) :
    (STEP (entryContents preI m c) (Proc.devRef .tc main_v57_8) : FVec Ideal S8x4x256x512 .f32) (ix4 b h d e)
      = RsMath.state (m ((c : Thread nD τ).loc main_arg0)) (m ((c : Thread nD τ).loc main_arg1)) (m ((c : Thread nD τ).loc main_arg5)) b h d e := by
  rw [STEP_main_v57_8, s8]
  refine (nextS_at _ _ _ _ _ b h d e).trans ?_
  have hc := e7 m c
  rw [e5, e8]
  unfold RsMath.state
  refine congrArg _ (Finset.sum_congr rfl fun j _ => ?_)
  rw [r96 _ 0 hc, r97 _ 0 hc, e1, e2, e6]

/-- The retention, after the single trip. -/
theorem o_at (c : Dev nD) (b i : Fin 8) (h : Fin 4) (e : Fin 512) :
    (STEP (entryContents preI m c) (Proc.devRef .tc main_v57_9) : FVec Ideal S1x8x8x4x512 .f32) (ix5 0 b i h e)
      = RsMath.ret (m ((c : Thread nD τ).loc main_arg0)) (m ((c : Thread nD τ).loc main_arg1)) (m ((c : Thread nD τ).loc main_arg5)) b h i e := by
  have hc := e7 m c
  rw [STEP_main_v57_9, r9 _ 0 hc, if_pos rfl]
  refine (chunkO_at _ _ _ _ _ _ b i h e).trans ?_
  rw [e4]
  unfold RsMath.ret
  refine congrArg₂ (fun x y : EReal => x + y) ?_ ?_
  · refine Finset.sum_congr rfl fun j _ => ?_
    rw [r97 _ 0 hc, e2, e3]
    refine congrArg (fun x : EReal => x * _ * _) (Finset.sum_congr rfl fun d _ => ?_)
    rw [r95 _ 0 hc, r96 _ 0 hc, e0, e1]
  · refine congrArg (fun x : EReal => x * _) (Finset.sum_congr rfl fun d _ => ?_)
    rw [r95 _ 0 hc, e0, e8]

/-- The reference's first result, at every row and column. -/
theorem out_at (c : Dev nD) (b i : Fin 8) (h : Fin 4) (e : Fin 512) :
    (out_main_v88 (STEP (entryContents preI m c)) : FVec Ideal S64x2048 .f32) (ix2 (RsMath.row b i) (RetMath.vcol h e))
      = RsMath.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b i h e := by
  have ho : (fun x => (STEP (entryContents preI m c) (Proc.devRef .tc main_v57_9) : FVec Ideal S1x8x8x4x512 .f32) (ix5 0 b i h x))
      = RsMath.ret (m ((c : Thread nD τ).loc main_arg0)) (m ((c : Thread nD τ).loc main_arg1)) (m ((c : Thread nD τ).loc main_arg5)) b h i :=
    funext fun x => o_at m c b i h x
  rw [out_eq, show STEP (entryContents preI m c) (Proc.devRef .tc main_arg2) = _ from iter_main_arg2 m c 1,
    show STEP (entryContents preI m c) (Proc.devRef .tc main_arg3) = _ from iter_main_arg3 m c 1, show STEP (entryContents preI m c) (Proc.devRef .tc main_arg4) = _ from iter_main_arg4 m c 1]
  refine (tail_row _ _ _ _ b 0 i h e).trans ?_
  rw [ho]
  rfl

end Cert.RsRef
-- ==== Proof.Rs.lean ====
/- The retention call of the samples: the reference's frame, and the equation of the kernel's results with the reference's. -/
module
public import proofs.«01_k».proof.Defs
public import proofs.«01_k».proof.Proof.Gen.KernelRsIdeal
public import proofs.«01_k».proof.Proof.Gen.ReferenceRsIdeal
public import proofs.«01_k».proof.Proof.RsArr
public import proofs.«01_k».proof.Proof.RsRef

open Idealize Idealize.ShloMosaic Idealize.SL.Sem

@[expose] public section

namespace Cert.Rs

set_option maxRecDepth 16384

/-- Every row and column of the output is a position of a batch entry, and a column of a head. -/
theorem idx_out (y : Shape.Idx ⟨2, ![64, 2048]⟩) : ∃ (b i : Fin 8) (h : Fin 4) (e : Fin 512),
    y = ix2 (RsMath.row b i) (RetMath.vcol h e) := by
  idx_vars y
  refine ⟨⟨y0.val / 8, by omega⟩, ⟨y0.val % 8, by omega⟩, ⟨y1.val / 512, by omega⟩, ⟨y1.val % 512, by omega⟩, ?_⟩
  congr 1
  · apply Fin.ext
    simp only [RsMath.row]
    omega
  · apply Fin.ext
    simp only [RetMath.vcol]
    omega

theorem ext_out {f g : Shape.Idx ⟨2, ![64, 2048]⟩ → EReal} (hfg : ∀ b i h e, f (ix2 (RsMath.row b i) (RetMath.vcol h e)) = g (ix2 (RsMath.row b i) (RetMath.vcol h e))) : f = g := by
  funext y
  obtain ⟨b, i, h, e, rfl⟩ := idx_out y
  exact hfg b i h e

theorem ext_state {f g : Shape.Idx ⟨4, ![8, 4, 256, 512]⟩ → EReal} (hfg : ∀ b h d e, f (ix4 b h d e) = g (ix4 b h d e)) : f = g := by
  funext y
  idx_vars y
  exact hfg _ _ _ _

/-- The reference runs and leaves its arguments. -/
theorem ref_frame [hReferenceRsIdeal : Cert.ReferenceRsIdeal.Facts] : Cert.quiescent_ReferenceRsIdeal := fun m g _ =>
  (θ_run Cert.ReferenceRsIdeal.defs _ _).mono (fun r h => ⟨fun c => (h c).2.2, Idealize.ShloMosaic.sem_eq_zero_of_no_sems (by decide) r.2⟩)
    (ReferenceRsIdeal.Value.run m g)

/-- The kernel's results and the reference's are the same arrays. -/
theorem algebraic : Cert.algebraic_KernelRsIdeal_ReferenceRsIdeal (hKernelRsIdeal := Cert.KernelRsIdeal.Gen.facts) (hReferenceRsIdeal := Cert.ReferenceRsIdeal.Gen.facts) := by
  intro m g m' g' _ hargs
  refine ⟨fun c => (KernelRsIdeal.Gen.dats m 0 c).arrAt 11 KernelRsIdeal.cfg0.N, fun c => (KernelRsIdeal.Gen.dats m 0 c).arrAt 12 KernelRsIdeal.cfg0.N, KernelRsIdeal.Value.run_blocks m g, ?_⟩
  refine (θ_run _ _ _).mono (fun r h c => ?_) (ReferenceRsIdeal.Value.run m' g')
  obtain ⟨h0, h1, h2⟩ := h c
  obtain ⟨a0, a1, a2, a3, a4, a5⟩ := hargs c
  refine ⟨h0.trans ?_, h1.trans ?_, h2⟩
  · refine ext_out fun b i hh e => (RsRef.out_at m' c b i hh e).trans ?_
    rw [a0, a1, a2, a3, a4, a5]
    exact (out_final m c b i hh e).symm
  · refine ext_state fun b hh d e => (RsRef.state_at m' c b hh d e).trans ?_
    rw [a0, a1, a5]
    exact (state_final m c b hh d e).symm

end Cert.Rs
-- ==== Proof.Mod.lean ====
/- The modulation of every layer: the swish of the conditioning rows times `w_mod`, plus `b_mod`, for the prompt and for the samples. -/
module
public import proofs.«01_k».proof.Defs
public import proofs.«01_k».proof.Proof.Gen.KernelMod
public import proofs.«01_k».proof.Proof.Gen.KernelMod.Frame
public import proofs.«01_k».proof.Proof.Gen.KernelModIdeal
public import proofs.«01_k».proof.Proof.Gen.KernelModIdeal.Frame
public import proofs.«01_k».proof.Proof.Gen.ReferenceModIdeal
public import proofs.«01_k».proof.Proof.Gen.ReferenceModIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Mod

set_option maxRecDepth 16384

section
open Cert.KernelModIdeal Cert.KernelModIdeal.Gen
variable (m : (ℓ : Loc nD τ sig) → Buf (Elt Ideal) ℓ)

/-- The swish of the row `c` times column `j` of layer `l` of `w`, plus `b`. -/
noncomputable def val (r : Fin 2048 → EReal) (w : FVec Ideal S4x2048x12288 .f32) (b : FVec Ideal S4x12288 .f32) (l : Fin 4) (j : Fin 12288) : EReal :=
  (∑ k : Fin 2048, (r k * Ideal.logistic (r k)) * w (ix3 l k j)) + b (ix2 l j)

/-- The modulation of the prompt's two batch entries. -/
noncomputable def modP (p : FVec Ideal S2x2048 .f32) (w : FVec Ideal S4x2048x12288 .f32) (b : FVec Ideal S4x12288 .f32) : S4x2x12288.Idx → EReal :=
  fun y => val (fun k => p (ix2 ⟨(y 1).val, by have h1 : (y 1).val < 2 := (y 1).isLt; omega⟩ k)) w b (y 0) (y 2)
/-- The modulation of the eight samples. -/
noncomputable def modS (p : FVec Ideal S8x2048 .f32) (w : FVec Ideal S4x2048x12288 .f32) (b : FVec Ideal S4x12288 .f32) : S4x8x12288.Idx → EReal :=
  fun y => val (fun k => p (ix2 ⟨(y 1).val, by have h1 : (y 1).val < 8 := (y 1).isLt; omega⟩ k)) w b (y 0) (y 2)
/-- The modulation of the sixteen rows the kernel is given. -/
noncomputable def arr (p : FVec Ideal S16x2048 .f32) (w : FVec Ideal S4x2048x12288 .f32) (b : FVec Ideal S4x12288 .f32) : S4x16x12288.Idx → EReal :=
  fun y => val (fun k => p (ix2 ⟨(y 1).val, by have h1 : (y 1).val < 16 := (y 1).isLt; omega⟩ k)) w b (y 0) (y 2)

/-- The first two of the sixteen rows are the prompt's, the next eight the samples'. -/
theorem V_p (c : Dev nD) (i : Fin 2) (k : Fin 2048) : V m c main_v1 (ix2 ⟨i.val, by omega⟩ k) = (m ((c : Thread nD τ).loc main_arg0)) (ix2 i k) := by
  unfold V
  after_reads_at
  rw [dif_pos (by omega)]
  rfl
theorem V_s (c : Dev nD) (i : Fin 8) (k : Fin 2048) : V m c main_v1 (ix2 ⟨2 + i.val, by omega⟩ k) = (m ((c : Thread nD τ).loc main_arg1)) (ix2 i k) := by
  unfold V
  after_reads_at
  rw [dif_pos (by omega)]
  rfl
theorem V_b (c : Dev nD) (l : Fin 4) (j : Fin 12288) : V m c main_v2 (ix3 l 0 j) = (m ((c : Thread nD τ).loc main_arg3)) (ix2 l j) := by
  unfold V
  after_reads_at

/-- The grid point of layer `l` and tile `j` of the columns. -/
def pt (l : Fin 4) (j : Fin 12) : Fin cfg0.N := ⟨12 * l.val + j.val, by show _ < 48; omega⟩
theorem pt_surj : ∀ t : Fin cfg0.N, ∃ (l : Fin 4) (j : Fin 12), t = pt l j :=
  fun t => ⟨⟨t.val / 12, by have : t.val < 48 := t.isLt; omega⟩, ⟨t.val % 12, by omega⟩, Fin.ext (by show t.val = 12 * (t.val / 12) + t.val % 12; omega)⟩
theorem idx : ∀ (l : Fin 4) (j : Fin 12), win0_0.index (pt l j) = ![0, 0] ∧ win0_1.index (pt l j) = ![l.val, 0, j.val] ∧ win0_2.index (pt l j) = ![l.val, 0, j.val]
    ∧ win0_3.index (pt l j) = ![l.val, 0, j.val] := by
  decide +kernel

theorem blk0 (c : Dev nD) (l : Fin 4) (j : Fin 12) (i : Fin 16) (k : Fin 2048) : iblk m c 0 (pt l j) (ix2 i k) = V m c main_v1 (ix2 i k) := by
  show V m c main_v1 _ = _
  congr 1
  blk_ext! [idx l j]
theorem blk1 (c : Dev nD) (l : Fin 4) (j : Fin 12) (k : Fin 2048) (a : Fin 1024) :
    iblk m c 1 (pt l j) (ix3 0 k a) = (m ((c : Thread nD τ).loc main_arg2)) (ix3 l k ⟨1024 * j.val + a.val, by omega⟩) := by
  show V m c main_arg2 _ = _
  rw [V_main_arg2]
  congr 1
  blk_ext! [idx l j]
theorem blk2 (c : Dev nD) (l : Fin 4) (j : Fin 12) (a : Fin 1024) :
    iblk m c 2 (pt l j) (ix3 0 0 a) = (m ((c : Thread nD τ).loc main_arg3)) (ix2 l ⟨1024 * j.val + a.val, by omega⟩) := by
  refine Eq.trans ?_ (V_b m c l _)
  show V m c main_v2 _ = _
  congr 1
  blk_ext! [idx l j]

theorem out_at (x0 : Vec Ideal S16x2048 .f32) (x1 : Vec Ideal S1x2048x1024 .f32) (x2 : Vec Ideal S1x1x1024 .f32) (i : Fin 16) (a : Fin 1024) :
    out0_3 x0 x1 x2 (ix3 0 i a) = (∑ k : Fin 2048, (x0 (ix2 i k) * Ideal.logistic (x0 (ix2 i k))) * x1 (ix3 0 k a)) + x2 (ix3 0 0 a) := by
  frame_out
  pointwise [k0_pay1]

theorem emb (l : Fin 4) (j : Fin 12) (y : S1x16x1024.Idx) : (win0_3.blk (pt l j)).view.emb y
    = ix3 l ⟨(y 1).val, by have hy : (y 1).val < 16 := (y 1).isLt; omega⟩ ⟨1024 * j.val + (y 2).val, by have hy : (y 2).val < 1024 := (y 2).isLt; omega⟩ := by
  blk_ext! [idx l j]

/-- The array the kernel's region writes. -/
theorem final (c : Dev nD) : (dats m 0 c).arrAt 3 cfg0.N = arr (V m c main_v1) (m ((c : Thread nD τ).loc main_arg2)) (m ((c : Thread nD τ).loc main_arg3)) := by
  refine (dats m 0 c).arrAt_eq_of_covers 3 (arr (V m c main_v1) (m ((c : Thread nD τ).loc main_arg2)) (m ((c : Thread nD τ).loc main_arg3))) (by decide +kernel) fun t hf (y : S1x16x1024.Idx) => ?_
  obtain ⟨l, j, rfl⟩ := pt_surj t
  blk_simp
  rw [after0_3]
  refine Eq.trans ?_ (congrArg (arr (V m c main_v1) (m ((c : Thread nD τ).loc main_arg2)) (m ((c : Thread nD τ).loc main_arg3))) (emb l j y)).symm
  idx_vars y
  obtain rfl : y0 = 0 := Subsingleton.elim _ _
  refine (out_at _ _ _ y1 y2).trans ?_
  simp only [blk0, blk1, blk2]
  rfl

theorem tail4 (U : Valuation τ sig (Elt Ideal)) (l : Fin 4) (i : Fin 2) (j : Fin 12288) :
    StableHlo.after hostOps1 U (Proc.devRef .tc main_v4) (ix3 l i j) = U (Proc.devRef .tc main_v3) (ix3 l ⟨i.val, by omega⟩ j) := by
  after_reads_at
theorem tail5 (U : Valuation τ sig (Elt Ideal)) (l : Fin 4) (i : Fin 8) (j : Fin 12288) :
    StableHlo.after hostOps1 U (Proc.devRef .tc main_v5) (ix3 l i j) = U (Proc.devRef .tc main_v3) (ix3 l ⟨2 + i.val, by omega⟩ j) := by
  after_reads_at

/-- What the host lines start from: the region's array where it lies. -/
theorem base_v3 (c : Dev nD) : Pipeline.withArrays (cfgs 0).spec c (V0 m c) (fun w => (dats m 0 c).arrAt w (cfgs 0).N) (Proc.devRef .tc main_v3)
    = arr (V m c main_v1) (m ((c : Thread nD τ).loc main_arg2)) (m ((c : Thread nD τ).loc main_arg3)) :=
  (Pipeline.withArrays_arr spec0 (by decide) c (V0 m c) (fun w => (dats m 0 c).arrAt w (cfgs 0).N) 3).trans (final m c)

/-- The kernel's first result. -/
theorem res4 (c : Dev nD) : Pipeline.afterTail₀ cfgs (dats m) 0 (V0 m) [hostOps1] c main_v4 = modP (m ((c : Thread nD τ).loc main_arg0)) (m ((c : Thread nD τ).loc main_arg2)) (m ((c : Thread nD τ).loc main_arg3)) := by
  unfold Pipeline.afterTail₀
  rw [List.flatten_singleton]
  funext y
  idx_vars y
  refine (tail4 _ y0 y1 y2).trans ((congrFun (base_v3 m c) _).trans ?_)
  exact congrArg (fun r => val r (m ((c : Thread nD τ).loc main_arg2)) (m ((c : Thread nD τ).loc main_arg3)) y0 y2) (funext fun k => V_p m c y1 k)
/-- The kernel's second result. -/
theorem res5 (c : Dev nD) : Pipeline.afterTail₀ cfgs (dats m) 0 (V0 m) [hostOps1] c main_v5 = modS (m ((c : Thread nD τ).loc main_arg1)) (m ((c : Thread nD τ).loc main_arg2)) (m ((c : Thread nD τ).loc main_arg3)) := by
  unfold Pipeline.afterTail₀
  rw [List.flatten_singleton]
  funext y
  idx_vars y
  refine (tail5 _ y0 y1 y2).trans ((congrFun (base_v3 m c) _).trans ?_)
  exact congrArg (fun r => val r (m ((c : Thread nD τ).loc main_arg2)) (m ((c : Thread nD τ).loc main_arg3)) y0 y2) (funext fun k => V_s m c y1 k)
end

section
open Idealize.ShloMosaic.StableHlo Cert.ReferenceModIdeal Cert.ReferenceModIdeal.Gen

/-- The reference's first result array. -/
theorem refP (p : FVec Ideal S2x2048 .f32) (w : FVec Ideal S4x2048x12288 .f32) (b : FVec Ideal S4x12288 .f32) :
    ((concatenate S4x2x12288 0 [⟨S1x2x12288, ((broadcastInDim S1x2x12288 ![1, 2] bcast_S2x12288_S1x2x12288_1_2 (addf (Host.dotGeneral dot_S2x2048_S2048x12288_S2x12288_1_0_0_1_n_n none (mulf p (Host.divf (broadcastInDim S2x2048 ![] bcast_S_S2x2048 (constant S_ .f32 0x3F800000#32)) (addf (broadcastInDim S2x2048 ![] bcast_S_S2x2048 (constant S_ .f32 0x3F800000#32)) (Host.exp (Host.negf p))))) (shapeCast _ (extractStridedSlice S1x2048x12288 ![0, 0, 0] w slices_S4x2048x12288_S1x2048x12288_0_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![0, 0] b slices_S4x12288_S1x12288_0_0) shapeCasts_S1x12288_S12288))))) : (⟨S1x2x12288, .f32⟩ : BufTy).Contents (Elt Ideal))⟩, ⟨S1x2x12288, ((broadcastInDim S1x2x12288 ![1, 2] bcast_S2x12288_S1x2x12288_1_2 (addf (Host.dotGeneral dot_S2x2048_S2048x12288_S2x12288_1_0_0_1_n_n none (mulf p (Host.divf (broadcastInDim S2x2048 ![] bcast_S_S2x2048 (constant S_ .f32 0x3F800000#32)) (addf (broadcastInDim S2x2048 ![] bcast_S_S2x2048 (constant S_ .f32 0x3F800000#32)) (Host.exp (Host.negf p))))) (shapeCast _ (extractStridedSlice S1x2048x12288 ![1, 0, 0] w slices_S4x2048x12288_S1x2048x12288_1_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![1, 0] b slices_S4x12288_S1x12288_1_0) shapeCasts_S1x12288_S12288))))) : (⟨S1x2x12288, .f32⟩ : BufTy).Contents (Elt Ideal))⟩, ⟨S1x2x12288, ((broadcastInDim S1x2x12288 ![1, 2] bcast_S2x12288_S1x2x12288_1_2 (addf (Host.dotGeneral dot_S2x2048_S2048x12288_S2x12288_1_0_0_1_n_n none (mulf p (Host.divf (broadcastInDim S2x2048 ![] bcast_S_S2x2048 (constant S_ .f32 0x3F800000#32)) (addf (broadcastInDim S2x2048 ![] bcast_S_S2x2048 (constant S_ .f32 0x3F800000#32)) (Host.exp (Host.negf p))))) (shapeCast _ (extractStridedSlice S1x2048x12288 ![2, 0, 0] w slices_S4x2048x12288_S1x2048x12288_2_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![2, 0] b slices_S4x12288_S1x12288_2_0) shapeCasts_S1x12288_S12288))))) : (⟨S1x2x12288, .f32⟩ : BufTy).Contents (Elt Ideal))⟩, ⟨S1x2x12288, ((broadcastInDim S1x2x12288 ![1, 2] bcast_S2x12288_S1x2x12288_1_2 (addf (Host.dotGeneral dot_S2x2048_S2048x12288_S2x12288_1_0_0_1_n_n none (mulf p (Host.divf (broadcastInDim S2x2048 ![] bcast_S_S2x2048 (constant S_ .f32 0x3F800000#32)) (addf (broadcastInDim S2x2048 ![] bcast_S_S2x2048 (constant S_ .f32 0x3F800000#32)) (Host.exp (Host.negf p))))) (shapeCast _ (extractStridedSlice S1x2048x12288 ![3, 0, 0] w slices_S4x2048x12288_S1x2048x12288_3_0_0) shapeCasts_S1x2048x12288_S2048x12288)) (broadcastInDim S2x12288 ![0, 1] bcast_S1x12288_S2x12288_0_1 (broadcastInDim S1x12288 ![1] bcast_S12288_S1x12288_1 (shapeCast _ (extractStridedSlice S1x12288 ![3, 0] b slices_S4x12288_S1x12288_3_0) shapeCasts_S1x12288_S12288))))) : (⟨S1x2x12288, .f32⟩ : BufTy).Contents (Elt Ideal))⟩] concatenates_S1x2x12288_S1x2x12288_S1x2x12288_S1x2x12288_S4x2x12288_d0 : (⟨S4x2x12288, .f32⟩ : BufTy).Contents (Elt Ideal))
      : FVec Ideal S4x2x12288 .f32) = modP p w b := by
  funext y
  idx_vars y
  fin_cases y0
  all_goals pointwise [modP, val, Ideal.logistic]
/-- The reference's second result array. -/
theorem refS (q : FVec Ideal S8x2048 .f32) (w : FVec Ideal S4x2048x12288 .f32) (b : FVec Ideal S4x12288 .f32) :
    ((concatenate S4x8x12288 0 [⟨S1x8x12288, ((broadcastInDim S1x8x12288 ![1, 2] bcast_S8x12288_S1x8x12288_1_2 (addf (Host.dotGeneral dot_S8x2048_S2048x12288_S8x12288_1_0_0_1_n_n none (mulf q (Host.divf (broadcastInDim S8x2048 ![] bcast_S_S8x2048 (constant S_ .f32 0x3F800000#32)) (addf (broadcastInDim S8x2048 ![] bcast_S_S8x2048 (constant S_ .f32 0x3F800000#32)) (Host.exp (Host.negf q))))) (shapeCast _ (extractStridedSlice S1x2048x12288 ![0, 0, 0] w slices_S4x2048x12288_S1x2048x12288_0_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![0, 0] b slices_S4x12288_S1x12288_0_0) shapeCasts_S1x12288_S12288))))) : (⟨S1x8x12288, .f32⟩ : BufTy).Contents (Elt Ideal))⟩, ⟨S1x8x12288, ((broadcastInDim S1x8x12288 ![1, 2] bcast_S8x12288_S1x8x12288_1_2 (addf (Host.dotGeneral dot_S8x2048_S2048x12288_S8x12288_1_0_0_1_n_n none (mulf q (Host.divf (broadcastInDim S8x2048 ![] bcast_S_S8x2048 (constant S_ .f32 0x3F800000#32)) (addf (broadcastInDim S8x2048 ![] bcast_S_S8x2048 (constant S_ .f32 0x3F800000#32)) (Host.exp (Host.negf q))))) (shapeCast _ (extractStridedSlice S1x2048x12288 ![1, 0, 0] w slices_S4x2048x12288_S1x2048x12288_1_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![1, 0] b slices_S4x12288_S1x12288_1_0) shapeCasts_S1x12288_S12288))))) : (⟨S1x8x12288, .f32⟩ : BufTy).Contents (Elt Ideal))⟩, ⟨S1x8x12288, ((broadcastInDim S1x8x12288 ![1, 2] bcast_S8x12288_S1x8x12288_1_2 (addf (Host.dotGeneral dot_S8x2048_S2048x12288_S8x12288_1_0_0_1_n_n none (mulf q (Host.divf (broadcastInDim S8x2048 ![] bcast_S_S8x2048 (constant S_ .f32 0x3F800000#32)) (addf (broadcastInDim S8x2048 ![] bcast_S_S8x2048 (constant S_ .f32 0x3F800000#32)) (Host.exp (Host.negf q))))) (shapeCast _ (extractStridedSlice S1x2048x12288 ![2, 0, 0] w slices_S4x2048x12288_S1x2048x12288_2_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![2, 0] b slices_S4x12288_S1x12288_2_0) shapeCasts_S1x12288_S12288))))) : (⟨S1x8x12288, .f32⟩ : BufTy).Contents (Elt Ideal))⟩, ⟨S1x8x12288, ((broadcastInDim S1x8x12288 ![1, 2] bcast_S8x12288_S1x8x12288_1_2 (addf (Host.dotGeneral dot_S8x2048_S2048x12288_S8x12288_1_0_0_1_n_n none (mulf q (Host.divf (broadcastInDim S8x2048 ![] bcast_S_S8x2048 (constant S_ .f32 0x3F800000#32)) (addf (broadcastInDim S8x2048 ![] bcast_S_S8x2048 (constant S_ .f32 0x3F800000#32)) (Host.exp (Host.negf q))))) (shapeCast _ (extractStridedSlice S1x2048x12288 ![3, 0, 0] w slices_S4x2048x12288_S1x2048x12288_3_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![3, 0] b slices_S4x12288_S1x12288_3_0) shapeCasts_S1x12288_S12288))))) : (⟨S1x8x12288, .f32⟩ : BufTy).Contents (Elt Ideal))⟩] concatenates_S1x8x12288_S1x8x12288_S1x8x12288_S1x8x12288_S4x8x12288_d0 : (⟨S4x8x12288, .f32⟩ : BufTy).Contents (Elt Ideal))
      : FVec Ideal S4x8x12288 .f32) = modS q w b := by
  funext y
  idx_vars y
  fin_cases y0
  all_goals pointwise [modS, val, Ideal.logistic]
end

/-- The reference runs and leaves its arguments. -/
theorem ref_frame [hReferenceModIdeal : Cert.ReferenceModIdeal.Facts] : Cert.quiescent_ReferenceModIdeal := fun m g _ =>
  (θ_run Cert.ReferenceModIdeal.defs _ _).mono (fun r h => ⟨fun c => (h c).2.2, Idealize.ShloMosaic.sem_eq_zero_of_no_sems (by decide) r.2⟩)
    (ReferenceModIdeal.Value.run m g)

section
open Cert.KernelModIdeal Cert.KernelModIdeal.Gen
/-- The kernel runs, leaves its arguments and ends with the two arrays. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).2 main_v4 (Pipeline.mem_restRefs_of main_v4 (by decide) (by decide)),
      (h.1 c).2 main_v5 (Pipeline.mem_restRefs_of main_v5 (by decide) (by decide)), h.2 c⟩)
    (θ_run_and (run_main m g) (unchanged m g))
end

/-- The kernel's results and the reference's are the same arrays. -/
theorem algebraic : Cert.algebraic_KernelModIdeal_ReferenceModIdeal (hKernelModIdeal := Cert.KernelModIdeal.Gen.facts) (hReferenceModIdeal := Cert.ReferenceModIdeal.Gen.facts) := by
  intro m g m' g' _ hargs
  refine ⟨_, _, kernel_run m g, ?_⟩
  refine (θ_run _ _ _).mono (fun r h c => ?_) (ReferenceModIdeal.Value.run m' g')
  obtain ⟨h0, h1, h2⟩ := h c
  obtain ⟨a0, a1, a2, a3⟩ := hargs c
  refine ⟨h0.trans ?_, h1.trans ?_, h2⟩
  · rw [a0, a2, a3]
    exact (refP _ _ _).trans (res4 m c).symm
  · rw [a1, a2, a3]
    exact (refS _ _ _).trans (res5 m c).symm

end Cert.Mod
-- ==== Proof.Norm.lean ====
/- The norm before the mixers: each row over the root of its mean square, times the weights, scaled and shifted by its batch entry. -/
module
public import proofs.«01_k».proof.Defs
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.ReferenceNormIdeal
public import proofs.«01_k».proof.Proof.Gen.KernelNormIdeal.Value
public import proofs.«01_k».proof.Proof.Gen.ReferenceNormIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Norm

set_option maxRecDepth 16384

section
open Cert.KernelNormIdeal Cert.KernelNormIdeal.Gen
variable (m : (ℓ : Loc nD τ sig) → Buf (Elt Ideal) ℓ)

/-- Row `i` of `x` over the root of its mean square plus `1e-6`, times `w`, times one plus the scale, plus the shift of batch entry `i / 4096`. -/
noncomputable def val (x : FVec Ideal S8192x2048 .f32) (w : FVec Ideal S2048 .f32) (sc sh : FVec Ideal S2x1x2048 .f32) (i : Fin 8192) (j : Fin 2048) : EReal :=
  x (ix2 i j) * Ideal.rsqrt (Ideal.div (∑ k : Fin 2048, x (ix2 i k) * x (ix2 i k)) (Ideal.ofBits FTy.f32 0x45000000#32) + Ideal.ofBits FTy.f32 0x358637BD#32) * w (ix1 j)
    * (Ideal.ofBits FTy.f32 0x3F800000#32 + sc (ix3 ⟨i.val / 4096, by omega⟩ 0 j)) + sh (ix3 ⟨i.val / 4096, by omega⟩ 0 j)

noncomputable def arr (x : FVec Ideal S8192x2048 .f32) (w : FVec Ideal S2048 .f32) (sc sh : FVec Ideal S2x1x2048 .f32) : S8192x2048.Idx → EReal :=
  fun y => val x w sc sh (y 0) (y 1)

/-- `val` on row `a` of tile `i`: the batch entry is `i / 16`. -/
theorem val_tile (x : FVec Ideal S8192x2048 .f32) (w : FVec Ideal S2048 .f32) (sc sh : FVec Ideal S2x1x2048 .f32) (i : Fin 32) (a : Fin 256) (b : Fin 2048) :
    val x w sc sh ⟨256 * i.val + a.val, by omega⟩ b = x (ix2 ⟨256 * i.val + a.val, by omega⟩ b) * Ideal.rsqrt (Ideal.div (∑ k : Fin 2048, x (ix2 ⟨256 * i.val + a.val, by omega⟩ k) * x (ix2 ⟨256 * i.val + a.val, by omega⟩ k)) (Ideal.ofBits FTy.f32 0x45000000#32) + Ideal.ofBits FTy.f32 0x358637BD#32) * w (ix1 b)
      * (Ideal.ofBits FTy.f32 0x3F800000#32 + sc (ix3 ⟨i.val / 16, by omega⟩ 0 b)) + sh (ix3 ⟨i.val / 16, by omega⟩ 0 b) := by
  have e : (256 * i.val + a.val) / 4096 = i.val / 16 := by omega
  unfold val
  simp only [e]

theorem V_w (c : Dev nD) (j : Fin 2048) : V m c main_v0 (ix2 0 j) = (m ((c : Thread nD τ).loc main_arg1)) (ix1 j) := by
  unfold V
  after_reads_at

/-- The grid point of tile `i` of the rows. -/
def pt (i : Fin 32) : Fin cfg0.N := ⟨i.val, i.isLt⟩
theorem pt_surj : ∀ t : Fin cfg0.N, ∃ (i : Fin 32), t = pt i := fun t => ⟨⟨t.val, t.isLt⟩, rfl⟩
theorem idx : ∀ (i : Fin 32), win0_0.index (pt i) = ![i.val, 0] ∧ win0_1.index (pt i) = ![0, 0] ∧ win0_2.index (pt i) = ![i.val / 16, 0, 0]
    ∧ win0_3.index (pt i) = ![i.val / 16, 0, 0] ∧ win0_4.index (pt i) = ![i.val, 0] := by
  decide +kernel

theorem blk0 (c : Dev nD) (i : Fin 32) (a : Fin 256) (k : Fin 2048) :
    iblk m c 0 (pt i) (ix2 a k) = (m ((c : Thread nD τ).loc main_arg0)) (ix2 ⟨256 * i.val + a.val, by omega⟩ k) := by
  show V m c main_arg0 _ = _
  rw [V_main_arg0]
  congr 1
  blk_ext! [idx i]
theorem blk1 (c : Dev nD) (i : Fin 32) (k : Fin 2048) : iblk m c 1 (pt i) (ix2 0 k) = (m ((c : Thread nD τ).loc main_arg1)) (ix1 k) := by
  refine Eq.trans ?_ (V_w m c k)
  show V m c main_v0 _ = _
  congr 1
  blk_ext! [idx i]
theorem blk2 (c : Dev nD) (i : Fin 32) (k : Fin 2048) : iblk m c 2 (pt i) (ix3 0 0 k) = (m ((c : Thread nD τ).loc main_arg2)) (ix3 ⟨i.val / 16, by omega⟩ 0 k) := by
  show V m c main_arg2 _ = _
  rw [V_main_arg2]
  congr 1
  blk_ext! [idx i]
theorem blk3 (c : Dev nD) (i : Fin 32) (k : Fin 2048) : iblk m c 3 (pt i) (ix3 0 0 k) = (m ((c : Thread nD τ).loc main_arg3)) (ix3 ⟨i.val / 16, by omega⟩ 0 k) := by
  show V m c main_arg3 _ = _
  rw [V_main_arg3]
  congr 1
  blk_ext! [idx i]

theorem out_at (x0 : Vec Ideal S256x2048 .f32) (x1 : Vec Ideal S1x2048 .f32) (x2 x3 : Vec Ideal S1x1x2048 .f32) (a : Fin 256) (b : Fin 2048) :
    out0_4 x0 x1 x2 x3 (ix2 a b) = x0 (ix2 a b) * Ideal.rsqrt (Ideal.div (∑ k : Fin 2048, x0 (ix2 a k) * x0 (ix2 a k)) (Ideal.ofBits FTy.f32 0x45000000#32) + Ideal.ofBits FTy.f32 0x358637BD#32) * x1 (ix2 0 b)
      * (Ideal.ofBits FTy.f32 0x3F800000#32 + x2 (ix3 0 0 b)) + x3 (ix3 0 0 b) := by
  frame_out
  pointwise [k0_pay1]

theorem emb (i : Fin 32) (y : S256x2048.Idx) : (win0_4.blk (pt i)).view.emb y = ix2 ⟨256 * i.val + (y 0).val, by have hy : (y 0).val < 256 := (y 0).isLt; omega⟩ ⟨(y 1).val, by have hy : (y 1).val < 2048 := (y 1).isLt; omega⟩ := by
  blk_ext! [idx i]

/-- The kernel's result array. -/
theorem final (c : Dev nD) : (dats m 0 c).arrAt 4 cfg0.N = arr (m ((c : Thread nD τ).loc main_arg0)) (m ((c : Thread nD τ).loc main_arg1)) (m ((c : Thread nD τ).loc main_arg2)) (m ((c : Thread nD τ).loc main_arg3)) := by
  refine (dats m 0 c).arrAt_eq_of_covers 4 (arr (m ((c : Thread nD τ).loc main_arg0)) (m ((c : Thread nD τ).loc main_arg1)) (m ((c : Thread nD τ).loc main_arg2)) (m ((c : Thread nD τ).loc main_arg3))) (by decide +kernel) fun t hf (y : S256x2048.Idx) => ?_
  obtain ⟨i, rfl⟩ := pt_surj t
  blk_simp
  rw [after0_4]
  refine Eq.trans ?_ (congrArg (arr (m ((c : Thread nD τ).loc main_arg0)) (m ((c : Thread nD τ).loc main_arg1)) (m ((c : Thread nD τ).loc main_arg2)) (m ((c : Thread nD τ).loc main_arg3))) (emb i y)).symm
  idx_vars y
  refine (out_at _ _ _ _ y0 y1).trans ?_
  simp only [blk0, blk1, blk2, blk3]
  exact (val_tile _ _ _ _ i y0 y1).symm

end

section
open Idealize.ShloMosaic.StableHlo Cert.ReferenceNormIdeal Cert.ReferenceNormIdeal.Gen

/-- The reference's result array. -/
theorem ref_arr (x : FVec Ideal S8192x2048 .f32) (w : FVec Ideal S2048 .f32) (sc sh : FVec Ideal S2x1x2048 .f32) :
    (truncf .bf16 (shapeCast _ (addf (mulf (mulf (mulf (shapeCast _ x shapeCasts_S8192x2048_S2x4096x2048) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (shapeCast _ x shapeCasts_S8192x2048_S2x4096x2048) (shapeCast _ x shapeCasts_S8192x2048_S2x4096x2048)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 w))) (broadcastInDim S2x4096x2048 ![0, 1, 2] bcast_S2x1x2048_S2x4096x2048_0_1_2 (addf (broadcastInDim S2x1x2048 ![] bcast_S_S2x1x2048 (constant S_ .f32 0x3F800000#32)) sc))) (broadcastInDim S2x4096x2048 ![0, 1, 2] bcast_S2x1x2048_S2x4096x2048_0_1_2 sh)) shapeCasts_S2x4096x2048_S8192x2048) bitsLt_bf16_f32
      : FVec Ideal S8192x2048 .bf16) = arr x w sc sh := by
  funext y
  idx_vars y
  pointwise [arr, val]
  all_goals blk_point []
end

/-- The reference runs and leaves its arguments. -/
theorem ref_frame [hReferenceNormIdeal : Cert.ReferenceNormIdeal.Facts] : Cert.quiescent_ReferenceNormIdeal := fun m g _ =>
  (θ_run Cert.ReferenceNormIdeal.defs _ _).mono (fun r h => ⟨fun c => (h c).2, Idealize.ShloMosaic.sem_eq_zero_of_no_sems (by decide) r.2⟩)
    (ReferenceNormIdeal.Value.run m g)

/-- The kernel's result and the reference's are the same array. -/
theorem algebraic : Cert.algebraic_KernelNormIdeal_ReferenceNormIdeal (hKernelNormIdeal := Cert.KernelNormIdeal.Gen.facts) (hReferenceNormIdeal := Cert.ReferenceNormIdeal.Gen.facts) := by
  intro m g m' g' _ hargs
  refine ⟨fun c => (KernelNormIdeal.Gen.dats m 0 c).arrAt 4 KernelNormIdeal.cfg0.N, KernelNormIdeal.Value.run_blocks m g, ?_⟩
  refine (θ_run _ _ _).mono (fun r h c => ?_) (ReferenceNormIdeal.Value.run m' g')
  obtain ⟨h0, h1⟩ := h c
  obtain ⟨a0, a1, a2, a3⟩ := hargs c
  refine ⟨h0.trans ?_, h1⟩
  rw [a0, a1, a2, a3]
  exact (ref_arr _ _ _ _).trans (final m c).symm

end Cert.Norm
-- ==== Proof.Ng.lean ====
/- The branch gates: the sigmoids of the rows of `h` times the columns of `w_in` from 2560 on, by position, head and branch. -/
module
public import proofs.«01_k».proof.Defs
public import proofs.«01_k».proof.Proof.Gen.KernelNg
public import proofs.«01_k».proof.Proof.Gen.KernelNg.Frame
public import proofs.«01_k».proof.Proof.Gen.KernelNgIdeal
public import proofs.«01_k».proof.Proof.Gen.KernelNgIdeal.Frame
public import proofs.«01_k».proof.Proof.Gen.ReferenceNgIdeal
public import proofs.«01_k».proof.Proof.Gen.ReferenceNgIdeal.Run
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Ng

set_option maxRecDepth 16384

section
open Cert.KernelNgIdeal Cert.KernelNgIdeal.Gen
variable (m : (ℓ : Loc nD τ sig) → Buf (Elt Ideal) ℓ)

/-- The sigmoid of row `i` of `h` times column `2560 + j` of `w`. -/
noncomputable def val (h : FVec Ideal S8192x2048 .bf16) (w : FVec Ideal S2048x12848 .f32) (i : Fin 8192) (j : Fin 48) : EReal :=
  Ideal.logistic (∑ k : Fin 2048, h (ix2 i k) * w (ix2 k ⟨2560 + j.val, by omega⟩))

/-- The gates by batch entry, position, head and branch. -/
noncomputable def gates (h : FVec Ideal S8192x2048 .bf16) (w : FVec Ideal S2048x12848 .f32) : S2x4096x16x3.Idx → EReal :=
  fun y => val h w ⟨(y 0).val * 4096 + (y 1).val, by have h0 : (y 0).val < 2 := (y 0).isLt; have h1 : (y 1).val < 4096 := (y 1).isLt; omega⟩
    ⟨(y 2).val * 3 + (y 3).val, by have h2 : (y 2).val < 16 := (y 2).isLt; have h3 : (y 3).val < 3 := (y 3).isLt; omega⟩

/-- The sigmoids of the rows of `h` times the columns of `w`, which the kernel is given padded. -/
noncomputable def arr (h : FVec Ideal S8192x2048 .bf16) (w : FVec Ideal S2048x128 .bf16) : S8192x128.Idx → EReal :=
  fun y => Ideal.logistic (∑ k : Fin 2048, h (ix2 ⟨(y 0).val, by have h0 : (y 0).val < 8192 := (y 0).isLt; omega⟩ k) * w (ix2 k ⟨(y 1).val, by have h1 : (y 1).val < 128 := (y 1).isLt; omega⟩))

/-- Column `16 g + r` of the padded columns, for `r` below 12, is column `12 g + r` of the gates'. -/
theorem V_w (c : Dev nD) (i : Fin 2048) (g : Fin 4) (r : Fin 12) :
    V m c main_v5 (ix2 i ⟨16 * g.val + r.val, by omega⟩) = (m ((c : Thread nD τ).loc main_arg1)) (ix2 i ⟨2560 + (12 * g.val + r.val), by omega⟩) := by
  unfold V
  after_reads_at
  rw [dif_pos (by omega), dif_pos ⟨by omega, by omega⟩]
  refine congrArg _ (congrArg _ (Fin.ext ?_))
  show 2560 + ((16 * g.val + r.val) / 16 * 12 + (16 * g.val + r.val) % 16) = 2560 + (12 * g.val + r.val)
  omega

/-- The grid point of tile `i` of the rows. -/
def pt (i : Fin 8) : Fin cfg0.N := ⟨i.val, i.isLt⟩
theorem pt_surj : ∀ t : Fin cfg0.N, ∃ (i : Fin 8), t = pt i := fun t => ⟨⟨t.val, t.isLt⟩, rfl⟩
theorem idx : ∀ (i : Fin 8), win0_0.index (pt i) = ![i.val, 0] ∧ win0_1.index (pt i) = ![0, 0] ∧ win0_2.index (pt i) = ![i.val, 0] := by
  decide +kernel

theorem blk0 (c : Dev nD) (i : Fin 8) (a : Fin 1024) (k : Fin 2048) :
    iblk m c 0 (pt i) (ix2 a k) = (m ((c : Thread nD τ).loc main_arg0)) (ix2 ⟨1024 * i.val + a.val, by omega⟩ k) := by
  show V m c main_arg0 _ = _
  rw [V_main_arg0]
  congr 1
  blk_ext! [idx i]
theorem blk1 (c : Dev nD) (i : Fin 8) (k : Fin 2048) (j : Fin 128) : iblk m c 1 (pt i) (ix2 k j) = V m c main_v5 (ix2 k j) := by
  show V m c main_v5 _ = _
  congr 1
  blk_ext! [idx i]

theorem out_at (x0 : Vec Ideal S1024x2048 .bf16) (x1 : Vec Ideal S2048x128 .bf16) (a : Fin 1024) (b : Fin 128) :
    out0_2 x0 x1 (ix2 a b) = Ideal.logistic (∑ k : Fin 2048, x0 (ix2 a k) * x1 (ix2 k b)) := by
  frame_out
  pointwise [k0_pay1]

theorem emb (i : Fin 8) (y : S1024x128.Idx) : (win0_2.blk (pt i)).view.emb y = ix2 ⟨1024 * i.val + (y 0).val, by have hy : (y 0).val < 1024 := (y 0).isLt; omega⟩ ⟨(y 1).val, by have hy : (y 1).val < 128 := (y 1).isLt; omega⟩ := by
  blk_ext! [idx i]

/-- The array the kernel's region writes. -/
theorem final (c : Dev nD) : (dats m 0 c).arrAt 2 cfg0.N = arr (m ((c : Thread nD τ).loc main_arg0)) (V m c main_v5) := by
  refine (dats m 0 c).arrAt_eq_of_covers 2 (arr (m ((c : Thread nD τ).loc main_arg0)) (V m c main_v5)) (by decide +kernel) fun t hf (y : S1024x128.Idx) => ?_
  obtain ⟨i, rfl⟩ := pt_surj t
  blk_simp
  rw [after0_2]
  refine Eq.trans ?_ (congrArg (arr (m ((c : Thread nD τ).loc main_arg0)) (V m c main_v5)) (emb i y)).symm
  idx_vars y
  refine (out_at _ _ y0 y1).trans ?_
  simp only [blk0, blk1]
  rfl

theorem tail10 (U : Valuation τ sig (Elt Ideal)) (b : Fin 2) (t : Fin 4096) (hh : Fin 16) (e : Fin 3) :
    StableHlo.after hostOps1 U (Proc.devRef .tc main_v10) (ix4 b t hh e) = U (Proc.devRef .tc main_v6) (ix2 ⟨b.val * 4096 + t.val, by omega⟩ ⟨16 * (hh.val / 4) + (3 * (hh.val % 4) + e.val), by omega⟩) := by
  after_reads_at
  blk_ext []

/-- What the host lines start from: the region's array where it lies. -/
theorem base_v6 (c : Dev nD) : Pipeline.withArrays (cfgs 0).spec c (V0 m c) (fun w => (dats m 0 c).arrAt w (cfgs 0).N) (Proc.devRef .tc main_v6)
    = arr (m ((c : Thread nD τ).loc main_arg0)) (V m c main_v5) :=
  (Pipeline.withArrays_arr spec0 (by decide) c (V0 m c) (fun w => (dats m 0 c).arrAt w (cfgs 0).N) 2).trans (final m c)

/-- The kernel's result array. -/
theorem res10 (c : Dev nD) : Pipeline.afterTail₀ cfgs (dats m) 0 (V0 m) [hostOps1] c main_v10 = gates (m ((c : Thread nD τ).loc main_arg0)) (m ((c : Thread nD τ).loc main_arg1)) := by
  unfold Pipeline.afterTail₀
  rw [List.flatten_singleton]
  funext y
  idx_vars y
  refine (tail10 _ y0 y1 y2 y3).trans ((congrFun (base_v6 m c) _).trans ?_)
  show Ideal.logistic (∑ k : Fin 2048, _ * V m c main_v5 (ix2 k _)) = Ideal.logistic (∑ k : Fin 2048, _ * _)
  refine congrArg _ (Finset.sum_congr rfl fun k _ => ?_)
  refine congrArg₂ (fun a b : EReal => a * b) rfl ?_
  refine (V_w m c k ⟨y2.val / 4, by omega⟩ ⟨3 * (y2.val % 4) + y3.val, by omega⟩).trans ?_
  refine congrArg _ (congrArg _ (Fin.ext ?_))
  show 2560 + (12 * (y2.val / 4) + (3 * (y2.val % 4) + y3.val)) = 2560 + (y2.val * 3 + y3.val)
  omega
end

section
open Idealize.ShloMosaic.StableHlo Cert.ReferenceNgIdeal Cert.ReferenceNgIdeal.Gen

/-- The reference's result array. -/
theorem ref_arr (h : FVec Ideal S8192x2048 .bf16) (w : FVec Ideal S2048x12848 .f32) :
    (shapeCast _ (Host.divf (broadcastInDim S8192x48 ![] bcast_S_S8192x48 (constant S_ .f32 0x3F800000#32)) (addf (broadcastInDim S8192x48 ![] bcast_S_S8192x48 (constant S_ .f32 0x3F800000#32)) (Host.exp (Host.negf (extractStridedSlice S8192x48 ![0, 2560] (Host.dotGeneral dot_S8192x2048_S2048x12848_S8192x12848_1_0_0_1_n_n none (extf .f32 h bitsLt_bf16_f32) w) slices_S8192x12848_S8192x48_0_2560))))) shapeCasts_S8192x48_S2x4096x16x3
      : FVec Ideal S2x4096x16x3 .f32) = gates h w := by
  funext y
  idx_vars y
  pointwise [gates, val, Ideal.logistic]
end

/-- The reference runs and leaves its arguments. -/
theorem ref_frame [hReferenceNgIdeal : Cert.ReferenceNgIdeal.Facts] : Cert.quiescent_ReferenceNgIdeal := fun m g _ =>
  (θ_run Cert.ReferenceNgIdeal.defs _ _).mono (fun r h => ⟨fun c => (h c).2, Idealize.ShloMosaic.sem_eq_zero_of_no_sems (by decide) r.2⟩)
    (ReferenceNgIdeal.Value.run m g)

section
open Cert.KernelNgIdeal Cert.KernelNgIdeal.Gen
/-- The kernel runs, leaves its arguments and ends with the gates. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).2 main_v10 (Pipeline.mem_restRefs_of main_v10 (by decide) (by decide)), h.2 c⟩)
    (θ_run_and (run_main m g) (unchanged m g))
end

/-- The kernel's result and the reference's are the same array. -/
theorem algebraic : Cert.algebraic_KernelNgIdeal_ReferenceNgIdeal (hKernelNgIdeal := Cert.KernelNgIdeal.Gen.facts) (hReferenceNgIdeal := Cert.ReferenceNgIdeal.Gen.facts) := by
  intro m g m' g' _ hargs
  refine ⟨_, kernel_run m g, ?_⟩
  refine (θ_run _ _ _).mono (fun r h c => ?_) (ReferenceNgIdeal.Value.run m' g')
  obtain ⟨h0, h1⟩ := h c
  obtain ⟨a0, a1⟩ := hargs c
  refine ⟨h0.trans ?_, h1⟩
  rw [a0, a1]
  exact (ref_arr _ _).trans (res10 m c).symm

end Cert.Ng
-- ==== Proof.CmpRef.lean ====
/- What the compression of the prompt's keys and values is, and the reference's two results. -/
module
public import proofs.«01_k».proof.Defs
public import proofs.«01_k».proof.ReferenceCmpIdeal
public import proofs.«01_k».proof.Proof.Gen.ReferenceCmpIdeal
public import proofs.«01_k».proof.Proof.Gen.ReferenceCmpIdeal.Run
public import Idealize.ShloMosaic.Lib.Pointwise
public import Idealize.ShloMosaic.Lib.StableHlo.ReadAt
public import Idealize.ShloMosaic.Lib.Claim

open Idealize Idealize.ShloMosaic Idealize.ShloMosaic.TcCoe Idealize.SL.Sem
open Idealize.ShloMosaic.StableHlo Cert.ReferenceCmpIdeal Cert.ReferenceCmpIdeal.Gen

@[expose] public section

namespace Cert.Cmp

set_option maxRecDepth 16384

/-- Block `n` of batch entry `b`, of the keys (`v = 0`) or the values (`v = 1`), at column `e` of group `g`: the sum over the block's 32 rows and
    the 64 columns of the row plus its position's vector, times the weights. -/
noncomputable def val (raw : FVec Ideal S3x8192x512 .f32) (w : FVec Ideal S2x32x64x64 .f32) (pos : FVec Ideal S2x32x64 .f32) (v : Fin 2) (b : Fin 2) (n : Fin 128) (g : Fin 4) (e : Fin 64) : EReal :=
  ∑ c : Fin 32, ∑ d : Fin 64, (raw (ix3 0 ⟨b.val * 4096 + (n.val * 32 + c.val), by omega⟩ ⟨256 * v.val + g.val * 64 + d.val, by omega⟩) + pos (ix3 v c d)) * w (ix4 v c d e)

/-- The compressed keys, a row for each block. -/
noncomputable def arrK (raw : FVec Ideal S3x8192x512 .f32) (w : FVec Ideal S2x32x64x64 .f32) (pos : FVec Ideal S2x32x64 .f32) : S2x128x256.Idx → EReal :=
  fun y => val raw w pos 0 (y 0) (y 1) ⟨(y 2).val / 64, by have h : (y 2).val < 256 := (y 2).isLt; omega⟩ ⟨(y 2).val % 64, by omega⟩
/-- The compressed values, a column for each block. -/
noncomputable def arrV (raw : FVec Ideal S3x8192x512 .f32) (w : FVec Ideal S2x32x64x64 .f32) (pos : FVec Ideal S2x32x64 .f32) : S2x256x128.Idx → EReal :=
  fun y => val raw w pos 1 (y 0) (y 2) ⟨(y 1).val / 64, by have h : (y 1).val < 256 := (y 1).isLt; omega⟩ ⟨(y 1).val % 64, by omega⟩

/-- The reference's first result. -/
theorem refK (raw : FVec Ideal S3x8192x512 .f32) (w : FVec Ideal S2x32x64x64 .f32) (pos : FVec Ideal S2x32x64 .f32) :
    (truncf .bf16 (shapeCast _ (Host.dotGeneral dot_S2x128x32x4x64_S32x64x64_S2x128x4x64_24_01_013_2_n_n none (addf (shapeCast _ (shapeCast _ (extractStridedSlice S2x4096x1x4x64 ![0, 0, 0, 0, 0] (shapeCast _ (shapeCast _ (extractStridedSlice S1x8192x512 ![0, 0, 0] raw slices_S3x8192x512_S1x8192x512_0_0_0) shapeCasts_S1x8192x512_S8192x512) shapeCasts_S8192x512_S2x4096x2x4x64) slices_S2x4096x2x4x64_S2x4096x1x4x64_0_0_0_0_0) shapeCasts_S2x4096x1x4x64_S2x4096x4x64) shapeCasts_S2x4096x4x64_S2x128x32x4x64) (broadcastInDim S2x128x32x4x64 ![0, 1, 2, 3, 4] bcast_S1x1x32x1x64_S2x128x32x4x64_0_1_2_3_4 (broadcastInDim S1x1x32x1x64 ![2, 4] bcast_S32x64_S1x1x32x1x64_2_4 (shapeCast _ (extractStridedSlice S1x32x64 ![0, 0, 0] pos slices_S2x32x64_S1x32x64_0_0_0) shapeCasts_S1x32x64_S32x64)))) (shapeCast _ (extractStridedSlice S1x32x64x64 ![0, 0, 0, 0] w slices_S2x32x64x64_S1x32x64x64_0_0_0_0) shapeCasts_S1x32x64x64_S32x64x64)) shapeCasts_S2x128x4x64_S2x128x256) bitsLt_bf16_f32
      : FVec Ideal S2x128x256 .bf16) = arrK raw w pos := by
  funext y
  idx_vars y
  pointwise [arrK, val]
/-- The reference's second result. -/
theorem refV (raw : FVec Ideal S3x8192x512 .f32) (w : FVec Ideal S2x32x64x64 .f32) (pos : FVec Ideal S2x32x64 .f32) :
    (transpose S2x256x128 [0, 2, 1] (truncf .bf16 (shapeCast _ (Host.dotGeneral dot_S2x128x32x4x64_S32x64x64_S2x128x4x64_24_01_013_2_n_n none (addf (shapeCast _ (shapeCast _ (extractStridedSlice S2x4096x1x4x64 ![0, 0, 1, 0, 0] (shapeCast _ (shapeCast _ (extractStridedSlice S1x8192x512 ![0, 0, 0] raw slices_S3x8192x512_S1x8192x512_0_0_0) shapeCasts_S1x8192x512_S8192x512) shapeCasts_S8192x512_S2x4096x2x4x64) slices_S2x4096x2x4x64_S2x4096x1x4x64_0_0_1_0_0) shapeCasts_S2x4096x1x4x64_S2x4096x4x64) shapeCasts_S2x4096x4x64_S2x128x32x4x64) (broadcastInDim S2x128x32x4x64 ![0, 1, 2, 3, 4] bcast_S1x1x32x1x64_S2x128x32x4x64_0_1_2_3_4 (broadcastInDim S1x1x32x1x64 ![2, 4] bcast_S32x64_S1x1x32x1x64_2_4 (shapeCast _ (extractStridedSlice S1x32x64 ![1, 0, 0] pos slices_S2x32x64_S1x32x64_1_0_0) shapeCasts_S1x32x64_S32x64)))) (shapeCast _ (extractStridedSlice S1x32x64x64 ![1, 0, 0, 0] w slices_S2x32x64x64_S1x32x64x64_1_0_0_0) shapeCasts_S1x32x64x64_S32x64x64)) shapeCasts_S2x128x4x64_S2x128x256) bitsLt_bf16_f32) transposes_S2x128x256_S2x256x128_0_2_1
      : FVec Ideal S2x256x128 .bf16) = arrV raw w pos := by
  funext y
  idx_vars y
  pointwise [arrV, val]

/-- The reference runs and leaves its arguments. -/
theorem ref_frame [hReferenceCmpIdeal : Cert.ReferenceCmpIdeal.Facts] : Cert.quiescent_ReferenceCmpIdeal := fun m g _ =>
  (θ_run Cert.ReferenceCmpIdeal.defs _ _).mono (fun r h => ⟨fun c => (h c).2.2, Idealize.ShloMosaic.sem_eq_zero_of_no_sems (by decide) r.2⟩)
    (ReferenceCmpIdeal.Value.run m g)

end Cert.Cmp
-- ==== Proof.CmpStep.lean ====
/- What one point of the grid leaves: the 32 unrolled steps as one sum. -/
module
public import proofs.«01_k».proof.Defs
public import proofs.«01_k».proof.KernelCmpIdeal
public import proofs.«01_k».proof.Proof.Gen.KernelCmpIdeal
public import proofs.«01_k».proof.Proof.Gen.KernelCmpIdeal.Frame
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem
open Cert.KernelCmpIdeal Cert.KernelCmpIdeal.Gen

@[expose] public section

namespace Cert.Cmp

set_option maxRecDepth 16384

variable (m : (ℓ : Loc nD τ sig) → Buf (Elt Ideal) ℓ)

/-- One step's product: rows in two halves, a row added to each, times the weights. -/
noncomputable def tm (u v : FVec Ideal S1x128x128 .f32) (p : FVec Ideal S1x256 .f32) (w : FVec Ideal S1x256x256 .bf16) (a : Fin 128) (b : Fin 256) : EReal :=
  ∑ k : Fin 256, ((if h : k.val < 128 then u (ix3 0 a ⟨k.val, h⟩) else v (ix3 0 a ⟨k.val - 128, by omega⟩)) + p (ix2 0 k)) * w (ix3 0 k b)

/-- One step adds its product. -/
theorem step_at (acc : FVec Ideal S128x256 .f32) (u v : FVec Ideal S1x128x128 .f32) (p : FVec Ideal S1x256 .f32) (w : FVec Ideal S1x256x256 .bf16) (a : Fin 128) (b : Fin 256) :
    addf acc (matmul dot_S128x256_S256x256_S128x256_1_0_0_1_n_n none (truncf .bf16 (addf (concatenate S128x256 1 [⟨S128x128, shapeCast S128x128 u shapeCasts_S1x128x128_S128x128⟩, ⟨S128x128, shapeCast S128x128 v shapeCasts_S1x128x128_S128x128⟩] concatenates_S128x128_S128x128_S128x256_d1) (broadcastTo S128x256 (shapeCast S1x256 p shapeCasts_S1x256_S1x256) broadcasts_S1x256_S128x256)) bitsLt_bf16_f32) (shapeCast S256x256 w shapeCasts_S1x256x256_S256x256) (constant S128x256 .f32 0x00000000#32)) (ix2 a b)
      = acc (ix2 a b) + tm u v p w a b := by
  pointwise [tm]

theorem outK_at (x : FVec Ideal S128x256 .f32) (a : Fin 128) (b : Fin 256) :
    shapeCast S1x128x256 (truncf .bf16 x bitsLt_bf16_f32 : FVec Ideal S128x256 .bf16) shapeCasts_S128x256_S1x128x256 (ix3 0 a b) = x (ix2 a b) := by
  pointwise []
theorem outV_at (x : FVec Ideal S128x256 .f32) (a : Fin 128) (b : Fin 256) :
    shapeCast S1x256x128 (truncf .bf16 (transpose S256x128 [1, 0] x transposes_S128x256_p1_0_S256x128) bitsLt_bf16_f32 : FVec Ideal S256x128 .bf16) shapeCasts_S256x128_S1x256x128 (ix3 0 b a) = x (ix2 a b) := by
  pointwise []
theorem bot (a : Fin 128) (b : Fin 256) : (broadcast S128x256 (Scalar.ofBits .f32 0x00000000#32 : Ideal .f32) : FVec Ideal S128x256 .f32) (ix2 a b) = 0 := by
  pointwise []

/-- A strided load's entry: row `32 a + o` of what the buffer holds. -/
theorem ld_x (M : Memref sig .tc .vmem S1x4096x128 .f32) (hM : M.IsWhole) (x : FVec Ideal S1x4096x128 .f32) (o : ℕ) (ho : o < 32)
    (inb : ∀ a, S1x128x128.size a = 0 ∨ (![0, o, 0] : Fin 3 → Nat) a + (![1, 32, 1] : Fin 3 → Nat) a * (S1x128x128.size a - 1) < S1x4096x128.size a) (a k : Fin 128) :
    View.readAt (Elt Ideal) M.view (⟨![0, o, 0], S1x128x128.size, ![1, 32, 1], inb⟩ : LoadRect S1x4096x128) (hM.unread x) (ix3 0 a k) = x (ix3 0 ⟨32 * a.val + o, by omega⟩ k) := by
  rw [View.readAt_apply, hM.read_unread]
  refine congrArg (a₁ := LoadRect.idx _ _) x (funext fun i => Fin.ext ?_)
  fin_cases i
  · rfl
  · show o + 32 * a.val = 32 * a.val + o
    omega
  · show 0 + 1 * k.val = k.val
    omega

/-- Step `o`'s product, of the whole blocks: rows `32 a + o` of the two halves, the offsets at `512 o + f`, the weights of step `o`. -/
noncomputable def stm (f : ℕ) (hf : f ≤ 256) (x y : FVec Ideal S1x4096x128 .f32) (p : FVec Ideal S1x16384 .f32) (w : FVec Ideal S32x256x256 .bf16) (a : Fin 128) (b : Fin 256) (o : Fin 32) : EReal :=
  ∑ k : Fin 256, ((if h : k.val < 128 then x (ix3 0 ⟨32 * a.val + o.val, by omega⟩ ⟨k.val, h⟩) else y (ix3 0 ⟨32 * a.val + o.val, by omega⟩ ⟨k.val - 128, by omega⟩))
    + p (ix2 0 ⟨512 * o.val + f + k.val, by omega⟩)) * w (ix3 o k b)

/-- Step `o`'s product, of its loads. -/
theorem tm_eq (f : ℕ) (hf : f ≤ 256) (M N : Memref sig .tc .vmem S1x4096x128 .f32) (hM : M.IsWhole) (hN : N.IsWhole) (x y : FVec Ideal S1x4096x128 .f32) (p : FVec Ideal S1x16384 .f32) (w : FVec Ideal S32x256x256 .bf16)
    (o q : ℕ) (ho : o < 32) (hq : q = 512 * o + f) (inb inb') (inp) (inw) (a : Fin 128) (b : Fin 256) :
    tm (View.readAt (Elt Ideal) M.view (⟨![0, o, 0], S1x128x128.size, ![1, 32, 1], inb⟩ : LoadRect S1x4096x128) (hM.unread x))
      (View.readAt (Elt Ideal) N.view (⟨![0, o, 0], S1x128x128.size, ![1, 32, 1], inb'⟩ : LoadRect S1x4096x128) (hN.unread y))
      (View.ld (Val := Elt Ideal) (e' := .f32) p (Rect.unit ![0, q] S1x256.size inp)) (View.ld (Val := Elt Ideal) (e' := .bf16) w (Rect.unit ![o, 0, 0] S1x256x256.size inw)) a b
      = stm f hf x y p w a b ⟨o, ho⟩ := by
  subst hq
  unfold tm stm
  refine Finset.sum_congr rfl fun k _ => ?_
  have e1 : View.ld (Val := Elt Ideal) (e' := .f32) p (Rect.unit ![0, 512 * o + f] S1x256.size inp) (ix2 0 k) = p (ix2 0 ⟨512 * o + f + k.val, by omega⟩) :=
    View.ld_unit_apply_of (Val := Elt Ideal) (e := .f32) p _ _ _ _ _ fun i => by fin_cases i <;> rfl
  have e2 : View.ld (Val := Elt Ideal) (e' := .bf16) w (Rect.unit ![o, 0, 0] S1x256x256.size inw) (ix3 0 k b) = w (ix3 ⟨o, ho⟩ k b) :=
    View.ld_unit_apply_of (Val := Elt Ideal) (e := .bf16) w _ _ _ _ _ fun i => by
      fin_cases i
      · rfl
      · exact (Nat.zero_add k.val).symm
      · exact (Nat.zero_add b.val).symm
  rw [e1, e2]
  by_cases h : k.val < 128
  · rw [dif_pos h, dif_pos h, ld_x M hM x o ho inb]
  · rw [dif_neg h, dif_neg h, ld_x N hN y o ho inb']

/-- The compressed keys a point leaves: the sum of its 32 steps. -/
theorem outK (c : Dev nD) (t : Fin cfg0.N) (a : Fin 128) (b : Fin 256) :
    (outsAt0 m c t).1 (ix3 0 a b) = ∑ o : Fin 32, stm 0 (by omega) (iblk m c 0 t) (iblk m c 1 t) (iblk m c 4 t) (iblk m c 5 t) a b o := by
  unfold outsAt0
  frame_open
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, outK_at, step_at, bot]
  simp (disch := omega) only [tm_eq 0 (by omega)]
  simp only [Fin.sum_univ_castSucc, Finset.univ_eq_empty, Finset.sum_empty]
  rfl

/-- The compressed values a point leaves, transposed: the sum of its 32 steps. -/
theorem outV (c : Dev nD) (t : Fin cfg0.N) (a : Fin 128) (b : Fin 256) :
    (outsAt0 m c t).2 (ix3 0 b a) = ∑ o : Fin 32, stm 256 (by omega) (iblk m c 2 t) (iblk m c 3 t) (iblk m c 4 t) (iblk m c 6 t) a b o := by
  unfold outsAt0
  frame_open
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  refine (outV_at _ a b).trans ?_
  simp only [step_at, bot]
  simp (disch := omega) only [tm_eq 256 (by omega)]
  simp only [Fin.sum_univ_castSucc, Finset.univ_eq_empty, Finset.sum_empty]
  rfl

end Cert.Cmp
-- ==== Proof.Cmp.lean ====
/- The compression of the prompt's keys and values into one vector for each block of 32 rows: the kernel against the reference. -/
module
public import proofs.«01_k».proof.Defs
public import proofs.«01_k».proof.Proof.Gen.KernelCmp
public import proofs.«01_k».proof.Proof.Gen.KernelCmp.Frame
public import proofs.«01_k».proof.Proof.Gen.KernelCmpIdeal
public import proofs.«01_k».proof.Proof.Gen.KernelCmpIdeal.Frame
public import proofs.«01_k».proof.Proof.Gen.ReferenceCmpIdeal
public import proofs.«01_k».proof.Proof.Gen.KernelCmpIdeal.Value
public import proofs.«01_k».proof.Proof.Gen.ReferenceCmpIdeal.Run
public import proofs.«01_k».proof.Proof.CmpRef
public import proofs.«01_k».proof.Proof.CmpStep
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim

open Idealize Idealize.ShloMosaic Idealize.ShloMosaic.Pipeline Idealize.ShloMosaic.TcCoe Idealize.SL.Sem

@[expose] public section

namespace Cert.Cmp

set_option maxRecDepth 16384

/-- A sum over 256 columns of which only group `g` of 64 is not zero. -/
theorem sum_group (F : Fin 256 → EReal) (G : Fin 64 → EReal) (g : Fin 4) :
    (∑ k : Fin 256, F k * (if k.val / 64 = g.val then G ⟨k.val % 64, by omega⟩ else 0)) = ∑ d : Fin 64, F ⟨64 * g.val + d.val, by omega⟩ * G d := by
  refine (Finset.sum_of_injOn (fun d : Fin 64 => (⟨64 * g.val + d.val, by omega⟩ : Fin 256)) ?_ ?_ ?_ ?_).symm
  · intro d _ d' _ hd
    have hd' : 64 * g.val + d.val = 64 * g.val + d'.val := congrArg Fin.val hd
    exact Fin.ext (by omega)
  · intro d _
    exact Finset.mem_coe.2 (Finset.mem_univ _)
  · intro k _ hk
    have hn : ¬ k.val / 64 = g.val := fun hg => hk ⟨⟨k.val % 64, by omega⟩, Finset.mem_coe.2 (Finset.mem_univ _), Fin.ext (by show 64 * g.val + k.val % 64 = k.val; omega)⟩
    rw [if_neg hn, mul_zero]
  · intro d _
    have e1 : (64 * g.val + d.val) / 64 = g.val := by omega
    have e2 : (64 * g.val + d.val) % 64 = d.val := by omega
    rw [if_pos e1]
    exact congrArg (fun j => F _ * G j) (Fin.ext e2.symm)

section
open Cert.KernelCmpIdeal Cert.KernelCmpIdeal.Gen
variable (m : (ℓ : Loc nD τ sig) → Buf (Elt Ideal) ℓ)

/-- The rows. -/
abbrev raw (c : Dev nD) : FVec Ideal S3x8192x512 .f32 := (m ((c : Thread nD τ).loc main_arg0))
/-- The weights. -/
abbrev wgt (c : Dev nD) : FVec Ideal S2x32x64x64 .f32 := (m ((c : Thread nD τ).loc main_arg1))
/-- The positions' vectors. -/
abbrev pos (c : Dev nD) : FVec Ideal S2x32x64 .f32 := (m ((c : Thread nD τ).loc main_arg2))

theorem one_cast : (FloatOps.uitofp FTy.f32 (1#1) : Ideal .f32) = (1 : EReal) := by
  show (((1 : ℕ) : ℝ) : EReal) = 1
  norm_num
theorem zero_cast : (FloatOps.uitofp FTy.f32 (0#1) : Ideal .f32) = (0 : EReal) := by
  show (((0 : ℕ) : ℝ) : EReal) = 0
  norm_num
/-- The host's identity matrix of four rows, at an entry. -/
theorem eye_at (p q : Fin 4) : (FloatOps.uitofp FTy.f32 (IntOp.cmpi CmpIPredicate.eq (IntOp.addi (BitVec.ofNat 32 p.val) 0#32) (BitVec.ofNat 32 q.val)) : Ideal .f32) = if p.val = q.val then (1 : EReal) else 0 := by
  fin_cases p <;> fin_cases q <;> first | exact one_cast | exact zero_cast

/-- The keys' weights, as the kernel takes them: block diagonal. -/
theorem V_wk (c : Dev nD) (o : Fin 32) (k b : Fin 256) : V m c main_v14 (ix3 o k b) = if k.val / 64 = b.val / 64 then (wgt m c) (ix4 0 o ⟨k.val % 64, by omega⟩ ⟨b.val % 64, by omega⟩) else (0 : EReal) := by
  unfold V
  after_reads_at
  exact congrArg (· * (wgt m c) (ix4 0 o ⟨k.val % 64, by omega⟩ ⟨b.val % 64, by omega⟩)) (eye_at ⟨k.val / 64, by omega⟩ ⟨b.val / 64, by omega⟩) |>.trans (by simp only [ite_mul, one_mul, zero_mul])

theorem V_wv (c : Dev nD) (o : Fin 32) (k b : Fin 256) : V m c main_v23 (ix3 o k b) = if k.val / 64 = b.val / 64 then (wgt m c) (ix4 1 o ⟨k.val % 64, by omega⟩ ⟨b.val % 64, by omega⟩) else (0 : EReal) := by
  unfold V
  after_reads_at
  exact congrArg (· * (wgt m c) (ix4 1 o ⟨k.val % 64, by omega⟩ ⟨b.val % 64, by omega⟩)) (eye_at ⟨k.val / 64, by omega⟩ ⟨b.val / 64, by omega⟩) |>.trans (by simp only [ite_mul, one_mul, zero_mul])

theorem V_pos (c : Dev nD) (v : Fin 2) (o : Fin 32) (g : Fin 4) (d : Fin 64) :
    V m c main_v27 (ix2 0 ⟨512 * o.val + 256 * v.val + (64 * g.val + d.val), by omega⟩) = (pos m c) (ix3 v o d) := by
  unfold V
  after_reads_at

/-- The grid point of batch entry `b`. -/
def pt (b : Fin 2) : Fin cfg0.N := ⟨b.val, by show _ < 2; omega⟩
theorem pt_surj : ∀ t : Fin cfg0.N, ∃ b : Fin 2, t = pt b := fun t => ⟨⟨t.val, t.isLt⟩, rfl⟩
theorem idx : ∀ b : Fin 2, win0_0.index (pt b) = ![0, b.val, 0] ∧ win0_1.index (pt b) = ![0, b.val, 1] ∧ win0_2.index (pt b) = ![0, b.val, 2] ∧ win0_3.index (pt b) = ![0, b.val, 3]
    ∧ win0_4.index (pt b) = ![0, 0] ∧ win0_5.index (pt b) = ![0, 0, 0] ∧ win0_6.index (pt b) = ![0, 0, 0] ∧ win0_7.index (pt b) = ![b.val, 0, 0] ∧ win0_8.index (pt b) = ![b.val, 0, 0] := by
  decide +kernel
theorem blk0 (c : Dev nD) (b : Fin 2) (i : Fin 4096) (k : Fin 128) :
    iblk m c 0 (pt b) (ix3 0 i k) = (raw m c) (ix3 0 ⟨4096 * b.val + i.val, by omega⟩ ⟨0 + k.val, by omega⟩) := by
  show V m c main_arg0 _ = _
  rw [V_main_arg0]
  congr 1
  blk_ext! [idx b]
theorem blk1 (c : Dev nD) (b : Fin 2) (i : Fin 4096) (k : Fin 128) :
    iblk m c 1 (pt b) (ix3 0 i k) = (raw m c) (ix3 0 ⟨4096 * b.val + i.val, by omega⟩ ⟨128 + k.val, by omega⟩) := by
  show V m c main_arg0 _ = _
  rw [V_main_arg0]
  congr 1
  blk_ext! [idx b]
theorem blk2 (c : Dev nD) (b : Fin 2) (i : Fin 4096) (k : Fin 128) :
    iblk m c 2 (pt b) (ix3 0 i k) = (raw m c) (ix3 0 ⟨4096 * b.val + i.val, by omega⟩ ⟨256 + k.val, by omega⟩) := by
  show V m c main_arg0 _ = _
  rw [V_main_arg0]
  congr 1
  blk_ext! [idx b]
theorem blk3 (c : Dev nD) (b : Fin 2) (i : Fin 4096) (k : Fin 128) :
    iblk m c 3 (pt b) (ix3 0 i k) = (raw m c) (ix3 0 ⟨4096 * b.val + i.val, by omega⟩ ⟨384 + k.val, by omega⟩) := by
  show V m c main_arg0 _ = _
  rw [V_main_arg0]
  congr 1
  blk_ext! [idx b]
theorem blk4 (c : Dev nD) (b : Fin 2) (k : Fin 16384) : iblk m c 4 (pt b) (ix2 0 k) = V m c main_v27 (ix2 0 k) := by
  show V m c main_v27 _ = _
  congr 1
  blk_ext! [idx b]
theorem blk5 (c : Dev nD) (b : Fin 2) (o : Fin 32) (k j : Fin 256) : iblk m c 5 (pt b) (ix3 o k j) = V m c main_v14 (ix3 o k j) := by
  show V m c main_v14 _ = _
  congr 1
  blk_ext! [idx b]
theorem blk6 (c : Dev nD) (b : Fin 2) (o : Fin 32) (k j : Fin 256) : iblk m c 6 (pt b) (ix3 o k j) = V m c main_v23 (ix3 o k j) := by
  show V m c main_v23 _ = _
  congr 1
  blk_ext! [idx b]

/-- A step of a point, by the arguments. -/
theorem stepK (c : Dev nD) (b : Fin 2) (n : Fin 128) (q : Fin 256) (o : Fin 32) :
    stm 0 (by omega) (iblk m c 0 (pt b)) (iblk m c 1 (pt b)) (iblk m c 4 (pt b)) (iblk m c 5 (pt b)) n q o
      = ∑ d : Fin 64, ((raw m c) (ix3 0 ⟨b.val * 4096 + (n.val * 32 + o.val), by omega⟩ ⟨256 * ((0 : Fin 2) : ℕ) + q.val / 64 * 64 + d.val, by show 256 * 0 + q.val / 64 * 64 + d.val < 512; omega⟩)
          + (pos m c) (ix3 0 o d)) * (wgt m c) (ix4 0 o d ⟨q.val % 64, by omega⟩) := by
  unfold stm
  refine (Finset.sum_congr rfl fun k _ => congrArg (_ * ·) ((blk5 m c b o k q).trans (V_wk m c o k q))).trans ?_
  refine (sum_group _ (fun d => (wgt m c) (ix4 0 o d ⟨q.val % 64, by omega⟩)) ⟨q.val / 64, by omega⟩).trans ?_
  refine Finset.sum_congr rfl fun d _ => ?_
  refine congrArg (· * (wgt m c) (ix4 0 o d ⟨q.val % 64, by omega⟩)) (congrArg₂ (· + ·) ?_ ?_)
  · by_cases h : 64 * (q.val / 64) + d.val < 128
    · refine (dif_pos h).trans ((blk0 m c b _ _).trans (congrArg (raw m c) ?_))
      blk_ext []
    · refine (dif_neg h).trans ((blk1 m c b _ _).trans (congrArg (raw m c) ?_))
      blk_ext []
  · refine (blk4 m c b _).trans (Eq.trans ?_ (V_pos m c 0 o ⟨q.val / 64, by omega⟩ d))
    rfl

/-- A step of a point, by the arguments. -/
theorem stepV (c : Dev nD) (b : Fin 2) (n : Fin 128) (q : Fin 256) (o : Fin 32) :
    stm 256 (by omega) (iblk m c 2 (pt b)) (iblk m c 3 (pt b)) (iblk m c 4 (pt b)) (iblk m c 6 (pt b)) n q o
      = ∑ d : Fin 64, ((raw m c) (ix3 0 ⟨b.val * 4096 + (n.val * 32 + o.val), by omega⟩ ⟨256 * ((1 : Fin 2) : ℕ) + q.val / 64 * 64 + d.val, by show 256 * 1 + q.val / 64 * 64 + d.val < 512; omega⟩)
          + (pos m c) (ix3 1 o d)) * (wgt m c) (ix4 1 o d ⟨q.val % 64, by omega⟩) := by
  unfold stm
  refine (Finset.sum_congr rfl fun k _ => congrArg (_ * ·) ((blk6 m c b o k q).trans (V_wv m c o k q))).trans ?_
  refine (sum_group _ (fun d => (wgt m c) (ix4 1 o d ⟨q.val % 64, by omega⟩)) ⟨q.val / 64, by omega⟩).trans ?_
  refine Finset.sum_congr rfl fun d _ => ?_
  refine congrArg (· * (wgt m c) (ix4 1 o d ⟨q.val % 64, by omega⟩)) (congrArg₂ (· + ·) ?_ ?_)
  · by_cases h : 64 * (q.val / 64) + d.val < 128
    · refine (dif_pos h).trans ((blk2 m c b _ _).trans (congrArg (raw m c) ?_))
      blk_ext []
    · refine (dif_neg h).trans ((blk3 m c b _ _).trans (congrArg (raw m c) ?_))
      blk_ext []
  · refine (blk4 m c b _).trans (Eq.trans ?_ (V_pos m c 1 o ⟨q.val / 64, by omega⟩ d))
    rfl

theorem emb7 (b : Fin 2) (y : S1x128x256.Idx) : (win0_7.blk (pt b)).view.emb y
    = ix3 b ⟨(y 1).val, by have hy : (y 1).val < 128 := (y 1).isLt; omega⟩ ⟨(y 2).val, by have hy : (y 2).val < 256 := (y 2).isLt; omega⟩ := by
  blk_ext! [idx b]

/-- The keys the kernel leaves. -/
theorem final7 (c : Dev nD) : (dats m 0 c).arrAt 7 cfg0.N = arrK (raw m c) (wgt m c) (pos m c) := by
  refine (dats m 0 c).arrAt_eq_of_covers 7 (arrK (raw m c) (wgt m c) (pos m c)) (by decide +kernel) fun t hf (y : S1x128x256.Idx) => ?_
  obtain ⟨b, rfl⟩ := pt_surj t
  blk_simp
  rw [after0_7]
  refine Eq.trans ?_ (congrArg (arrK (raw m c) (wgt m c) (pos m c)) (emb7 b y)).symm
  idx_vars y
  obtain rfl : y0 = 0 := Subsingleton.elim _ _
  exact (outK m c (pt b) y1 y2).trans (Finset.sum_congr rfl fun o _ => stepK m c b y1 y2 o)

theorem emb8 (b : Fin 2) (y : S1x256x128.Idx) : (win0_8.blk (pt b)).view.emb y
    = ix3 b ⟨(y 1).val, by have hy : (y 1).val < 256 := (y 1).isLt; omega⟩ ⟨(y 2).val, by have hy : (y 2).val < 128 := (y 2).isLt; omega⟩ := by
  blk_ext! [idx b]

/-- The values the kernel leaves. -/
theorem final8 (c : Dev nD) : (dats m 0 c).arrAt 8 cfg0.N = arrV (raw m c) (wgt m c) (pos m c) := by
  refine (dats m 0 c).arrAt_eq_of_covers 8 (arrV (raw m c) (wgt m c) (pos m c)) (by decide +kernel) fun t hf (y : S1x256x128.Idx) => ?_
  obtain ⟨b, rfl⟩ := pt_surj t
  blk_simp
  rw [after0_8]
  refine Eq.trans ?_ (congrArg (arrV (raw m c) (wgt m c) (pos m c)) (emb8 b y)).symm
  idx_vars y
  obtain rfl : y0 = 0 := Subsingleton.elim _ _
  exact (outV m c (pt b) y2 y1).trans (Finset.sum_congr rfl fun o _ => stepV m c b y2 y1 o)

end

/-- The kernel's results and the reference's are the same arrays. -/
theorem algebraic : Cert.algebraic_KernelCmpIdeal_ReferenceCmpIdeal (hKernelCmpIdeal := Cert.KernelCmpIdeal.Gen.facts) (hReferenceCmpIdeal := Cert.ReferenceCmpIdeal.Gen.facts) := by
  intro m g m' g' _ hargs
  refine ⟨_, _, KernelCmpIdeal.Value.run_blocks m g, ?_⟩
  refine (θ_run _ _ _).mono (fun r h c => ?_) (ReferenceCmpIdeal.Value.run m' g')
  obtain ⟨h0, h1, h2⟩ := h c
  obtain ⟨a0, a1, a2⟩ := hargs c
  rw [a0, a1, a2] at h0 h1
  exact ⟨h0.trans ((refK _ _ _).trans (final7 m c).symm), h1.trans ((refV _ _ _).trans (final8 m c).symm), h2⟩

end Cert.Cmp
-- ==== Proof.lean ====
/- The proof of the certificate's claims: for each call the three frames, that the ideal pass rewrote nothing, and that the kernel's
   results are the reference's on the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Ret
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.KernelUpIdeal.Value
public import proofs.«01_k».proof.Proof.Gen.ReferenceUpIdeal.Run
public import proofs.«01_k».proof.Proof.Up
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.KernelDownIdeal.Value
public import proofs.«01_k».proof.Proof.Gen.ReferenceDownIdeal.Run
public import proofs.«01_k».proof.Proof.Down
public import proofs.«01_k».proof.Proof.Gen.KernelGates
public import proofs.«01_k».proof.Proof.Gen.KernelGates.Frame
public import proofs.«01_k».proof.Proof.Gen.KernelGatesIdeal
public import proofs.«01_k».proof.Proof.Gen.KernelGatesIdeal.Frame
public import proofs.«01_k».proof.Proof.Gen.ReferenceGatesIdeal
public import proofs.«01_k».proof.Proof.Gen.KernelGatesIdeal.Value
public import proofs.«01_k».proof.Proof.Gen.ReferenceGatesIdeal.Run
public import proofs.«01_k».proof.Proof.Gates
public import proofs.«01_k».proof.Proof.Gen.KernelRqk
public import proofs.«01_k».proof.Proof.Gen.KernelRqk.Frame
public import proofs.«01_k».proof.Proof.Gen.KernelRqkIdeal
public import proofs.«01_k».proof.Proof.Gen.KernelRqkIdeal.Frame
public import proofs.«01_k».proof.Proof.Gen.ReferenceRqkIdeal
public import proofs.«01_k».proof.Proof.Gen.KernelRqkIdeal.Value
public import proofs.«01_k».proof.Proof.Gen.ReferenceRqkIdeal.Run
public import proofs.«01_k».proof.Proof.Rqk
public import proofs.«01_k».proof.Proof.Gen.KernelRv
public import proofs.«01_k».proof.Proof.Gen.KernelRv.Frame
public import proofs.«01_k».proof.Proof.Gen.KernelRvIdeal
public import proofs.«01_k».proof.Proof.Gen.KernelRvIdeal.Frame
public import proofs.«01_k».proof.Proof.Gen.ReferenceRvIdeal
public import proofs.«01_k».proof.Proof.Gen.KernelRvIdeal.Value
public import proofs.«01_k».proof.Proof.Gen.ReferenceRvIdeal.Run
public import proofs.«01_k».proof.Proof.Rv
public import proofs.«01_k».proof.Proof.Gen.KernelQ
public import proofs.«01_k».proof.Proof.Gen.KernelQ.Frame
public import proofs.«01_k».proof.Proof.Gen.KernelQIdeal
public import proofs.«01_k».proof.Proof.Gen.KernelQIdeal.Frame
public import proofs.«01_k».proof.Proof.Gen.ReferenceQIdeal
public import proofs.«01_k».proof.Proof.Gen.KernelQIdeal.Value
public import proofs.«01_k».proof.Proof.Gen.ReferenceQIdeal.Run
public import proofs.«01_k».proof.Proof.Q
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.ReferenceKvIdeal
public import proofs.«01_k».proof.Proof.Gen.ReferenceKvIdeal.Run
public import proofs.«01_k».proof.Proof.Kv
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.ReferenceMergeIdeal
public import proofs.«01_k».proof.Proof.Gen.KernelMergeIdeal.Value
public import proofs.«01_k».proof.Proof.Gen.ReferenceMergeIdeal.Run
public import proofs.«01_k».proof.Proof.Merge
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.KernelOutIdeal.Value
public import proofs.«01_k».proof.Proof.Gen.ReferenceOutIdeal.Run
public import proofs.«01_k».proof.Proof.Out
public import proofs.«01_k».proof.Proof.Gen.KernelYp
public import proofs.«01_k».proof.Proof.Gen.KernelYp.Frame
public import proofs.«01_k».proof.Proof.Gen.KernelYpIdeal
public import proofs.«01_k».proof.Proof.Gen.KernelYpIdeal.Frame
public import proofs.«01_k».proof.Proof.Gen.ReferenceYpIdeal
public import proofs.«01_k».proof.Proof.Gen.KernelYpIdeal.Value
public import proofs.«01_k».proof.Proof.Gen.ReferenceYpIdeal.Run
public import proofs.«01_k».proof.Proof.Yp
public import proofs.«01_k».proof.Proof.Gen.KernelYs
public import proofs.«01_k».proof.Proof.Gen.KernelYs.Frame
public import proofs.«01_k».proof.Proof.Gen.KernelYsIdeal
public import proofs.«01_k».proof.Proof.Gen.KernelYsIdeal.Frame
public import proofs.«01_k».proof.Proof.Gen.ReferenceYsIdeal
public import proofs.«01_k».proof.Proof.Gen.KernelYsIdeal.Value
public import proofs.«01_k».proof.Proof.Gen.ReferenceYsIdeal.Run
public import proofs.«01_k».proof.Proof.Ys
public import proofs.«01_k».proof.Proof.Gen.KernelKvs
public import proofs.«01_k».proof.Proof.Gen.KernelKvs.Frame
public import proofs.«01_k».proof.Proof.Gen.KernelKvsIdeal
public import proofs.«01_k».proof.Proof.Gen.KernelKvsIdeal.Frame
public import proofs.«01_k».proof.Proof.Gen.ReferenceKvsIdeal
public import proofs.«01_k».proof.Proof.Gen.ReferenceKvsIdeal.Run
public import proofs.«01_k».proof.Proof.Kvs
public import proofs.«01_k».proof.Proof.Gen.KernelRs
public import proofs.«01_k».proof.Proof.Gen.KernelRs.Frame
public import proofs.«01_k».proof.Proof.Gen.KernelRsIdeal
public import proofs.«01_k».proof.Proof.Gen.KernelRsIdeal.Frame
public import proofs.«01_k».proof.Proof.Gen.ReferenceRsIdeal
public import proofs.«01_k».proof.Proof.Gen.KernelRsIdeal.Value
public import proofs.«01_k».proof.Proof.Gen.ReferenceRsIdeal.Run
public import proofs.«01_k».proof.Proof.Rs
public import proofs.«01_k».proof.Proof.Gen.KernelMod
public import proofs.«01_k».proof.Proof.Gen.KernelMod.Frame
public import proofs.«01_k».proof.Proof.Gen.KernelModIdeal
public import proofs.«01_k».proof.Proof.Gen.KernelModIdeal.Frame
public import proofs.«01_k».proof.Proof.Gen.ReferenceModIdeal
public import proofs.«01_k».proof.Proof.Gen.ReferenceModIdeal.Run
public import proofs.«01_k».proof.Proof.Mod
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.ReferenceNormIdeal
public import proofs.«01_k».proof.Proof.Gen.KernelNormIdeal.Value
public import proofs.«01_k».proof.Proof.Gen.ReferenceNormIdeal.Run
public import proofs.«01_k».proof.Proof.Norm
public import proofs.«01_k».proof.Proof.Gen.KernelNg
public import proofs.«01_k».proof.Proof.Gen.KernelNg.Frame
public import proofs.«01_k».proof.Proof.Gen.KernelNgIdeal
public import proofs.«01_k».proof.Proof.Gen.KernelNgIdeal.Frame
public import proofs.«01_k».proof.Proof.Gen.ReferenceNgIdeal
public import proofs.«01_k».proof.Proof.Gen.ReferenceNgIdeal.Run
public import proofs.«01_k».proof.Proof.Ng
public import proofs.«01_k».proof.Proof.Gen.KernelCmp
public import proofs.«01_k».proof.Proof.Gen.KernelCmp.Frame
public import proofs.«01_k».proof.Proof.Gen.KernelCmpIdeal
public import proofs.«01_k».proof.Proof.Gen.KernelCmpIdeal.Frame
public import proofs.«01_k».proof.Proof.Gen.ReferenceCmpIdeal
public import proofs.«01_k».proof.Proof.Gen.KernelCmpIdeal.Value
public import proofs.«01_k».proof.Proof.Gen.ReferenceCmpIdeal.Run
public import proofs.«01_k».proof.Proof.Cmp
public import Idealize.ShloMosaic.Adequacy
public import Idealize.ShloMosaic.Init

@[expose] public section

noncomputable section

namespace Cert.Proof

open Idealize.ShloMosaic Idealize.SL.Sem

/-- Every claim of the certificate, call by call: the frames, then for each call that nothing was rewritten and the equation of the results. -/
theorem claim : Cert.Claim := ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelGates.Gen.facts, Cert.KernelGatesIdeal.Gen.facts, Cert.ReferenceGatesIdeal.Gen.facts, Cert.KernelRqk.Gen.facts, Cert.KernelRqkIdeal.Gen.facts, Cert.ReferenceRqkIdeal.Gen.facts, Cert.KernelRv.Gen.facts, Cert.KernelRvIdeal.Gen.facts, Cert.ReferenceRvIdeal.Gen.facts, Cert.KernelQ.Gen.facts, Cert.KernelQIdeal.Gen.facts, Cert.ReferenceQIdeal.Gen.facts, Cert.KernelKv.Gen.facts, Cert.KernelKvIdeal.Gen.facts, Cert.ReferenceKvIdeal.Gen.facts, Cert.KernelMerge.Gen.facts, Cert.KernelMergeIdeal.Gen.facts, Cert.ReferenceMergeIdeal.Gen.facts, Cert.KernelOut.Gen.facts, Cert.KernelOutIdeal.Gen.facts, Cert.ReferenceOutIdeal.Gen.facts, Cert.KernelYp.Gen.facts, Cert.KernelYpIdeal.Gen.facts, Cert.ReferenceYpIdeal.Gen.facts, Cert.KernelYs.Gen.facts, Cert.KernelYsIdeal.Gen.facts, Cert.ReferenceYsIdeal.Gen.facts, Cert.KernelKvs.Gen.facts, Cert.KernelKvsIdeal.Gen.facts, Cert.ReferenceKvsIdeal.Gen.facts, Cert.KernelRs.Gen.facts, Cert.KernelRsIdeal.Gen.facts, Cert.ReferenceRsIdeal.Gen.facts, Cert.KernelMod.Gen.facts, Cert.KernelModIdeal.Gen.facts, Cert.ReferenceModIdeal.Gen.facts, Cert.KernelNorm.Gen.facts, Cert.KernelNormIdeal.Gen.facts, Cert.ReferenceNormIdeal.Gen.facts, Cert.KernelNg.Gen.facts, Cert.KernelNgIdeal.Gen.facts, Cert.ReferenceNgIdeal.Gen.facts, Cert.KernelCmp.Gen.facts, Cert.KernelCmpIdeal.Gen.facts, Cert.ReferenceCmpIdeal.Gen.facts,
  fun m g _ => Cert.Kernel.Gen.frame m g, fun m g _ => Cert.KernelIdeal.Gen.frame m g, Cert.Ret.ref_frame,
  fun m g _ => Cert.KernelUp.Gen.frame m g, fun m g _ => Cert.KernelUpIdeal.Gen.frame m g, Cert.Up.ref_frame,
  fun m g _ => Cert.KernelDown.Gen.frame m g, fun m g _ => Cert.KernelDownIdeal.Gen.frame m g, Cert.Down.ref_frame,
  fun m g _ => Cert.KernelGates.Gen.frame m g, fun m g _ => Cert.KernelGatesIdeal.Gen.frame m g, Cert.Gates.ref_frame,
  fun m g _ => Cert.KernelRqk.Gen.frame m g, fun m g _ => Cert.KernelRqkIdeal.Gen.frame m g, Cert.Rqk.ref_frame,
  fun m g _ => Cert.KernelRv.Gen.frame m g, fun m g _ => Cert.KernelRvIdeal.Gen.frame m g, Cert.Rv.ref_frame,
  fun m g _ => Cert.KernelQ.Gen.frame m g, fun m g _ => Cert.KernelQIdeal.Gen.frame m g, Cert.Q.ref_frame,
  fun m g _ => Cert.KernelKv.Gen.frame m g, fun m g _ => Cert.KernelKvIdeal.Gen.frame m g, Cert.Kv.ref_frame,
  fun m g _ => Cert.KernelMerge.Gen.frame m g, fun m g _ => Cert.KernelMergeIdeal.Gen.frame m g, Cert.Merge.ref_frame,
  fun m g _ => Cert.KernelOut.Gen.frame m g, fun m g _ => Cert.KernelOutIdeal.Gen.frame m g, Cert.Out.ref_frame,
  fun m g _ => Cert.KernelYp.Gen.frame m g, fun m g _ => Cert.KernelYpIdeal.Gen.frame m g, Cert.Yp.ref_frame,
  fun m g _ => Cert.KernelYs.Gen.frame m g, fun m g _ => Cert.KernelYsIdeal.Gen.frame m g, Cert.Ys.ref_frame,
  fun m g _ => Cert.KernelKvs.Gen.frame m g, fun m g _ => Cert.KernelKvsIdeal.Gen.frame m g, Cert.Kvs.ref_frame,
  fun m g _ => Cert.KernelRs.Gen.frame m g, fun m g _ => Cert.KernelRsIdeal.Gen.frame m g, Cert.Rs.ref_frame,
  fun m g _ => Cert.KernelMod.Gen.frame m g, fun m g _ => Cert.KernelModIdeal.Gen.frame m g, Cert.Mod.ref_frame,
  fun m g _ => Cert.KernelNorm.Gen.frame m g, fun m g _ => Cert.KernelNormIdeal.Gen.frame m g, Cert.Norm.ref_frame,
  fun m g _ => Cert.KernelNg.Gen.frame m g, fun m g _ => Cert.KernelNgIdeal.Gen.frame m g, Cert.Ng.ref_frame,
  fun m g _ => Cert.KernelCmp.Gen.frame m g, fun m g _ => Cert.KernelCmpIdeal.Gen.frame m g, Cert.Cmp.ref_frame,
  trivial, Cert.Ret.algebraic, trivial, Cert.Up.algebraic, trivial, Cert.Down.algebraic, trivial, Cert.Gates.algebraic, trivial, Cert.Rqk.algebraic, trivial, Cert.Rv.algebraic, trivial, Cert.Q.algebraic, trivial, Cert.Kv.algebraic, trivial, Cert.Merge.algebraic, trivial, Cert.Out.algebraic, trivial, Cert.Yp.algebraic, trivial, Cert.Ys.algebraic, trivial, Cert.Kvs.algebraic, trivial, Cert.Rs.algebraic, trivial, Cert.Mod.algebraic, trivial, Cert.Norm.algebraic, trivial, Cert.Ng.algebraic, trivial, Cert.Cmp.algebraic⟩

end Cert.Proof

end
